-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguIdeal_finite_sgu [hPre_finite_sgu : Cert.Pre_finite_sgu.Facts] (m : (ℓ : Loc Cert.SguIdeal.nD Cert.SguIdeal.τ Cert.SguIdeal.sig) → Buf (Elt Ideal) ℓ) : Prop :=
  ∀ c : Dev Cert.SguIdeal.nD,
    (Cert.Pre_finite_sgu.fn (F := Ideal) (m ((c.tc : Thread Cert.SguIdeal.nD Cert.SguIdeal.τ).loc Cert.SguIdeal.main_arg0)) (m ((c.tc : Thread Cert.SguIdeal.nD Cert.SguIdeal.τ).loc Cert.SguIdeal.main_arg1)) (m ((c.tc : Thread Cert.SguIdeal.nD Cert.SguIdeal.τ).loc Cert.SguIdeal.main_arg2)) (m ((c.tc : Thread Cert.SguIdeal.nD Cert.SguIdeal.τ).loc Cert.SguIdeal.main_arg3)) (m ((c.tc : Thread Cert.SguIdeal.nD Cert.SguIdeal.τ).loc Cert.SguIdeal.main_arg4)) (m ((c.tc : Thread Cert.SguIdeal.nD Cert.SguIdeal.τ).loc Cert.SguIdeal.main_arg5)) (m ((c.tc : Thread Cert.SguIdeal.nD Cert.SguIdeal.τ).loc Cert.SguIdeal.main_arg6))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_finite_sgu [hPre_finite_sgu : Cert.Pre_finite_sgu.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_ffn_in [hPre_finite_ffn_in : Cert.Pre_finite_ffn_in.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_ffn_in [hPre_finite_ffn_in : Cert.Pre_finite_ffn_in.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))) = (fun _ => 1#1)

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPIdeal_finite_in [hPre_finite_in : Cert.Pre_finite_in.Facts] (m : (ℓ : Loc Cert.InPIdeal.nD Cert.InPIdeal.τ Cert.InPIdeal.sig) → Buf (Elt Ideal) ℓ) : Prop :=
  ∀ c : Dev Cert.InPIdeal.nD,
    (Cert.Pre_finite_in.fn (F := Ideal) (m ((c.tc : Thread Cert.InPIdeal.nD Cert.InPIdeal.τ).loc Cert.InPIdeal.main_arg0)) (m ((c.tc : Thread Cert.InPIdeal.nD Cert.InPIdeal.τ).loc Cert.InPIdeal.main_arg1)) (m ((c.tc : Thread Cert.InPIdeal.nD Cert.InPIdeal.τ).loc Cert.InPIdeal.main_arg2)) (m ((c.tc : Thread Cert.InPIdeal.nD Cert.InPIdeal.τ).loc Cert.InPIdeal.main_arg3)) (m ((c.tc : Thread Cert.InPIdeal.nD Cert.InPIdeal.τ).loc Cert.InPIdeal.main_arg4)) (m ((c.tc : Thread Cert.InPIdeal.nD Cert.InPIdeal.τ).loc Cert.InPIdeal.main_arg5)) (m ((c.tc : Thread Cert.InPIdeal.nD Cert.InPIdeal.τ).loc Cert.InPIdeal.main_arg6)) (m ((c.tc : Thread Cert.InPIdeal.nD Cert.InPIdeal.τ).loc Cert.InPIdeal.main_arg7))) = (fun _ => 1#1)

def Pre_InPRefIdeal (m : (ℓ : Loc Cert.InPRefIdeal.nD Cert.InPRefIdeal.τ Cert.InPRefIdeal.sig) → Buf (Elt Ideal) ℓ) : Prop :=
  True

def Pre_InPRefIdeal_finite_in [hPre_finite_in : Cert.Pre_finite_in.Facts] (m : (ℓ : Loc Cert.InPRefIdeal.nD Cert.InPRefIdeal.τ Cert.InPRefIdeal.sig) → Buf (Elt Ideal) ℓ) : Prop :=
  ∀ c : Dev Cert.InPRefIdeal.nD,
    (Cert.Pre_finite_in.fn (F := Ideal) (m ((c.tc : Thread Cert.InPRefIdeal.nD Cert.InPRefIdeal.τ).loc Cert.InPRefIdeal.main_arg0)) (m ((c.tc : Thread Cert.InPRefIdeal.nD Cert.InPRefIdeal.τ).loc Cert.InPRefIdeal.main_arg1)) (m ((c.tc : Thread Cert.InPRefIdeal.nD Cert.InPRefIdeal.τ).loc Cert.InPRefIdeal.main_arg2)) (m ((c.tc : Thread Cert.InPRefIdeal.nD Cert.InPRefIdeal.τ).loc Cert.InPRefIdeal.main_arg3)) (m ((c.tc : Thread Cert.InPRefIdeal.nD Cert.InPRefIdeal.τ).loc Cert.InPRefIdeal.main_arg4)) (m ((c.tc : Thread Cert.InPRefIdeal.nD Cert.InPRefIdeal.τ).loc Cert.InPRefIdeal.main_arg5)) (m ((c.tc : Thread Cert.InPRefIdeal.nD Cert.InPRefIdeal.τ).loc Cert.InPRefIdeal.main_arg6)) (m ((c.tc : Thread Cert.InPRefIdeal.nD Cert.InPRefIdeal.τ).loc Cert.InPRefIdeal.main_arg7))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdRefIdeal (m : (ℓ : Loc Cert.GlaFwdRefIdeal.nD Cert.GlaFwdRefIdeal.τ Cert.GlaFwdRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdIdeal_finite_sgu_fwd [hPre_finite_sgu_fwd : Cert.Pre_finite_sgu_fwd.Facts] (m : (ℓ : Loc Cert.SguFwdIdeal.nD Cert.SguFwdIdeal.τ Cert.SguFwdIdeal.sig) → Buf (Elt Ideal) ℓ) : Prop :=
  ∀ c : Dev Cert.SguFwdIdeal.nD,
    (Cert.Pre_finite_sgu_fwd.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4)) (m ((c.tc : Thread Cert.SguFwdIdeal.nD Cert.SguFwdIdeal.τ).loc Cert.SguFwdIdeal.main_arg5))) = (fun _ => 1#1)

def Pre_SguFwdRefIdeal (m : (ℓ : Loc Cert.SguFwdRefIdeal.nD Cert.SguFwdRefIdeal.τ Cert.SguFwdRefIdeal.sig) → Buf (Elt Ideal) ℓ) : Prop :=
  True

def Pre_SguFwdRefIdeal_finite_sgu_fwd [hPre_finite_sgu_fwd : Cert.Pre_finite_sgu_fwd.Facts] (m : (ℓ : Loc Cert.SguFwdRefIdeal.nD Cert.SguFwdRefIdeal.τ Cert.SguFwdRefIdeal.sig) → Buf (Elt Ideal) ℓ) : Prop :=
  ∀ c : Dev Cert.SguFwdRefIdeal.nD,
    (Cert.Pre_finite_sgu_fwd.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4)) (m ((c.tc : Thread Cert.SguFwdRefIdeal.nD Cert.SguFwdRefIdeal.τ).loc Cert.SguFwdRefIdeal.main_arg5))) = (fun _ => 1#1)

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdRefIdeal (m : (ℓ : Loc Cert.MixerFwdRefIdeal.nD Cert.MixerFwdRefIdeal.τ Cert.MixerFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_Prod (m : (ℓ : Loc Cert.Prod.nD Cert.Prod.τ Cert.Prod.sig) → Buf (Elt Bits) ℓ) : Prop :=
  True

def Pre_ProdIdeal (m : (ℓ : Loc Cert.ProdIdeal.nD Cert.ProdIdeal.τ Cert.ProdIdeal.sig) → Buf (Elt Ideal) ℓ) : Prop :=
  True

def Pre_ProdRefIdeal (m : (ℓ : Loc Cert.ProdRefIdeal.nD Cert.ProdRefIdeal.τ Cert.ProdRefIdeal.sig) → Buf (Elt Ideal) ℓ) : Prop :=
  True

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWRefIdeal (m : (ℓ : Loc Cert.FfnWRefIdeal.nD Cert.FfnWRefIdeal.τ Cert.FfnWRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRefIdeal (m : (ℓ : Loc Cert.PairRefIdeal.nD Cert.PairRefIdeal.τ Cert.PairRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguIdeal_pre_finite_sgu [hSguIdeal : Cert.SguIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg), Pre_SguIdeal_finite_sgu m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_SguRefIdeal_pre_finite_sgu [hSguRefIdeal : Cert.SguRefIdeal.Facts] [hPre_finite_sgu : Cert.Pre_finite_sgu.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_finite_sgu m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_finite_ffn_in [hFfnInIdeal : Cert.FfnInIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_ffn_in m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_finite_ffn_in [hFfnInRefIdeal : Cert.FfnInRefIdeal.Facts] [hPre_finite_ffn_in : Cert.Pre_finite_ffn_in.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_ffn_in m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4)
      ∧ r.2.mem ((c.tc : Thread Cert.InP.nD Cert.InP.τ).loc Cert.InP.main_arg5) = m ((c.tc : Thread Cert.InP.nD Cert.InP.τ).loc Cert.InP.main_arg5)
      ∧ r.2.mem ((c.tc : Thread Cert.InP.nD Cert.InP.τ).loc Cert.InP.main_arg6) = m ((c.tc : Thread Cert.InP.nD Cert.InP.τ).loc Cert.InP.main_arg6)
      ∧ r.2.mem ((c.tc : Thread Cert.InP.nD Cert.InP.τ).loc Cert.InP.main_arg7) = m ((c.tc : Thread Cert.InP.nD Cert.InP.τ).loc Cert.InP.main_arg7))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
      ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
      ∧ r.2.mem ((c.tc : Thread Cert.InPIdeal.nD Cert.InPIdeal.τ).loc Cert.InPIdeal.main_arg6) = m ((c.tc : Thread Cert.InPIdeal.nD Cert.InPIdeal.τ).loc Cert.InPIdeal.main_arg6)
      ∧ r.2.mem ((c.tc : Thread Cert.InPIdeal.nD Cert.InPIdeal.τ).loc Cert.InPIdeal.main_arg7) = m ((c.tc : Thread Cert.InPIdeal.nD Cert.InPIdeal.τ).loc Cert.InPIdeal.main_arg7))
      ∧ r.2.sem = fun _ => 0)

def quiescent_InPIdeal_pre_finite_in [hInPIdeal : Cert.InPIdeal.Facts] [hPre_finite_in : Cert.Pre_finite_in.Facts] : Prop :=
  ∀ (m : (ℓ : Loc Cert.InPIdeal.nD Cert.InPIdeal.τ Cert.InPIdeal.sig) → Buf (Elt Ideal) ℓ) (g : Dev Cert.InPIdeal.nD → PrngReg), Pre_InPIdeal_finite_in m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
      ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
      ∧ r.2.mem ((c.tc : Thread Cert.InPIdeal.nD Cert.InPIdeal.τ).loc Cert.InPIdeal.main_arg6) = m ((c.tc : Thread Cert.InPIdeal.nD Cert.InPIdeal.τ).loc Cert.InPIdeal.main_arg6)
      ∧ r.2.mem ((c.tc : Thread Cert.InPIdeal.nD Cert.InPIdeal.τ).loc Cert.InPIdeal.main_arg7) = m ((c.tc : Thread Cert.InPIdeal.nD Cert.InPIdeal.τ).loc Cert.InPIdeal.main_arg7))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2)
      ∧ r.2.mem ((c.tc : Thread Cert.InPRefIdeal.nD Cert.InPRefIdeal.τ).loc Cert.InPRefIdeal.main_arg3) = m ((c.tc : Thread Cert.InPRefIdeal.nD Cert.InPRefIdeal.τ).loc Cert.InPRefIdeal.main_arg3)
      ∧ r.2.mem ((c.tc : Thread Cert.InPRefIdeal.nD Cert.InPRefIdeal.τ).loc Cert.InPRefIdeal.main_arg4) = m ((c.tc : Thread Cert.InPRefIdeal.nD Cert.InPRefIdeal.τ).loc Cert.InPRefIdeal.main_arg4)
      ∧ r.2.mem ((c.tc : Thread Cert.InPRefIdeal.nD Cert.InPRefIdeal.τ).loc Cert.InPRefIdeal.main_arg5) = m ((c.tc : Thread Cert.InPRefIdeal.nD Cert.InPRefIdeal.τ).loc Cert.InPRefIdeal.main_arg5)
      ∧ r.2.mem ((c.tc : Thread Cert.InPRefIdeal.nD Cert.InPRefIdeal.τ).loc Cert.InPRefIdeal.main_arg6) = m ((c.tc : Thread Cert.InPRefIdeal.nD Cert.InPRefIdeal.τ).loc Cert.InPRefIdeal.main_arg6)
      ∧ r.2.mem ((c.tc : Thread Cert.InPRefIdeal.nD Cert.InPRefIdeal.τ).loc Cert.InPRefIdeal.main_arg7) = m ((c.tc : Thread Cert.InPRefIdeal.nD Cert.InPRefIdeal.τ).loc Cert.InPRefIdeal.main_arg7))
      ∧ r.2.sem = fun _ => 0)

def quiescent_InPRefIdeal_pre_finite_in [hInPRefIdeal : Cert.InPRefIdeal.Facts] [hPre_finite_in : Cert.Pre_finite_in.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal_finite_in m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1)
      ∧ r.2.mem ((c.tc : Thread Cert.InPRefIdeal.nD Cert.InPRefIdeal.τ).loc Cert.InPRefIdeal.main_arg2) = m ((c.tc : Thread Cert.InPRefIdeal.nD Cert.InPRefIdeal.τ).loc Cert.InPRefIdeal.main_arg2)
      ∧ r.2.mem ((c.tc : Thread Cert.InPRefIdeal.nD Cert.InPRefIdeal.τ).loc Cert.InPRefIdeal.main_arg3) = m ((c.tc : Thread Cert.InPRefIdeal.nD Cert.InPRefIdeal.τ).loc Cert.InPRefIdeal.main_arg3)
      ∧ r.2.mem ((c.tc : Thread Cert.InPRefIdeal.nD Cert.InPRefIdeal.τ).loc Cert.InPRefIdeal.main_arg4) = m ((c.tc : Thread Cert.InPRefIdeal.nD Cert.InPRefIdeal.τ).loc Cert.InPRefIdeal.main_arg4)
      ∧ r.2.mem ((c.tc : Thread Cert.InPRefIdeal.nD Cert.InPRefIdeal.τ).loc Cert.InPRefIdeal.main_arg5) = m ((c.tc : Thread Cert.InPRefIdeal.nD Cert.InPRefIdeal.τ).loc Cert.InPRefIdeal.main_arg5)
      ∧ r.2.mem ((c.tc : Thread Cert.InPRefIdeal.nD Cert.InPRefIdeal.τ).loc Cert.InPRefIdeal.main_arg6) = m ((c.tc : Thread Cert.InPRefIdeal.nD Cert.InPRefIdeal.τ).loc Cert.InPRefIdeal.main_arg6)
      ∧ r.2.mem ((c.tc : Thread Cert.InPRefIdeal.nD Cert.InPRefIdeal.τ).loc Cert.InPRefIdeal.main_arg7) = m ((c.tc : Thread Cert.InPRefIdeal.nD Cert.InPRefIdeal.τ).loc Cert.InPRefIdeal.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3)
      ∧ r.2.mem ((c.tc : Thread Cert.GlaFwd.nD Cert.GlaFwd.τ).loc Cert.GlaFwd.main_arg4) = m ((c.tc : Thread Cert.GlaFwd.nD Cert.GlaFwd.τ).loc Cert.GlaFwd.main_arg4))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4))
      ∧ r.2.sem = fun _ => 0)

def quiescent_GlaFwdRefIdeal [hGlaFwdRefIdeal : Cert.GlaFwdRefIdeal.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
      ∧ r.2.mem ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2)
      ∧ r.2.mem ((c.tc : Thread Cert.GlaFwdRefIdeal.nD Cert.GlaFwdRefIdeal.τ).loc Cert.GlaFwdRefIdeal.main_arg3) = m ((c.tc : Thread Cert.GlaFwdRefIdeal.nD Cert.GlaFwdRefIdeal.τ).loc Cert.GlaFwdRefIdeal.main_arg3)
      ∧ r.2.mem ((c.tc : Thread Cert.GlaFwdRefIdeal.nD Cert.GlaFwdRefIdeal.τ).loc Cert.GlaFwdRefIdeal.main_arg4) = m ((c.tc : Thread Cert.GlaFwdRefIdeal.nD Cert.GlaFwdRefIdeal.τ).loc Cert.GlaFwdRefIdeal.main_arg4))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4)
      ∧ r.2.mem ((c.tc : Thread Cert.SguFwd.nD Cert.SguFwd.τ).loc Cert.SguFwd.main_arg5) = m ((c.tc : Thread Cert.SguFwd.nD Cert.SguFwd.τ).loc Cert.SguFwd.main_arg5))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ r.2.sem = fun _ => 0)

def quiescent_SguFwdIdeal_pre_finite_sgu_fwd [hSguFwdIdeal : Cert.SguFwdIdeal.Facts] [hPre_finite_sgu_fwd : Cert.Pre_finite_sgu_fwd.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal_finite_sgu_fwd m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4)
      ∧ r.2.mem ((c.tc : Thread Cert.SguFwdRefIdeal.nD Cert.SguFwdRefIdeal.τ).loc Cert.SguFwdRefIdeal.main_arg5) = m ((c.tc : Thread Cert.SguFwdRefIdeal.nD Cert.SguFwdRefIdeal.τ).loc Cert.SguFwdRefIdeal.main_arg5))
      ∧ r.2.sem = fun _ => 0)

def quiescent_SguFwdRefIdeal_pre_finite_sgu_fwd [hSguFwdRefIdeal : Cert.SguFwdRefIdeal.Facts] [hPre_finite_sgu_fwd : Cert.Pre_finite_sgu_fwd.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal_finite_sgu_fwd m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4)
      ∧ r.2.mem ((c.tc : Thread Cert.SguFwdRefIdeal.nD Cert.SguFwdRefIdeal.τ).loc Cert.SguFwdRefIdeal.main_arg5) = m ((c.tc : Thread Cert.SguFwdRefIdeal.nD Cert.SguFwdRefIdeal.τ).loc Cert.SguFwdRefIdeal.main_arg5))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4)
      ∧ r.2.mem ((c.tc : Thread Cert.MixerFwd.nD Cert.MixerFwd.τ).loc Cert.MixerFwd.main_arg5) = m ((c.tc : Thread Cert.MixerFwd.nD Cert.MixerFwd.τ).loc Cert.MixerFwd.main_arg5)
      ∧ r.2.mem ((c.tc : Thread Cert.MixerFwd.nD Cert.MixerFwd.τ).loc Cert.MixerFwd.main_arg6) = m ((c.tc : Thread Cert.MixerFwd.nD Cert.MixerFwd.τ).loc Cert.MixerFwd.main_arg6)
      ∧ r.2.mem ((c.tc : Thread Cert.MixerFwd.nD Cert.MixerFwd.τ).loc Cert.MixerFwd.main_arg7) = m ((c.tc : Thread Cert.MixerFwd.nD Cert.MixerFwd.τ).loc Cert.MixerFwd.main_arg7)
      ∧ r.2.mem ((c.tc : Thread Cert.MixerFwd.nD Cert.MixerFwd.τ).loc Cert.MixerFwd.main_arg8) = m ((c.tc : Thread Cert.MixerFwd.nD Cert.MixerFwd.τ).loc Cert.MixerFwd.main_arg8))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
      ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6)
      ∧ r.2.mem ((c.tc : Thread Cert.MixerFwdIdeal.nD Cert.MixerFwdIdeal.τ).loc Cert.MixerFwdIdeal.main_arg7) = m ((c.tc : Thread Cert.MixerFwdIdeal.nD Cert.MixerFwdIdeal.τ).loc Cert.MixerFwdIdeal.main_arg7)
      ∧ r.2.mem ((c.tc : Thread Cert.MixerFwdIdeal.nD Cert.MixerFwdIdeal.τ).loc Cert.MixerFwdIdeal.main_arg8) = m ((c.tc : Thread Cert.MixerFwdIdeal.nD Cert.MixerFwdIdeal.τ).loc Cert.MixerFwdIdeal.main_arg8))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4)
      ∧ r.2.mem ((c.tc : Thread Cert.MixerFwdRefIdeal.nD Cert.MixerFwdRefIdeal.τ).loc Cert.MixerFwdRefIdeal.main_arg5) = m ((c.tc : Thread Cert.MixerFwdRefIdeal.nD Cert.MixerFwdRefIdeal.τ).loc Cert.MixerFwdRefIdeal.main_arg5)
      ∧ r.2.mem ((c.tc : Thread Cert.MixerFwdRefIdeal.nD Cert.MixerFwdRefIdeal.τ).loc Cert.MixerFwdRefIdeal.main_arg6) = m ((c.tc : Thread Cert.MixerFwdRefIdeal.nD Cert.MixerFwdRefIdeal.τ).loc Cert.MixerFwdRefIdeal.main_arg6)
      ∧ r.2.mem ((c.tc : Thread Cert.MixerFwdRefIdeal.nD Cert.MixerFwdRefIdeal.τ).loc Cert.MixerFwdRefIdeal.main_arg7) = m ((c.tc : Thread Cert.MixerFwdRefIdeal.nD Cert.MixerFwdRefIdeal.τ).loc Cert.MixerFwdRefIdeal.main_arg7)
      ∧ r.2.mem ((c.tc : Thread Cert.MixerFwdRefIdeal.nD Cert.MixerFwdRefIdeal.τ).loc Cert.MixerFwdRefIdeal.main_arg8) = m ((c.tc : Thread Cert.MixerFwdRefIdeal.nD Cert.MixerFwdRefIdeal.τ).loc Cert.MixerFwdRefIdeal.main_arg8))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1))
      ∧ r.2.sem = fun _ => 0)

def quiescent_Prod [hProd : Cert.Prod.Facts] : Prop :=
  ∀ (m : (ℓ : Loc Cert.Prod.nD Cert.Prod.τ Cert.Prod.sig) → Buf (Elt Bits) ℓ) (g : Dev Cert.Prod.nD → PrngReg), Pre_Prod m →
    θ_run (Cert.Prod.defs (F := Bits)) (onTc (τ := Cert.Prod.τ) (Cert.Prod.main (F := Bits))) ⟨m, fun _ => 0, g⟩ (fun r => (∀ c : Dev Cert.Prod.nD,
      r.2.mem ((c.tc : Thread Cert.Prod.nD Cert.Prod.τ).loc Cert.Prod.main_arg0) = m ((c.tc : Thread Cert.Prod.nD Cert.Prod.τ).loc Cert.Prod.main_arg0)
      ∧ r.2.mem ((c.tc : Thread Cert.Prod.nD Cert.Prod.τ).loc Cert.Prod.main_arg1) = m ((c.tc : Thread Cert.Prod.nD Cert.Prod.τ).loc Cert.Prod.main_arg1))
      ∧ r.2.sem = fun _ => 0)

def quiescent_ProdIdeal [hProdIdeal : Cert.ProdIdeal.Facts] : Prop :=
  ∀ (m : (ℓ : Loc Cert.ProdIdeal.nD Cert.ProdIdeal.τ Cert.ProdIdeal.sig) → Buf (Elt Ideal) ℓ) (g : Dev Cert.ProdIdeal.nD → PrngReg), Pre_ProdIdeal m →
    θ_run (Cert.ProdIdeal.defs (F := Ideal)) (onTc (τ := Cert.ProdIdeal.τ) (Cert.ProdIdeal.main (F := Ideal))) ⟨m, fun _ => 0, g⟩ (fun r => (∀ c : Dev Cert.ProdIdeal.nD,
      r.2.mem ((c.tc : Thread Cert.ProdIdeal.nD Cert.ProdIdeal.τ).loc Cert.ProdIdeal.main_arg0) = m ((c.tc : Thread Cert.ProdIdeal.nD Cert.ProdIdeal.τ).loc Cert.ProdIdeal.main_arg0)
      ∧ r.2.mem ((c.tc : Thread Cert.ProdIdeal.nD Cert.ProdIdeal.τ).loc Cert.ProdIdeal.main_arg1) = m ((c.tc : Thread Cert.ProdIdeal.nD Cert.ProdIdeal.τ).loc Cert.ProdIdeal.main_arg1))
      ∧ r.2.sem = fun _ => 0)

def quiescent_ProdRefIdeal [hProdRefIdeal : Cert.ProdRefIdeal.Facts] : Prop :=
  ∀ (m : (ℓ : Loc Cert.ProdRefIdeal.nD Cert.ProdRefIdeal.τ Cert.ProdRefIdeal.sig) → Buf (Elt Ideal) ℓ) (g : Dev Cert.ProdRefIdeal.nD → PrngReg), Pre_ProdRefIdeal m →
    θ_run (Cert.ProdRefIdeal.defs (F := Ideal)) (onTc (τ := Cert.ProdRefIdeal.τ) (Cert.ProdRefIdeal.main (F := Ideal))) ⟨m, fun _ => 0, g⟩ (fun r => (∀ c : Dev Cert.ProdRefIdeal.nD,
      r.2.mem ((c.tc : Thread Cert.ProdRefIdeal.nD Cert.ProdRefIdeal.τ).loc Cert.ProdRefIdeal.main_arg0) = m ((c.tc : Thread Cert.ProdRefIdeal.nD Cert.ProdRefIdeal.τ).loc Cert.ProdRefIdeal.main_arg0)
      ∧ r.2.mem ((c.tc : Thread Cert.ProdRefIdeal.nD Cert.ProdRefIdeal.τ).loc Cert.ProdRefIdeal.main_arg1) = m ((c.tc : Thread Cert.ProdRefIdeal.nD Cert.ProdRefIdeal.τ).loc Cert.ProdRefIdeal.main_arg1))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1))
      ∧ r.2.sem = fun _ => 0)

def quiescent_FfnWRefIdeal [hFfnWRefIdeal : Cert.FfnWRefIdeal.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0)
      ∧ r.2.mem ((c.tc : Thread Cert.Pair.nD Cert.Pair.τ).loc Cert.Pair.main_arg1) = m ((c.tc : Thread Cert.Pair.nD Cert.Pair.τ).loc Cert.Pair.main_arg1))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0)
      ∧ r.2.mem ((c.tc : Thread Cert.PairIdeal.nD Cert.PairIdeal.τ).loc Cert.PairIdeal.main_arg1) = m ((c.tc : Thread Cert.PairIdeal.nD Cert.PairIdeal.τ).loc Cert.PairIdeal.main_arg1))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0)
      ∧ r.2.mem ((c.tc : Thread Cert.PairRefIdeal.nD Cert.PairRefIdeal.τ).loc Cert.PairRefIdeal.main_arg1) = m ((c.tc : Thread Cert.PairRefIdeal.nD Cert.PairRefIdeal.τ).loc Cert.PairRefIdeal.main_arg1))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def preserves_Sgu_SguIdeal : Prop :=
  IdealRules.named_const.Statement Cert.SguIdeal.κ "gelu_3ac" .f32 0x3DDB33B6#32 ((241015141496493 / 2251799813685248 : ℝ) : EReal)

def algebraic_SguIdeal_SguRefIdeal_pre_finite_sgu [hSguIdeal : Cert.SguIdeal.Facts] [hSguRefIdeal : Cert.SguRefIdeal.Facts] [hPre_finite_sgu : Cert.Pre_finite_sgu.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal_finite_sgu m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)) →
    ∃ (v0 : (c : Dev Cert.SguIdeal.nD) → Buf (Elt Ideal) ((c.tc : Thread Cert.SguIdeal.nD Cert.SguIdeal.τ).loc Cert.SguIdeal.main_v4_0)) (v1 : (c : Dev Cert.SguIdeal.nD) → Buf (Elt Ideal) ((c.tc : Thread Cert.SguIdeal.nD Cert.SguIdeal.τ).loc Cert.SguIdeal.main_v4_1)) (v2 : (c : Dev Cert.SguIdeal.nD) → Buf (Elt Ideal) ((c.tc : Thread Cert.SguIdeal.nD Cert.SguIdeal.τ).loc Cert.SguIdeal.main_v4_2)) (v3 : (c : Dev Cert.SguIdeal.nD) → Buf (Elt Ideal) ((c.tc : Thread Cert.SguIdeal.nD Cert.SguIdeal.τ).loc Cert.SguIdeal.main_v4_3)) (v4 : (c : Dev Cert.SguIdeal.nD) → Buf (Elt Ideal) ((c.tc : Thread Cert.SguIdeal.nD Cert.SguIdeal.τ).loc Cert.SguIdeal.main_v4_4)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v4_0) = v0 c
          ∧ r.2.mem ((c.tc : Thread Cert.SguIdeal.nD Cert.SguIdeal.τ).loc Cert.SguIdeal.main_v4_1) = v1 c
          ∧ r.2.mem ((c.tc : Thread Cert.SguIdeal.nD Cert.SguIdeal.τ).loc Cert.SguIdeal.main_v4_2) = v2 c
          ∧ r.2.mem ((c.tc : Thread Cert.SguIdeal.nD Cert.SguIdeal.τ).loc Cert.SguIdeal.main_v4_3) = v3 c
          ∧ r.2.mem ((c.tc : Thread Cert.SguIdeal.nD Cert.SguIdeal.τ).loc Cert.SguIdeal.main_v4_4) = v4 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v169) = v0 c
          ∧ r.2.mem ((c.tc : Thread Cert.SguRefIdeal.nD Cert.SguRefIdeal.τ).loc Cert.SguRefIdeal.main_v170) = v1 c
          ∧ r.2.mem ((c.tc : Thread Cert.SguRefIdeal.nD Cert.SguRefIdeal.τ).loc Cert.SguRefIdeal.main_v171) = v2 c
          ∧ r.2.mem ((c.tc : Thread Cert.SguRefIdeal.nD Cert.SguRefIdeal.τ).loc Cert.SguRefIdeal.main_v108) = v3 c
          ∧ r.2.mem ((c.tc : Thread Cert.SguRefIdeal.nD Cert.SguRefIdeal.τ).loc Cert.SguRefIdeal.main_v172) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v12) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v8_0)) (v1 : (c : Dev Cert.MixerIdeal.nD) → Buf (Elt Ideal) ((c.tc : Thread Cert.MixerIdeal.nD Cert.MixerIdeal.τ).loc Cert.MixerIdeal.main_v8_1)) (v2 : (c : Dev Cert.MixerIdeal.nD) → Buf (Elt Ideal) ((c.tc : Thread Cert.MixerIdeal.nD Cert.MixerIdeal.τ).loc Cert.MixerIdeal.main_v8_2)) (v3 : (c : Dev Cert.MixerIdeal.nD) → Buf (Elt Ideal) ((c.tc : Thread Cert.MixerIdeal.nD Cert.MixerIdeal.τ).loc Cert.MixerIdeal.main_v8_3)) (v4 : (c : Dev Cert.MixerIdeal.nD) → Buf (Elt Ideal) ((c.tc : Thread Cert.MixerIdeal.nD Cert.MixerIdeal.τ).loc Cert.MixerIdeal.main_v8_4)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v8_0) = v0 c
          ∧ r.2.mem ((c.tc : Thread Cert.MixerIdeal.nD Cert.MixerIdeal.τ).loc Cert.MixerIdeal.main_v8_1) = v1 c
          ∧ r.2.mem ((c.tc : Thread Cert.MixerIdeal.nD Cert.MixerIdeal.τ).loc Cert.MixerIdeal.main_v8_2) = v2 c
          ∧ r.2.mem ((c.tc : Thread Cert.MixerIdeal.nD Cert.MixerIdeal.τ).loc Cert.MixerIdeal.main_v8_3) = v3 c
          ∧ r.2.mem ((c.tc : Thread Cert.MixerIdeal.nD Cert.MixerIdeal.τ).loc Cert.MixerIdeal.main_v8_4) = v4 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v43) = v0 c
          ∧ r.2.mem ((c.tc : Thread Cert.MixerRefIdeal.nD Cert.MixerRefIdeal.τ).loc Cert.MixerRefIdeal.main_v44) = v1 c
          ∧ r.2.mem ((c.tc : Thread Cert.MixerRefIdeal.nD Cert.MixerRefIdeal.τ).loc Cert.MixerRefIdeal.main_v45) = v2 c
          ∧ r.2.mem ((c.tc : Thread Cert.MixerRefIdeal.nD Cert.MixerRefIdeal.τ).loc Cert.MixerRefIdeal.main_v46) = v3 c
          ∧ r.2.mem ((c.tc : Thread Cert.MixerRefIdeal.nD Cert.MixerRefIdeal.τ).loc Cert.MixerRefIdeal.main_v47) = v4 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_FfnIn_FfnInIdeal : Prop :=
  True

def algebraic_FfnInIdeal_FfnInRefIdeal_pre_finite_ffn_in [hFfnInIdeal : Cert.FfnInIdeal.Facts] [hFfnInRefIdeal : Cert.FfnInRefIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_ffn_in m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v13_0)) (v1 : (c : Dev Cert.FfnInIdeal.nD) → Buf (Elt Ideal) ((c.tc : Thread Cert.FfnInIdeal.nD Cert.FfnInIdeal.τ).loc Cert.FfnInIdeal.main_v13_1)) (v2 : (c : Dev Cert.FfnInIdeal.nD) → Buf (Elt Ideal) ((c.tc : Thread Cert.FfnInIdeal.nD Cert.FfnInIdeal.τ).loc Cert.FfnInIdeal.main_v13_2)) (v3 : (c : Dev Cert.FfnInIdeal.nD) → Buf (Elt Ideal) ((c.tc : Thread Cert.FfnInIdeal.nD Cert.FfnInIdeal.τ).loc Cert.FfnInIdeal.main_v13_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v13_0) = v0 c
          ∧ r.2.mem ((c.tc : Thread Cert.FfnInIdeal.nD Cert.FfnInIdeal.τ).loc Cert.FfnInIdeal.main_v13_1) = v1 c
          ∧ r.2.mem ((c.tc : Thread Cert.FfnInIdeal.nD Cert.FfnInIdeal.τ).loc Cert.FfnInIdeal.main_v13_2) = v2 c
          ∧ r.2.mem ((c.tc : Thread Cert.FfnInIdeal.nD Cert.FfnInIdeal.τ).loc Cert.FfnInIdeal.main_v13_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v54) = v0 c
          ∧ r.2.mem ((c.tc : Thread Cert.FfnInRefIdeal.nD Cert.FfnInRefIdeal.τ).loc Cert.FfnInRefIdeal.main_v75) = v1 c
          ∧ r.2.mem ((c.tc : Thread Cert.FfnInRefIdeal.nD Cert.FfnInRefIdeal.τ).loc Cert.FfnInRefIdeal.main_v37) = v2 c
          ∧ r.2.mem ((c.tc : Thread Cert.FfnInRefIdeal.nD Cert.FfnInRefIdeal.τ).loc Cert.FfnInRefIdeal.main_v58) = v3 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_InP_InPIdeal : Prop :=
  True

def algebraic_InPIdeal_InPRefIdeal_pre_finite_in [hInPIdeal : Cert.InPIdeal.Facts] [hInPRefIdeal : Cert.InPRefIdeal.Facts] [hPre_finite_in : Cert.Pre_finite_in.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal_finite_in m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)
      ∧ m' ((c.tc : Thread Cert.InPRefIdeal.nD Cert.InPRefIdeal.τ).loc Cert.InPRefIdeal.main_arg2) = m ((c.tc : Thread Cert.InPIdeal.nD Cert.InPIdeal.τ).loc Cert.InPIdeal.main_arg2)
      ∧ m' ((c.tc : Thread Cert.InPRefIdeal.nD Cert.InPRefIdeal.τ).loc Cert.InPRefIdeal.main_arg3) = m ((c.tc : Thread Cert.InPIdeal.nD Cert.InPIdeal.τ).loc Cert.InPIdeal.main_arg3)
      ∧ m' ((c.tc : Thread Cert.InPRefIdeal.nD Cert.InPRefIdeal.τ).loc Cert.InPRefIdeal.main_arg4) = m ((c.tc : Thread Cert.InPIdeal.nD Cert.InPIdeal.τ).loc Cert.InPIdeal.main_arg4)
      ∧ m' ((c.tc : Thread Cert.InPRefIdeal.nD Cert.InPRefIdeal.τ).loc Cert.InPRefIdeal.main_arg5) = m ((c.tc : Thread Cert.InPIdeal.nD Cert.InPIdeal.τ).loc Cert.InPIdeal.main_arg5)
      ∧ m' ((c.tc : Thread Cert.InPRefIdeal.nD Cert.InPRefIdeal.τ).loc Cert.InPRefIdeal.main_arg6) = m ((c.tc : Thread Cert.InPIdeal.nD Cert.InPIdeal.τ).loc Cert.InPIdeal.main_arg6)
      ∧ m' ((c.tc : Thread Cert.InPRefIdeal.nD Cert.InPRefIdeal.τ).loc Cert.InPRefIdeal.main_arg7) = m ((c.tc : Thread Cert.InPIdeal.nD Cert.InPIdeal.τ).loc Cert.InPIdeal.main_arg7)) →
    ∃ (v0 : (c : Dev Cert.InPIdeal.nD) → Buf (Elt Ideal) ((c.tc : Thread Cert.InPIdeal.nD Cert.InPIdeal.τ).loc Cert.InPIdeal.main_v1_0)) (v1 : (c : Dev Cert.InPIdeal.nD) → Buf (Elt Ideal) ((c.tc : Thread Cert.InPIdeal.nD Cert.InPIdeal.τ).loc Cert.InPIdeal.main_v1_1)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v1_0) = v0 c
          ∧ r.2.mem ((c.tc : Thread Cert.InPIdeal.nD Cert.InPIdeal.τ).loc Cert.InPIdeal.main_v1_1) = v1 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
          ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
          ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
          ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
          ∧ r.2.mem ((c.tc : Thread Cert.InPIdeal.nD Cert.InPIdeal.τ).loc Cert.InPIdeal.main_arg6) = m ((c.tc : Thread Cert.InPIdeal.nD Cert.InPIdeal.τ).loc Cert.InPIdeal.main_arg6)
          ∧ r.2.mem ((c.tc : Thread Cert.InPIdeal.nD Cert.InPIdeal.τ).loc Cert.InPIdeal.main_arg7) = m ((c.tc : Thread Cert.InPIdeal.nD Cert.InPIdeal.τ).loc Cert.InPIdeal.main_arg7))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v42) = v0 c
          ∧ r.2.mem ((c.tc : Thread Cert.InPRefIdeal.nD Cert.InPRefIdeal.τ).loc Cert.InPRefIdeal.main_v25) = v1 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1)
          ∧ r.2.mem ((c.tc : Thread Cert.InPRefIdeal.nD Cert.InPRefIdeal.τ).loc Cert.InPRefIdeal.main_arg2) = m' ((c.tc : Thread Cert.InPRefIdeal.nD Cert.InPRefIdeal.τ).loc Cert.InPRefIdeal.main_arg2)
          ∧ r.2.mem ((c.tc : Thread Cert.InPRefIdeal.nD Cert.InPRefIdeal.τ).loc Cert.InPRefIdeal.main_arg3) = m' ((c.tc : Thread Cert.InPRefIdeal.nD Cert.InPRefIdeal.τ).loc Cert.InPRefIdeal.main_arg3)
          ∧ r.2.mem ((c.tc : Thread Cert.InPRefIdeal.nD Cert.InPRefIdeal.τ).loc Cert.InPRefIdeal.main_arg4) = m' ((c.tc : Thread Cert.InPRefIdeal.nD Cert.InPRefIdeal.τ).loc Cert.InPRefIdeal.main_arg4)
          ∧ r.2.mem ((c.tc : Thread Cert.InPRefIdeal.nD Cert.InPRefIdeal.τ).loc Cert.InPRefIdeal.main_arg5) = m' ((c.tc : Thread Cert.InPRefIdeal.nD Cert.InPRefIdeal.τ).loc Cert.InPRefIdeal.main_arg5)
          ∧ r.2.mem ((c.tc : Thread Cert.InPRefIdeal.nD Cert.InPRefIdeal.τ).loc Cert.InPRefIdeal.main_arg6) = m' ((c.tc : Thread Cert.InPRefIdeal.nD Cert.InPRefIdeal.τ).loc Cert.InPRefIdeal.main_arg6)
          ∧ r.2.mem ((c.tc : Thread Cert.InPRefIdeal.nD Cert.InPRefIdeal.τ).loc Cert.InPRefIdeal.main_arg7) = m' ((c.tc : Thread Cert.InPRefIdeal.nD Cert.InPRefIdeal.τ).loc Cert.InPRefIdeal.main_arg7))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v33) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v36) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_GlaFwd_GlaFwdIdeal : Prop :=
  True

def algebraic_GlaFwdIdeal_GlaFwdRefIdeal [hGlaFwdIdeal : Cert.GlaFwdIdeal.Facts] [hGlaFwdRefIdeal : Cert.GlaFwdRefIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdRefIdeal.nD Cert.GlaFwdRefIdeal.τ Cert.GlaFwdRefIdeal.sig) → Buf (Elt Ideal) ℓ) (g' : Dev Cert.GlaFwdRefIdeal.nD → PrngReg), Pre_GlaFwdIdeal m →
    (∀ c : Dev Cert.GlaFwdIdeal.nD,
      m' ((c.tc : Thread Cert.GlaFwdRefIdeal.nD Cert.GlaFwdRefIdeal.τ).loc Cert.GlaFwdRefIdeal.main_arg0) = m ((c.tc : Thread Cert.GlaFwdIdeal.nD Cert.GlaFwdIdeal.τ).loc Cert.GlaFwdIdeal.main_arg0)
      ∧ m' ((c.tc : Thread Cert.GlaFwdRefIdeal.nD Cert.GlaFwdRefIdeal.τ).loc Cert.GlaFwdRefIdeal.main_arg1) = m ((c.tc : Thread Cert.GlaFwdIdeal.nD Cert.GlaFwdIdeal.τ).loc Cert.GlaFwdIdeal.main_arg1)
      ∧ m' ((c.tc : Thread Cert.GlaFwdRefIdeal.nD Cert.GlaFwdRefIdeal.τ).loc Cert.GlaFwdRefIdeal.main_arg2) = m ((c.tc : Thread Cert.GlaFwdIdeal.nD Cert.GlaFwdIdeal.τ).loc Cert.GlaFwdIdeal.main_arg2)
      ∧ m' ((c.tc : Thread Cert.GlaFwdRefIdeal.nD Cert.GlaFwdRefIdeal.τ).loc Cert.GlaFwdRefIdeal.main_arg3) = m ((c.tc : Thread Cert.GlaFwdIdeal.nD Cert.GlaFwdIdeal.τ).loc Cert.GlaFwdIdeal.main_arg3)
      ∧ m' ((c.tc : Thread Cert.GlaFwdRefIdeal.nD Cert.GlaFwdRefIdeal.τ).loc Cert.GlaFwdRefIdeal.main_arg4) = m ((c.tc : Thread Cert.GlaFwdIdeal.nD Cert.GlaFwdIdeal.τ).loc Cert.GlaFwdIdeal.main_arg4)) →
    ∃ (v0 : (c : Dev Cert.GlaFwdIdeal.nD) → Buf (Elt Ideal) ((c.tc : Thread Cert.GlaFwdIdeal.nD Cert.GlaFwdIdeal.τ).loc Cert.GlaFwdIdeal.main_v5_0)) (v1 : (c : Dev Cert.GlaFwdIdeal.nD) → Buf (Elt Ideal) ((c.tc : Thread Cert.GlaFwdIdeal.nD Cert.GlaFwdIdeal.τ).loc Cert.GlaFwdIdeal.main_v5_1)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v5_0) = v0 c
          ∧ r.2.mem ((c.tc : Thread Cert.GlaFwdIdeal.nD Cert.GlaFwdIdeal.τ).loc Cert.GlaFwdIdeal.main_v5_1) = v1 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
          ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4))
      ∧ θ_run (Cert.GlaFwdRefIdeal.defs (F := Ideal)) (onTc (τ := Cert.GlaFwdRefIdeal.τ) (Cert.GlaFwdRefIdeal.main (F := Ideal))) ⟨m', fun _ => 0, g'⟩ (fun r => ∀ c : Dev Cert.GlaFwdRefIdeal.nD,
          r.2.mem ((c.tc : Thread Cert.GlaFwdRefIdeal.nD Cert.GlaFwdRefIdeal.τ).loc Cert.GlaFwdRefIdeal.main_v50) = v0 c
          ∧ r.2.mem ((c.tc : Thread Cert.GlaFwdRefIdeal.nD Cert.GlaFwdRefIdeal.τ).loc Cert.GlaFwdRefIdeal.main_v51) = v1 c
          ∧ r.2.mem ((c.tc : Thread Cert.GlaFwdRefIdeal.nD Cert.GlaFwdRefIdeal.τ).loc Cert.GlaFwdRefIdeal.main_arg0) = m' ((c.tc : Thread Cert.GlaFwdRefIdeal.nD Cert.GlaFwdRefIdeal.τ).loc Cert.GlaFwdRefIdeal.main_arg0)
          ∧ r.2.mem ((c.tc : Thread Cert.GlaFwdRefIdeal.nD Cert.GlaFwdRefIdeal.τ).loc Cert.GlaFwdRefIdeal.main_arg1) = m' ((c.tc : Thread Cert.GlaFwdRefIdeal.nD Cert.GlaFwdRefIdeal.τ).loc Cert.GlaFwdRefIdeal.main_arg1)
          ∧ r.2.mem ((c.tc : Thread Cert.GlaFwdRefIdeal.nD Cert.GlaFwdRefIdeal.τ).loc Cert.GlaFwdRefIdeal.main_arg2) = m' ((c.tc : Thread Cert.GlaFwdRefIdeal.nD Cert.GlaFwdRefIdeal.τ).loc Cert.GlaFwdRefIdeal.main_arg2)
          ∧ r.2.mem ((c.tc : Thread Cert.GlaFwdRefIdeal.nD Cert.GlaFwdRefIdeal.τ).loc Cert.GlaFwdRefIdeal.main_arg3) = m' ((c.tc : Thread Cert.GlaFwdRefIdeal.nD Cert.GlaFwdRefIdeal.τ).loc Cert.GlaFwdRefIdeal.main_arg3)
          ∧ r.2.mem ((c.tc : Thread Cert.GlaFwdRefIdeal.nD Cert.GlaFwdRefIdeal.τ).loc Cert.GlaFwdRefIdeal.main_arg4) = m' ((c.tc : Thread Cert.GlaFwdRefIdeal.nD Cert.GlaFwdRefIdeal.τ).loc Cert.GlaFwdRefIdeal.main_arg4))

def preserves_SguFwd_SguFwdIdeal : Prop :=
  True

def algebraic_SguFwdIdeal_SguFwdRefIdeal_pre_finite_sgu_fwd [hSguFwdIdeal : Cert.SguFwdIdeal.Facts] [hSguFwdRefIdeal : Cert.SguFwdRefIdeal.Facts] [hPre_finite_sgu_fwd : Cert.Pre_finite_sgu_fwd.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal_finite_sgu_fwd m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)
      ∧ m' ((c.tc : Thread Cert.SguFwdRefIdeal.nD Cert.SguFwdRefIdeal.τ).loc Cert.SguFwdRefIdeal.main_arg5) = m ((c.tc : Thread Cert.SguFwdIdeal.nD Cert.SguFwdIdeal.τ).loc Cert.SguFwdIdeal.main_arg5)) →
    ∃ (v0 : (c : Dev Cert.SguFwdIdeal.nD) → Buf (Elt Ideal) ((c.tc : Thread Cert.SguFwdIdeal.nD Cert.SguFwdIdeal.τ).loc Cert.SguFwdIdeal.main_v4)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v4) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
          ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v73) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4)
          ∧ r.2.mem ((c.tc : Thread Cert.SguFwdRefIdeal.nD Cert.SguFwdRefIdeal.τ).loc Cert.SguFwdRefIdeal.main_arg5) = m' ((c.tc : Thread Cert.SguFwdRefIdeal.nD Cert.SguFwdRefIdeal.τ).loc Cert.SguFwdRefIdeal.main_arg5))

def preserves_MixerFwd_MixerFwdIdeal : Prop :=
  True

def algebraic_MixerFwdIdeal_MixerFwdRefIdeal [hMixerFwdIdeal : Cert.MixerFwdIdeal.Facts] [hMixerFwdRefIdeal : Cert.MixerFwdRefIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerFwdRefIdeal.nD Cert.MixerFwdRefIdeal.τ Cert.MixerFwdRefIdeal.sig) → Buf (Elt Ideal) ℓ) (g' : Dev Cert.MixerFwdRefIdeal.nD → PrngReg), Pre_MixerFwdIdeal m →
    (∀ c : Dev Cert.MixerFwdIdeal.nD,
      m' ((c.tc : Thread Cert.MixerFwdRefIdeal.nD Cert.MixerFwdRefIdeal.τ).loc Cert.MixerFwdRefIdeal.main_arg0) = m ((c.tc : Thread Cert.MixerFwdIdeal.nD Cert.MixerFwdIdeal.τ).loc Cert.MixerFwdIdeal.main_arg0)
      ∧ m' ((c.tc : Thread Cert.MixerFwdRefIdeal.nD Cert.MixerFwdRefIdeal.τ).loc Cert.MixerFwdRefIdeal.main_arg1) = m ((c.tc : Thread Cert.MixerFwdIdeal.nD Cert.MixerFwdIdeal.τ).loc Cert.MixerFwdIdeal.main_arg1)
      ∧ m' ((c.tc : Thread Cert.MixerFwdRefIdeal.nD Cert.MixerFwdRefIdeal.τ).loc Cert.MixerFwdRefIdeal.main_arg2) = m ((c.tc : Thread Cert.MixerFwdIdeal.nD Cert.MixerFwdIdeal.τ).loc Cert.MixerFwdIdeal.main_arg2)
      ∧ m' ((c.tc : Thread Cert.MixerFwdRefIdeal.nD Cert.MixerFwdRefIdeal.τ).loc Cert.MixerFwdRefIdeal.main_arg3) = m ((c.tc : Thread Cert.MixerFwdIdeal.nD Cert.MixerFwdIdeal.τ).loc Cert.MixerFwdIdeal.main_arg3)
      ∧ m' ((c.tc : Thread Cert.MixerFwdRefIdeal.nD Cert.MixerFwdRefIdeal.τ).loc Cert.MixerFwdRefIdeal.main_arg4) = m ((c.tc : Thread Cert.MixerFwdIdeal.nD Cert.MixerFwdIdeal.τ).loc Cert.MixerFwdIdeal.main_arg4)
      ∧ m' ((c.tc : Thread Cert.MixerFwdRefIdeal.nD Cert.MixerFwdRefIdeal.τ).loc Cert.MixerFwdRefIdeal.main_arg5) = m ((c.tc : Thread Cert.MixerFwdIdeal.nD Cert.MixerFwdIdeal.τ).loc Cert.MixerFwdIdeal.main_arg5)
      ∧ m' ((c.tc : Thread Cert.MixerFwdRefIdeal.nD Cert.MixerFwdRefIdeal.τ).loc Cert.MixerFwdRefIdeal.main_arg6) = m ((c.tc : Thread Cert.MixerFwdIdeal.nD Cert.MixerFwdIdeal.τ).loc Cert.MixerFwdIdeal.main_arg6)
      ∧ m' ((c.tc : Thread Cert.MixerFwdRefIdeal.nD Cert.MixerFwdRefIdeal.τ).loc Cert.MixerFwdRefIdeal.main_arg7) = m ((c.tc : Thread Cert.MixerFwdIdeal.nD Cert.MixerFwdIdeal.τ).loc Cert.MixerFwdIdeal.main_arg7)
      ∧ m' ((c.tc : Thread Cert.MixerFwdRefIdeal.nD Cert.MixerFwdRefIdeal.τ).loc Cert.MixerFwdRefIdeal.main_arg8) = m ((c.tc : Thread Cert.MixerFwdIdeal.nD Cert.MixerFwdIdeal.τ).loc Cert.MixerFwdIdeal.main_arg8)) →
    ∃ (v0 : (c : Dev Cert.MixerFwdIdeal.nD) → Buf (Elt Ideal) ((c.tc : Thread Cert.MixerFwdIdeal.nD Cert.MixerFwdIdeal.τ).loc Cert.MixerFwdIdeal.main_v0_0)) (v1 : (c : Dev Cert.MixerFwdIdeal.nD) → Buf (Elt Ideal) ((c.tc : Thread Cert.MixerFwdIdeal.nD Cert.MixerFwdIdeal.τ).loc Cert.MixerFwdIdeal.main_v0_1)) (v2 : (c : Dev Cert.MixerFwdIdeal.nD) → Buf (Elt Ideal) ((c.tc : Thread Cert.MixerFwdIdeal.nD Cert.MixerFwdIdeal.τ).loc Cert.MixerFwdIdeal.main_v0_2)) (v3 : (c : Dev Cert.MixerFwdIdeal.nD) → Buf (Elt Ideal) ((c.tc : Thread Cert.MixerFwdIdeal.nD Cert.MixerFwdIdeal.τ).loc Cert.MixerFwdIdeal.main_v0_3)) (v4 : (c : Dev Cert.MixerFwdIdeal.nD) → Buf (Elt Ideal) ((c.tc : Thread Cert.MixerFwdIdeal.nD Cert.MixerFwdIdeal.τ).loc Cert.MixerFwdIdeal.main_v0_4)) (v5 : (c : Dev Cert.MixerFwdIdeal.nD) → Buf (Elt Ideal) ((c.tc : Thread Cert.MixerFwdIdeal.nD Cert.MixerFwdIdeal.τ).loc Cert.MixerFwdIdeal.main_v0_5)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v0_0) = v0 c
          ∧ r.2.mem ((c.tc : Thread Cert.MixerFwdIdeal.nD Cert.MixerFwdIdeal.τ).loc Cert.MixerFwdIdeal.main_v0_1) = v1 c
          ∧ r.2.mem ((c.tc : Thread Cert.MixerFwdIdeal.nD Cert.MixerFwdIdeal.τ).loc Cert.MixerFwdIdeal.main_v0_2) = v2 c
          ∧ r.2.mem ((c.tc : Thread Cert.MixerFwdIdeal.nD Cert.MixerFwdIdeal.τ).loc Cert.MixerFwdIdeal.main_v0_3) = v3 c
          ∧ r.2.mem ((c.tc : Thread Cert.MixerFwdIdeal.nD Cert.MixerFwdIdeal.τ).loc Cert.MixerFwdIdeal.main_v0_4) = v4 c
          ∧ r.2.mem ((c.tc : Thread Cert.MixerFwdIdeal.nD Cert.MixerFwdIdeal.τ).loc Cert.MixerFwdIdeal.main_v0_5) = v5 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
          ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
          ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
          ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6)
          ∧ r.2.mem ((c.tc : Thread Cert.MixerFwdIdeal.nD Cert.MixerFwdIdeal.τ).loc Cert.MixerFwdIdeal.main_arg7) = m ((c.tc : Thread Cert.MixerFwdIdeal.nD Cert.MixerFwdIdeal.τ).loc Cert.MixerFwdIdeal.main_arg7)
          ∧ r.2.mem ((c.tc : Thread Cert.MixerFwdIdeal.nD Cert.MixerFwdIdeal.τ).loc Cert.MixerFwdIdeal.main_arg8) = m ((c.tc : Thread Cert.MixerFwdIdeal.nD Cert.MixerFwdIdeal.τ).loc Cert.MixerFwdIdeal.main_arg8))
      ∧ θ_run (Cert.MixerFwdRefIdeal.defs (F := Ideal)) (onTc (τ := Cert.MixerFwdRefIdeal.τ) (Cert.MixerFwdRefIdeal.main (F := Ideal))) ⟨m', fun _ => 0, g'⟩ (fun r => ∀ c : Dev Cert.MixerFwdRefIdeal.nD,
          r.2.mem ((c.tc : Thread Cert.MixerFwdRefIdeal.nD Cert.MixerFwdRefIdeal.τ).loc Cert.MixerFwdRefIdeal.main_v51) = v0 c
          ∧ r.2.mem ((c.tc : Thread Cert.MixerFwdRefIdeal.nD Cert.MixerFwdRefIdeal.τ).loc Cert.MixerFwdRefIdeal.main_v52) = v1 c
          ∧ r.2.mem ((c.tc : Thread Cert.MixerFwdRefIdeal.nD Cert.MixerFwdRefIdeal.τ).loc Cert.MixerFwdRefIdeal.main_v53) = v2 c
          ∧ r.2.mem ((c.tc : Thread Cert.MixerFwdRefIdeal.nD Cert.MixerFwdRefIdeal.τ).loc Cert.MixerFwdRefIdeal.main_v25) = v3 c
          ∧ r.2.mem ((c.tc : Thread Cert.MixerFwdRefIdeal.nD Cert.MixerFwdRefIdeal.τ).loc Cert.MixerFwdRefIdeal.main_v38) = v4 c
          ∧ r.2.mem ((c.tc : Thread Cert.MixerFwdRefIdeal.nD Cert.MixerFwdRefIdeal.τ).loc Cert.MixerFwdRefIdeal.main_v54) = v5 c
          ∧ r.2.mem ((c.tc : Thread Cert.MixerFwdRefIdeal.nD Cert.MixerFwdRefIdeal.τ).loc Cert.MixerFwdRefIdeal.main_arg0) = m' ((c.tc : Thread Cert.MixerFwdRefIdeal.nD Cert.MixerFwdRefIdeal.τ).loc Cert.MixerFwdRefIdeal.main_arg0)
          ∧ r.2.mem ((c.tc : Thread Cert.MixerFwdRefIdeal.nD Cert.MixerFwdRefIdeal.τ).loc Cert.MixerFwdRefIdeal.main_arg1) = m' ((c.tc : Thread Cert.MixerFwdRefIdeal.nD Cert.MixerFwdRefIdeal.τ).loc Cert.MixerFwdRefIdeal.main_arg1)
          ∧ r.2.mem ((c.tc : Thread Cert.MixerFwdRefIdeal.nD Cert.MixerFwdRefIdeal.τ).loc Cert.MixerFwdRefIdeal.main_arg2) = m' ((c.tc : Thread Cert.MixerFwdRefIdeal.nD Cert.MixerFwdRefIdeal.τ).loc Cert.MixerFwdRefIdeal.main_arg2)
          ∧ r.2.mem ((c.tc : Thread Cert.MixerFwdRefIdeal.nD Cert.MixerFwdRefIdeal.τ).loc Cert.MixerFwdRefIdeal.main_arg3) = m' ((c.tc : Thread Cert.MixerFwdRefIdeal.nD Cert.MixerFwdRefIdeal.τ).loc Cert.MixerFwdRefIdeal.main_arg3)
          ∧ r.2.mem ((c.tc : Thread Cert.MixerFwdRefIdeal.nD Cert.MixerFwdRefIdeal.τ).loc Cert.MixerFwdRefIdeal.main_arg4) = m' ((c.tc : Thread Cert.MixerFwdRefIdeal.nD Cert.MixerFwdRefIdeal.τ).loc Cert.MixerFwdRefIdeal.main_arg4)
          ∧ r.2.mem ((c.tc : Thread Cert.MixerFwdRefIdeal.nD Cert.MixerFwdRefIdeal.τ).loc Cert.MixerFwdRefIdeal.main_arg5) = m' ((c.tc : Thread Cert.MixerFwdRefIdeal.nD Cert.MixerFwdRefIdeal.τ).loc Cert.MixerFwdRefIdeal.main_arg5)
          ∧ r.2.mem ((c.tc : Thread Cert.MixerFwdRefIdeal.nD Cert.MixerFwdRefIdeal.τ).loc Cert.MixerFwdRefIdeal.main_arg6) = m' ((c.tc : Thread Cert.MixerFwdRefIdeal.nD Cert.MixerFwdRefIdeal.τ).loc Cert.MixerFwdRefIdeal.main_arg6)
          ∧ r.2.mem ((c.tc : Thread Cert.MixerFwdRefIdeal.nD Cert.MixerFwdRefIdeal.τ).loc Cert.MixerFwdRefIdeal.main_arg7) = m' ((c.tc : Thread Cert.MixerFwdRefIdeal.nD Cert.MixerFwdRefIdeal.τ).loc Cert.MixerFwdRefIdeal.main_arg7)
          ∧ r.2.mem ((c.tc : Thread Cert.MixerFwdRefIdeal.nD Cert.MixerFwdRefIdeal.τ).loc Cert.MixerFwdRefIdeal.main_arg8) = m' ((c.tc : Thread Cert.MixerFwdRefIdeal.nD Cert.MixerFwdRefIdeal.τ).loc Cert.MixerFwdRefIdeal.main_arg8))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v5) = v0 c
          ∧ r.2.mem ((c.tc : Thread Cert.FfnFwdRefIdeal.nD Cert.FfnFwdRefIdeal.τ).loc Cert.FfnFwdRefIdeal.main_v8) = v1 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1))

def preserves_Prod_ProdIdeal : Prop :=
  True

def algebraic_ProdIdeal_ProdRefIdeal [hProdIdeal : Cert.ProdIdeal.Facts] [hProdRefIdeal : Cert.ProdRefIdeal.Facts] : Prop :=
  ∀ (m : (ℓ : Loc Cert.ProdIdeal.nD Cert.ProdIdeal.τ Cert.ProdIdeal.sig) → Buf (Elt Ideal) ℓ) (g : Dev Cert.ProdIdeal.nD → PrngReg)
    (m' : (ℓ : Loc Cert.ProdRefIdeal.nD Cert.ProdRefIdeal.τ Cert.ProdRefIdeal.sig) → Buf (Elt Ideal) ℓ) (g' : Dev Cert.ProdRefIdeal.nD → PrngReg), Pre_ProdIdeal m →
    (∀ c : Dev Cert.ProdIdeal.nD,
      m' ((c.tc : Thread Cert.ProdRefIdeal.nD Cert.ProdRefIdeal.τ).loc Cert.ProdRefIdeal.main_arg0) = m ((c.tc : Thread Cert.ProdIdeal.nD Cert.ProdIdeal.τ).loc Cert.ProdIdeal.main_arg0)
      ∧ m' ((c.tc : Thread Cert.ProdRefIdeal.nD Cert.ProdRefIdeal.τ).loc Cert.ProdRefIdeal.main_arg1) = m ((c.tc : Thread Cert.ProdIdeal.nD Cert.ProdIdeal.τ).loc Cert.ProdIdeal.main_arg1)) →
    ∃ (v0 : (c : Dev Cert.ProdIdeal.nD) → Buf (Elt Ideal) ((c.tc : Thread Cert.ProdIdeal.nD Cert.ProdIdeal.τ).loc Cert.ProdIdeal.main_v0)),
      θ_run (Cert.ProdIdeal.defs (F := Ideal)) (onTc (τ := Cert.ProdIdeal.τ) (Cert.ProdIdeal.main (F := Ideal))) ⟨m, fun _ => 0, g⟩ (fun r => ∀ c : Dev Cert.ProdIdeal.nD,
          r.2.mem ((c.tc : Thread Cert.ProdIdeal.nD Cert.ProdIdeal.τ).loc Cert.ProdIdeal.main_v0) = v0 c
          ∧ r.2.mem ((c.tc : Thread Cert.ProdIdeal.nD Cert.ProdIdeal.τ).loc Cert.ProdIdeal.main_arg0) = m ((c.tc : Thread Cert.ProdIdeal.nD Cert.ProdIdeal.τ).loc Cert.ProdIdeal.main_arg0)
          ∧ r.2.mem ((c.tc : Thread Cert.ProdIdeal.nD Cert.ProdIdeal.τ).loc Cert.ProdIdeal.main_arg1) = m ((c.tc : Thread Cert.ProdIdeal.nD Cert.ProdIdeal.τ).loc Cert.ProdIdeal.main_arg1))
      ∧ θ_run (Cert.ProdRefIdeal.defs (F := Ideal)) (onTc (τ := Cert.ProdRefIdeal.τ) (Cert.ProdRefIdeal.main (F := Ideal))) ⟨m', fun _ => 0, g'⟩ (fun r => ∀ c : Dev Cert.ProdRefIdeal.nD,
          r.2.mem ((c.tc : Thread Cert.ProdRefIdeal.nD Cert.ProdRefIdeal.τ).loc Cert.ProdRefIdeal.main_v6) = v0 c
          ∧ r.2.mem ((c.tc : Thread Cert.ProdRefIdeal.nD Cert.ProdRefIdeal.τ).loc Cert.ProdRefIdeal.main_arg0) = m' ((c.tc : Thread Cert.ProdRefIdeal.nD Cert.ProdRefIdeal.τ).loc Cert.ProdRefIdeal.main_arg0)
          ∧ r.2.mem ((c.tc : Thread Cert.ProdRefIdeal.nD Cert.ProdRefIdeal.τ).loc Cert.ProdRefIdeal.main_arg1) = m' ((c.tc : Thread Cert.ProdRefIdeal.nD Cert.ProdRefIdeal.τ).loc Cert.ProdRefIdeal.main_arg1))

def preserves_FfnW_FfnWIdeal : Prop :=
  True

def algebraic_FfnWIdeal_FfnWRefIdeal [hFfnWIdeal : Cert.FfnWIdeal.Facts] [hFfnWRefIdeal : Cert.FfnWRefIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWRefIdeal.nD Cert.FfnWRefIdeal.τ Cert.FfnWRefIdeal.sig) → Buf (Elt Ideal) ℓ) (g' : Dev Cert.FfnWRefIdeal.nD → PrngReg), Pre_FfnWIdeal m →
    (∀ c : Dev Cert.FfnWIdeal.nD,
      m' ((c.tc : Thread Cert.FfnWRefIdeal.nD Cert.FfnWRefIdeal.τ).loc Cert.FfnWRefIdeal.main_arg0) = m ((c.tc : Thread Cert.FfnWIdeal.nD Cert.FfnWIdeal.τ).loc Cert.FfnWIdeal.main_arg0)
      ∧ m' ((c.tc : Thread Cert.FfnWRefIdeal.nD Cert.FfnWRefIdeal.τ).loc Cert.FfnWRefIdeal.main_arg1) = m ((c.tc : Thread Cert.FfnWIdeal.nD Cert.FfnWIdeal.τ).loc Cert.FfnWIdeal.main_arg1)) →
    ∃ (v0 : (c : Dev Cert.FfnWIdeal.nD) → Buf (Elt Ideal) ((c.tc : Thread Cert.FfnWIdeal.nD Cert.FfnWIdeal.τ).loc Cert.FfnWIdeal.main_v0)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v0) = v0 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1))
      ∧ θ_run (Cert.FfnWRefIdeal.defs (F := Ideal)) (onTc (τ := Cert.FfnWRefIdeal.τ) (Cert.FfnWRefIdeal.main (F := Ideal))) ⟨m', fun _ => 0, g'⟩ (fun r => ∀ c : Dev Cert.FfnWRefIdeal.nD,
          r.2.mem ((c.tc : Thread Cert.FfnWRefIdeal.nD Cert.FfnWRefIdeal.τ).loc Cert.FfnWRefIdeal.main_v5) = v0 c
          ∧ r.2.mem ((c.tc : Thread Cert.FfnWRefIdeal.nD Cert.FfnWRefIdeal.τ).loc Cert.FfnWRefIdeal.main_arg0) = m' ((c.tc : Thread Cert.FfnWRefIdeal.nD Cert.FfnWRefIdeal.τ).loc Cert.FfnWRefIdeal.main_arg0)
          ∧ r.2.mem ((c.tc : Thread Cert.FfnWRefIdeal.nD Cert.FfnWRefIdeal.τ).loc Cert.FfnWRefIdeal.main_arg1) = m' ((c.tc : Thread Cert.FfnWRefIdeal.nD Cert.FfnWRefIdeal.τ).loc Cert.FfnWRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m' ((c.tc : Thread Cert.PairRefIdeal.nD Cert.PairRefIdeal.τ).loc Cert.PairRefIdeal.main_arg0) = m ((c.tc : Thread Cert.PairIdeal.nD Cert.PairIdeal.τ).loc Cert.PairIdeal.main_arg0)
      ∧ m' ((c.tc : Thread Cert.PairRefIdeal.nD Cert.PairRefIdeal.τ).loc Cert.PairRefIdeal.main_arg1) = m ((c.tc : Thread Cert.PairIdeal.nD Cert.PairIdeal.τ).loc Cert.PairIdeal.main_arg1)) →
    ∃ (v0 : (c : Dev Cert.PairIdeal.nD) → Buf (Elt Ideal) ((c.tc : Thread Cert.PairIdeal.nD Cert.PairIdeal.τ).loc Cert.PairIdeal.main_v0)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v0) = v0 c
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0)
          ∧ r.2.mem ((c.tc : Thread Cert.PairIdeal.nD Cert.PairIdeal.τ).loc Cert.PairIdeal.main_arg1) = m ((c.tc : Thread Cert.PairIdeal.nD Cert.PairIdeal.τ).loc Cert.PairIdeal.main_arg1))
      ∧ θ_run (Cert.PairRefIdeal.defs (F := Ideal)) (onTc (τ := Cert.PairRefIdeal.τ) (Cert.PairRefIdeal.main (F := Ideal))) ⟨m', fun _ => 0, g'⟩ (fun r => ∀ c : Dev Cert.PairRefIdeal.nD,
          r.2.mem ((c.tc : Thread Cert.PairRefIdeal.nD Cert.PairRefIdeal.τ).loc Cert.PairRefIdeal.main_v3) = v0 c
          ∧ r.2.mem ((c.tc : Thread Cert.PairRefIdeal.nD Cert.PairRefIdeal.τ).loc Cert.PairRefIdeal.main_arg0) = m' ((c.tc : Thread Cert.PairRefIdeal.nD Cert.PairRefIdeal.τ).loc Cert.PairRefIdeal.main_arg0)
          ∧ r.2.mem ((c.tc : Thread Cert.PairRefIdeal.nD Cert.PairRefIdeal.τ).loc Cert.PairRefIdeal.main_arg1) = m' ((c.tc : Thread Cert.PairRefIdeal.nD Cert.PairRefIdeal.τ).loc Cert.PairRefIdeal.main_arg1))

def preserves_Gla_GlaIdeal : Prop :=
  True

def Claim : Prop :=
  ∃ (hSgu : Cert.Sgu.Facts) (hSguIdeal : Cert.SguIdeal.Facts) (hSguRefIdeal : Cert.SguRefIdeal.Facts) (hFfn : Cert.Ffn.Facts) (hFfnIdeal : Cert.FfnIdeal.Facts) (hFfnRefIdeal : Cert.FfnRefIdeal.Facts) (hMixer : Cert.Mixer.Facts) (hMixerIdeal : Cert.MixerIdeal.Facts) (hMixerRefIdeal : Cert.MixerRefIdeal.Facts) (hFfnIn : Cert.FfnIn.Facts) (hFfnInIdeal : Cert.FfnInIdeal.Facts) (hFfnInRefIdeal : Cert.FfnInRefIdeal.Facts) (hInP : Cert.InP.Facts) (hInPIdeal : Cert.InPIdeal.Facts) (hInPRefIdeal : Cert.InPRefIdeal.Facts) (hLoss : Cert.Loss.Facts) (hLossIdeal : Cert.LossIdeal.Facts) (hLossRefIdeal : Cert.LossRefIdeal.Facts) (hGlaFwd : Cert.GlaFwd.Facts) (hGlaFwdIdeal : Cert.GlaFwdIdeal.Facts) (hGlaFwdRefIdeal : Cert.GlaFwdRefIdeal.Facts) (hSguFwd : Cert.SguFwd.Facts) (hSguFwdIdeal : Cert.SguFwdIdeal.Facts) (hSguFwdRefIdeal : Cert.SguFwdRefIdeal.Facts) (hMixerFwd : Cert.MixerFwd.Facts) (hMixerFwdIdeal : Cert.MixerFwdIdeal.Facts) (hMixerFwdRefIdeal : Cert.MixerFwdRefIdeal.Facts) (hFfnFwd : Cert.FfnFwd.Facts) (hFfnFwdIdeal : Cert.FfnFwdIdeal.Facts) (hFfnFwdRefIdeal : Cert.FfnFwdRefIdeal.Facts) (hProd : Cert.Prod.Facts) (hProdIdeal : Cert.ProdIdeal.Facts) (hProdRefIdeal : Cert.ProdRefIdeal.Facts) (hFfnW : Cert.FfnW.Facts) (hFfnWIdeal : Cert.FfnWIdeal.Facts) (hFfnWRefIdeal : Cert.FfnWRefIdeal.Facts) (hAdam : Cert.Adam.Facts) (hAdamIdeal : Cert.AdamIdeal.Facts) (hAdamRefIdeal : Cert.AdamRefIdeal.Facts) (hPair : Cert.Pair.Facts) (hPairIdeal : Cert.PairIdeal.Facts) (hPairRefIdeal : Cert.PairRefIdeal.Facts) (hGla : Cert.Gla.Facts) (hGlaIdeal : Cert.GlaIdeal.Facts) (hPre_finite_sgu : Cert.Pre_finite_sgu.Facts) (hPre_finite_ffn : Cert.Pre_finite_ffn.Facts) (hPre_finite_ffn_in : Cert.Pre_finite_ffn_in.Facts) (hPre_finite_in : Cert.Pre_finite_in.Facts) (hPre_finite_loss : Cert.Pre_finite_loss.Facts) (hPre_finite_sgu_fwd : Cert.Pre_finite_sgu_fwd.Facts),
    quiescent_Sgu (hSgu := hSgu)
    ∧ quiescent_SguIdeal (hSguIdeal := hSguIdeal)
    ∧ quiescent_SguIdeal_pre_finite_sgu (hSguIdeal := hSguIdeal) (hPre_finite_sgu := hPre_finite_sgu)
    ∧ quiescent_SguRefIdeal (hSguRefIdeal := hSguRefIdeal)
    ∧ quiescent_SguRefIdeal_pre_finite_sgu (hSguRefIdeal := hSguRefIdeal) (hPre_finite_sgu := hPre_finite_sgu)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_Mixer (hMixer := hMixer)
    ∧ quiescent_MixerIdeal (hMixerIdeal := hMixerIdeal)
    ∧ quiescent_MixerRefIdeal (hMixerRefIdeal := hMixerRefIdeal)
    ∧ quiescent_FfnIn (hFfnIn := hFfnIn)
    ∧ quiescent_FfnInIdeal (hFfnInIdeal := hFfnInIdeal)
    ∧ quiescent_FfnInIdeal_pre_finite_ffn_in (hFfnInIdeal := hFfnInIdeal) (hPre_finite_ffn_in := hPre_finite_ffn_in)
    ∧ quiescent_FfnInRefIdeal (hFfnInRefIdeal := hFfnInRefIdeal)
    ∧ quiescent_FfnInRefIdeal_pre_finite_ffn_in (hFfnInRefIdeal := hFfnInRefIdeal) (hPre_finite_ffn_in := hPre_finite_ffn_in)
    ∧ quiescent_InP (hInP := hInP)
    ∧ quiescent_InPIdeal (hInPIdeal := hInPIdeal)
    ∧ quiescent_InPIdeal_pre_finite_in (hInPIdeal := hInPIdeal) (hPre_finite_in := hPre_finite_in)
    ∧ quiescent_InPRefIdeal (hInPRefIdeal := hInPRefIdeal)
    ∧ quiescent_InPRefIdeal_pre_finite_in (hInPRefIdeal := hInPRefIdeal) (hPre_finite_in := hPre_finite_in)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_GlaFwd (hGlaFwd := hGlaFwd)
    ∧ quiescent_GlaFwdIdeal (hGlaFwdIdeal := hGlaFwdIdeal)
    ∧ quiescent_GlaFwdRefIdeal (hGlaFwdRefIdeal := hGlaFwdRefIdeal)
    ∧ quiescent_SguFwd (hSguFwd := hSguFwd)
    ∧ quiescent_SguFwdIdeal (hSguFwdIdeal := hSguFwdIdeal)
    ∧ quiescent_SguFwdIdeal_pre_finite_sgu_fwd (hSguFwdIdeal := hSguFwdIdeal) (hPre_finite_sgu_fwd := hPre_finite_sgu_fwd)
    ∧ quiescent_SguFwdRefIdeal (hSguFwdRefIdeal := hSguFwdRefIdeal)
    ∧ quiescent_SguFwdRefIdeal_pre_finite_sgu_fwd (hSguFwdRefIdeal := hSguFwdRefIdeal) (hPre_finite_sgu_fwd := hPre_finite_sgu_fwd)
    ∧ quiescent_MixerFwd (hMixerFwd := hMixerFwd)
    ∧ quiescent_MixerFwdIdeal (hMixerFwdIdeal := hMixerFwdIdeal)
    ∧ quiescent_MixerFwdRefIdeal (hMixerFwdRefIdeal := hMixerFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_Prod (hProd := hProd)
    ∧ quiescent_ProdIdeal (hProdIdeal := hProdIdeal)
    ∧ quiescent_ProdRefIdeal (hProdRefIdeal := hProdRefIdeal)
    ∧ quiescent_FfnW (hFfnW := hFfnW)
    ∧ quiescent_FfnWIdeal (hFfnWIdeal := hFfnWIdeal)
    ∧ quiescent_FfnWRefIdeal (hFfnWRefIdeal := hFfnWRefIdeal)
    ∧ quiescent_Adam (hAdam := hAdam)
    ∧ quiescent_AdamIdeal (hAdamIdeal := hAdamIdeal)
    ∧ quiescent_AdamRefIdeal (hAdamRefIdeal := hAdamRefIdeal)
    ∧ quiescent_Pair (hPair := hPair)
    ∧ quiescent_PairIdeal (hPairIdeal := hPairIdeal)
    ∧ quiescent_PairRefIdeal (hPairRefIdeal := hPairRefIdeal)
    ∧ quiescent_Gla (hGla := hGla)
    ∧ quiescent_GlaIdeal (hGlaIdeal := hGlaIdeal)
    ∧ preserves_Sgu_SguIdeal
    ∧ algebraic_SguIdeal_SguRefIdeal_pre_finite_sgu (hSguIdeal := hSguIdeal) (hSguRefIdeal := hSguRefIdeal) (hPre_finite_sgu := hPre_finite_sgu)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_Mixer_MixerIdeal
    ∧ algebraic_MixerIdeal_MixerRefIdeal (hMixerIdeal := hMixerIdeal) (hMixerRefIdeal := hMixerRefIdeal)
    ∧ preserves_FfnIn_FfnInIdeal
    ∧ algebraic_FfnInIdeal_FfnInRefIdeal_pre_finite_ffn_in (hFfnInIdeal := hFfnInIdeal) (hFfnInRefIdeal := hFfnInRefIdeal) (hPre_finite_ffn_in := hPre_finite_ffn_in)
    ∧ preserves_InP_InPIdeal
    ∧ algebraic_InPIdeal_InPRefIdeal_pre_finite_in (hInPIdeal := hInPIdeal) (hInPRefIdeal := hInPRefIdeal) (hPre_finite_in := hPre_finite_in)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_GlaFwd_GlaFwdIdeal
    ∧ algebraic_GlaFwdIdeal_GlaFwdRefIdeal (hGlaFwdIdeal := hGlaFwdIdeal) (hGlaFwdRefIdeal := hGlaFwdRefIdeal)
    ∧ preserves_SguFwd_SguFwdIdeal
    ∧ algebraic_SguFwdIdeal_SguFwdRefIdeal_pre_finite_sgu_fwd (hSguFwdIdeal := hSguFwdIdeal) (hSguFwdRefIdeal := hSguFwdRefIdeal) (hPre_finite_sgu_fwd := hPre_finite_sgu_fwd)
    ∧ preserves_MixerFwd_MixerFwdIdeal
    ∧ algebraic_MixerFwdIdeal_MixerFwdRefIdeal (hMixerFwdIdeal := hMixerFwdIdeal) (hMixerFwdRefIdeal := hMixerFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_Prod_ProdIdeal
    ∧ algebraic_ProdIdeal_ProdRefIdeal (hProdIdeal := hProdIdeal) (hProdRefIdeal := hProdRefIdeal)
    ∧ preserves_FfnW_FfnWIdeal
    ∧ algebraic_FfnWIdeal_FfnWRefIdeal (hFfnWIdeal := hFfnWIdeal) (hFfnWRefIdeal := hFfnWRefIdeal)
    ∧ preserves_Adam_AdamIdeal
    ∧ algebraic_AdamIdeal_AdamRefIdeal (hAdamIdeal := hAdamIdeal) (hAdamRefIdeal := hAdamRefIdeal)
    ∧ preserves_Pair_PairIdeal
    ∧ algebraic_PairIdeal_PairRefIdeal (hPairIdeal := hPairIdeal) (hPairRefIdeal := hPairRefIdeal)
    ∧ preserves_Gla_GlaIdeal
-- ==== Pre_finite_ffn.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x2816 .bf16) (main_arg1 : FVec F S4096x2816 .bf16) (main_arg2 : FVec F S2816x1024 .bf16) (main_arg3 : FVec F S4096x1024 .bf16) : IVec S_ 1 :=
  let main_v0 : FVec F S4096x2816 .f32 := (extf .f32 · bitsLt_bf16_f32) main_arg1
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := (extf .f32 · bitsLt_bf16_f32) main_arg2
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : FVec F S4096x1024 .f32 := (extf .f32 · bitsLt_bf16_f32) main_arg3
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v4 main_v9
  let main_v16 : IVec S_ 1 := andi main_v15 main_v14
  main_v16
-- ==== Pre_finite_ffn_in.lean ====
abbrev S4096x1024 : Shape := ⟨2, ![4096, 1024]⟩
abbrev S1x1024 : Shape := ⟨2, ![1, 1024]⟩
abbrev S5632x1024 : Shape := ⟨2, ![5632, 1024]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S5632x1024 : S_.BroadcastsInDim S5632x1024 (![] : Fin 0 → Fin S5632x1024.rank)
  reducesTo_S5632x1024_S_d0_1 : S5632x1024.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part2 {F : FTy → Type} [FloatOps F] (main_v24 : IVec S_ 1) (main_v29 : IVec S_ 1) (main_v33 : IVec S_ 1) : IVec S_ 1 :=
  let main_v34 : IVec S_ 1 := andi main_v33 main_v24
  let main_v35 : IVec S_ 1 := andi main_v34 main_v29
  main_v35

def fn_part1 {F : FTy → Type} [FloatOps F] (main_arg4 : FVec F S5632x1024 .bf16) (main_arg5 : FVec F S4096x1024 .f32) (main_arg6 : FVec F S4096x5632 .bf16) (main_v3 : IVec S_ 1) (main_v7 : IVec S_ 1) (main_v11 : IVec S_ 1) (main_v15 : IVec S_ 1) : IVec S_ 1 :=
  let main_v16 : FVec F S5632x1024 .f32 := (extf .f32 · bitsLt_bf16_f32) main_arg4
  let main_v17 : FVec F S5632x1024 .f32 := Host.absf main_v16
  let main_cst_6 : FVec F S_ .f32 := constant S_ .f32 0x7F800000#32
  let main_v18 : FVec F S5632x1024 .f32 := broadcastInDim S5632x1024 ![] bcast_S_S5632x1024 main_cst_6
  let main_v19 : IVec S5632x1024 1 := cmpf .olt main_v17 main_v18
  let main_c_7 : IVec S_ 1 := constantI S_ 1 1#1
  let main_v20 : IVec S_ 1 := (fun x v => Host.reduce IntOp.andi x v reducesTo_S5632x1024_S_d0_1 h_S_) main_v19 main_c_7
  let main_v21 : FVec F S4096x1024 .f32 := Host.absf main_arg5
  let main_cst_8 : FVec F S_ .f32 := constant S_ .f32 0x7F800000#32
  let main_v22 : FVec F S4096x1024 .f32 := broadcastInDim S4096x1024 ![] bcast_S_S4096x1024 main_cst_8
  let main_v23 : IVec S4096x1024 1 := cmpf .olt main_v21 main_v22
  let main_c_9 : IVec S_ 1 := constantI S_ 1 1#1
  let main_v24 : IVec S_ 1 := (fun x v => Host.reduce IntOp.andi x v reducesTo_S4096x1024_S_d0_1 h_S_) main_v23 main_c_9
  let main_v25 : FVec F S4096x5632 .f32 := (extf .f32 · bitsLt_bf16_f32) main_arg6
  let main_v26 : FVec F S4096x5632 .f32 := Host.absf main_v25
  let main_cst_10 : FVec F S_ .f32 := constant S_ .f32 0x7F800000#32
  let main_v27 : FVec F S4096x5632 .f32 := broadcastInDim S4096x5632 ![] bcast_S_S4096x5632 main_cst_10
  let main_v28 : IVec S4096x5632 1 := cmpf .olt main_v26 main_v27
  let main_c_11 : IVec S_ 1 := constantI S_ 1 1#1
  let main_v29 : IVec S_ 1 := (fun x v => Host.reduce IntOp.andi x v reducesTo_S4096x5632_S_d0_1 h_S_) main_v28 main_c_11
  let main_v30 : IVec S_ 1 := andi main_v3 main_v7
  let main_v31 : IVec S_ 1 := andi main_v30 main_v11
  let main_v32 : IVec S_ 1 := andi main_v31 main_v15
  let main_v33 : IVec S_ 1 := andi main_v32 main_v20
  fn_part2 (F := F) main_v24 main_v29 main_v33

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S5632x1024 .bf16) (main_arg5 : FVec F S4096x1024 .f32) (main_arg6 : FVec F S4096x5632 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== Pre_finite_in.lean ====
abbrev S4096x3072 : Shape := ⟨2, ![4096, 3072]⟩
abbrev S4096x16 : Shape := ⟨2, ![4096, 16]⟩
abbrev S4096x2048 : Shape := ⟨2, ![4096, 2048]⟩
abbrev S7184x1024 : Shape := ⟨2, ![7184, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S7184x1024 : S_.BroadcastsInDim S7184x1024 (![] : Fin 0 → Fin S7184x1024.rank)
  reducesTo_S7184x1024_S_d0_1 : S7184x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v14 : IVec S_ 1) (main_v19 : IVec S_ 1) (main_v24 : IVec S_ 1) (main_v28 : IVec S_ 1) (main_v32 : IVec S_ 1) (main_v33 : IVec S_ 1) : IVec S_ 1 :=
  let main_v34 : IVec S_ 1 := andi main_v33 main_v14
  let main_v35 : IVec S_ 1 := andi main_v34 main_v19
  let main_v36 : IVec S_ 1 := andi main_v35 main_v24
  let main_v37 : IVec S_ 1 := andi main_v36 main_v28
  let main_v38 : IVec S_ 1 := andi main_v37 main_v32
  main_v38

def fn_part1 {F : FTy → Type} [FloatOps F] (main_arg4 : FVec F S7184x1024 .bf16) (main_arg5 : FVec F S4096x1024 .f32) (main_arg7 : FVec F S1x1024 .f32) (main_v4 : IVec S_ 1) (main_v9 : IVec S_ 1) (main_v14 : IVec S_ 1) (main_v16 : FVec F S4096x2048 .f32) (main_cst_4 : FVec F S_ .f32) : IVec S_ 1 :=
  let main_v17 : FVec F S4096x2048 .f32 := broadcastInDim S4096x2048 ![] bcast_S_S4096x2048 main_cst_4
  let main_v18 : IVec S4096x2048 1 := cmpf .olt main_v16 main_v17
  let main_c_5 : IVec S_ 1 := constantI S_ 1 1#1
  let main_v19 : IVec S_ 1 := (fun x v => Host.reduce IntOp.andi x v reducesTo_S4096x2048_S_d0_1 h_S_) main_v18 main_c_5
  let main_v20 : FVec F S7184x1024 .f32 := (extf .f32 · bitsLt_bf16_f32) main_arg4
  let main_v21 : FVec F S7184x1024 .f32 := Host.absf main_v20
  let main_cst_6 : FVec F S_ .f32 := constant S_ .f32 0x7F800000#32
  let main_v22 : FVec F S7184x1024 .f32 := broadcastInDim S7184x1024 ![] bcast_S_S7184x1024 main_cst_6
  let main_v23 : IVec S7184x1024 1 := cmpf .olt main_v21 main_v22
  let main_c_7 : IVec S_ 1 := constantI S_ 1 1#1
  let main_v24 : IVec S_ 1 := (fun x v => Host.reduce IntOp.andi x v reducesTo_S7184x1024_S_d0_1 h_S_) main_v23 main_c_7
  let main_v25 : FVec F S4096x1024 .f32 := Host.absf main_arg5
  let main_cst_8 : FVec F S_ .f32 := constant S_ .f32 0x7F800000#32
  let main_v26 : FVec F S4096x1024 .f32 := broadcastInDim S4096x1024 ![] bcast_S_S4096x1024 main_cst_8
  let main_v27 : IVec S4096x1024 1 := cmpf .olt main_v25 main_v26
  let main_c_9 : IVec S_ 1 := constantI S_ 1 1#1
  let main_v28 : IVec S_ 1 := (fun x v => Host.reduce IntOp.andi x v reducesTo_S4096x1024_S_d0_1 h_S_) main_v27 main_c_9
  let main_v29 : FVec F S1x1024 .f32 := Host.absf main_arg7
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v4 main_v9
  fn_part2 (F := F) main_v14 main_v19 main_v24 main_v28 main_v32 main_v33

def fn {F : FTy → Type} [FloatOps F] (main_arg0 : FVec F S4096x3072 .bf16) (main_arg1 : FVec F S4096x16 .bf16) (main_arg2 : FVec F S4096x2048 .bf16) (main_arg3 : FVec F S4096x2048 .bf16) (main_arg4 : FVec F S7184x1024 .bf16) (main_arg5 : FVec F S4096x1024 .f32) (main_arg6 : FVec F S4096x1024 .f32) (main_arg7 : FVec F S1x1024 .f32) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S4096x16 .f32 := (extf .f32 · bitsLt_bf16_f32) main_arg1
  let main_v6 : FVec F S4096x16 .f32 := Host.absf main_v5
  let main_cst_0 : FVec F S_ .f32 := constant S_ .f32 0x7F800000#32
  let main_v7 : FVec F S4096x16 .f32 := broadcastInDim S4096x16 ![] bcast_S_S4096x16 main_cst_0
  let main_v8 : IVec S4096x16 1 := cmpf .olt main_v6 main_v7
  let main_c_1 : IVec S_ 1 := constantI S_ 1 1#1
  let main_v9 : IVec S_ 1 := (fun x v => Host.reduce IntOp.andi x v reducesTo_S4096x16_S_d0_1 h_S_) main_v8 main_c_1
  let main_v10 : FVec F S4096x2048 .f32 := (extf .f32 · bitsLt_bf16_f32) main_arg2
  let main_v11 : FVec F S4096x2048 .f32 := Host.absf main_v10
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_c_3 : IVec S_ 1 := constantI S_ 1 1#1
  let main_v14 : IVec S_ 1 := (fun x v => Host.reduce IntOp.andi x v reducesTo_S4096x2048_S_d0_1 h_S_) main_v13 main_c_3
  let main_v15 : FVec F S4096x2048 .f32 := (extf .f32 · bitsLt_bf16_f32) main_arg3
  let main_v16 : FVec F S4096x2048 .f32 := Host.absf main_v15
  let main_cst_4 : FVec F S_ .f32 := constant S_ .f32 0x7F800000#32
  fn_part1 (F := F) main_arg4 main_arg5 main_arg7 main_v4 main_v9 main_v14 main_v16 main_cst_4
-- ==== Pre_finite_loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v4 : IVec S_ 1) (main_v9 : IVec S_ 1) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v4 main_v9
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S4096x2816 .bf16) (main_arg1 : FVec F S2816x1024 .bf16) (main_arg2 : FVec F S4096x1024 .f32) (main_arg3 : FVec F S4096x1024 .f32) (main_arg4 : FVec F S1x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v4 main_v9 main_v13 main_v16
-- ==== Pre_finite_sgu.lean ====
abbrev S4096x1024 : Shape := ⟨2, ![4096, 1024]⟩
abbrev S4x256 : Shape := ⟨2, ![4, 256]⟩
abbrev S4x128x128 : Shape := ⟨3, ![4, 128, 128]⟩
abbrev S4x128 : Shape := ⟨2, ![4, 128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x256 : S_.BroadcastsInDim S4x256 (![] : Fin 0 → Fin S4x256.rank)
  reducesTo_S4x256_S_d0_1 : S4x256.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_v21 : IVec S_ 1) (main_v25 : IVec S_ 1) (main_v30 : IVec S_ 1) (main_v33 : IVec S_ 1) : IVec S_ 1 :=
  let main_v34 : IVec S_ 1 := andi main_v33 main_v21
  let main_v35 : IVec S_ 1 := andi main_v34 main_v25
  let main_v36 : IVec S_ 1 := andi main_v35 main_v30
  main_v36

def fn_part1 {F : FTy → Type} [FloatOps F] (main_arg4 : FVec F S4x128x128 .f32) (main_arg5 : FVec F S4x128 .f32) (main_arg6 : FVec F S4096x1024 .bf16) (main_v4 : IVec S_ 1) (main_v9 : IVec S_ 1) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : FVec F S4x128x128 .f32 := Host.absf main_arg4
  let main_cst_6 : FVec F S_ .f32 := constant S_ .f32 0x7F800000#32
  let main_v19 : FVec F S4x128x128 .f32 := broadcastInDim S4x128x128 ![] bcast_S_S4x128x128 main_cst_6
  let main_v20 : IVec S4x128x128 1 := cmpf .olt main_v18 main_v19
  let main_c_7 : IVec S_ 1 := constantI S_ 1 1#1
  let main_v21 : IVec S_ 1 := (fun x v => Host.reduce IntOp.andi x v reducesTo_S4x128x128_S_d0_1_2 h_S_) main_v20 main_c_7
  let main_v22 : FVec F S4x128 .f32 := Host.absf main_arg5
  let main_cst_8 : FVec F S_ .f32 := constant S_ .f32 0x7F800000#32
  let main_v23 : FVec F S4x128 .f32 := broadcastInDim S4x128 ![] bcast_S_S4x128 main_cst_8
  let main_v24 : IVec S4x128 1 := cmpf .olt main_v22 main_v23
  let main_c_9 : IVec S_ 1 := constantI S_ 1 1#1
  let main_v25 : IVec S_ 1 := (fun x v => Host.reduce IntOp.andi x v reducesTo_S4x128_S_d0_1 h_S_) main_v24 main_c_9
  let main_v26 : FVec F S4096x1024 .f32 := (extf .f32 · bitsLt_bf16_f32) main_arg6
  let main_v27 : FVec F S4096x1024 .f32 := Host.absf main_v26
  let main_cst_10 : FVec F S_ .f32 := constant S_ .f32 0x7F800000#32
  let main_v28 : FVec F S4096x1024 .f32 := broadcastInDim S4096x1024 ![] bcast_S_S4096x1024 main_cst_10
  let main_v29 : IVec S4096x1024 1 := cmpf .olt main_v27 main_v28
  let main_c_11 : IVec S_ 1 := constantI S_ 1 1#1
  let main_v30 : IVec S_ 1 := (fun x v => Host.reduce IntOp.andi x v reducesTo_S4096x1024_S_d0_1 h_S_) main_v29 main_c_11
  let main_v31 : IVec S_ 1 := andi main_v4 main_v9
  let main_v32 : IVec S_ 1 := andi main_v31 main_v13
  let main_v33 : IVec S_ 1 := andi main_v32 main_v17
  fn_part2 (F := F) main_v21 main_v25 main_v30 main_v33

def fn {F : FTy → Type} [FloatOps F] (main_arg0 : FVec F S4096x1024 .bf16) (main_arg1 : FVec F S4096x1024 .bf16) (main_arg2 : FVec F S4x256 .f32) (main_arg3 : FVec F S4x256 .f32) (main_arg4 : FVec F S4x128x128 .f32) (main_arg5 : FVec F S4x128 .f32) (main_arg6 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : FVec F S4x256 .f32 := Host.absf main_arg2
  let main_cst_2 : FVec F S_ .f32 := constant S_ .f32 0x7F800000#32
  let main_v11 : FVec F S4x256 .f32 := broadcastInDim S4x256 ![] bcast_S_S4x256 main_cst_2
  let main_v12 : IVec S4x256 1 := cmpf .olt main_v10 main_v11
  let main_c_3 : IVec S_ 1 := constantI S_ 1 1#1
  let main_v13 : IVec S_ 1 := (fun x v => Host.reduce IntOp.andi x v reducesTo_S4x256_S_d0_1 h_S_) main_v12 main_c_3
  let main_v14 : FVec F S4x256 .f32 := Host.absf main_arg3
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg4 main_arg5 main_arg6 main_v4 main_v9 main_v13 main_v16
-- ==== Pre_finite_sgu_fwd.lean ====
abbrev S4096x1024 : Shape := ⟨2, ![4096, 1024]⟩
abbrev S4x256 : Shape := ⟨2, ![4, 256]⟩
abbrev S4x128x128 : Shape := ⟨3, ![4, 128, 128]⟩
abbrev S4x128 : Shape := ⟨2, ![4, 128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x256 : S_.BroadcastsInDim S4x256 (![] : Fin 0 → Fin S4x256.rank)
  reducesTo_S4x256_S_d0_1 : S4x256.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128x128 .f32) (main_arg5 : FVec F S4x128 .f32) (main_v4 : IVec S_ 1) (main_v9 : IVec S_ 1) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : FVec F S4x128x128 .f32 := Host.absf main_arg4
  let main_cst_6 : FVec F S_ .f32 := constant S_ .f32 0x7F800000#32
  let main_v19 : FVec F S4x128x128 .f32 := broadcastInDim S4x128x128 ![] bcast_S_S4x128x128 main_cst_6
  let main_v20 : IVec S4x128x128 1 := cmpf .olt main_v18 main_v19
  let main_c_7 : IVec S_ 1 := constantI S_ 1 1#1
  let main_v21 : IVec S_ 1 := (fun x v => Host.reduce IntOp.andi x v reducesTo_S4x128x128_S_d0_1_2 h_S_) main_v20 main_c_7
  let main_v22 : FVec F S4x128 .f32 := Host.absf main_arg5
  let main_cst_8 : FVec F S_ .f32 := constant S_ .f32 0x7F800000#32
  let main_v23 : FVec F S4x128 .f32 := broadcastInDim S4x128 ![] bcast_S_S4x128 main_cst_8
  let main_v24 : IVec S4x128 1 := cmpf .olt main_v22 main_v23
  let main_c_9 : IVec S_ 1 := constantI S_ 1 1#1
  let main_v25 : IVec S_ 1 := (fun x v => Host.reduce IntOp.andi x v reducesTo_S4x128_S_d0_1 h_S_) main_v24 main_c_9
  let main_v26 : IVec S_ 1 := andi main_v4 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4096x1024 .bf16) (main_arg1 : FVec F S4096x1024 .bf16) (main_arg2 : FVec F S4x256 .f32) (main_arg3 : FVec F S4x256 .f32) (main_arg4 : FVec F S4x128x128 .f32) (main_arg5 : FVec F S4x128 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : FVec F S4x256 .f32 := Host.absf main_arg2
  let main_cst_2 : FVec F S_ .f32 := constant S_ .f32 0x7F800000#32
  let main_v11 : FVec F S4x256 .f32 := broadcastInDim S4x256 ![] bcast_S_S4x256 main_cst_2
  let main_v12 : IVec S4x256 1 := cmpf .olt main_v10 main_v11
  let main_c_3 : IVec S_ 1 := constantI S_ 1 1#1
  let main_v13 : IVec S_ 1 := (fun x v => Host.reduce IntOp.andi x v reducesTo_S4x256_S_d0_1 h_S_) main_v12 main_c_3
  let main_v14 : FVec F S4x256 .f32 := Host.absf main_arg3
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg4 main_arg5 main_v4 main_v9 main_v13 main_v16
-- ==== Sgu.lean ====
abbrev S4096x1024 : Shape := ⟨2, ![4096, 1024]⟩
abbrev S4x256 : Shape := ⟨2, ![4, 256]⟩
abbrev S4x128x128 : Shape := ⟨3, ![4, 128, 128]⟩
abbrev S4x128 : Shape := ⟨2, ![4, 128]⟩
abbrev S4096x2048 : Shape := ⟨2, ![4096, 2048]⟩
abbrev S4x1x256 : Shape := ⟨3, ![4, 1, 256]⟩
abbrev S4x128x1 : Shape := ⟨3, ![4, 128, 1]⟩
abbrev S256x2048 : Shape := ⟨2, ![256, 2048]⟩
abbrev S256x1024 : Shape := ⟨2, ![256, 1024]⟩
abbrev S128x128 : Shape := ⟨2, ![128, 128]⟩
abbrev S1x128x128 : Shape := ⟨3, ![1, 128, 128]⟩
abbrev S1x1x256 : Shape := ⟨3, ![1, 1, 256]⟩
abbrev S1x256 : Shape := ⟨2, ![1, 256]⟩
abbrev S128x256 : Shape := ⟨2, ![128, 256]⟩
abbrev S128 : Shape := ⟨1, ![128]⟩
abbrev S128x1 : Shape := ⟨2, ![128, 1]⟩
abbrev S1x128x1 : Shape := ⟨3, ![1, 128, 1]⟩
abbrev S256 : Shape := ⟨1, ![256]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256, .f32⟩
  | .hbm, ⟨3, _⟩ => ⟨S4x256, .f32⟩
  | .hbm, ⟨4, _⟩ => ⟨S4x128x128, .f32⟩
  | .hbm, ⟨5, _⟩ => ⟨S4x128, .f32⟩
  | .hbm, ⟨6, _⟩ => ⟨S4096x1024, .bf16⟩
  | .hbm, ⟨7, _⟩ => ⟨S4096x2048, .bf16⟩
  | .hbm, ⟨8, _⟩ => ⟨S4x1x256, .f32⟩
  | .hbm, ⟨9, _⟩ => ⟨S4x1x256, .f32⟩
  | .hbm, ⟨10, _⟩ => ⟨S4x128x1, .f32⟩
  | .hbm, ⟨11, _⟩ => ⟨S4096x2048, .bf16⟩
  | .hbm, ⟨12, _⟩ => ⟨S4x1x256, .f32⟩
  | .hbm, ⟨13, _⟩ => ⟨S4x1x256, .f32⟩
  | .hbm, ⟨14, _⟩ => ⟨S4x128x128, .f32⟩
  | .hbm, ⟨15, _⟩ => ⟨S4x128x1, .f32⟩
  | .local _ .vmem, ⟨0, _⟩ => ⟨S256x2048, .bf16⟩
  | .local _ .vmem, ⟨1, _⟩ => ⟨S256x2048, .bf16⟩
  | .local _ .vmem, ⟨2, _⟩ => ⟨S4x1x256, .f32⟩
  | .local _ .vmem, ⟨3, _⟩ => ⟨S4x1x256, .f32⟩
  | .local _ .vmem, ⟨4, _⟩ => ⟨S4x128x128, .f32⟩
  | .local _ .vmem, ⟨5, _⟩ => ⟨S4x128x1, .f32⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S4x1x256, .f32⟩
  | .local _ .vmem, ⟨11, _⟩ => ⟨S4x1x256, .f32⟩
  | .local _ .vmem, ⟨12, _⟩ => ⟨S4x128x128, .f32⟩
  | .local _ .vmem, ⟨13, _⟩ => ⟨S4x128x1, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SguIdeal.lean ====
variable {F : FTy → Type} [FloatOps F] [Named F]
def κ : String → Option EReal := fun
  | "gelu_3ac" => some ((241015141496493 / 2251799813685248 : ℝ) : EReal)
  | _ => none
-- ==== SguRefIdeal.lean ====
abbrev S4096x1024 : Shape := ⟨2, ![4096, 1024]⟩
abbrev S4x256 : Shape := ⟨2, ![4, 256]⟩
abbrev S4x128x128 : Shape := ⟨3, ![4, 128, 128]⟩
abbrev S4x128 : Shape := ⟨2, ![4, 128]⟩
abbrev S_ : Shape := ⟨0, ![]⟩
abbrev S4096x4x256 : Shape := ⟨3, ![4096, 4, 256]⟩
abbrev S4096x4 : Shape := ⟨2, ![4096, 4]⟩
abbrev S4096x4x1 : Shape := ⟨3, ![4096, 4, 1]⟩
abbrev S1x4x256 : Shape := ⟨3, ![1, 4, 256]⟩
abbrev S32x128x4x256 : Shape := ⟨4, ![32, 128, 4, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x32x256x128 : Shape := ⟨4, ![4, 32, 256, 128]⟩
abbrev S128x4 : Shape := ⟨2, ![128, 4]⟩
abbrev S128x4x1 : Shape := ⟨3, ![128, 4, 1]⟩
abbrev S1x128x4x1 : Shape := ⟨4, ![1, 128, 4, 1]⟩
abbrev S4096x2048 : Shape := ⟨2, ![4096, 2048]⟩
abbrev S4x1x256 : Shape := ⟨3, ![4, 1, 256]⟩
abbrev S4x128x1 : Shape := ⟨3, ![4, 128, 1]⟩

abbrev nBuf : Space → Nat
  | .hbm => 263
  | .vmem => 0
  | .smem => 0
  | _ => 0

abbrev hbmTy0_0 (i : Nat) : BufTy := match i % 128 with
  | 0 => ⟨S4096x1024, .bf16⟩
  | 1 => ⟨S4096x1024, .bf16⟩
  | 2 => ⟨S4x256, .f32⟩
  | 3 => ⟨S4x256, .f32⟩
  | 4 => ⟨S4x128x128, .f32⟩
  | 5 => ⟨S4x128, .f32⟩
  | 6 => ⟨S4096x1024, .bf16⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S4096x1024, .f32⟩
  | 66 => ⟨S4096x4x256, .f32⟩
  | 67 => ⟨S_, .f32⟩
  | 68 => ⟨S4096x4, .f32⟩
  | 69 => ⟨S4096x4x1, .f32⟩
  | 70 => ⟨S_, .f32⟩
  | 71 => ⟨S4096x4x1, .f32⟩
  | 72 => ⟨S4096x4x1, .f32⟩
  | 73 => ⟨S4096x4x256, .f32⟩
  | 74 => ⟨S4096x4x256, .f32⟩
  | 75 => ⟨S4096x4x256, .f32⟩
  | 76 => ⟨S_, .f32⟩
  | 77 => ⟨S4096x4x256, .f32⟩
  | 78 => ⟨S4096x4x256, .f32⟩
  | 79 => ⟨S_, .f32⟩
  | 80 => ⟨S4096x4, .f32⟩
  | 81 => ⟨S4096x4x1, .f32⟩
  | 82 => ⟨S_, .f32⟩
  | 83 => ⟨S4096x4x1, .f32⟩
  | 84 => ⟨S4096x4x1, .f32⟩
  | 85 => ⟨S4096x4x256, .f32⟩
  | 86 => ⟨S4096x4x256, .f32⟩
  | 87 => ⟨S_, .f32⟩
  | 88 => ⟨S4096x4x1, .f32⟩
  | 89 => ⟨S4096x4x1, .f32⟩
  | 90 => ⟨S4096x4x1, .f32⟩
  | 91 => ⟨S4096x4x1, .f32⟩
  | 92 => ⟨S_, .f32⟩
  | 93 => ⟨S4096x4x1, .f32⟩
  | 94 => ⟨S4096x4x1, .f32⟩
  | 95 => ⟨S4096x4x256, .f32⟩
  | 96 => ⟨S4096x4x256, .f32⟩
  | 97 => ⟨S1x4x256, .f32⟩
  | 98 => ⟨S4096x4x256, .f32⟩
  | 99 => ⟨S4096x4x256, .f32⟩
  | 100 => ⟨S1x4x256, .f32⟩
  | 101 => ⟨S4096x4x256, .f32⟩
  | 102 => ⟨S4096x4x256, .f32⟩
  | 103 => ⟨S32x128x4x256, .f32⟩
  | 104 => ⟨S128, .i32⟩
  | 105 => ⟨S1x128, .i32⟩
  | 106 => ⟨S_, .i32⟩
  | 107 => ⟨S_, .i32⟩
  | 108 => ⟨S1x128, .i32⟩
  | 109 => ⟨S1x128, .i32⟩
  | 110 => ⟨S1x128, .i32⟩
  | 111 => ⟨S_, .i32⟩
  | 112 => ⟨S1x128, .i32⟩
  | 113 => ⟨S1x128, .i1⟩
  | 114 => ⟨S1x128, .i32⟩
  | 115 => ⟨S1x128, .i32⟩
  | 116 => ⟨S_, .i32⟩
  | 117 => ⟨S1x128, .i32⟩
  | 118 => ⟨S1x128, .i1⟩
  | 119 => ⟨S1x128, .i1⟩
  | 120 => ⟨S_, .i32⟩
  | 121 => ⟨S1x128, .i32⟩
  | 122 => ⟨S1x128, .i32⟩
  | 123 => ⟨S1x128, .i32⟩
  | 124 => ⟨S128x1, .i32⟩
  | 125 => ⟨S_, .i32⟩
  | 126 => ⟨S_, .i32⟩
  | 127 => ⟨S128x1, .i32⟩
  | _ => ⟨S4096x1024, .bf16⟩

abbrev hbmTy0_1 (i : Nat) : BufTy := match i % 128 with
  | 0 => ⟨S128x1, .i32⟩
  | 1 => ⟨S128x1, .i32⟩
  | 2 => ⟨S_, .i32⟩
  | 3 => ⟨S128x1, .i32⟩
  | 4 => ⟨S128x1, .i1⟩
  | 5 => ⟨S128x1, .i32⟩
  | 6 => ⟨S128x1, .i32⟩
  | 7 => ⟨S_, .i32⟩
  | 8 => ⟨S128x1, .i32⟩
  | 9 => ⟨S128x1, .i1⟩
  | 10 => ⟨S128x1, .i1⟩
  | 11 => ⟨S_, .i32⟩
  | 12 => ⟨S128x1, .i32⟩
  | 13 => ⟨S128x1, .i32⟩
  | 14 => ⟨S128x1, .i32⟩
  | 15 => ⟨S128x128, .i32⟩
  | 16 => ⟨S128x128, .i32⟩
  | 17 => ⟨S128x128, .i1⟩
  | 18 => ⟨S1x128x128, .i1⟩
  | 19 => ⟨S_, .f32⟩
  | 20 => ⟨S_, .f32⟩
  | 21 => ⟨S4x128x128, .i1⟩
  | 22 => ⟨S4x128x128, .f32⟩
  | 23 => ⟨S4x128x128, .f32⟩
  | 24 => ⟨S_, .f32⟩
  | 25 => ⟨S4x128x128, .f32⟩
  | 26 => ⟨S4x32x256x128, .f32⟩
  | 27 => ⟨S32x128x4x256, .f32⟩
  | 28 => ⟨S128x4, .f32⟩
  | 29 => ⟨S128x4x1, .f32⟩
  | 30 => ⟨S1x128x4x1, .f32⟩
  | 31 => ⟨S32x128x4x256, .f32⟩
  | 32 => ⟨S32x128x4x256, .f32⟩
  | 33 => ⟨S4096x1024, .f32⟩
  | 34 => ⟨S4096x1024, .f32⟩
  | 35 => ⟨S4096x1024, .f32⟩
  | 36 => ⟨S4096x1024, .f32⟩
  | 37 => ⟨S32x128x4x256, .f32⟩
  | 38 => ⟨S_, .f32⟩
  | 39 => ⟨S128x4, .f32⟩
  | 40 => ⟨S1x128x4x1, .f32⟩
  | 41 => ⟨S_, .f32⟩
  | 42 => ⟨S128x4, .f32⟩
  | 43 => ⟨S128x4x1, .f32⟩
  | 44 => ⟨S_, .f32⟩
  | 45 => ⟨S128x4, .f32⟩
  | 46 => ⟨S4x128, .f32⟩
  | 47 => ⟨S4x32x256x128, .f32⟩
  | 48 => ⟨S4x128x128, .f32⟩
  | 49 => ⟨S4x32x256x128, .f32⟩
  | 50 => ⟨S32x128x4x256, .f32⟩
  | 51 => ⟨S_, .f32⟩
  | 52 => ⟨S4x128x128, .f32⟩
  | 53 => ⟨S4x128x128, .f32⟩
  | 54 => ⟨S4096x4x256, .f32⟩
  | 55 => ⟨S_, .f32⟩
  | 56 => ⟨S4x256, .f32⟩
  | 57 => ⟨S1x4x256, .f32⟩
  | 58 => ⟨S_, .f32⟩
  | 59 => ⟨S4x256, .f32⟩
  | 60 => ⟨S4096x4x256, .f32⟩
  | 61 => ⟨S_, .f32⟩
  | 62 => ⟨S4x256, .f32⟩
  | 63 => ⟨S1x4x256, .f32⟩
  | 64 => ⟨S4096x4x256, .f32⟩
  | 65 => ⟨S4096x4x256, .f32⟩
  | 66 => ⟨S_, .f32⟩
  | 67 => ⟨S4x256, .f32⟩
  | 68 => ⟨S4096x4x256, .f32⟩
  | 69 => ⟨S_, .f32⟩
  | 70 => ⟨S4096x4, .f32⟩
  | 71 => ⟨S4096x4x1, .f32⟩
  | 72 => ⟨S4096x4x256, .f32⟩
  | 73 => ⟨S4096x4x256, .f32⟩
  | 74 => ⟨S4096x4x1, .f32⟩
  | 75 => ⟨S4096x4x256, .f32⟩
  | 76 => ⟨S_, .f32⟩
  | 77 => ⟨S4096x4, .f32⟩
  | 78 => ⟨S4096x4x1, .f32⟩
  | 79 => ⟨S_, .f32⟩
  | 80 => ⟨S4096x4x1, .f32⟩
  | 81 => ⟨S4096x4x1, .f32⟩
  | 82 => ⟨S_, .f32⟩
  | 83 => ⟨S4096x4, .f32⟩
  | 84 => ⟨S4096x4x256, .f32⟩
  | 85 => ⟨S4096x4x256, .f32⟩
  | 86 => ⟨S4096x4x256, .f32⟩
  | 87 => ⟨S_, .f32⟩
  | 88 => ⟨S4096x4, .f32⟩
  | 89 => ⟨S4096x4x1, .f32⟩
  | 90 => ⟨S4096x4x256, .f32⟩
  | 91 => ⟨S4096x4x1, .f32⟩
  | 92 => ⟨S_, .f32⟩
  | 93 => ⟨S4096x4x1, .f32⟩
  | 94 => ⟨S4096x4x1, .f32⟩
  | 95 => ⟨S_, .f32⟩
  | 96 => ⟨S4096x4, .f32⟩
  | 97 => ⟨S4096x4x256, .f32⟩
  | 98 => ⟨S4096x4x256, .f32⟩
  | 99 => ⟨S4096x1024, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S4096x1024, .f32⟩
  | 106 => ⟨S_, .f32⟩
  | 107 => ⟨S4096x1024, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S_, .f32⟩
  | 118 => ⟨S4096x1024, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x1024, .bf16⟩

abbrev hbmTy0_2 (i : Nat) : BufTy := match i % 128 with
  | 0 => ⟨S4096x1024, .f32⟩
  | 1 => ⟨S4096x1024, .f32⟩
  | 2 => ⟨S4096x2048, .f32⟩
  | 3 => ⟨S4096x2048, .bf16⟩
  | 4 => ⟨S4x1x256, .f32⟩
  | 5 => ⟨S4x1x256, .f32⟩
  | 6 => ⟨S4x128x1, .f32⟩
  | _ => ⟨S4096x1024, .bf16⟩

abbrev hbmTy (i : Nat) : BufTy := match i / 128 with
  | 0 => hbmTy0_0 i
  | 1 => hbmTy0_1 i
  | 2 => hbmTy0_2 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_cst_16 : Ref sig .tc := ⟨.hbm, 79, rfl⟩
abbrev main_v55 : Ref sig .tc := ⟨.hbm, 80, rfl⟩
abbrev main_v56 : Ref sig .tc := ⟨.hbm, 81, rfl⟩
abbrev main_cst_17 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_19 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_v5 : Ref sig .tc := ⟨.hbm, 112, rfl⟩
abbrev main_call0_v6 : Ref sig .tc := ⟨.hbm, 113, rfl⟩
abbrev main_call0_v7 : Ref sig .tc := ⟨.hbm, 114, rfl⟩
abbrev main_call0_v8 : Ref sig .tc := ⟨.hbm, 115, rfl⟩
abbrev main_call0_c : Ref sig .tc := ⟨.hbm, 116, rfl⟩
abbrev main_call0_v9 : Ref sig .tc := ⟨.hbm, 117, rfl⟩
abbrev main_call0_v10 : Ref sig .tc := ⟨.hbm, 118, rfl⟩
abbrev main_call0_v11 : Ref sig .tc := ⟨.hbm, 119, rfl⟩
abbrev main_call0_c_0 : Ref sig .tc := ⟨.hbm, 120, rfl⟩
abbrev main_call0_v12 : Ref sig .tc := ⟨.hbm, 121, rfl⟩
abbrev main_call0_v13 : Ref sig .tc := ⟨.hbm, 122, rfl⟩
abbrev main_v78 : Ref sig .tc := ⟨.hbm, 123, rfl⟩
abbrev main_v79 : Ref sig .tc := ⟨.hbm, 124, rfl⟩
abbrev main_c_20 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_call1_v3 : Ref sig .tc := ⟨.hbm, 129, rfl⟩
abbrev main_call1_v4 : Ref sig .tc := ⟨.hbm, 130, rfl⟩
abbrev main_call1_v5 : Ref sig .tc := ⟨.hbm, 131, rfl⟩
abbrev main_call1_v6 : Ref sig .tc := ⟨.hbm, 132, rfl⟩
abbrev main_call1_v7 : Ref sig .tc := ⟨.hbm, 133, rfl⟩
abbrev main_call1_v8 : Ref sig .tc := ⟨.hbm, 134, rfl⟩
abbrev main_call1_c : Ref sig .tc := ⟨.hbm, 135, rfl⟩
abbrev main_call1_v9 : Ref sig .tc := ⟨.hbm, 136, rfl⟩
abbrev main_call1_v10 : Ref sig .tc := ⟨.hbm, 137, rfl⟩
abbrev main_call1_v11 : Ref sig .tc := ⟨.hbm, 138, rfl⟩
abbrev main_call1_c_0 : Ref sig .tc := ⟨.hbm, 139, rfl⟩
abbrev main_call1_v12 : Ref sig .tc := ⟨.hbm, 140, rfl⟩
abbrev main_call1_v13 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_cst_21 : Ref sig .tc := ⟨.hbm, 147, rfl⟩
abbrev main_call2_v0 : Ref sig .tc := ⟨.hbm, 148, rfl⟩
abbrev main_v85_1 : Ref sig .tc := ⟨.hbm, 149, rfl⟩
abbrev main_call2_v2 : Ref sig .tc := ⟨.hbm, 150, rfl⟩
abbrev main_v85_0 : Ref sig .tc := ⟨.hbm, 151, rfl⟩
abbrev main_call2_cst : Ref sig .tc := ⟨.hbm, 152, rfl⟩
abbrev main_v85_2 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_cst_22 : Ref sig .tc := ⟨.hbm, 166, rfl⟩
abbrev main_v98 : Ref sig .tc := ⟨.hbm, 167, rfl⟩
abbrev main_v99 : Ref sig .tc := ⟨.hbm, 168, rfl⟩
abbrev main_cst_23 : Ref sig .tc := ⟨.hbm, 169, rfl⟩
abbrev main_v100 : Ref sig .tc := ⟨.hbm, 170, rfl⟩
abbrev main_v101 : Ref sig .tc := ⟨.hbm, 171, rfl⟩
abbrev main_cst_24 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_call3_cst : Ref sig .tc := ⟨.hbm, 179, rfl⟩
abbrev main_call3_v0 : Ref sig .tc := ⟨.hbm, 180, rfl⟩
abbrev main_v108 : Ref sig .tc := ⟨.hbm, 181, rfl⟩
abbrev main_v109 : Ref sig .tc := ⟨.hbm, 182, rfl⟩
abbrev main_cst_25 : Ref sig .tc := ⟨.hbm, 183, rfl⟩
abbrev main_v110 : Ref sig .tc := ⟨.hbm, 184, rfl⟩
abbrev main_v111 : Ref sig .tc := ⟨.hbm, 185, rfl⟩
abbrev main_cst_26 : Ref sig .tc := ⟨.hbm, 186, rfl⟩
abbrev main_v112 : Ref sig .tc := ⟨.hbm, 187, rfl⟩
abbrev main_v113 : Ref sig .tc := ⟨.hbm, 188, rfl⟩
abbrev main_cst_27 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_28 : Ref sig .tc := ⟨.hbm, 194, rfl⟩
abbrev main_v118 : Ref sig .tc := ⟨.hbm, 195, rfl⟩
abbrev main_v119 : Ref sig .tc := ⟨.hbm, 196, rfl⟩
abbrev main_cst_29 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_cst_30 : Ref sig .tc := ⟨.hbm, 204, rfl⟩
abbrev main_v126 : Ref sig .tc := ⟨.hbm, 205, rfl⟩
abbrev main_v127 : Ref sig .tc := ⟨.hbm, 206, rfl⟩
abbrev main_cst_31 : Ref sig .tc := ⟨.hbm, 207, rfl⟩
abbrev main_v128 : Ref sig .tc := ⟨.hbm, 208, rfl⟩
abbrev main_v129 : Ref sig .tc := ⟨.hbm, 209, rfl⟩
abbrev main_cst_32 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_cst_33 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_cst_34 : Ref sig .tc := ⟨.hbm, 220, rfl⟩
abbrev main_v138 : Ref sig .tc := ⟨.hbm, 221, rfl⟩
abbrev main_v139 : Ref sig .tc := ⟨.hbm, 222, rfl⟩
abbrev main_cst_35 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_cst_36 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_cst_37 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_cst_38 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_cst_39 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_cst_40 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_cst_41 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩

abbrev nD : Nat := 1
abbrev τ : Topo := Topo.v7x

variable {F : FTy → Type} [FloatOps F]
-- ==== Ffn.lean ====
abbrev S4096x2816 : Shape := ⟨2, ![4096, 2816]⟩
abbrev S2816x1024 : Shape := ⟨2, ![2816, 1024]⟩
abbrev S4096x1024 : Shape := ⟨2, ![4096, 1024]⟩
abbrev S4096x5632 : Shape := ⟨2, ![4096, 5632]⟩
abbrev S512x1024 : Shape := ⟨2, ![512, 1024]⟩
abbrev S512x5632 : Shape := ⟨2, ![512, 5632]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S4096x1024, .bf16⟩
  | .hbm, ⟨4, _⟩ => ⟨S4096x5632, .bf16⟩
  | .hbm, ⟨5, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096x5632 : Shape := ⟨2, ![4096, 5632]⟩

abbrev nBuf : Space → Nat
  | .hbm => 32
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x5632, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Mixer.lean ====
abbrev S4096x1024 : Shape := ⟨2, ![4096, 1024]⟩
abbrev S4096x2048 : Shape := ⟨2, ![4096, 2048]⟩
abbrev S1024x1024 : Shape := ⟨2, ![1024, 1024]⟩
abbrev S512x1024 : Shape := ⟨2, ![512, 1024]⟩
abbrev S512x2048 : Shape := ⟨2, ![512, 2048]⟩
abbrev S256x1024 : Shape := ⟨2, ![256, 1024]⟩

abbrev nBuf : Space → Nat
  | .hbm => 20
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S4096x1024, .bf16⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x2048, .bf16⟩
  | .hbm, ⟨18, _⟩ => ⟨S4096x1024, .bf16⟩
  | .hbm, ⟨19, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixerRefIdeal.lean ====
abbrev S4096x1024 : Shape := ⟨2, ![4096, 1024]⟩
abbrev S4096x2048 : Shape := ⟨2, ![4096, 2048]⟩
abbrev S1024x1024 : Shape := ⟨2, ![1024, 1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x2048, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S4096x1024, .bf16⟩
  | .hbm, ⟨58, _⟩ => ⟨S4096x2048, .bf16⟩
  | .hbm, ⟨59, _⟩ => ⟨S4096x1024, .bf16⟩
  | .hbm, ⟨60, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== FfnIn.lean ====
abbrev S4096x1024 : Shape := ⟨2, ![4096, 1024]⟩
abbrev S1x1024 : Shape := ⟨2, ![1, 1024]⟩
abbrev S5632x1024 : Shape := ⟨2, ![5632, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S512x5632 : Shape := ⟨2, ![512, 5632]⟩
abbrev S512x1024 : Shape := ⟨2, ![512, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 27
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S4096x1024, .f32⟩
  | .hbm, ⟨6, _⟩ => ⟨S4096x5632, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S1x1024, .f32⟩
  | .hbm, ⟨26, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v140 : BitVec 1 := Scalar.cmpi .eq arg0 c0_i32
  let v141 : BitVec 32 := Scalar.extui v140
  let c0_i32_61 : BitVec 32 := 0#32
  let v142 : BitVec 1 := Scalar.cmpi .ne v141 c0_i32_61
  v142

def k0_cond2 (i : grid0.Coords) : BitVec 1 :=
  let arg0 : BitVec 32 := BitVec.ofNat 32 (i 0).val
  let c0_i32_62 : BitVec 32 := 0#32
  let v143 : BitVec 1 := Scalar.cmpi .sgt arg0 c0_i32_62
  let v144 : BitVec 32 := Scalar.extui v143
  let c0_i32_63 : BitVec 32 := 0#32
  let v145 : BitVec 1 := Scalar.cmpi .ne v144 c0_i32_63
  v145

def k0_cond3 (i : grid0.Coords) : BitVec 1 :=
  let arg0 : BitVec 32 := BitVec.ofNat 32 (i 0).val
  let c0_i32_64 : BitVec 32 := 0#32
  let v146 : BitVec 1 := Scalar.cmpi .eq arg0 c0_i32_64
  let v147 : BitVec 32 := Scalar.extui v146
  let c0_i32_65 : BitVec 32 := 0#32
  let v148 : BitVec 1 := Scalar.cmpi .ne v147 c0_i32_65
  v148

def k0_cond4 (i : grid0.Coords) : BitVec 1 :=
  let arg0 : BitVec 32 := BitVec.ofNat 32 (i 0).val
  let c0_i32_66 : BitVec 32 := 0#32
  let v149 : BitVec 1 := Scalar.cmpi .sgt arg0 c0_i32_66
  let v150 : BitVec 32 := Scalar.extui v149
  let c0_i32_67 : BitVec 32 := 0#32
  let v151 : BitVec 1 := Scalar.cmpi .ne v150 c0_i32_67
  v151

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnInRefIdeal.lean ====
abbrev S4096x1024 : Shape := ⟨2, ![4096, 1024]⟩
abbrev S1x1024 : Shape := ⟨2, ![1, 1024]⟩
abbrev S5632x1024 : Shape := ⟨2, ![5632, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S4096x1024, .f32⟩
  | .hbm, ⟨6, _⟩ => ⟨S4096x5632, .bf16⟩
  | .hbm, ⟨7, _⟩ => ⟨S5632x1024, .f32⟩
  | .hbm, ⟨8, _⟩ => ⟨S4096x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x5632, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== InP.lean ====
abbrev S4096x3072 : Shape := ⟨2, ![4096, 3072]⟩
abbrev S4096x16 : Shape := ⟨2, ![4096, 16]⟩
abbrev S4096x2048 : Shape := ⟨2, ![4096, 2048]⟩
abbrev S7184x1024 : Shape := ⟨2, ![7184, 1024]⟩
abbrev S4096x1024 : Shape := ⟨2, ![4096, 1024]⟩
abbrev S1x1024 : Shape := ⟨2, ![1, 1024]⟩
abbrev S_ : Shape := ⟨0, ![]⟩
abbrev S4096x128 : Shape := ⟨2, ![4096, 128]⟩
abbrev S512x3072 : Shape := ⟨2, ![512, 3072]⟩
abbrev S512x128 : Shape := ⟨2, ![512, 128]⟩
abbrev S512x2048 : Shape := ⟨2, ![512, 2048]⟩
abbrev S512x1024 : Shape := ⟨2, ![512, 1024]⟩
abbrev S3072x1024 : Shape := ⟨2, ![3072, 1024]⟩
abbrev S128x1024 : Shape := ⟨2, ![128, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 17
  | .smem => 0
  | _ => 0

abbrev bufTy : (tb : Table) → Fin (tcTables nBuf tb) → BufTy
  | .hbm, ⟨0, _⟩ => ⟨S4096x3072, .bf16⟩
  | .hbm, ⟨1, _⟩ => ⟨S4096x16, .bf16⟩
  | .hbm, ⟨2, _⟩ => ⟨S4096x2048, .bf16⟩
  | .hbm, ⟨3, _⟩ => ⟨S4096x2048, .bf16⟩
  | .hbm, ⟨4, _⟩ => ⟨S7184x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S_, .i32⟩
  | .hbm, ⟨9, _⟩ => ⟨S_, .bf16⟩
  | .hbm, ⟨10, _⟩ => ⟨S4096x128, .bf16⟩
  | .hbm, ⟨11, _⟩ => ⟨S4096x1024, .f32⟩
  | .hbm, ⟨12, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x128, .bf16⟩
  | .local _ .vmem, ⟨3, _⟩ => ⟨S512x128, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S7184x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_29 : BitVec 32 := 0#32
  let v50 : BitVec 1 := Scalar.cmpi .ne v49 c0_i32_29
  v50

def k0_cond2 (i : grid0.Coords) : BitVec 1 :=
  let arg0 : BitVec 32 := BitVec.ofNat 32 (i 0).val
  let c0_i32_30 : BitVec 32 := 0#32
  let v51 : BitVec 1 := Scalar.cmpi .sgt arg0 c0_i32_30
  let v52 : BitVec 32 := Scalar.extui v51
  let c0_i32_31 : BitVec 32 := 0#32
  let v53 : BitVec 1 := Scalar.cmpi .ne v52 c0_i32_31
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S7184x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InPRefIdeal.lean ====
abbrev S4096x3072 : Shape := ⟨2, ![4096, 3072]⟩
abbrev S4096x16 : Shape := ⟨2, ![4096, 16]⟩
abbrev S4096x2048 : Shape := ⟨2, ![4096, 2048]⟩
abbrev S7184x1024 : Shape := ⟨2, ![7184, 1024]⟩
abbrev S4096x1024 : Shape := ⟨2, ![4096, 1024]⟩
abbrev S1x1024 : Shape := ⟨2, ![1, 1024]⟩
abbrev S4096x7184 : Shape := ⟨2, ![4096, 7184]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x16, .bf16⟩
  | .hbm, ⟨2, _⟩ => ⟨S4096x2048, .bf16⟩
  | .hbm, ⟨3, _⟩ => ⟨S4096x2048, .bf16⟩
  | .hbm, ⟨4, _⟩ => ⟨S7184x1024, .bf16⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S4096x3072, .f32⟩
  | .hbm, ⟨9, _⟩ => ⟨S4096x16, .f32⟩
  | .hbm, ⟨10, _⟩ => ⟨S4096x2048, .f32⟩
  | .hbm, ⟨11, _⟩ => ⟨S4096x2048, .f32⟩
  | .hbm, ⟨12, _⟩ => ⟨S7184x1024, .f32⟩
  | .hbm, ⟨13, _⟩ => ⟨S4096x7184, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x7184, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S1x1 : Shape := ⟨2, ![1, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x128, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v116 : BitVec 1 := Scalar.cmpi .eq arg0 c0_i32
  let v117 : BitVec 32 := Scalar.extui v116
  let c0_i32_55 : BitVec 32 := 0#32
  let v118 : BitVec 1 := Scalar.cmpi .ne v117 c0_i32_55
  v118

def k0_cond2 (i : grid0.Coords) : BitVec 1 :=
  let arg0 : BitVec 32 := BitVec.ofNat 32 (i 0).val
  let c0_i32_56 : BitVec 32 := 0#32
  let v119 : BitVec 1 := Scalar.cmpi .sgt arg0 c0_i32_56
  let v120 : BitVec 32 := Scalar.extui v119
  let c0_i32_57 : BitVec 32 := 0#32
  let v121 : BitVec 1 := Scalar.cmpi .ne v120 c0_i32_57
  v121

def k0_cond3 (i : grid0.Coords) : BitVec 1 :=
  let arg0 : BitVec 32 := BitVec.ofNat 32 (i 0).val
  let c0_i32_58 : BitVec 32 := 0#32
  let v122 : BitVec 1 := Scalar.cmpi .eq arg0 c0_i32_58
  let v123 : BitVec 32 := Scalar.extui v122
  let c0_i32_59 : BitVec 32 := 0#32
  let v124 : BitVec 1 := Scalar.cmpi .ne v123 c0_i32_59
  v124

def k0_cond4 (i : grid0.Coords) : BitVec 1 :=
  let arg0 : BitVec 32 := BitVec.ofNat 32 (i 0).val
  let c0_i32_60 : BitVec 32 := 0#32
  let v125 : BitVec 1 := Scalar.cmpi .sgt arg0 c0_i32_60
  let v126 : BitVec 32 := Scalar.extui v125
  let c0_i32_61 : BitVec 32 := 0#32
  let v127 : BitVec 1 := Scalar.cmpi .ne v126 c0_i32_61
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1x128, .f32⟩
  | .hbm, ⟨75, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== GlaFwd.lean ====
abbrev S4096x3072 : Shape := ⟨2, ![4096, 3072]⟩
abbrev S4096x16 : Shape := ⟨2, ![4096, 16]⟩
abbrev S16x512 : Shape := ⟨2, ![16, 512]⟩
abbrev S512 : Shape := ⟨1, ![512]⟩
abbrev S4x256 : Shape := ⟨2, ![4, 256]⟩
abbrev S_ : Shape := ⟨0, ![]⟩
abbrev S4096x128 : Shape := ⟨2, ![4096, 128]⟩
abbrev S128x512 : Shape := ⟨2, ![128, 512]⟩
abbrev S1x512 : Shape := ⟨2, ![1, 512]⟩
abbrev S4x1x256 : Shape := ⟨3, ![4, 1, 256]⟩
abbrev S4096x1024 : Shape := ⟨2, ![4096, 1024]⟩
abbrev S64x4x256x128 : Shape := ⟨4, ![64, 4, 256, 128]⟩
abbrev S256x3072 : Shape := ⟨2, ![256, 3072]⟩
abbrev S256x128 : Shape := ⟨2, ![256, 128]⟩
abbrev S256x1024 : Shape := ⟨2, ![256, 1024]⟩
abbrev S4x4x256x128 : Shape := ⟨4, ![4, 4, 256, 128]⟩
abbrev S4x256x128 : Shape := ⟨3, ![4, 256, 128]⟩
abbrev S256x512 : Shape := ⟨2, ![256, 512]⟩
abbrev S64x64 : Shape := ⟨2, ![64, 64]⟩
abbrev S64x512 : Shape := ⟨2, ![64, 512]⟩
abbrev S1x256x128 : Shape := ⟨3, ![1, 256, 128]⟩
abbrev S1x128 : Shape := ⟨2, ![1, 128]⟩
abbrev S64x256 : Shape := ⟨2, ![64, 256]⟩
abbrev S64x128 : Shape := ⟨2, ![64, 128]⟩
abbrev S1x1x256x128 : Shape := ⟨4, ![1, 1, 256, 128]⟩
abbrev S64 : Shape := ⟨1, ![64]⟩
abbrev S64x1 : Shape := ⟨2, ![64, 1]⟩
abbrev S1x1x256 : Shape := ⟨3, ![1, 1, 256]⟩
abbrev S1x256 : Shape := ⟨2, ![1, 256]⟩

abbrev nBuf : Space → Nat
  | .hbm => 16
  | .vmem => 12
  | .smem => 0
  | _ => 0

abbrev bufTy : (tb : Table) → Fin (tcTables nBuf tb) → BufTy
  | .hbm, ⟨0, _⟩ => ⟨S4096x3072, .bf16⟩
  | .hbm, ⟨1, _⟩ => ⟨S4096x16, .bf16⟩
  | .hbm, ⟨2, _⟩ => ⟨S16x512, .f32⟩
  | .hbm, ⟨3, _⟩ => ⟨S512, .f32⟩
  | .hbm, ⟨4, _⟩ => ⟨S4x256, .f32⟩
  | .hbm, ⟨5, _⟩ => ⟨S_, .i32⟩
  | .hbm, ⟨6, _⟩ => ⟨S_, .bf16⟩
  | .hbm, ⟨7, _⟩ => ⟨S4096x128, .bf16⟩
  | .hbm, ⟨8, _⟩ => ⟨S_, .i32⟩
  | .hbm, ⟨9, _⟩ => ⟨S_, .f32⟩
  | .hbm, ⟨10, _⟩ => ⟨S128x512, .f32⟩
  | .hbm, ⟨11, _⟩ => ⟨S128x512, .bf16⟩
  | .hbm, ⟨12, _⟩ => ⟨S1x512, .f32⟩
  | .hbm, ⟨13, _⟩ => ⟨S4x1x256, .f32⟩
  | .hbm, ⟨14, _⟩ => ⟨S4096x1024, .bf16⟩
  | .hbm, ⟨15, _⟩ => ⟨S64x4x256x128, .f32⟩
  | .local _ .vmem, ⟨0, _⟩ => ⟨S256x3072, .bf16⟩
  | .local _ .vmem, ⟨1, _⟩ => ⟨S256x3072, .bf16⟩
  | .local _ .vmem, ⟨2, _⟩ => ⟨S256x128, .bf16⟩
  | .local _ .vmem, ⟨3, _⟩ => ⟨S256x128, .bf16⟩
  | .local _ .vmem, ⟨4, _⟩ => ⟨S128x512, .bf16⟩
  | .local _ .vmem, ⟨5, _⟩ => ⟨S1x512, .f32⟩
  | .local _ .vmem, ⟨6, _⟩ => ⟨S4x1x256, .f32⟩
  | .local _ .vmem, ⟨7, _⟩ => ⟨S256x1024, .bf16⟩
  | .local _ .vmem, ⟨8, _⟩ => ⟨S256x1024, .bf16⟩
  | .local _ .vmem, ⟨9, _⟩ => ⟨S4x4x256x128, .f32⟩
  | .local _ .vmem, ⟨10, _⟩ => ⟨S4x4x256x128, .f32⟩
  | .local _ .vmem, ⟨11, _⟩ => ⟨S4x256x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GlaFwdRefIdeal.lean ====
abbrev S4096x3072 : Shape := ⟨2, ![4096, 3072]⟩
abbrev S4096x16 : Shape := ⟨2, ![4096, 16]⟩
abbrev S16x512 : Shape := ⟨2, ![16, 512]⟩
abbrev S512 : Shape := ⟨1, ![512]⟩
abbrev S4x256 : Shape := ⟨2, ![4, 256]⟩
abbrev S4096x512 : Shape := ⟨2, ![4096, 512]⟩
abbrev S4096x1024 : Shape := ⟨2, ![4096, 1024]⟩
abbrev S64x64x4x128 : Shape := ⟨4, ![64, 64, 4, 128]⟩
abbrev S_ : Shape := ⟨0, ![]⟩
abbrev S64x64x4x256 : Shape := ⟨4, ![64, 64, 4, 256]⟩
abbrev S1x512 : Shape := ⟨2, ![1, 512]⟩
abbrev S64x1x4x128 : Shape := ⟨4, ![64, 1, 4, 128]⟩
abbrev S64x4x128 : Shape := ⟨3, ![64, 4, 128]⟩
abbrev S64x4x128x256 : Shape := ⟨4, ![64, 4, 128, 256]⟩
abbrev S4x128x256 : Shape := ⟨3, ![4, 128, 256]⟩
abbrev S1x4x128 : Shape := ⟨3, ![1, 4, 128]⟩
abbrev S4x128 : Shape := ⟨2, ![4, 128]⟩
abbrev S1x4x128x256 : Shape := ⟨4, ![1, 4, 128, 256]⟩
abbrev S4x128x1 : Shape := ⟨3, ![4, 128, 1]⟩
abbrev S64x4x256x64 : Shape := ⟨4, ![64, 4, 256, 64]⟩
abbrev S64x64x4 : Shape := ⟨3, ![64, 64, 4]⟩
abbrev S64x64x4x1 : Shape := ⟨4, ![64, 64, 4, 1]⟩
abbrev S1x1x4x256 : Shape := ⟨4, ![1, 1, 4, 256]⟩
abbrev S64x4x256x128 : Shape := ⟨4, ![64, 4, 256, 128]⟩

abbrev nBuf : Space → Nat
  | .hbm => 116
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x16, .bf16⟩
  | .hbm, ⟨2, _⟩ => ⟨S16x512, .f32⟩
  | .hbm, ⟨3, _⟩ => ⟨S512, .f32⟩
  | .hbm, ⟨4, _⟩ => ⟨S4x256, .f32⟩
  | .hbm, ⟨5, _⟩ => ⟨S4096x3072, .f32⟩
  | .hbm, ⟨6, _⟩ => ⟨S4096x16, .f32⟩
  | .hbm, ⟨7, _⟩ => ⟨S4096x512, .f32⟩
  | .hbm, ⟨8, _⟩ => ⟨S4096x512, .f32⟩
  | .hbm, ⟨9, _⟩ => ⟨S4096x1024, .f32⟩
  | .hbm, ⟨10, _⟩ => ⟨S4096x1024, .f32⟩
  | .hbm, ⟨11, _⟩ => ⟨S64x64x4x128, .f32⟩
  | .hbm, ⟨12, _⟩ => ⟨S_, .f32⟩
  | .hbm, ⟨13, _⟩ => ⟨S64x64x4x128, .f32⟩
  | .hbm, ⟨14, _⟩ => ⟨S64x64x4x128, .f32⟩
  | .hbm, ⟨15, _⟩ => ⟨S64x64x4x128, .f32⟩
  | .hbm, ⟨16, _⟩ => ⟨S64x64x4x256, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .i1⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S64x64x4x128, .f32⟩
  | .hbm, ⟨41, _⟩ => ⟨S_, .f32⟩
  | .hbm, ⟨42, _⟩ => ⟨S_, .f32⟩
  | .hbm, ⟨43, _⟩ => ⟨S64x64x4x128, .f32⟩
  | .hbm, ⟨44, _⟩ => ⟨S64x1x4x128, .f32⟩
  | .hbm, ⟨45, _⟩ => ⟨S64x4x128, .f32⟩
  | .hbm, ⟨46, _⟩ => ⟨S64x1x4x128, .f32⟩
  | .hbm, ⟨47, _⟩ => ⟨S64x64x4x128, .f32⟩
  | .hbm, ⟨48, _⟩ => ⟨S64x64x4x128, .f32⟩
  | .hbm, ⟨49, _⟩ => ⟨S64x64x4x128, .f32⟩
  | .hbm, ⟨50, _⟩ => ⟨S64x64x4x128, .f32⟩
  | .hbm, ⟨51, _⟩ => ⟨S64x4x128x256, .f32⟩
  | .hbm, ⟨52, _⟩ => ⟨S64x4x128, .f32⟩
  | .hbm, ⟨53, _⟩ => ⟨S_, .f32⟩
  | .hbm, ⟨54, _⟩ => ⟨S4x128x256, .f32⟩
  | .hbm, ⟨55, _⟩ => ⟨S_, .f32⟩
  | .hbm, ⟨56, _⟩ => ⟨S64x4x128x256, .f32⟩
  | .hbm, ⟨57, _⟩ => ⟨S_, .i32⟩
  | .hbm, ⟨58, _⟩ => ⟨S64x4x128, .f32⟩
  | .hbm, ⟨59, _⟩ => ⟨S64x4x128x256, .f32⟩
  | .hbm, ⟨60, _⟩ => ⟨S_, .i32⟩
  | .hbm, ⟨61, _⟩ => ⟨S4x128x256, .f32⟩
  | .hbm, ⟨62, _⟩ => ⟨S64x4x128x256, .f32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S1x4x128, .f32⟩
  | .hbm, ⟨68, _⟩ => ⟨S4x128, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x4x128x256, .f32⟩
  | .hbm, ⟨73, _⟩ => ⟨S4x128x256, .f32⟩
  | .hbm, ⟨74, _⟩ => ⟨S4x128x1, .f32⟩
  | .hbm, ⟨75, _⟩ => ⟨S4x128x256, .f32⟩
  | .hbm, ⟨76, _⟩ => ⟨S4x128x256, .f32⟩
  | .hbm, ⟨77, _⟩ => ⟨S4x128x256, .f32⟩
  | .hbm, ⟨78, _⟩ => ⟨S1x4x128x256, .f32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S64x4x128x256, .f32⟩
  | .hbm, ⟨83, _⟩ => ⟨S_, .i32⟩
  | .hbm, ⟨84, _⟩ => ⟨S_, .i32⟩
  | .hbm, ⟨85, _⟩ => ⟨S64x4x256x64, .f32⟩
  | .hbm, ⟨86, _⟩ => ⟨S64x64x4x256, .f32⟩
  | .hbm, ⟨87, _⟩ => ⟨S64x64x4x256, .f32⟩
  | .hbm, ⟨88, _⟩ => ⟨S_, .f32⟩
  | .hbm, ⟨89, _⟩ => ⟨S64x64x4, .f32⟩
  | .hbm, ⟨90, _⟩ => ⟨S64x64x4x1, .f32⟩
  | .hbm, ⟨91, _⟩ => ⟨S_, .f32⟩
  | .hbm, ⟨92, _⟩ => ⟨S64x64x4x1, .f32⟩
  | .hbm, ⟨93, _⟩ => ⟨S64x64x4x1, .f32⟩
  | .hbm, ⟨94, _⟩ => ⟨S_, .f32⟩
  | .hbm, ⟨95, _⟩ => ⟨S64x64x4x1, .f32⟩
  | .hbm, ⟨96, _⟩ => ⟨S64x64x4x1, .f32⟩
  | .hbm, ⟨97, _⟩ => ⟨S64x64x4x1, .f32⟩
  | .hbm, ⟨98, _⟩ => ⟨S64x64x4x256, .f32⟩
  | .hbm, ⟨99, _⟩ => ⟨S64x64x4x256, .f32⟩
  | .hbm, ⟨100, _⟩ => ⟨S1x1x4x256, .f32⟩
  | .hbm, ⟨101, _⟩ => ⟨S64x64x4x256, .f32⟩
  | .hbm, ⟨102, _⟩ => ⟨S64x64x4x256, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S_, .f32⟩
  | .hbm, ⟨107, _⟩ => ⟨S4096x1024, .f32⟩
  | .hbm, ⟨108, _⟩ => ⟨S4096x1024, .f32⟩
  | .hbm, ⟨109, _⟩ => ⟨S_, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .f32⟩
  | .hbm, ⟨114, _⟩ => ⟨S4096x1024, .bf16⟩
  | .hbm, ⟨115, _⟩ => ⟨S64x4x256x128, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call1_call0_cst : Ref sig .tc := ⟨.hbm, 41, rfl⟩
abbrev main_call1_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_1 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_c : Ref sig .tc := ⟨.hbm, 57, rfl⟩
abbrev main_v31_0 : Ref sig .tc := ⟨.hbm, 58, rfl⟩
abbrev main_v31_1 : Ref sig .tc := ⟨.hbm, 59, rfl⟩
abbrev main_v31_2 : Ref sig .tc := ⟨.hbm, 60, rfl⟩
abbrev main_v31_3 : Ref sig .tc := ⟨.hbm, 61, rfl⟩
abbrev main_v31_4 : Ref sig .tc := ⟨.hbm, 62, rfl⟩
abbrev main_while0c_c_10 : Ref sig .tc := ⟨.hbm, 63, rfl⟩
abbrev main_while0c_v52 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_v0 : Ref sig .tc := ⟨.hbm, 67, rfl⟩
abbrev main_while0b_v52 : Ref sig .tc := ⟨.hbm, 68, rfl⟩
abbrev main_while0b_call3_c : Ref sig .tc := ⟨.hbm, 69, rfl⟩
abbrev main_while0b_call3_c_0 : Ref sig .tc := ⟨.hbm, 70, rfl⟩
abbrev main_while0b_call3_c_1 : Ref sig .tc := ⟨.hbm, 71, rfl⟩
abbrev main_while0b_call3_v0 : Ref sig .tc := ⟨.hbm, 72, rfl⟩
abbrev main_while0b_v53 : Ref sig .tc := ⟨.hbm, 73, rfl⟩
abbrev main_while0b_v54 : Ref sig .tc := ⟨.hbm, 74, rfl⟩
abbrev main_while0b_v55 : Ref sig .tc := ⟨.hbm, 75, rfl⟩
abbrev main_while0b_v56 : Ref sig .tc := ⟨.hbm, 76, rfl⟩
abbrev main_while0b_v57 : Ref sig .tc := ⟨.hbm, 77, rfl⟩
abbrev main_while0b_call4_v0 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_c_1 : Ref sig .tc := ⟨.hbm, 81, rfl⟩
abbrev main_while0b_v58 : Ref sig .tc := ⟨.hbm, 82, rfl⟩
abbrev main_while0b_c_10 : Ref sig .tc := ⟨.hbm, 83, rfl⟩
abbrev main_while0b_v59 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_3 : Ref sig .tc := ⟨.hbm, 88, rfl⟩
abbrev main_v35 : Ref sig .tc := ⟨.hbm, 89, rfl⟩
abbrev main_v36 : Ref sig .tc := ⟨.hbm, 90, rfl⟩
abbrev main_cst_4 : Ref sig .tc := ⟨.hbm, 91, rfl⟩
abbrev main_v37 : Ref sig .tc := ⟨.hbm, 92, rfl⟩
abbrev main_v38 : Ref sig .tc := ⟨.hbm, 93, rfl⟩
abbrev main_cst_5 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_call5_v0 : Ref sig .tc := ⟨.hbm, 104, rfl⟩
abbrev main_call5_v1 : Ref sig .tc := ⟨.hbm, 105, rfl⟩
abbrev main_call5_cst : Ref sig .tc := ⟨.hbm, 106, rfl⟩
abbrev main_call5_v2 : Ref sig .tc := ⟨.hbm, 107, rfl⟩
abbrev main_call5_v3 : Ref sig .tc := ⟨.hbm, 108, rfl⟩
abbrev main_call5_cst_0 : Ref sig .tc := ⟨.hbm, 109, rfl⟩
abbrev main_call5_v4 : Ref sig .tc := ⟨.hbm, 110, rfl⟩
abbrev main_call5_v5 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩

abbrev nD : Nat := 1
abbrev τ : Topo := Topo.v7x

variable {F : FTy → Type} [FloatOps F]

abbrev main_while0_count : Scf.Loop 32 := ⟨0#32, 64#32, 1#32⟩
-- ==== SguFwd.lean ====
abbrev S4096x1024 : Shape := ⟨2, ![4096, 1024]⟩
abbrev S4x256 : Shape := ⟨2, ![4, 256]⟩
abbrev S4x128x128 : Shape := ⟨3, ![4, 128, 128]⟩
abbrev S4x128 : Shape := ⟨2, ![4, 128]⟩
abbrev S4096x2048 : Shape := ⟨2, ![4096, 2048]⟩
abbrev S4x1x256 : Shape := ⟨3, ![4, 1, 256]⟩
abbrev S4x128x1 : Shape := ⟨3, ![4, 128, 1]⟩
abbrev S256x2048 : Shape := ⟨2, ![256, 2048]⟩
abbrev S256x1024 : Shape := ⟨2, ![256, 1024]⟩
abbrev S128x128 : Shape := ⟨2, ![128, 128]⟩
abbrev S1x128x128 : Shape := ⟨3, ![1, 128, 128]⟩
abbrev S128x256 : Shape := ⟨2, ![128, 256]⟩
abbrev S128 : Shape := ⟨1, ![128]⟩
abbrev S128x1 : Shape := ⟨2, ![128, 1]⟩
abbrev S1x1x256 : Shape := ⟨3, ![1, 1, 256]⟩
abbrev S1x256 : Shape := ⟨2, ![1, 256]⟩
abbrev S1x128x1 : Shape := ⟨3, ![1, 128, 1]⟩

abbrev nBuf : Space → Nat
  | .hbm => 11
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256, .f32⟩
  | .hbm, ⟨3, _⟩ => ⟨S4x256, .f32⟩
  | .hbm, ⟨4, _⟩ => ⟨S4x128x128, .f32⟩
  | .hbm, ⟨5, _⟩ => ⟨S4x128, .f32⟩
  | .hbm, ⟨6, _⟩ => ⟨S4096x2048, .bf16⟩
  | .hbm, ⟨7, _⟩ => ⟨S4x1x256, .f32⟩
  | .hbm, ⟨8, _⟩ => ⟨S4x1x256, .f32⟩
  | .hbm, ⟨9, _⟩ => ⟨S4x128x1, .f32⟩
  | .hbm, ⟨10, _⟩ => ⟨S4096x1024, .bf16⟩
  | .local _ .vmem, ⟨0, _⟩ => ⟨S256x2048, .bf16⟩
  | .local _ .vmem, ⟨1, _⟩ => ⟨S256x2048, .bf16⟩
  | .local _ .vmem, ⟨2, _⟩ => ⟨S4x1x256, .f32⟩
  | .local _ .vmem, ⟨3, _⟩ => ⟨S4x1x256, .f32⟩
  | .local _ .vmem, ⟨4, _⟩ => ⟨S4x128x128, .f32⟩
  | .local _ .vmem, ⟨5, _⟩ => ⟨S4x128x1, .f32⟩
  | .local _ .vmem, ⟨6, _⟩ => ⟨S256x1024, .bf16⟩
  | .local _ .vmem, ⟨7, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SguFwdRefIdeal.lean ====
abbrev S4096x1024 : Shape := ⟨2, ![4096, 1024]⟩
abbrev S4x256 : Shape := ⟨2, ![4, 256]⟩
abbrev S4x128x128 : Shape := ⟨3, ![4, 128, 128]⟩
abbrev S4x128 : Shape := ⟨2, ![4, 128]⟩
abbrev S_ : Shape := ⟨0, ![]⟩
abbrev S4096x4x256 : Shape := ⟨3, ![4096, 4, 256]⟩
abbrev S4096x4 : Shape := ⟨2, ![4096, 4]⟩
abbrev S4096x4x1 : Shape := ⟨3, ![4096, 4, 1]⟩
abbrev S1x4x256 : Shape := ⟨3, ![1, 4, 256]⟩
abbrev S32x128x4x256 : Shape := ⟨4, ![32, 128, 4, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x32x256x128 : Shape := ⟨4, ![4, 32, 256, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 131
  | .vmem => 0
  | .smem => 0
  | _ => 0

abbrev hbmTy0_0 (i : Nat) : BufTy := match i % 128 with
  | 0 => ⟨S4096x1024, .bf16⟩
  | 1 => ⟨S4096x1024, .bf16⟩
  | 2 => ⟨S4x256, .f32⟩
  | 3 => ⟨S4x256, .f32⟩
  | 4 => ⟨S4x128x128, .f32⟩
  | 5 => ⟨S4x128, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S4096x1024, .f32⟩
  | 14 => ⟨S_, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S4096x1024, .f32⟩
  | 42 => ⟨S4096x4x256, .f32⟩
  | 43 => ⟨S_, .f32⟩
  | 44 => ⟨S4096x4, .f32⟩
  | 45 => ⟨S4096x4x1, .f32⟩
  | 46 => ⟨S_, .f32⟩
  | 47 => ⟨S4096x4x1, .f32⟩
  | 48 => ⟨S4096x4x1, .f32⟩
  | 49 => ⟨S4096x4x256, .f32⟩
  | 50 => ⟨S4096x4x256, .f32⟩
  | 51 => ⟨S4096x4x256, .f32⟩
  | 52 => ⟨S_, .f32⟩
  | 53 => ⟨S4096x4, .f32⟩
  | 54 => ⟨S4096x4x1, .f32⟩
  | 55 => ⟨S_, .f32⟩
  | 56 => ⟨S4096x4x1, .f32⟩
  | 57 => ⟨S4096x4x1, .f32⟩
  | 58 => ⟨S4096x4x256, .f32⟩
  | 59 => ⟨S4096x4x256, .f32⟩
  | 60 => ⟨S_, .f32⟩
  | 61 => ⟨S4096x4x1, .f32⟩
  | 62 => ⟨S4096x4x1, .f32⟩
  | 63 => ⟨S4096x4x1, .f32⟩
  | 64 => ⟨S4096x4x256, .f32⟩
  | 65 => ⟨S4096x4x256, .f32⟩
  | 66 => ⟨S1x4x256, .f32⟩
  | 67 => ⟨S4096x4x256, .f32⟩
  | 68 => ⟨S4096x4x256, .f32⟩
  | 69 => ⟨S1x4x256, .f32⟩
  | 70 => ⟨S4096x4x256, .f32⟩
  | 71 => ⟨S4096x4x256, .f32⟩
  | 72 => ⟨S32x128x4x256, .f32⟩
  | 73 => ⟨S128, .i32⟩
  | 74 => ⟨S1x128, .i32⟩
  | 75 => ⟨S_, .i32⟩
  | 76 => ⟨S_, .i32⟩
  | 77 => ⟨S1x128, .i32⟩
  | 78 => ⟨S1x128, .i32⟩
  | 79 => ⟨S1x128, .i32⟩
  | 80 => ⟨S_, .i32⟩
  | 81 => ⟨S1x128, .i32⟩
  | 82 => ⟨S1x128, .i1⟩
  | 83 => ⟨S1x128, .i32⟩
  | 84 => ⟨S1x128, .i32⟩
  | 85 => ⟨S_, .i32⟩
  | 86 => ⟨S1x128, .i32⟩
  | 87 => ⟨S1x128, .i1⟩
  | 88 => ⟨S1x128, .i1⟩
  | 89 => ⟨S_, .i32⟩
  | 90 => ⟨S1x128, .i32⟩
  | 91 => ⟨S1x128, .i32⟩
  | 92 => ⟨S1x128, .i32⟩
  | 93 => ⟨S128x1, .i32⟩
  | 94 => ⟨S_, .i32⟩
  | 95 => ⟨S_, .i32⟩
  | 96 => ⟨S128x1, .i32⟩
  | 97 => ⟨S128x1, .i32⟩
  | 98 => ⟨S128x1, .i32⟩
  | 99 => ⟨S_, .i32⟩
  | 100 => ⟨S128x1, .i32⟩
  | 101 => ⟨S128x1, .i1⟩
  | 102 => ⟨S128x1, .i32⟩
  | 103 => ⟨S128x1, .i32⟩
  | 104 => ⟨S_, .i32⟩
  | 105 => ⟨S128x1, .i32⟩
  | 106 => ⟨S128x1, .i1⟩
  | 107 => ⟨S128x1, .i1⟩
  | 108 => ⟨S_, .i32⟩
  | 109 => ⟨S128x1, .i32⟩
  | 110 => ⟨S128x1, .i32⟩
  | 111 => ⟨S128x1, .i32⟩
  | 112 => ⟨S128x128, .i32⟩
  | 113 => ⟨S128x128, .i32⟩
  | 114 => ⟨S128x128, .i1⟩
  | 115 => ⟨S1x128x128, .i1⟩
  | 116 => ⟨S_, .f32⟩
  | 117 => ⟨S_, .f32⟩
  | 118 => ⟨S4x128x128, .i1⟩
  | 119 => ⟨S4x128x128, .f32⟩
  | 120 => ⟨S4x128x128, .f32⟩
  | 121 => ⟨S4x32x256x128, .f32⟩
  | 122 => ⟨S32x128x4x256, .f32⟩
  | 123 => ⟨S128x4, .f32⟩
  | 124 => ⟨S128x4x1, .f32⟩
  | 125 => ⟨S1x128x4x1, .f32⟩
  | 126 => ⟨S32x128x4x256, .f32⟩
  | 127 => ⟨S32x128x4x256, .f32⟩
  | _ => ⟨S4096x1024, .bf16⟩

abbrev hbmTy0_1 (i : Nat) : BufTy := match i % 128 with
  | 0 => ⟨S4096x1024, .f32⟩
  | 1 => ⟨S4096x1024, .f32⟩
  | 2 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_c : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_call0_c_0 : Ref sig .tc := ⟨.hbm, 89, rfl⟩
abbrev main_call0_v12 : Ref sig .tc := ⟨.hbm, 90, rfl⟩
abbrev main_call0_v13 : Ref sig .tc := ⟨.hbm, 91, rfl⟩
abbrev main_v56 : Ref sig .tc := ⟨.hbm, 92, rfl⟩
abbrev main_v57 : Ref sig .tc := ⟨.hbm, 93, rfl⟩
abbrev main_c_12 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_c : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_c_0 : Ref sig .tc := ⟨.hbm, 108, rfl⟩
abbrev main_call1_v12 : Ref sig .tc := ⟨.hbm, 109, rfl⟩
abbrev main_call1_v13 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_13 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩

abbrev nD : Nat := 1
abbrev τ : Topo := Topo.v7x

variable {F : FTy → Type} [FloatOps F]
-- ==== MixerFwd.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S512x1024 : Shape := ⟨2, ![512, 1024]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S4096x1024, .f32⟩
  | .hbm, ⟨14, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MixerFwdRefIdeal.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x2048, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | .hbm, ⟨71, _⟩ => ⟨S4096x1024, .bf16⟩
  | .hbm, ⟨72, _⟩ => ⟨S4096x1024, .bf16⟩
  | .hbm, ⟨73, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== FfnFwd.lean ====
abbrev S4096x1024 : Shape := ⟨2, ![4096, 1024]⟩
abbrev S5632x1024 : Shape := ⟨2, ![5632, 1024]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x5632, .bf16⟩
  | .hbm, ⟨3, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S5632x1024, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnFwdRefIdeal.lean ====
abbrev S4096x1024 : Shape := ⟨2, ![4096, 1024]⟩
abbrev S5632x1024 : Shape := ⟨2, ![5632, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S5632x1024, .bf16⟩
  | .hbm, ⟨2, _⟩ => ⟨S4096x1024, .f32⟩
  | .hbm, ⟨3, _⟩ => ⟨S5632x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x5632, .bf16⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Prod.lean ====
abbrev S4096x2816 : Shape := ⟨2, ![4096, 2816]⟩
abbrev S4096x1024 : Shape := ⟨2, ![4096, 1024]⟩
abbrev S2816x1024 : Shape := ⟨2, ![2816, 1024]⟩
abbrev S512x2816 : Shape := ⟨2, ![512, 2816]⟩
abbrev S512x1024 : Shape := ⟨2, ![512, 1024]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ProdRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnW.lean ====
abbrev S4096x1024 : Shape := ⟨2, ![4096, 1024]⟩
abbrev S4096x5632 : Shape := ⟨2, ![4096, 5632]⟩
abbrev S5632x1024 : Shape := ⟨2, ![5632, 1024]⟩
abbrev S512x1024 : Shape := ⟨2, ![512, 1024]⟩
abbrev S512x2816 : Shape := ⟨2, ![512, 2816]⟩
abbrev S2816x1024 : Shape := ⟨2, ![2816, 1024]⟩
abbrev S1024x1024 : Shape := ⟨2, ![1024, 1024]⟩
abbrev S768x1024 : Shape := ⟨2, ![768, 1024]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S5632x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnWRefIdeal.lean ====
abbrev S4096x1024 : Shape := ⟨2, ![4096, 1024]⟩
abbrev S4096x5632 : Shape := ⟨2, ![4096, 5632]⟩
abbrev S_ : Shape := ⟨0, ![]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S5632x1024, .f32⟩
  | .hbm, ⟨6, _⟩ => ⟨S4096x5632, .f32⟩
  | .hbm, ⟨7, _⟩ => ⟨S5632x1024, .f32⟩
  | .hbm, ⟨8, _⟩ => ⟨S5632x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Adam.lean ====
abbrev S8x704x1024 : Shape := ⟨3, ![8, 704, 1024]⟩
abbrev S704x1024 : Shape := ⟨2, ![704, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Pair.lean ====
abbrev S4x898x1024 : Shape := ⟨3, ![4, 898, 1024]⟩
abbrev S1x898x1024 : Shape := ⟨3, ![1, 898, 1024]⟩
abbrev S898x1024 : Shape := ⟨2, ![898, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x898x1024, .bf16⟩
  | .hbm, ⟨1, _⟩ => ⟨S4x898x1024, .bf16⟩
  | .hbm, ⟨2, _⟩ => ⟨S4x898x1024, .bf16⟩
  | .local _ .vmem, ⟨0, _⟩ => ⟨S1x898x1024, .bf16⟩
  | .local _ .vmem, ⟨1, _⟩ => ⟨S1x898x1024, .bf16⟩
  | .local _ .vmem, ⟨2, _⟩ => ⟨S1x898x1024, .bf16⟩
  | .local _ .vmem, ⟨3, _⟩ => ⟨S1x898x1024, .bf16⟩
  | .local _ .vmem, ⟨4, _⟩ => ⟨S1x898x1024, .bf16⟩
  | .local _ .vmem, ⟨5, _⟩ => ⟨S1x898x1024, .bf16⟩
  | _, _ => ⟨S4x898x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x898x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x898x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x898x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairRefIdeal.lean ====
abbrev S4x898x1024 : Shape := ⟨3, ![4, 898, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x898x1024, .bf16⟩
  | .hbm, ⟨1, _⟩ => ⟨S4x898x1024, .bf16⟩
  | .hbm, ⟨2, _⟩ => ⟨S4x898x1024, .f32⟩
  | .hbm, ⟨3, _⟩ => ⟨S4x898x1024, .f32⟩
  | .hbm, ⟨4, _⟩ => ⟨S4x898x1024, .f32⟩
  | .hbm, ⟨5, _⟩ => ⟨S4x898x1024, .bf16⟩
  | _, _ => ⟨S4x898x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gla.lean ====
abbrev S4096x3072 : Shape := ⟨2, ![4096, 3072]⟩
abbrev S4096x16 : Shape := ⟨2, ![4096, 16]⟩
abbrev S16x512 : Shape := ⟨2, ![16, 512]⟩
abbrev S512 : Shape := ⟨1, ![512]⟩
abbrev S4x256 : Shape := ⟨2, ![4, 256]⟩
abbrev S4096x1024 : Shape := ⟨2, ![4096, 1024]⟩
abbrev S_ : Shape := ⟨0, ![]⟩
abbrev S4096x128 : Shape := ⟨2, ![4096, 128]⟩
abbrev S128x512 : Shape := ⟨2, ![128, 512]⟩
abbrev S1x512 : Shape := ⟨2, ![1, 512]⟩
abbrev S4x1x256 : Shape := ⟨3, ![4, 1, 256]⟩
abbrev S4096x512 : Shape := ⟨2, ![4096, 512]⟩
abbrev S64x64x4x128 : Shape := ⟨4, ![64, 64, 4, 128]⟩
abbrev S64x64x4x256 : Shape := ⟨4, ![64, 64, 4, 256]⟩
abbrev S64x1x4x128 : Shape := ⟨4, ![64, 1, 4, 128]⟩
abbrev S64x4x128 : Shape := ⟨3, ![64, 4, 128]⟩
abbrev S64x4x256x128 : Shape := ⟨4, ![64, 4, 256, 128]⟩
abbrev S1x4x256x128 : Shape := ⟨4, ![1, 4, 256, 128]⟩
abbrev S1x4x128 : Shape := ⟨3, ![1, 4, 128]⟩
abbrev S16x4x256x128 : Shape := ⟨4, ![16, 4, 256, 128]⟩
abbrev S256x3072 : Shape := ⟨2, ![256, 3072]⟩
abbrev S256x128 : Shape := ⟨2, ![256, 128]⟩
abbrev S4x4x256x128 : Shape := ⟨4, ![4, 4, 256, 128]⟩
abbrev S256x1024 : Shape := ⟨2, ![256, 1024]⟩
abbrev S4x256x128 : Shape := ⟨3, ![4, 256, 128]⟩
abbrev S256x512 : Shape := ⟨2, ![256, 512]⟩
abbrev S64x64 : Shape := ⟨2, ![64, 64]⟩
abbrev S64x512 : Shape := ⟨2, ![64, 512]⟩
abbrev S1x256 : Shape := ⟨2, ![1, 256]⟩
abbrev S1x1x256 : Shape := ⟨3, ![1, 1, 256]⟩
abbrev S64x128 : Shape := ⟨2, ![64, 128]⟩
abbrev S1x1x256x128 : Shape := ⟨4, ![1, 1, 256, 128]⟩
abbrev S64x256 : Shape := ⟨2, ![64, 256]⟩
abbrev S64 : Shape := ⟨1, ![64]⟩
abbrev S64x1 : Shape := ⟨2, ![64, 1]⟩
abbrev S256 : Shape := ⟨1, ![256]⟩
abbrev S1x256x128 : Shape := ⟨3, ![1, 256, 128]⟩
abbrev S128 : Shape := ⟨1, ![128]⟩
abbrev S1x128 : Shape := ⟨2, ![1, 128]⟩

abbrev nBuf : Space → Nat
  | .hbm => 389
  | .vmem => 23
  | .smem => 0
  | _ => 0

abbrev hbmTy0_0 (i : Nat) : BufTy := match i % 128 with
  | 0 => ⟨S4096x3072, .bf16⟩
  | 1 => ⟨S4096x16, .bf16⟩
  | 2 => ⟨S16x512, .f32⟩
  | 3 => ⟨S512, .f32⟩
  | 4 => ⟨S4x256, .f32⟩
  | 5 => ⟨S4096x1024, .bf16⟩
  | 6 => ⟨S_, .i32⟩
  | 7 => ⟨S_, .bf16⟩
  | 8 => ⟨S4096x128, .bf16⟩
  | 9 => ⟨S_, .i32⟩
  | 10 => ⟨S_, .f32⟩
  | 11 => ⟨S128x512, .f32⟩
  | 12 => ⟨S128x512, .bf16⟩
  | 13 => ⟨S1x512, .f32⟩
  | 14 => ⟨S4x1x256, .f32⟩
  | 15 => ⟨S4096x3072, .f32⟩
  | 16 => ⟨S4096x16, .f32⟩
  | 17 => ⟨S4096x512, .f32⟩
  | 18 => ⟨S64x64x4x128, .f32⟩
  | 19 => ⟨S4096x1024, .f32⟩
  | 20 => ⟨S64x64x4x256, .f32⟩
  | 21 => ⟨S4096x512, .f32⟩
  | 22 => ⟨S1x512, .f32⟩
  | 23 => ⟨S4096x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S4096x512, .f32⟩
  | 30 => ⟨S4096x512, .f32⟩
  | 31 => ⟨S4096x512, .i1⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S_, .f32⟩
  | 42 => ⟨S4096x512, .f32⟩
  | 43 => ⟨S4096x512, .f32⟩
  | 44 => ⟨S64x64x4x128, .f32⟩
  | 45 => ⟨S_, .f32⟩
  | 46 => ⟨S_, .f32⟩
  | 47 => ⟨S64x64x4x128, .f32⟩
  | 48 => ⟨S64x1x4x128, .f32⟩
  | 49 => ⟨S64x4x128, .f32⟩
  | 50 => ⟨S64x1x4x128, .f32⟩
  | 51 => ⟨S64x64x4x128, .f32⟩
  | 52 => ⟨S64x64x4x128, .f32⟩
  | 53 => ⟨S64x64x4x128, .f32⟩
  | 54 => ⟨S64x64x4x128, .f32⟩
  | 55 => ⟨S64x4x256x128, .f32⟩
  | 56 => ⟨S64x4x128, .f32⟩
  | 57 => ⟨S_, .f32⟩
  | 58 => ⟨S1x4x256x128, .f32⟩
  | 59 => ⟨S1x4x128, .f32⟩
  | 60 => ⟨S1x4x256x128, .f32⟩
  | 61 => ⟨S1x4x256x128, .f32⟩
  | 62 => ⟨S1x4x256x128, .f32⟩
  | 63 => ⟨S1x4x256x128, .f32⟩
  | 64 => ⟨S1x4x128, .f32⟩
  | 65 => ⟨S1x4x256x128, .f32⟩
  | 66 => ⟨S1x4x256x128, .f32⟩
  | 67 => ⟨S1x4x256x128, .f32⟩
  | 68 => ⟨S1x4x256x128, .f32⟩
  | 69 => ⟨S1x4x128, .f32⟩
  | 70 => ⟨S1x4x256x128, .f32⟩
  | 71 => ⟨S1x4x256x128, .f32⟩
  | 72 => ⟨S1x4x256x128, .f32⟩
  | 73 => ⟨S1x4x256x128, .f32⟩
  | 74 => ⟨S1x4x128, .f32⟩
  | 75 => ⟨S1x4x256x128, .f32⟩
  | 76 => ⟨S1x4x256x128, .f32⟩
  | 77 => ⟨S1x4x256x128, .f32⟩
  | 78 => ⟨S1x4x256x128, .f32⟩
  | 79 => ⟨S1x4x128, .f32⟩
  | 80 => ⟨S1x4x256x128, .f32⟩
  | 81 => ⟨S1x4x256x128, .f32⟩
  | 82 => ⟨S1x4x256x128, .f32⟩
  | 83 => ⟨S1x4x256x128, .f32⟩
  | 84 => ⟨S1x4x128, .f32⟩
  | 85 => ⟨S1x4x256x128, .f32⟩
  | 86 => ⟨S1x4x256x128, .f32⟩
  | 87 => ⟨S1x4x256x128, .f32⟩
  | 88 => ⟨S1x4x256x128, .f32⟩
  | 89 => ⟨S1x4x128, .f32⟩
  | 90 => ⟨S1x4x256x128, .f32⟩
  | 91 => ⟨S1x4x256x128, .f32⟩
  | 92 => ⟨S1x4x256x128, .f32⟩
  | 93 => ⟨S1x4x256x128, .f32⟩
  | 94 => ⟨S1x4x128, .f32⟩
  | 95 => ⟨S1x4x256x128, .f32⟩
  | 96 => ⟨S1x4x256x128, .f32⟩
  | 97 => ⟨S1x4x256x128, .f32⟩
  | 98 => ⟨S1x4x256x128, .f32⟩
  | 99 => ⟨S1x4x128, .f32⟩
  | 100 => ⟨S1x4x256x128, .f32⟩
  | 101 => ⟨S1x4x256x128, .f32⟩
  | 102 => ⟨S1x4x256x128, .f32⟩
  | 103 => ⟨S1x4x256x128, .f32⟩
  | 104 => ⟨S1x4x128, .f32⟩
  | 105 => ⟨S1x4x256x128, .f32⟩
  | 106 => ⟨S1x4x256x128, .f32⟩
  | 107 => ⟨S1x4x256x128, .f32⟩
  | 108 => ⟨S1x4x256x128, .f32⟩
  | 109 => ⟨S1x4x128, .f32⟩
  | 110 => ⟨S1x4x256x128, .f32⟩
  | 111 => ⟨S1x4x256x128, .f32⟩
  | 112 => ⟨S1x4x256x128, .f32⟩
  | 113 => ⟨S1x4x256x128, .f32⟩
  | 114 => ⟨S1x4x128, .f32⟩
  | 115 => ⟨S1x4x256x128, .f32⟩
  | 116 => ⟨S1x4x256x128, .f32⟩
  | 117 => ⟨S1x4x256x128, .f32⟩
  | 118 => ⟨S1x4x256x128, .f32⟩
  | 119 => ⟨S1x4x128, .f32⟩
  | 120 => ⟨S1x4x256x128, .f32⟩
  | 121 => ⟨S1x4x256x128, .f32⟩
  | 122 => ⟨S1x4x256x128, .f32⟩
  | 123 => ⟨S1x4x256x128, .f32⟩
  | 124 => ⟨S1x4x128, .f32⟩
  | 125 => ⟨S1x4x256x128, .f32⟩
  | 126 => ⟨S1x4x256x128, .f32⟩
  | 127 => ⟨S1x4x256x128, .f32⟩
  | _ => ⟨S4096x3072, .bf16⟩

abbrev hbmTy0_1 (i : Nat) : BufTy := match i % 128 with
  | 0 => ⟨S1x4x256x128, .f32⟩
  | 1 => ⟨S1x4x128, .f32⟩
  | 2 => ⟨S1x4x256x128, .f32⟩
  | 3 => ⟨S1x4x256x128, .f32⟩
  | 4 => ⟨S1x4x256x128, .f32⟩
  | 5 => ⟨S1x4x256x128, .f32⟩
  | 6 => ⟨S1x4x128, .f32⟩
  | 7 => ⟨S1x4x256x128, .f32⟩
  | 8 => ⟨S1x4x256x128, .f32⟩
  | 9 => ⟨S1x4x256x128, .f32⟩
  | 10 => ⟨S1x4x256x128, .f32⟩
  | 11 => ⟨S1x4x128, .f32⟩
  | 12 => ⟨S1x4x256x128, .f32⟩
  | 13 => ⟨S1x4x256x128, .f32⟩
  | 14 => ⟨S1x4x256x128, .f32⟩
  | 15 => ⟨S1x4x256x128, .f32⟩
  | 16 => ⟨S1x4x128, .f32⟩
  | 17 => ⟨S1x4x256x128, .f32⟩
  | 18 => ⟨S1x4x256x128, .f32⟩
  | 19 => ⟨S1x4x256x128, .f32⟩
  | 20 => ⟨S1x4x256x128, .f32⟩
  | 21 => ⟨S1x4x128, .f32⟩
  | 22 => ⟨S1x4x256x128, .f32⟩
  | 23 => ⟨S1x4x256x128, .f32⟩
  | 24 => ⟨S1x4x256x128, .f32⟩
  | 25 => ⟨S1x4x256x128, .f32⟩
  | 26 => ⟨S1x4x128, .f32⟩
  | 27 => ⟨S1x4x256x128, .f32⟩
  | 28 => ⟨S1x4x256x128, .f32⟩
  | 29 => ⟨S1x4x256x128, .f32⟩
  | 30 => ⟨S1x4x256x128, .f32⟩
  | 31 => ⟨S1x4x128, .f32⟩
  | 32 => ⟨S1x4x256x128, .f32⟩
  | 33 => ⟨S1x4x256x128, .f32⟩
  | 34 => ⟨S1x4x256x128, .f32⟩
  | 35 => ⟨S1x4x256x128, .f32⟩
  | 36 => ⟨S1x4x128, .f32⟩
  | 37 => ⟨S1x4x256x128, .f32⟩
  | 38 => ⟨S1x4x256x128, .f32⟩
  | 39 => ⟨S1x4x256x128, .f32⟩
  | 40 => ⟨S1x4x256x128, .f32⟩
  | 41 => ⟨S1x4x128, .f32⟩
  | 42 => ⟨S1x4x256x128, .f32⟩
  | 43 => ⟨S1x4x256x128, .f32⟩
  | 44 => ⟨S1x4x256x128, .f32⟩
  | 45 => ⟨S1x4x256x128, .f32⟩
  | 46 => ⟨S1x4x128, .f32⟩
  | 47 => ⟨S1x4x256x128, .f32⟩
  | 48 => ⟨S1x4x256x128, .f32⟩
  | 49 => ⟨S1x4x256x128, .f32⟩
  | 50 => ⟨S1x4x256x128, .f32⟩
  | 51 => ⟨S1x4x128, .f32⟩
  | 52 => ⟨S1x4x256x128, .f32⟩
  | 53 => ⟨S1x4x256x128, .f32⟩
  | 54 => ⟨S1x4x256x128, .f32⟩
  | 55 => ⟨S1x4x256x128, .f32⟩
  | 56 => ⟨S1x4x128, .f32⟩
  | 57 => ⟨S1x4x256x128, .f32⟩
  | 58 => ⟨S1x4x256x128, .f32⟩
  | 59 => ⟨S1x4x256x128, .f32⟩
  | 60 => ⟨S1x4x256x128, .f32⟩
  | 61 => ⟨S1x4x128, .f32⟩
  | 62 => ⟨S1x4x256x128, .f32⟩
  | 63 => ⟨S1x4x256x128, .f32⟩
  | 64 => ⟨S1x4x256x128, .f32⟩
  | 65 => ⟨S1x4x256x128, .f32⟩
  | 66 => ⟨S1x4x128, .f32⟩
  | 67 => ⟨S1x4x256x128, .f32⟩
  | 68 => ⟨S1x4x256x128, .f32⟩
  | 69 => ⟨S1x4x256x128, .f32⟩
  | 70 => ⟨S1x4x256x128, .f32⟩
  | 71 => ⟨S1x4x128, .f32⟩
  | 72 => ⟨S1x4x256x128, .f32⟩
  | 73 => ⟨S1x4x256x128, .f32⟩
  | 74 => ⟨S1x4x256x128, .f32⟩
  | 75 => ⟨S1x4x256x128, .f32⟩
  | 76 => ⟨S1x4x128, .f32⟩
  | 77 => ⟨S1x4x256x128, .f32⟩
  | 78 => ⟨S1x4x256x128, .f32⟩
  | 79 => ⟨S1x4x256x128, .f32⟩
  | 80 => ⟨S1x4x256x128, .f32⟩
  | 81 => ⟨S1x4x128, .f32⟩
  | 82 => ⟨S1x4x256x128, .f32⟩
  | 83 => ⟨S1x4x256x128, .f32⟩
  | 84 => ⟨S1x4x256x128, .f32⟩
  | 85 => ⟨S1x4x256x128, .f32⟩
  | 86 => ⟨S1x4x128, .f32⟩
  | 87 => ⟨S1x4x256x128, .f32⟩
  | 88 => ⟨S1x4x256x128, .f32⟩
  | 89 => ⟨S1x4x256x128, .f32⟩
  | 90 => ⟨S1x4x256x128, .f32⟩
  | 91 => ⟨S1x4x128, .f32⟩
  | 92 => ⟨S1x4x256x128, .f32⟩
  | 93 => ⟨S1x4x256x128, .f32⟩
  | 94 => ⟨S1x4x256x128, .f32⟩
  | 95 => ⟨S1x4x256x128, .f32⟩
  | 96 => ⟨S1x4x128, .f32⟩
  | 97 => ⟨S1x4x256x128, .f32⟩
  | 98 => ⟨S1x4x256x128, .f32⟩
  | 99 => ⟨S1x4x256x128, .f32⟩
  | 100 => ⟨S1x4x256x128, .f32⟩
  | 101 => ⟨S1x4x128, .f32⟩
  | 102 => ⟨S1x4x256x128, .f32⟩
  | 103 => ⟨S1x4x256x128, .f32⟩
  | 104 => ⟨S1x4x256x128, .f32⟩
  | 105 => ⟨S1x4x256x128, .f32⟩
  | 106 => ⟨S1x4x128, .f32⟩
  | 107 => ⟨S1x4x256x128, .f32⟩
  | 108 => ⟨S1x4x256x128, .f32⟩
  | 109 => ⟨S1x4x256x128, .f32⟩
  | 110 => ⟨S1x4x256x128, .f32⟩
  | 111 => ⟨S1x4x128, .f32⟩
  | 112 => ⟨S1x4x256x128, .f32⟩
  | 113 => ⟨S1x4x256x128, .f32⟩
  | 114 => ⟨S1x4x256x128, .f32⟩
  | 115 => ⟨S1x4x256x128, .f32⟩
  | 116 => ⟨S1x4x128, .f32⟩
  | 117 => ⟨S1x4x256x128, .f32⟩
  | 118 => ⟨S1x4x256x128, .f32⟩
  | 119 => ⟨S1x4x256x128, .f32⟩
  | 120 => ⟨S1x4x256x128, .f32⟩
  | 121 => ⟨S1x4x128, .f32⟩
  | 122 => ⟨S1x4x256x128, .f32⟩
  | 123 => ⟨S1x4x256x128, .f32⟩
  | 124 => ⟨S1x4x256x128, .f32⟩
  | 125 => ⟨S1x4x256x128, .f32⟩
  | 126 => ⟨S1x4x128, .f32⟩
  | 127 => ⟨S1x4x256x128, .f32⟩
  | _ => ⟨S4096x3072, .bf16⟩

abbrev hbmTy0_2 (i : Nat) : BufTy := match i % 128 with
  | 0 => ⟨S1x4x256x128, .f32⟩
  | 1 => ⟨S1x4x256x128, .f32⟩
  | 2 => ⟨S1x4x256x128, .f32⟩
  | 3 => ⟨S1x4x128, .f32⟩
  | 4 => ⟨S1x4x256x128, .f32⟩
  | 5 => ⟨S1x4x256x128, .f32⟩
  | 6 => ⟨S1x4x256x128, .f32⟩
  | 7 => ⟨S1x4x256x128, .f32⟩
  | 8 => ⟨S1x4x128, .f32⟩
  | 9 => ⟨S1x4x256x128, .f32⟩
  | 10 => ⟨S1x4x256x128, .f32⟩
  | 11 => ⟨S1x4x256x128, .f32⟩
  | 12 => ⟨S1x4x256x128, .f32⟩
  | 13 => ⟨S1x4x128, .f32⟩
  | 14 => ⟨S1x4x256x128, .f32⟩
  | 15 => ⟨S1x4x256x128, .f32⟩
  | 16 => ⟨S1x4x256x128, .f32⟩
  | 17 => ⟨S1x4x256x128, .f32⟩
  | 18 => ⟨S1x4x128, .f32⟩
  | 19 => ⟨S1x4x256x128, .f32⟩
  | 20 => ⟨S1x4x256x128, .f32⟩
  | 21 => ⟨S1x4x256x128, .f32⟩
  | 22 => ⟨S1x4x256x128, .f32⟩
  | 23 => ⟨S1x4x128, .f32⟩
  | 24 => ⟨S1x4x256x128, .f32⟩
  | 25 => ⟨S1x4x256x128, .f32⟩
  | 26 => ⟨S1x4x256x128, .f32⟩
  | 27 => ⟨S1x4x256x128, .f32⟩
  | 28 => ⟨S1x4x128, .f32⟩
  | 29 => ⟨S1x4x256x128, .f32⟩
  | 30 => ⟨S1x4x256x128, .f32⟩
  | 31 => ⟨S1x4x256x128, .f32⟩
  | 32 => ⟨S1x4x256x128, .f32⟩
  | 33 => ⟨S1x4x128, .f32⟩
  | 34 => ⟨S1x4x256x128, .f32⟩
  | 35 => ⟨S1x4x256x128, .f32⟩
  | 36 => ⟨S1x4x256x128, .f32⟩
  | 37 => ⟨S1x4x256x128, .f32⟩
  | 38 => ⟨S1x4x128, .f32⟩
  | 39 => ⟨S1x4x256x128, .f32⟩
  | 40 => ⟨S1x4x256x128, .f32⟩
  | 41 => ⟨S1x4x256x128, .f32⟩
  | 42 => ⟨S1x4x256x128, .f32⟩
  | 43 => ⟨S1x4x128, .f32⟩
  | 44 => ⟨S1x4x256x128, .f32⟩
  | 45 => ⟨S1x4x256x128, .f32⟩
  | 46 => ⟨S1x4x256x128, .f32⟩
  | 47 => ⟨S1x4x256x128, .f32⟩
  | 48 => ⟨S1x4x128, .f32⟩
  | 49 => ⟨S1x4x256x128, .f32⟩
  | 50 => ⟨S1x4x256x128, .f32⟩
  | 51 => ⟨S1x4x256x128, .f32⟩
  | 52 => ⟨S1x4x256x128, .f32⟩
  | 53 => ⟨S1x4x128, .f32⟩
  | 54 => ⟨S1x4x256x128, .f32⟩
  | 55 => ⟨S1x4x256x128, .f32⟩
  | 56 => ⟨S1x4x256x128, .f32⟩
  | 57 => ⟨S1x4x256x128, .f32⟩
  | 58 => ⟨S1x4x128, .f32⟩
  | 59 => ⟨S1x4x256x128, .f32⟩
  | 60 => ⟨S1x4x256x128, .f32⟩
  | 61 => ⟨S1x4x256x128, .f32⟩
  | 62 => ⟨S1x4x256x128, .f32⟩
  | 63 => ⟨S1x4x128, .f32⟩
  | 64 => ⟨S1x4x256x128, .f32⟩
  | 65 => ⟨S1x4x256x128, .f32⟩
  | 66 => ⟨S1x4x256x128, .f32⟩
  | 67 => ⟨S1x4x256x128, .f32⟩
  | 68 => ⟨S1x4x128, .f32⟩
  | 69 => ⟨S1x4x256x128, .f32⟩
  | 70 => ⟨S1x4x256x128, .f32⟩
  | 71 => ⟨S1x4x256x128, .f32⟩
  | 72 => ⟨S1x4x256x128, .f32⟩
  | 73 => ⟨S1x4x128, .f32⟩
  | 74 => ⟨S1x4x256x128, .f32⟩
  | 75 => ⟨S1x4x256x128, .f32⟩
  | 76 => ⟨S1x4x256x128, .f32⟩
  | 77 => ⟨S1x4x256x128, .f32⟩
  | 78 => ⟨S1x4x128, .f32⟩
  | 79 => ⟨S1x4x256x128, .f32⟩
  | 80 => ⟨S1x4x256x128, .f32⟩
  | 81 => ⟨S1x4x256x128, .f32⟩
  | 82 => ⟨S1x4x256x128, .f32⟩
  | 83 => ⟨S1x4x128, .f32⟩
  | 84 => ⟨S1x4x256x128, .f32⟩
  | 85 => ⟨S1x4x256x128, .f32⟩
  | 86 => ⟨S1x4x256x128, .f32⟩
  | 87 => ⟨S1x4x256x128, .f32⟩
  | 88 => ⟨S1x4x128, .f32⟩
  | 89 => ⟨S1x4x256x128, .f32⟩
  | 90 => ⟨S1x4x256x128, .f32⟩
  | 91 => ⟨S1x4x256x128, .f32⟩
  | 92 => ⟨S1x4x256x128, .f32⟩
  | 93 => ⟨S1x4x128, .f32⟩
  | 94 => ⟨S1x4x256x128, .f32⟩
  | 95 => ⟨S1x4x256x128, .f32⟩
  | 96 => ⟨S1x4x256x128, .f32⟩
  | 97 => ⟨S1x4x256x128, .f32⟩
  | 98 => ⟨S1x4x128, .f32⟩
  | 99 => ⟨S1x4x256x128, .f32⟩
  | 100 => ⟨S1x4x256x128, .f32⟩
  | 101 => ⟨S1x4x256x128, .f32⟩
  | 102 => ⟨S1x4x256x128, .f32⟩
  | 103 => ⟨S1x4x128, .f32⟩
  | 104 => ⟨S1x4x256x128, .f32⟩
  | 105 => ⟨S1x4x256x128, .f32⟩
  | 106 => ⟨S1x4x256x128, .f32⟩
  | 107 => ⟨S1x4x256x128, .f32⟩
  | 108 => ⟨S1x4x128, .f32⟩
  | 109 => ⟨S1x4x256x128, .f32⟩
  | 110 => ⟨S1x4x256x128, .f32⟩
  | 111 => ⟨S1x4x256x128, .f32⟩
  | 112 => ⟨S1x4x256x128, .f32⟩
  | 113 => ⟨S1x4x128, .f32⟩
  | 114 => ⟨S1x4x256x128, .f32⟩
  | 115 => ⟨S1x4x256x128, .f32⟩
  | 116 => ⟨S1x4x256x128, .f32⟩
  | 117 => ⟨S1x4x256x128, .f32⟩
  | 118 => ⟨S1x4x128, .f32⟩
  | 119 => ⟨S1x4x256x128, .f32⟩
  | 120 => ⟨S1x4x256x128, .f32⟩
  | 121 => ⟨S1x4x256x128, .f32⟩
  | 122 => ⟨S1x4x256x128, .f32⟩
  | 123 => ⟨S16x4x256x128, .f32⟩
  | 124 => ⟨S16x4x256x128, .f32⟩
  | 125 => ⟨S16x4x256x128, .f32⟩
  | 126 => ⟨S16x4x256x128, .f32⟩
  | 127 => ⟨S64x4x256x128, .f32⟩
  | _ => ⟨S4096x3072, .bf16⟩

abbrev hbmTy0_3 (i : Nat) : BufTy := match i % 128 with
  | 0 => ⟨S4096x3072, .bf16⟩
  | 1 => ⟨S4096x128, .bf16⟩
  | 2 => ⟨S128x512, .f32⟩
  | 3 => ⟨S4x1x256, .f32⟩
  | 4 => ⟨S1x512, .f32⟩
  | _ => ⟨S4096x3072, .bf16⟩

abbrev hbmTy (i : Nat) : BufTy := match i / 128 with
  | 0 => hbmTy0_0 i
  | 1 => hbmTy0_1 i
  | 2 => hbmTy0_2 i
  | 3 => hbmTy0_3 i
  | _ => ⟨S4096x3072, .bf16⟩

abbrev bufTy : (tb : Table) → Fin (tcTables nBuf tb) → BufTy
  | .hbm, ⟨i, _⟩ => hbmTy i
  | .local _ .vmem, ⟨0, _⟩ => ⟨S256x3072, .bf16⟩
  | .local _ .vmem, ⟨1, _⟩ => ⟨S256x3072, .bf16⟩
  | .local _ .vmem, ⟨2, _⟩ => ⟨S256x128, .bf16⟩
  | .local _ .vmem, ⟨3, _⟩ => ⟨S256x128, .bf16⟩
  | .local _ .vmem, ⟨4, _⟩ => ⟨S128x512, .bf16⟩
  | .local _ .vmem, ⟨5, _⟩ => ⟨S1x512, .f32⟩
  | .local _ .vmem, ⟨6, _⟩ => ⟨S4x1x256, .f32⟩
  | .local _ .vmem, ⟨7, _⟩ => ⟨S4x4x256x128, .f32⟩
  | .local _ .vmem, ⟨8, _⟩ => ⟨S4x4x256x128, .f32⟩
  | .local _ .vmem, ⟨9, _⟩ => ⟨S1x4x256x128, .f32⟩
  | .local _ .vmem, ⟨10, _⟩ => ⟨S1x4x256x128, .f32⟩
  | .local _ .vmem, ⟨11, _⟩ => ⟨S256x1024, .bf16⟩
  | .local _ .vmem, ⟨12, _⟩ => ⟨S256x1024, .bf16⟩
  | .local _ .vmem, ⟨13, _⟩ => ⟨S256x3072, .bf16⟩
  | .local _ .vmem, ⟨14, _⟩ => ⟨S256x3072, .bf16⟩
  | .local _ .vmem, ⟨15, _⟩ => ⟨S256x128, .bf16⟩
  | .local _ .vmem, ⟨16, _⟩ => ⟨S256x128, .bf16⟩
  | .local _ .vmem, ⟨17, _⟩ => ⟨S128x512, .f32⟩
  | .local _ .vmem, ⟨18, _⟩ => ⟨S4x1x256, .f32⟩
  | .local _ .vmem, ⟨19, _⟩ => ⟨S1x512, .f32⟩
  | .local _ .vmem, ⟨20, _⟩ => ⟨S4x256x128, .f32⟩
  | .local _ .vmem, ⟨21, _⟩ => ⟨S4x4x256x128, .f32⟩
  | .local _ .vmem, ⟨22, _⟩ => ⟨S256x512, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call2_v0 : Ref sig .tc := ⟨.hbm, 25, rfl⟩
abbrev main_call2_call0_cst : Ref sig .tc := ⟨.hbm, 26, rfl⟩
abbrev main_call2_call0_v0 : Ref sig .tc := ⟨.hbm, 27, rfl⟩
abbrev main_call2_call0_v1 : Ref sig .tc := ⟨.hbm, 28, rfl⟩
abbrev main_call2_call0_v2 : Ref sig .tc := ⟨.hbm, 29, rfl⟩
abbrev main_call2_call0_v3 : Ref sig .tc := ⟨.hbm, 30, rfl⟩
abbrev main_call2_call0_v4 : Ref sig .tc := ⟨.hbm, 31, rfl⟩
abbrev main_call2_call0_v5 : Ref sig .tc := ⟨.hbm, 32, rfl⟩
abbrev main_call2_call0_v6 : Ref sig .tc := ⟨.hbm, 33, rfl⟩
abbrev main_call2_call0_v7 : Ref sig .tc := ⟨.hbm, 34, rfl⟩
abbrev main_call2_call0_v8 : Ref sig .tc := ⟨.hbm, 35, rfl⟩
abbrev main_call2_call0_v9 : Ref sig .tc := ⟨.hbm, 36, rfl⟩
abbrev main_call2_call0_v10 : Ref sig .tc := ⟨.hbm, 37, rfl⟩
abbrev main_call2_call0_v11 : Ref sig .tc := ⟨.hbm, 38, rfl⟩
abbrev main_call2_v1 : Ref sig .tc := ⟨.hbm, 39, rfl⟩
abbrev main_v15 : Ref sig .tc := ⟨.hbm, 40, rfl⟩
abbrev main_cst : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call3_call0_cst : Ref sig .tc := ⟨.hbm, 45, rfl⟩
abbrev main_call3_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_1 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_v211 : Ref sig .tc := ⟨.hbm, 240, rfl⟩
abbrev main_v212 : Ref sig .tc := ⟨.hbm, 241, rfl⟩
abbrev main_v213 : Ref sig .tc := ⟨.hbm, 242, rfl⟩
abbrev main_v214 : Ref sig .tc := ⟨.hbm, 243, rfl⟩
abbrev main_v215 : Ref sig .tc := ⟨.hbm, 244, rfl⟩
abbrev main_v216 : Ref sig .tc := ⟨.hbm, 245, rfl⟩
abbrev main_v217 : Ref sig .tc := ⟨.hbm, 246, rfl⟩
abbrev main_v218 : Ref sig .tc := ⟨.hbm, 247, rfl⟩
abbrev main_v219 : Ref sig .tc := ⟨.hbm, 248, rfl⟩
abbrev main_v220 : Ref sig .tc := ⟨.hbm, 249, rfl⟩
abbrev main_v221 : Ref sig .tc := ⟨.hbm, 250, rfl⟩
abbrev main_v222 : Ref sig .tc := ⟨.hbm, 251, rfl⟩
abbrev main_v223 : Ref sig .tc := ⟨.hbm, 252, rfl⟩
abbrev main_v224 : Ref sig .tc := ⟨.hbm, 253, rfl⟩
abbrev main_v225 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_v233 : Ref sig .tc := ⟨.hbm, 262, rfl⟩
abbrev main_v234 : Ref sig .tc := ⟨.hbm, 263, rfl⟩
abbrev main_v235 : Ref sig .tc := ⟨.hbm, 264, rfl⟩
abbrev main_v236 : Ref sig .tc := ⟨.hbm, 265, rfl⟩
abbrev main_v237 : Ref sig .tc := ⟨.hbm, 266, rfl⟩
abbrev main_v238 : Ref sig .tc := ⟨.hbm, 267, rfl⟩
abbrev main_v239 : Ref sig .tc := ⟨.hbm, 268, rfl⟩
abbrev main_v240 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_v280 : Ref sig .tc := ⟨.hbm, 309, rfl⟩
abbrev main_v281 : Ref sig .tc := ⟨.hbm, 310, rfl⟩
abbrev main_v282 : Ref sig .tc := ⟨.hbm, 311, rfl⟩
abbrev main_v283 : Ref sig .tc := ⟨.hbm, 312, rfl⟩
abbrev main_v284 : Ref sig .tc := ⟨.hbm, 313, rfl⟩
abbrev main_v285 : Ref sig .tc := ⟨.hbm, 314, rfl⟩
abbrev main_v286 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_v299 : Ref sig .tc := ⟨.hbm, 328, rfl⟩
abbrev main_v300 : Ref sig .tc := ⟨.hbm, 329, rfl⟩
abbrev main_v301 : Ref sig .tc := ⟨.hbm, 330, rfl⟩
abbrev main_v302 : Ref sig .tc := ⟨.hbm, 331, rfl⟩
abbrev main_v303 : Ref sig .tc := ⟨.hbm, 332, rfl⟩
abbrev main_v304 : Ref sig .tc := ⟨.hbm, 333, rfl⟩
abbrev main_v305 : Ref sig .tc := ⟨.hbm, 334, rfl⟩
abbrev main_v306 : Ref sig .tc := ⟨.hbm, 335, rfl⟩
abbrev main_v307 : Ref sig .tc := ⟨.hbm, 336, rfl⟩
abbrev main_v308 : Ref sig .tc := ⟨.hbm, 337, rfl⟩
abbrev main_v309 : Ref sig .tc := ⟨.hbm, 338, rfl⟩
abbrev main_v310 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_v315 : Ref sig .tc := ⟨.hbm, 344, rfl⟩
abbrev main_v316 : Ref sig .tc := ⟨.hbm, 345, rfl⟩
abbrev main_v317 : Ref sig .tc := ⟨.hbm, 346, rfl⟩
abbrev main_v318 : Ref sig .tc := ⟨.hbm, 347, rfl⟩
abbrev main_v319 : Ref sig .tc := ⟨.hbm, 348, rfl⟩
abbrev main_v320 : Ref sig .tc := ⟨.hbm, 349, rfl⟩
abbrev main_v321 : Ref sig .tc := ⟨.hbm, 350, rfl⟩
abbrev main_v322 : Ref sig .tc := ⟨.hbm, 351, rfl⟩
abbrev main_v323 : Ref sig .tc := ⟨.hbm, 352, rfl⟩
abbrev main_v324 : Ref sig .tc := ⟨.hbm, 353, rfl⟩
abbrev main_v325 : Ref sig .tc := ⟨.hbm, 354, rfl⟩
abbrev main_v326 : Ref sig .tc := ⟨.hbm, 355, rfl⟩
abbrev main_v327 : Ref sig .tc := ⟨.hbm, 356, rfl⟩
abbrev main_v328 : Ref sig .tc := ⟨.hbm, 357, rfl⟩
abbrev main_v329 : Ref sig .tc := ⟨.hbm, 358, rfl⟩
abbrev main_v330 : Ref sig .tc := ⟨.hbm, 359, rfl⟩
abbrev main_v331 : Ref sig .tc := ⟨.hbm, 360, rfl⟩
abbrev main_v332 : Ref sig .tc := ⟨.hbm, 361, rfl⟩
abbrev main_v333 : Ref sig .tc := ⟨.hbm, 362, rfl⟩
abbrev main_v334 : Ref sig .tc := ⟨.hbm, 363, rfl⟩
abbrev main_v335 : Ref sig .tc := ⟨.hbm, 364, rfl⟩
abbrev main_v336 : Ref sig .tc := ⟨.hbm, 365, rfl⟩
abbrev main_v337 : Ref sig .tc := ⟨.hbm, 366, rfl⟩
abbrev main_v338 : Ref sig .tc := ⟨.hbm, 367, rfl⟩
abbrev main_v339 : Ref sig .tc := ⟨.hbm, 368, rfl⟩
abbrev main_v340 : Ref sig .tc := ⟨.hbm, 369, rfl⟩
abbrev main_v341 : Ref sig .tc := ⟨.hbm, 370, rfl⟩
abbrev main_v342 : Ref sig .tc := ⟨.hbm, 371, rfl⟩
abbrev main_v343 : Ref sig .tc := ⟨.hbm, 372, rfl⟩
abbrev main_v344 : Ref sig .tc := ⟨.hbm, 373, rfl⟩
abbrev main_v345 : Ref sig .tc := ⟨.hbm, 374, rfl⟩
abbrev main_v346 : Ref sig .tc := ⟨.hbm, 375, rfl⟩
abbrev main_v347 : Ref sig .tc := ⟨.hbm, 376, rfl⟩
abbrev main_v348 : Ref sig .tc := ⟨.hbm, 377, rfl⟩
abbrev main_v349 : Ref sig .tc := ⟨.hbm, 378, rfl⟩
abbrev main_v350 : Ref sig .tc := ⟨.hbm, 379, rfl⟩
abbrev main_v351 : Ref sig .tc := ⟨.hbm, 380, rfl⟩
abbrev main_v352 : Ref sig .tc := ⟨.hbm, 381, rfl⟩
abbrev main_v353 : Ref sig .tc := ⟨.hbm, 382, rfl⟩
abbrev main_v354 : Ref sig .tc := ⟨.hbm, 383, rfl⟩
abbrev main_v355_0 : Ref sig .tc := ⟨.hbm, 384, rfl⟩
abbrev main_v355_1 : Ref sig .tc := ⟨.hbm, 385, rfl⟩
abbrev main_v355_2 : Ref sig .tc := ⟨.hbm, 386, rfl⟩
abbrev main_v355_3 : Ref sig .tc := ⟨.hbm, 387, rfl⟩
abbrev main_v355_4 : Ref sig .tc := ⟨.hbm, 388, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Proof.Scalar.lean ====
module

public import Idealize.ShloMosaic.PureOps.Ideal.Laws
public import Idealize.ShloMosaic.Lib.IdealHost

/-! The scalar facts that the value proofs share: constants as reals, the logistic function in its two spellings, and the
arithmetic of extended reals known to be finite. -/

@[expose] public section

noncomputable section

namespace Cert.Scalar

open Idealize.ShloMosaic

/-- One half, as an f32 constant. -/
theorem half_f32 : Ideal.ofBits .f32 0x3F000000#32 = ((1 / 2 : ℝ) : EReal) := by
  simp [Ideal.ofBits, Ideal.ieee, -EReal.coe_mul]; norm_num

/-- One half, as a bf16 constant. -/
theorem half_bf16 : Ideal.ofBits .bf16 0x3F00#16 = ((1 / 2 : ℝ) : EReal) := by
  simp [Ideal.ofBits, Ideal.ieee, -EReal.coe_mul]; norm_num

/-- The logistic function as the references spell it. -/
def sig (x : EReal) : EReal := Ideal.div 1 (1 + Ideal.exp (-x))

/-- At a real number it is the real logistic function. -/
theorem sig_coe (r : ℝ) : sig r = ((1 / (1 + Real.exp (-r)) : ℝ) : EReal) := by
  have h : (1 : ℝ) + Real.exp (-r) ≠ 0 := (add_pos one_pos (Real.exp_pos _)).ne'
  rw [sig, ← EReal.coe_neg, Ideal.exp_coe, ← EReal.coe_one, ← EReal.coe_add, Ideal.div,
    if_neg (by exact_mod_cast h), ← EReal.coe_inv, ← EReal.coe_mul, one_div, one_mul]

theorem sig_top : sig ⊤ = 1 := by simp [sig, Ideal.div]

theorem sig_bot : sig ⊥ = 0 := by
  have h : (1 : EReal) + ⊤ = ⊤ := rfl
  simp [sig, Ideal.div, h]

/-- The logistic function through the hyperbolic tangent, as the kernels spell it, is the same function everywhere. -/
theorem half_tanh (x : EReal) :
    ((1 / 2 : ℝ) : EReal) * Ideal.tanh (((1 / 2 : ℝ) : EReal) * x) + ((1 / 2 : ℝ) : EReal) = sig x := by
  induction x with
  | bot =>
    rw [EReal.coe_mul_bot_of_pos (by norm_num), Ideal.tanh_bot, sig_bot, mul_neg, mul_one, ← EReal.coe_neg,
      ← EReal.coe_add]
    norm_num
  | top =>
    rw [EReal.coe_mul_top_of_pos (by norm_num), Ideal.tanh_top, sig_top, mul_one, ← EReal.coe_add]
    norm_num
  | coe r =>
    rw [sig_coe, ← EReal.coe_mul, Ideal.tanh_coe, ← EReal.coe_mul, ← EReal.coe_add]
    congr 1
    have h1 := Real.exp_pos (1 / 2 * r)
    have h2 := Real.exp_pos (-(1 / 2 * r))
    have h3 : Real.exp (-r) = Real.exp (-(1 / 2 * r)) * Real.exp (-(1 / 2 * r)) := by
      rw [← Real.exp_add]; congr 1; ring
    have h4 : Real.exp (1 / 2 * r) * Real.exp (-(1 / 2 * r)) = 1 := by
      rw [← Real.exp_add, add_neg_cancel, Real.exp_zero]
    rw [Real.tanh_eq_sinh_div_cosh, Real.sinh_eq, Real.cosh_eq, h3]
    have h5 : Real.exp (1 / 2 * r) = (Real.exp (-(1 / 2 * r)))⁻¹ := eq_inv_of_mul_eq_one_left h4
    rw [h5]
    field_simp
    ring

/-- The same, with the logistic function written as the host writes it. -/
theorem half_tanh_div (x : EReal) :
    ((1 / 2 : ℝ) : EReal) * Ideal.tanh (((1 / 2 : ℝ) : EReal) * x) + ((1 / 2 : ℝ) : EReal)
      = Ideal.div 1 (1 + Ideal.exp (-x)) := half_tanh x

end Cert.Scalar

end
-- ==== Proof.Finite.lean ====
module

public import Idealize.ShloMosaic.PureOps.Ideal
public import Idealize.ShloMosaic.Lib.IdealHost
public import Idealize.ShloMosaic.Lib.ReduceAll
public import proofs.«01_k».proof.Proof.Scalar

/-! Real entries: what a finiteness precondition says of an array, and the operations that keep entries real. -/

@[expose] public section

noncomputable section

namespace Cert.Scalar

open Idealize.ShloMosaic

/-- The extended real is a real number. -/
def IsReal (x : EReal) : Prop := ∃ r : ℝ, x = (r : EReal)

theorem isReal_iff {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

theorem IsReal.coe (r : ℝ) : IsReal (r : EReal) := ⟨r, rfl⟩

theorem IsReal.zero : IsReal 0 := ⟨0, by simp⟩

theorem IsReal.one : IsReal 1 := ⟨1, by simp⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.sum {ι : Type*} (s : Finset ι) {f : ι → EReal} (h : ∀ i, IsReal (f i)) : IsReal (∑ i ∈ s, f i) :=
  Finset.sum_induction f IsReal (fun _ _ => IsReal.add) IsReal.zero fun i _ => h i

/-- The word of the comparison's bound. -/
theorem inf_f32 : Ideal.ofBits .f32 0x7F800000#32 = ⊤ := by
  simp [Ideal.ofBits, Ideal.ieee]

/-- An array all of whose magnitudes lie below the infinite word has real entries. -/
theorem isReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf x) (broadcastInDim s ![] hb (constant ⟨0, ![]⟩ .f32 0x7F800000#32)))
        (constantI ⟨0, ![]⟩ 1 1#1) hr hu = fun _ => 1#1) (i : s.Idx) : IsReal (x i) := by
  haveI : Subsingleton (⟨0, ![]⟩ : Shape).Idx := ⟨fun a b => funext fun k => k.elim0⟩
  have e := Host.reduce_andi_all _ _ hr hu (fun k => k.elim0) (congrFun h _) i
  have e' : FloatOps.cmpf (F := Ideal) (φ := .f32) .olt (max (x i) (-(x i))) (Ideal.ofBits .f32 0x7F800000#32) = 1#1 := e
  rw [inf_f32] at e'
  rw [isReal_iff]
  constructor <;> intro he <;> simp [Ideal.cmpf_def, Ideal.cmp, he] at e'

/-- Two conditions met at once are met each. -/
theorem andi_split {s : Shape} {a b : IVec s 1} (h : andi a b = fun _ => 1#1) : a = (fun _ => 1#1) ∧ b = fun _ => 1#1 :=
  ⟨funext fun i => (IntOp.andi_eq_one.1 (congrFun h i)).1, funext fun i => (IntOp.andi_eq_one.1 (congrFun h i)).2⟩

theorem sig_isReal (x : EReal) : IsReal (sig x) := by
  induction x with
  | bot => exact ⟨0, by rw [sig_bot]; simp⟩
  | coe r => exact ⟨_, sig_coe r⟩
  | top => exact ⟨1, by rw [sig_top]; simp⟩

/-- The gradient of `x · sig x`, factored as the kernel has it and expanded by the product rule. -/
theorem silu_grad (g c : EReal) (hc : IsReal c) :
    c * sig g * (1 + g * (1 - sig g)) = c * sig g + g * c * (sig g * (1 - sig g)) := by
  obtain ⟨c, rfl⟩ := hc
  induction g with
  | bot => rw [sig_bot]; simp
  | top =>
    rw [sig_top]
    have : (1 : EReal) - 1 = 0 := by
      rw [← EReal.coe_one, ← EReal.coe_sub]; simp
    rw [this]; simp
  | coe r =>
    rw [sig_coe]
    norm_cast
    ring

/-- The same with the logistic function written as the host writes it. -/
theorem silu_grad_div (g c : EReal) (hc : IsReal c) :
    c * Ideal.div 1 (1 + Ideal.exp (-g)) * (1 + g * (1 - Ideal.div 1 (1 + Ideal.exp (-g))))
      = c * Ideal.div 1 (1 + Ideal.exp (-g))
        + g * c * (Ideal.div 1 (1 + Ideal.exp (-g)) * (1 - Ideal.div 1 (1 + Ideal.exp (-g)))) := silu_grad g c hc

end Cert.Scalar

end
-- ==== Proof.SguMath.lean ====
module

public import Idealize.ShloMosaic.PureOps.Ideal
public import proofs.«01_k».proof.Proof.Finite

/-! The gated unit's scalar and row arithmetic at real entries: the kernel's factored forms against those of the derivative. -/

@[expose] public section

noncomputable section

namespace Cert.Scalar

open Idealize.ShloMosaic

/-! ## Constants -/

abbrev cA : ℝ := 12003091 / 2 ^ 28
abbrev cC : ℝ := 13386282 / 2 ^ 24
def cM : ℝ := -1 / 2
abbrev cE : ℝ := 8796093 / 2 ^ 43

theorem half_val : Ideal.ofBits .f32 0x3F000000#32 = ((1 / 2 : ℝ) : EReal) := by
  simp [Ideal.ofBits, Ideal.ieee]; norm_cast; norm_num
theorem two_val : Ideal.ofBits .f32 0x40000000#32 = ((2 : ℝ) : EReal) := by
  simp [Ideal.ofBits, Ideal.ieee]; norm_cast; norm_num
theorem three_val : Ideal.ofBits .f32 0x40400000#32 = ((3 : ℝ) : EReal) := by
  simp [Ideal.ofBits, Ideal.ieee]; norm_cast; norm_num
theorem mhalf_val : Ideal.ofBits .f32 0xBF000000#32 = (cM : EReal) := by
  rw [cM]; simp [Ideal.ofBits, Ideal.ieee, -EReal.coe_mul]; norm_num
theorem n256_val : Ideal.ofBits .f32 0x43800000#32 = ((256 : ℝ) : EReal) := by
  simp [Ideal.ofBits, Ideal.ieee]; norm_cast; norm_num
theorem cA_val : Ideal.ofBits .f32 0x3D372713#32 = (cA : EReal) := by
  simp [Ideal.ofBits, Ideal.ieee]; norm_cast; norm_num
theorem cC_val : Ideal.ofBits .f32 0x3F4C422A#32 = (cC : EReal) := by
  simp [Ideal.ofBits, Ideal.ieee]; norm_cast; norm_num
theorem eps_val : Ideal.ofBits .f32 0x358637BD#32 = (cE : EReal) := by
  simp [Ideal.ofBits, Ideal.ieee]; norm_cast; norm_num

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_div (x y : ℝ) (h : y ≠ 0) : Ideal.div (x : EReal) (y : EReal) = ((x / y : ℝ) : EReal) := by
  rw [Ideal.div_coe h, ← EReal.coe_mul]; congr 1; ring

theorem coe_rsqrt (x : ℝ) (h : 0 < x) : Ideal.rsqrt (x : EReal) = (((Real.sqrt x)⁻¹ : ℝ) : EReal) := by
  rw [Ideal.rsqrt_coe, if_neg (not_lt.mpr h.le), if_neg h.ne']

/-! ## The activation -/

def thR (x : ℝ) : ℝ := Real.tanh (cC * (x + cA * (x * x * x)))
def geluR (x : ℝ) : ℝ := x * (1 / 2 * (1 + thR x))
def dgeluR (x : ℝ) : ℝ := 1 / 2 * (1 + thR x) + 1 / 2 * x * (1 - thR x * thR x) * (cC + 3 * cA * cC * (x * x))

/-- The activation as the kernel factors it. -/
def gel (x : EReal) : EReal :=
  Ideal.ofBits .f32 0x3F000000#32 * x * (1 + Ideal.tanh (Ideal.ofBits .f32 0x3F4C422A#32 * x * (1 + Ideal.ofBits .f32 0x3D372713#32 * (x * x))))

/-- Its derivative as the kernel factors it, `k` the constant of the square's term. -/
def dgel (k x : EReal) : EReal :=
  Ideal.ofBits .f32 0x3F000000#32 * (1 + Ideal.tanh (Ideal.ofBits .f32 0x3F4C422A#32 * x * (1 + Ideal.ofBits .f32 0x3D372713#32 * (x * x))))
    + Ideal.ofBits .f32 0x3F000000#32 * x * (1 - Ideal.tanh (Ideal.ofBits .f32 0x3F4C422A#32 * x * (1 + Ideal.ofBits .f32 0x3D372713#32 * (x * x)))
        * Ideal.tanh (Ideal.ofBits .f32 0x3F4C422A#32 * x * (1 + Ideal.ofBits .f32 0x3D372713#32 * (x * x))))
      * (Ideal.ofBits .f32 0x3F4C422A#32 + k * (x * x))

/-- The inner hyperbolic tangent of the activation as the host writes it. -/
def rth (x : EReal) : EReal :=
  Ideal.tanh (Ideal.ofBits .f32 0x3F4C422A#32 * (x + Ideal.ofBits .f32 0x3D372713#32 * (x * x * x)))

/-- The activation as the host writes it. -/
def rgel (x : EReal) : EReal := x * (Ideal.ofBits .f32 0x3F000000#32 * (1 + rth x))

/-- The cotangent `c` carried through the activation at `x`, as the derivative has it. -/
def rgrad (c x : EReal) : EReal :=
  c * (Ideal.ofBits .f32 0x3F000000#32 * (1 + rth x))
      + Ideal.ofBits .f32 0x3F4C422A#32 * (Ideal.ofBits .f32 0x3F000000#32 * (x * c) * ((1 + rth x) * (1 - rth x)))
    + Ideal.ofBits .f32 0x3D372713#32 * (Ideal.ofBits .f32 0x3F4C422A#32 * (Ideal.ofBits .f32 0x3F000000#32 * (x * c) * ((1 + rth x) * (1 - rth x))))
      * (Ideal.ofBits .f32 0x40400000#32 * (x * x))

theorem th_coe (x : ℝ) : Ideal.tanh (Ideal.ofBits .f32 0x3F4C422A#32 * (x : EReal) * (1 + Ideal.ofBits .f32 0x3D372713#32 * ((x : EReal) * x))) = (thR x : EReal) := by
  rw [cC_val, cA_val]
  norm_cast
  rw [Ideal.tanh_coe, thR]
  congr 2; ring

theorem rth_coe (x : ℝ) : rth x = (thR x : EReal) := by
  rw [rth, cC_val, cA_val]
  norm_cast

theorem gel_coe (x : ℝ) : gel x = (geluR x : EReal) := by
  rw [gel, th_coe, half_val, geluR]
  norm_cast
  ring

theorem rgel_coe (x : ℝ) : rgel x = (geluR x : EReal) := by
  rw [rgel, rth_coe, half_val, geluR]
  norm_cast

theorem dgel_coe (x : ℝ) (k : EReal) (hk : k = ((3 * cA * cC : ℝ) : EReal)) : dgel k x = (dgeluR x : EReal) := by
  rw [dgel, th_coe, half_val, cC_val, hk, dgeluR]
  norm_cast

theorem rgrad_coe (c x : ℝ) : rgrad c x = ((c * dgeluR x : ℝ) : EReal) := by
  rw [rgrad, rth_coe, half_val, cC_val, cA_val, three_val, dgeluR]
  norm_cast
  ring

/-! ## The normalisation of a row -/

/-- The mean of a row. -/
def mean (f : Fin 256 → EReal) : EReal := Ideal.div (∑ x, f x) (Ideal.ofBits .f32 0x43800000#32)
def lnc (r : Fin 256 → EReal) (d : Fin 256) : EReal := r d - mean r
def lnv (r : Fin 256 → EReal) : EReal := (mean fun x => lnc r x * lnc r x) + Ideal.ofBits .f32 0x358637BD#32
def lns (r : Fin 256 → EReal) : EReal := Ideal.rsqrt (lnv r)
def lnx (r : Fin 256 → EReal) (d : Fin 256) : EReal := lnc r d * lns r

/-- The cotangent `q` of the normalised row carried to the row, as the kernel factors it. -/
def lnb (r q : Fin 256 → EReal) (d : Fin 256) : EReal :=
  lns r * (q d - mean q - lnx r d * mean fun x => q x * lnx r x)

/-- The part of it that goes through the variance. -/
def lnw (r q : Fin 256 → EReal) (d : Fin 256) : EReal :=
  Ideal.div ((∑ x, lnc r x * q x) * (Ideal.ofBits .f32 0xBF000000#32 * Ideal.div (lns r) (lnv r))) (Ideal.ofBits .f32 0x43800000#32)
    * (Ideal.ofBits .f32 0x40000000#32 * lnc r d)

/-- The same cotangent as the derivative has it. -/
def rlnb (r q : Fin 256 → EReal) (d : Fin 256) : EReal :=
  q d * lns r + lnw r q d + Ideal.div ((∑ x, -(q x * lns r)) + ∑ x, -lnw r q x) (Ideal.ofBits .f32 0x43800000#32)

def meanR (f : Fin 256 → ℝ) : ℝ := (∑ x, f x) / 256
def lncR (r : Fin 256 → ℝ) (d : Fin 256) : ℝ := r d - meanR r
def lnvR (r : Fin 256 → ℝ) : ℝ := (meanR fun x => lncR r x * lncR r x) + cE
def lnsR (r : Fin 256 → ℝ) : ℝ := (Real.sqrt (lnvR r))⁻¹

theorem mean_coe (f : Fin 256 → ℝ) : mean (fun x => (f x : EReal)) = (meanR f : EReal) := by
  rw [mean, n256_val, coe_sum, coe_div _ _ (by norm_num), meanR]

theorem lnc_coe (r : Fin 256 → ℝ) (d : Fin 256) : lnc (fun x => (r x : EReal)) d = (lncR r d : EReal) := by
  rw [lnc, mean_coe, lncR]; norm_cast

theorem lnvR_pos (r : Fin 256 → ℝ) : 0 < lnvR r := by
  have : 0 ≤ ∑ x, lncR r x * lncR r x := Finset.sum_nonneg fun x _ => mul_self_nonneg _
  rw [lnvR, meanR, cE]
  positivity

theorem lnv_coe (r : Fin 256 → ℝ) : lnv (fun x => (r x : EReal)) = (lnvR r : EReal) := by
  simp only [lnv, lnc_coe, ← EReal.coe_mul]
  rw [mean_coe fun x => lncR r x * lncR r x, eps_val, lnvR]; norm_cast

theorem lns_coe (r : Fin 256 → ℝ) : lns (fun x => (r x : EReal)) = (lnsR r : EReal) := by
  rw [lns, lnv_coe, coe_rsqrt _ (lnvR_pos r), lnsR]

theorem sum_lncR (r : Fin 256 → ℝ) : ∑ x, lncR r x = 0 := by
  simp only [lncR, meanR, Finset.sum_sub_distrib, Finset.sum_const, Finset.card_univ, Fintype.card_fin, nsmul_eq_mul]
  push_cast; ring

theorem lnsR_sq (r : Fin 256 → ℝ) : 1 / lnvR r = lnsR r * lnsR r := by
  rw [lnsR, ← mul_inv, Real.mul_self_sqrt (lnvR_pos r).le, one_div]

theorem lnb_coe (r q : Fin 256 → ℝ) (d : Fin 256) : lnb (fun x => (r x : EReal)) (fun x => (q x : EReal)) d
    = ((lnsR r * (q d - meanR q - lncR r d * lnsR r * meanR fun x => q x * (lncR r x * lnsR r)) : ℝ) : EReal) := by
  simp only [lnb, lnx, lns_coe, lnc_coe, ← EReal.coe_mul]
  rw [mean_coe q, mean_coe fun x => q x * (lncR r x * lnsR r)]
  norm_cast

theorem lnw_coe (r q : Fin 256 → ℝ) (d : Fin 256) : lnw (fun x => (r x : EReal)) (fun x => (q x : EReal)) d
    = (((∑ x, lncR r x * q x) * (cM * (lnsR r / lnvR r)) / 256 * (2 * lncR r d) : ℝ) : EReal) := by
  simp only [lnw, lns_coe, lnc_coe, lnv_coe, ← EReal.coe_mul]
  rw [coe_sum, coe_div _ _ (lnvR_pos r).ne', mhalf_val, n256_val, two_val, ← EReal.coe_mul, ← EReal.coe_mul, coe_div _ _ (by norm_num)]
  norm_cast

theorem lnb_eq (r q : Fin 256 → ℝ) (d : Fin 256) :
    lnb (fun x => (r x : EReal)) (fun x => (q x : EReal)) d = rlnb (fun x => (r x : EReal)) (fun x => (q x : EReal)) d := by
  rw [lnb_coe, rlnb]
  simp only [lnw_coe, lns_coe, ← EReal.coe_mul, ← EReal.coe_neg]
  rw [coe_sum, coe_sum, n256_val, ← EReal.coe_add, ← EReal.coe_add, coe_div _ _ (by norm_num)]
  norm_cast
  have h1 : ∑ x, -(q x * lnsR r) = -(∑ x, q x) * lnsR r := by
    rw [Finset.sum_neg_distrib, ← Finset.sum_mul, neg_mul]
  have h2 : ∑ x, -((∑ x, lncR r x * q x) * (cM * (lnsR r / lnvR r)) / 256 * (2 * lncR r x)) = 0 := by
    rw [Finset.sum_neg_distrib, ← Finset.mul_sum, ← Finset.mul_sum, sum_lncR]; ring
  have h3 : (meanR fun x => q x * (lncR r x * lnsR r)) = (∑ x, lncR r x * q x) * lnsR r / 256 := by
    rw [meanR, Finset.sum_mul]; congr 1; exact Finset.sum_congr rfl fun x _ => by ring
  rw [h1, h2, h3, meanR, div_eq_mul_one_div (lnsR r) (lnvR r), lnsR_sq, cM]
  ring

end Cert.Scalar

end
-- ==== Proof.SguRef.lean ====
module

public import proofs.«01_k».proof.Proof.SguMath
public import proofs.«01_k».proof.Proof.Gen.SguRefIdeal.Read
public import Idealize.ShloMosaic.Lib.Pipeline.ValueKit

/-! The gated unit's reference read layer by layer: the normalised rows, the mixing and their cotangents at a chunk `n`, a row `i` of
it, a group `g` and a lane `d`. -/

@[expose] public section

set_option maxRecDepth 16384

noncomputable section

namespace Cert.SguIdeal.Spec

open Cert.SguRefIdeal Cert.SguRefIdeal.Read Idealize.ShloMosaic
open Cert.Scalar

/-- The row of a chunk. -/
abbrev row (n : Fin 32) (i : Fin 128) : Fin 4096 := ⟨n.val * 128 + i.val, by omega⟩
/-- The column of a group. -/
abbrev col (g : Fin 4) (d : Fin 256) : Fin 1024 := ⟨g.val * 256 + d.val, by omega⟩

abbrev Mat := (⟨2, ![4096, 1024]⟩ : Shape).Idx → EReal
abbrev Vec := (⟨2, ![4, 256]⟩ : Shape).Idx → EReal
abbrev Wgt := (⟨3, ![4, 128, 128]⟩ : Shape).Idx → EReal
abbrev Bia := (⟨2, ![4, 128]⟩ : Shape).Idx → EReal

variable (x0 x1 : Mat) (x2 x3 : Vec) (x4 : Wgt) (x5 : Bia) (x6 : Mat)

/-! ## The specification -/

/-- A row of a group of the second half, activated. -/
def act (s : Fin 4096) (g : Fin 4) (d : Fin 256) : EReal := rgel (x1 (ix2 s (col g d)))
/-- It normalised, scaled and shifted. -/
def nrm (s : Fin 4096) (g : Fin 4) (d : Fin 256) : EReal := lnx (act x1 s g) d * x2 (ix2 g d) + x3 (ix2 g d)
/-- The causal mask between blocks of a chunk. -/
def msk (i j : Fin 128) : BitVec 1 :=
  IntOp.ori (IntOp.cmpi .slt (BitVec.ofNat 32 j.val) 64#32) (IntOp.cmpi .sge (BitVec.ofNat 32 i.val) 64#32)
def wm (g : Fin 4) (i j : Fin 128) : EReal := Scalar.select (msk i j) (x4 (ix3 g i j)) 0
/-- The mixed rows. -/
def mix (n : Fin 32) (i : Fin 128) (g : Fin 4) (d : Fin 256) : EReal :=
  (∑ j : Fin 128, nrm x1 x2 x3 (row n j) g d * wm x4 g i j) + x5 (ix2 g i)
/-- The cotangent of the mixed rows. -/
def dmix (n : Fin 32) (i : Fin 128) (g : Fin 4) (d : Fin 256) : EReal := rgel (x0 (ix2 (row n i) (col g d))) * x6 (ix2 (row n i) (col g d))
/-- The cotangent of the normalised rows. -/
def dnrm (n : Fin 32) (j : Fin 128) (g : Fin 4) (d : Fin 256) : EReal := ∑ i : Fin 128, dmix x0 x6 n i g d * wm x4 g i j
def dact (n : Fin 32) (j : Fin 128) (g : Fin 4) (d : Fin 256) : EReal :=
  rlnb (act x1 (row n j) g) (fun d => dnrm x0 x4 x6 n j g d * x2 (ix2 g d)) d
def du (n : Fin 32) (i : Fin 128) (g : Fin 4) (d : Fin 256) : EReal :=
  rgrad (x6 (ix2 (row n i) (col g d)) * mix x1 x2 x3 x4 x5 n i g d) (x0 (ix2 (row n i) (col g d)))
def dv (n : Fin 32) (i : Fin 128) (g : Fin 4) (d : Fin 256) : EReal :=
  rgrad (dact x0 x1 x2 x4 x6 n i g d) (x1 (ix2 (row n i) (col g d)))

/-! ## The layers -/

theorem i45 (s : Fin 4096) (g : Fin 4) (d : Fin 256) : idx_main_v45 (ix3 s g d) = ix2 s (col g d) :=
  funext fun a => Fin.ext (by match a with | ⟨0, _⟩ => dsimp; omega | ⟨1, _⟩ => dsimp; omega)

theorem v45 (s : Fin 4096) (g : Fin 4) (d : Fin 256) : val_main_v45 (F := Ideal) x1 (ix3 s g d) = act x1 s g d := by
  rw [val_main_v45_apply, i45]
  pointwise [val_main_v44, val_main_v43, val_main_v42, val_main_v41, val_main_v40, val_main_v34, val_main_v33, val_main_v32,
    val_main_v31, val_main_v30, val_main_v29, val_main_v25, val_main_v24, val_main_v1, val_main_cst_12, val_main_cst_11,
    val_main_cst_7, val_main_cst_8]
  rfl

theorem v49 (s : Fin 4096) (g : Fin 4) : val_main_v49 (F := Ideal) x1 (ix3 s g 0) = mean (act x1 s g) := by
  pointwise [val_main_v49, val_main_v48, val_main_v47, val_main_v46, v45, val_main_cst_14, val_main_cst_13]
  rfl

theorem v51 (s : Fin 4096) (g : Fin 4) (d : Fin 256) : val_main_v51 (F := Ideal) x1 (ix3 s g d) = lnc (act x1 s g) d := by
  pointwise [val_main_v51, val_main_v50, v49, v45]
  rfl

theorem v60 (s : Fin 4096) (g : Fin 4) (d : Fin 256) : val_main_v60 (F := Ideal) x1 (ix3 s g d) = lnc (act x1 s g) d := by
  pointwise [val_main_v60, val_main_v59, v49, v45]
  rfl

theorem v62 (s : Fin 4096) (g : Fin 4) (z : Fin 1) : val_main_v62 (F := Ideal) x1 (ix3 s g z) = lnv (act x1 s g) := by
  obtain rfl : z = 0 := Subsingleton.elim _ _
  pointwise [val_main_v62, val_main_v61, val_main_v58, val_main_v57, val_main_v56, val_main_v55, val_main_v52, v51, val_main_cst_15,
    val_main_cst_16, val_main_cst_17, val_main_cst_18]
  rfl

theorem v63 (s : Fin 4096) (g : Fin 4) (z : Fin 1) : val_main_v63 (F := Ideal) x1 (ix3 s g z) = lns (act x1 s g) := by
  pointwise [val_main_v63, v62]
  rfl

theorem v68 (s : Fin 4096) (g : Fin 4) (d : Fin 256) : val_main_v68 (F := Ideal) x1 (ix3 s g d) = lnx (act x1 s g) d := by
  pointwise [val_main_v68, val_main_v67, v63, v60]
  rfl

theorem v74 (s : Fin 4096) (g : Fin 4) (d : Fin 256) : val_main_v74 (F := Ideal) x1 x2 x3 (ix3 s g d) = nrm x1 x2 x3 s g d := by
  pointwise [val_main_v74, val_main_v73, val_main_v72, val_main_v71, val_main_v70, val_main_v69, v68]
  rfl

theorem i75 (n : Fin 32) (i : Fin 128) (g : Fin 4) (d : Fin 256) : idx_main_v75 (ix4 n i g d) = ix3 (row n i) g d :=
  funext fun a => Fin.ext (by match a with | ⟨0, _⟩ => dsimp; omega | ⟨1, _⟩ => dsimp; omega | ⟨2, _⟩ => dsimp; omega)

theorem v75 (n : Fin 32) (i : Fin 128) (g : Fin 4) (d : Fin 256) :
    val_main_v75 (F := Ideal) x1 x2 x3 (ix4 n i g d) = nrm x1 x2 x3 (row n i) g d := by
  rw [val_main_v75_apply, i75, v74]

/-- The reference's mask on its integers: it divides both positions by the block's size. -/
theorem v83 (i j : Fin 128) : val_main_v83 (F := Ideal) (ix2 i j) = msk i j := by
  pointwise [val_main_v83, val_main_v82, val_main_v81, val_main_v80, val_main_v79, val_main_v78, val_main_v77, val_main_v76,
    val_main_call0_v0, val_main_call0_v1, val_main_call0_v2, val_main_call0_v3, val_main_call0_v4, val_main_call0_v5, val_main_call0_v6,
    val_main_call0_v7, val_main_call0_v8, val_main_call0_v9, val_main_call0_v10, val_main_call0_v11, val_main_call0_v12, val_main_call0_v13,
    val_main_call1_v0, val_main_call1_v1, val_main_call1_v2, val_main_call1_v3, val_main_call1_v4, val_main_call1_v5, val_main_call1_v6,
    val_main_call1_v7, val_main_call1_v8, val_main_call1_v9, val_main_call1_v10, val_main_call1_v11, val_main_call1_v12, val_main_call1_v13,
    val_main_c, val_main_c_20, val_main_call0_c, val_main_call0_c_0, val_main_call1_c, val_main_call1_c_0]
  revert i j
  decide +kernel

theorem v85 (g : Fin 4) (i j : Fin 128) : val_main_v85_0 (F := Ideal) x4 (ix3 g i j) = wm x4 g i j := by
  pointwise [val_main_v85_0, val_main_v85_1, val_main_v85_2, val_main_call2_v2, val_main_call2_v0, id_eq, val_main_cst_21, v83, val_main_v84, val_main_cst_21]
  rfl

theorem v87 (n : Fin 32) (i : Fin 128) (g : Fin 4) (d : Fin 256) :
    val_main_v92 (F := Ideal) x1 x2 x3 x4 x5 (ix4 n i g d) = mix x1 x2 x3 x4 x5 n i g d := by
  pointwise [val_main_v92, val_main_v91, val_main_v90, val_main_v89, val_main_v88, val_main_v87, val_main_v86, v75, v85]
  rfl

theorem i93 (n : Fin 32) (i : Fin 128) (g : Fin 4) (d : Fin 256) : idx_main_v93 (ix2 (row n i) (col g d)) = ix4 n i g d :=
  funext fun a => Fin.ext (by match a with | ⟨0, _⟩ => dsimp; omega | ⟨1, _⟩ => dsimp; omega | ⟨2, _⟩ => dsimp; omega | ⟨3, _⟩ => dsimp; omega)

theorem v93 (n : Fin 32) (i : Fin 128) (g : Fin 4) (d : Fin 256) :
    val_main_v93 (F := Ideal) x1 x2 x3 x4 x5 (ix2 (row n i) (col g d)) = mix x1 x2 x3 x4 x5 n i g d := by
  rw [val_main_v93_apply, i93, v87]

theorem i97 (n : Fin 32) (i : Fin 128) (g : Fin 4) (d : Fin 256) : idx_main_v97 (ix4 n i g d) = ix2 (row n i) (col g d) :=
  funext fun a => Fin.ext (by match a with | ⟨0, _⟩ => dsimp; omega | ⟨1, _⟩ => dsimp; omega)

theorem v97 (n : Fin 32) (i : Fin 128) (g : Fin 4) (d : Fin 256) :
    val_main_v97 (F := Ideal) x0 x6 (ix4 n i g d) = dmix x0 x6 n i g d := by
  rw [val_main_v97_apply, i97]
  pointwise [val_main_v95, val_main_v23, val_main_v22, val_main_v21, val_main_v20, val_main_v19, val_main_v13, val_main_v12, val_main_v11,
    val_main_v10, val_main_v9, val_main_v8, val_main_v4, val_main_v3, val_main_v2, val_main_v0, val_main_cst_0, val_main_cst_1, val_main_cst_4, val_main_cst_5]
  rfl

theorem v107 (n : Fin 32) (i : Fin 128) (g : Fin 4) (d : Fin 256) :
    val_main_v107 (F := Ideal) x0 x4 x6 (ix4 n i g d) = dnrm x0 x4 x6 n i g d := by
  pointwise [val_main_v107, val_main_v106, val_main_v104, v97, v85]
  rfl

theorem i109 (n : Fin 32) (i : Fin 128) (g : Fin 4) (d : Fin 256) : idx_main_v109 (ix3 (row n i) g d) = ix4 n i g d :=
  funext fun a => Fin.ext (by match a with | ⟨0, _⟩ => dsimp; omega | ⟨1, _⟩ => dsimp; omega | ⟨2, _⟩ => dsimp; omega | ⟨3, _⟩ => dsimp; omega)

theorem v109 (n : Fin 32) (i : Fin 128) (g : Fin 4) (d : Fin 256) :
    val_main_v109 (F := Ideal) x0 x4 x6 (ix3 (row n i) g d) = dnrm x0 x4 x6 n i g d := by
  rw [val_main_v109_apply, i109, v107]

theorem v117 (n : Fin 32) (i : Fin 128) (g : Fin 4) (d : Fin 256) :
    val_main_v117 (F := Ideal) x0 x2 x4 x6 (ix3 (row n i) g d) = dnrm x0 x4 x6 n i g d * x2 (ix2 g d) := by
  pointwise [val_main_v117, val_main_v116, val_main_v69, v109]

/-- The part of the row's cotangent that goes through the variance. -/
theorem v132 (n : Fin 32) (i : Fin 128) (g : Fin 4) (d : Fin 256) :
    val_main_v132 (F := Ideal) x0 x1 x2 x4 x6 (ix3 (row n i) g d)
      = lnw (act x1 (row n i) g) (fun d => dnrm x0 x4 x6 n i g d * x2 (ix2 g d)) d := by
  pointwise [val_main_v132, val_main_v131, val_main_v130, val_main_v129, val_main_v128, val_main_v124, val_main_v121, val_main_v120, val_main_v119,
    val_main_v66, val_main_v65, val_main_v64, val_main_v54, val_main_v53, v117, v60, v51, v62, v63,
    val_main_cst_15, val_main_cst_19, val_main_cst_29, val_main_cst_31, val_main_cst_32, val_main_cst_16]
  simp only [Finset.univ_unique, Finset.sum_singleton]
  rfl

theorem v142 (n : Fin 32) (i : Fin 128) (g : Fin 4) (d : Fin 256) :
    val_main_v142 (F := Ideal) x0 x1 x2 x4 x6 (ix3 (row n i) g d) = dact x0 x1 x2 x4 x6 n i g d := by
  pointwise [val_main_v142, val_main_v141, val_main_v140, val_main_v139, val_main_v138, val_main_v137, val_main_v136, val_main_v135, val_main_v134,
    val_main_v133, v132, val_main_v127, val_main_v126, val_main_v125, val_main_v123, val_main_v122, v117, v63,
    val_main_cst_30, val_main_cst_33, val_main_cst_34, val_main_cst_35]
  simp only [Finset.univ_unique, Finset.sum_singleton]
  rfl

theorem i143 (s : Fin 4096) (g : Fin 4) (d : Fin 256) : idx_main_v143 (ix2 s (col g d)) = ix3 s g d :=
  funext fun a => Fin.ext (by match a with | ⟨0, _⟩ => dsimp; omega | ⟨1, _⟩ => dsimp; omega | ⟨2, _⟩ => dsimp; omega)

theorem v143 (n : Fin 32) (i : Fin 128) (g : Fin 4) (d : Fin 256) :
    val_main_v143 (F := Ideal) x0 x1 x2 x4 x6 (ix2 (row n i) (col g d)) = dact x0 x1 x2 x4 x6 n i g d := by
  rw [val_main_v143_apply, i143, v142]

theorem v155 (n : Fin 32) (i : Fin 128) (g : Fin 4) (d : Fin 256) :
    val_main_v155 (F := Ideal) x0 x1 x2 x4 x6 (ix2 (row n i) (col g d)) = dv x0 x1 x2 x4 x6 n i g d := by
  pointwise [val_main_v155, val_main_v154, val_main_v153, val_main_v152, val_main_v151, val_main_v150, val_main_v149, val_main_v148, val_main_v147,
    val_main_v146, val_main_v145, val_main_v144, v143, val_main_v43, val_main_v42, val_main_v41, val_main_v40, val_main_v39, val_main_v38,
    val_main_v37, val_main_v36, val_main_v35, val_main_v34, val_main_v33, val_main_v32, val_main_v31, val_main_v30, val_main_v29, val_main_v28,
    val_main_v27, val_main_v26, val_main_v25, val_main_v24, val_main_v1, val_main_cst_6, val_main_cst_7, val_main_cst_8, val_main_cst_9,
    val_main_cst_10, val_main_cst_11, val_main_cst_12, val_main_cst_36, val_main_cst_37, val_main_cst_38]
  rfl

theorem v167 (n : Fin 32) (i : Fin 128) (g : Fin 4) (d : Fin 256) :
    val_main_v167 (F := Ideal) x0 x1 x2 x3 x4 x5 x6 (ix2 (row n i) (col g d)) = du x0 x1 x2 x3 x4 x5 x6 n i g d := by
  pointwise [val_main_v167, val_main_v166, val_main_v165, val_main_v164, val_main_v163, val_main_v162, val_main_v161, val_main_v160, val_main_v159,
    val_main_v158, val_main_v157, val_main_v156, val_main_v96, v93, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v4, val_main_v3, val_main_v2, val_main_v0, val_main_cst, val_main_cst_0, val_main_cst_1, val_main_cst_2,
    val_main_cst_3, val_main_cst_4, val_main_cst_5, val_main_cst_39, val_main_cst_40, val_main_cst_41]
  rfl

/-! ## The results -/

/-- A sum over all rows, chunk by chunk. -/
theorem sum_rows (f : Fin 4096 → EReal) : ∑ s, f s = ∑ n : Fin 32, ∑ i : Fin 128, f (row n i) := by
  rw [← Fintype.sum_prod_type']
  exact (Fintype.sum_equiv finProdFinEquiv (fun p : Fin 32 × Fin 128 => f (row p.1 p.2)) f
    fun p => congrArg f (Fin.ext (by simp [finProdFinEquiv]; omega))).symm

theorem r170 (g : Fin 4) (d : Fin 256) : val_main_v170 (F := Ideal) x0 x1 x4 x6 (ix3 g 0 d)
    = ∑ n : Fin 32, ∑ i : Fin 128, lnx (act x1 (row n i) g) d * dnrm x0 x4 x6 n i g d := by
  pointwise [val_main_v170, val_main_v118, val_main_v115, val_main_v114, val_main_v113, v68, val_main_cst_27, val_main_cst_28]
  rw [sum_rows]
  simp only [v109, Finset.univ_unique, Finset.sum_singleton]

theorem r171 (g : Fin 4) (d : Fin 256) : val_main_v171 (F := Ideal) x0 x4 x6 (ix3 g 0 d)
    = ∑ n : Fin 32, ∑ i : Fin 128, dnrm x0 x4 x6 n i g d := by
  pointwise [val_main_v171, val_main_v112, val_main_v111, val_main_v110, val_main_cst_25, val_main_cst_26]
  rw [sum_rows]
  simp only [v109, Finset.univ_unique, Finset.sum_singleton]

/-- The sum over a chunk's number and the lanes. -/
theorem sum_chunks (h : (⟨4, ![32, 128, 4, 256]⟩ : Shape).ReducesTo [0, 3] ⟨2, ![128, 4]⟩) (v : (⟨4, ![32, 128, 4, 256]⟩ : Shape).Idx → EReal)
    (z : EReal) (i : Fin 128) (g : Fin 4) : Ideal.hostReduceAdd h v z (ix2 i g) = z + ∑ n : Fin 32, ∑ d : Fin 256, v (ix4 n i g d) := by
  refine congrArg (z + ·) ((Finset.sum_filter_eq_sum_of_fiber _ (fun k : Fin 32 × Fin 256 => ix4 k.1 i g k.2)
    (fun _ _ e => Prod.ext (congrFun e 0) (congrFun e 3)) (fun q => ⟨fun e => ⟨(q 0, q 3), ?_⟩, ?_⟩) v).trans ?_)
  · funext a
    match a with
    | ⟨0, _⟩ => rfl
    | ⟨1, _⟩ => exact (congrFun e 0).symm
    | ⟨2, _⟩ => exact (congrFun e 1).symm
    | ⟨3, _⟩ => rfl
  · rintro ⟨k, rfl⟩
    funext b
    match b with
    | ⟨0, _⟩ => rfl
    | ⟨1, _⟩ => rfl
  · simp only [Fintype.sum_prod_type]

/-- The same over axes that have one element each. -/
theorem sum_ones (h : (⟨4, ![1, 128, 4, 1]⟩ : Shape).ReducesTo [0, 3] ⟨2, ![128, 4]⟩) (v : (⟨4, ![1, 128, 4, 1]⟩ : Shape).Idx → EReal)
    (z : EReal) (i : Fin 128) (g : Fin 4) : Ideal.hostReduceAdd h v z (ix2 i g) = z + v (ix4 0 i g 0) := by
  refine congrArg (z + ·) ((Finset.sum_filter_eq_sum_of_fiber _ (fun k : Fin 1 × Fin 1 => ix4 k.1 i g k.2)
    (fun _ _ e => Prod.ext (congrFun e 0) (congrFun e 3)) (fun q => ⟨fun e => ⟨(q 0, q 3), ?_⟩, ?_⟩) v).trans ?_)
  · funext a
    match a with
    | ⟨0, _⟩ => rfl
    | ⟨1, _⟩ => exact (congrFun e 0).symm
    | ⟨2, _⟩ => exact (congrFun e 1).symm
    | ⟨3, _⟩ => rfl
  · rintro ⟨k, rfl⟩
    funext b
    match b with
    | ⟨0, _⟩ => rfl
    | ⟨1, _⟩ => rfl
  · simp only [Fintype.sum_prod_type, Finset.univ_unique, Finset.sum_singleton]; rfl

theorem r172 (g : Fin 4) (i : Fin 128) : val_main_v172 (F := Ideal) x0 x6 (ix3 g i 0) = ∑ n : Fin 32, ∑ d : Fin 256, dmix x0 x6 n i g d := by
  pointwise [val_main_v172, val_main_v103, val_main_v102, val_main_v101, val_main_v100, val_main_cst_22, val_main_cst_23, val_main_cst_24]
  simp only [Finset.univ_unique, Finset.sum_singleton]
  rw [sum_ones, zero_add]
  pointwise [val_main_v99, val_main_v98, val_main_cst_22]
  rw [sum_chunks, zero_add]
  simp only [v97]

theorem r108 (g : Fin 4) (i j : Fin 128) : val_main_v108 (F := Ideal) x0 x1 x2 x3 x6 (ix3 g i j)
    = Scalar.select (msk i j) (∑ n : Fin 32, ∑ d : Fin 256, dmix x0 x6 n i g d * nrm x1 x2 x3 (row n j) g d) 0 := by
  pointwise [val_main_v108, val_main_v105, val_main_v104, v97, v75, val_main_v85_1, v83, val_main_v84, val_main_call3_v0, val_main_call3_cst]

end Cert.SguIdeal.Spec

end
-- ==== Proof.TileKit.lean ====
module

public import Idealize.ShloMosaic.Lib.Pipeline.ReadBack

/-! Stores that a later store hides, and loads read back from stores: shared by the tiles. -/

@[expose] public section

noncomputable section

namespace Cert.TileKit

open Idealize.ShloMosaic

/-! ## Stores that a later store hides -/

section Canon
variable {Val : EltTy → Type} [∀ e, Nonempty (Val e)] {s : Shape} {e : EltTy}

/-- Of two stores to the same place the newer one counts. -/
theorem canon_twice (r : Rect s) (w w' : r.shape.Idx → Val e) (L : List (View.Piece Val s e)) :
    View.canon ((⟨r, w⟩ : View.Piece Val s e) :: ⟨r, w'⟩ :: L) = View.canon (⟨r, w⟩ :: L) := by
  funext j
  by_cases hm : j ∈ r.set
  · obtain ⟨x, rfl⟩ := r.exists_idx_of_mem hm
    rw [show r.idx x = r.emb x from rfl, View.canon_cons_emb, View.canon_cons_emb]
  · rw [View.canon_cons_of_not_mem _ _ hm, View.canon_cons_of_not_mem _ _ hm, View.canon_cons_of_not_mem _ _ hm]

/-- Four places stored to twice each, over any earlier stores. -/
theorem canon_pairs (r0 r1 r2 r3 : Rect s) (w0 v0 : r0.shape.Idx → Val e) (w1 v1 : r1.shape.Idx → Val e) (w2 v2 : r2.shape.Idx → Val e)
    (w3 v3 : r3.shape.Idx → Val e) (L : List (View.Piece Val s e)) :
    View.canon ((⟨r0, w0⟩ : View.Piece Val s e) :: ⟨r0, v0⟩ :: ⟨r1, w1⟩ :: ⟨r1, v1⟩ :: ⟨r2, w2⟩ :: ⟨r2, v2⟩ :: ⟨r3, w3⟩ :: ⟨r3, v3⟩ :: L)
      = View.canon (⟨r0, w0⟩ :: ⟨r1, w1⟩ :: ⟨r2, w2⟩ :: ⟨r3, w3⟩ :: L) := by
  rw [canon_twice, View.canon_cons, canon_twice, View.canon_cons _ (⟨r1, _⟩ :: _), View.canon_cons, canon_twice, View.canon_cons _ (⟨r2, _⟩ :: _),
    View.canon_cons, canon_twice]
  rfl

/-- Stores under four newer ones that hold the index do not count. -/
theorem canon_over (p q r t : View.Piece Val s e) (Z : List (View.Piece Val s e)) (y : s.Idx) (hc : ∃ k ∈ [p, q, r, t], y ∈ k.1.set) :
    View.canon (p :: q :: r :: t :: Z) y = View.canon [p, q, r, t] y := by
  have aux : ∀ (k : View.Piece Val s e) (L L' : List (View.Piece Val s e)), (y ∉ k.1.set → View.canon L y = View.canon L' y) →
      View.canon (k :: L) y = View.canon (k :: L') y := by
    intro k L L' h
    by_cases hm : y ∈ k.1.set
    · obtain ⟨x, rfl⟩ := k.1.exists_idx_of_mem hm
      rw [show k.1.idx x = k.1.emb x from rfl, View.canon_cons_emb, View.canon_cons_emb]
    · rw [View.canon_cons_of_not_mem _ _ hm, View.canon_cons_of_not_mem _ _ hm, h hm]
  refine aux p _ _ fun h1 => aux q _ _ fun h2 => aux r _ _ fun h3 => aux t _ _ fun h4 => absurd hc ?_
  simp [h1, h2, h3, h4]

/-- So a fill under them does not. -/
theorem canon_fill (p q r t z : View.Piece Val s e) (y : s.Idx) (hc : ∃ k ∈ [p, q, r, t], y ∈ k.1.set) :
    View.canon [p, q, r, t, z] y = View.canon [p, q, r, t] y :=
  canon_over p q r t [z] y hc

/-- A load over a fill of the whole buffer reads the fill. -/
theorem readCov_fill3 {sig : RefSig} {κ : Kind} {sp : Space} {n : Fin 3 → ℕ} (v : View sig κ sp ⟨3, n⟩ e)
    (inb : ∀ a, (![0, 0, 0] : Fin 3 → ℕ) a + n a ≤ n a) (Z : (⟨3, n⟩ : Shape).Idx → Val e) (r : Rect ⟨3, n⟩) :
    v.readCov [⟨Rect.unit (s := ⟨3, n⟩) ![0, 0, 0] n inb, Z⟩] r.toLoadRect = View.ld Z r :=
  View.readCov_fill v inb Z [] r fun a => by
    match a with
    | ⟨0, _⟩ => rfl
    | ⟨1, _⟩ => rfl
    | ⟨2, _⟩ => rfl

end Canon

end Cert.TileKit

end
-- ==== Proof.SguTile.lean ====
module

public import proofs.«01_k».proof.Proof.SguRef
public import proofs.«01_k».proof.Proof.Gen.SguIdeal.Value
public import proofs.«01_k».proof.Proof.TileKit

/-! What one grid point of the gated unit's kernel leaves in each output, read at a tile: chunk `p` of the point and group `g`. -/

@[expose] public section

set_option maxRecDepth 16384

noncomputable section

namespace Cert.SguIdeal.Tile

open Cert.SguIdeal Cert.SguIdeal.Gen Idealize.ShloMosaic Idealize.ShloMosaic.TcCoe Idealize.SL.Sem
open Idealize.ShloMosaic.Pipeline (Dat)
open Cert.Scalar Cert.SguIdeal.Spec Cert.TileKit

/-! ## The tiles -/

section Spec
variable (x0 : Vec Ideal S256x2048 .bf16) (x1 x2 : Vec Ideal S4x1x256 .f32) (x3 : Vec Ideal S4x128x128 .f32) (x4 : Vec Ideal S4x128x1 .f32) (x5 : Vec Ideal S256x1024 .bf16)

def prow : Fin 2 → Fin 128 → Fin 256
  | 0, i => ⟨i.val, by omega⟩
  | 1, i => ⟨128 + i.val, by omega⟩
def gcol : Fin 4 → Fin 256 → Fin 1024
  | 0, d => ⟨d.val, by omega⟩
  | 1, d => ⟨256 + d.val, by omega⟩
  | 2, d => ⟨512 + d.val, by omega⟩
  | 3, d => ⟨768 + d.val, by omega⟩
def ucol : Fin 4 → Fin 256 → Fin 2048
  | 0, d => ⟨d.val, by omega⟩
  | 1, d => ⟨256 + d.val, by omega⟩
  | 2, d => ⟨512 + d.val, by omega⟩
  | 3, d => ⟨768 + d.val, by omega⟩
def vcol : Fin 4 → Fin 256 → Fin 2048
  | 0, d => ⟨1024 + d.val, by omega⟩
  | 1, d => ⟨1280 + d.val, by omega⟩
  | 2, d => ⟨1536 + d.val, by omega⟩
  | 3, d => ⟨1792 + d.val, by omega⟩

def tU (p : Fin 2) (g : Fin 4) (i : Fin 128) (d : Fin 256) : EReal := x0 (ix2 (prow p i) (ucol g d))
def tV (p : Fin 2) (g : Fin 4) (i : Fin 128) (d : Fin 256) : EReal := x0 (ix2 (prow p i) (vcol g d))
def tY (p : Fin 2) (g : Fin 4) (i : Fin 128) (d : Fin 256) : EReal := x5 (ix2 (prow p i) (gcol g d))

/-- The cotangent of the mixed rows. -/
def tdm (p : Fin 2) (g : Fin 4) (i : Fin 128) (d : Fin 256) : EReal := tY x5 p g i d * gel (tU x0 p g i d)
/-- The cotangent of the normalised rows. -/
def tdn (p : Fin 2) (g : Fin 4) (j : Fin 128) (d : Fin 256) : EReal := ∑ i : Fin 128, Scalar.select (msk i j) (x3 (ix3 g i j) * tdm x0 x5 p g i d) 0
/-- The normalised rows. -/
def txh (p : Fin 2) (g : Fin 4) (j : Fin 128) (d : Fin 256) : EReal := lnx (fun d => gel (tV x0 p g j d)) d

def s7 (p : Fin 2) (g : Fin 4) (d : Fin 256) : EReal := ∑ j : Fin 128, tdn x0 x3 x5 p g j d * txh x0 p g j d
def s8 (p : Fin 2) (g : Fin 4) (d : Fin 256) : EReal := ∑ j : Fin 128, tdn x0 x3 x5 p g j d
/-- The normalised rows scaled and shifted. -/
def tvn (p : Fin 2) (g : Fin 4) (j : Fin 128) (d : Fin 256) : EReal := txh x0 p g j d * x1 (ix3 g 0 d) + x2 (ix3 g 0 d)
def s9 (p : Fin 2) (g : Fin 4) (i j : Fin 128) : EReal := Scalar.select (msk i j) (∑ d : Fin 256, tdm x0 x5 p g i d * tvn x0 x1 x2 p g j d) 0
def s10 (p : Fin 2) (g : Fin 4) (i : Fin 128) : EReal := ∑ d : Fin 256, tdm x0 x5 p g i d
/-- The mixed rows. -/
def tmx (p : Fin 2) (g : Fin 4) (i : Fin 128) (d : Fin 256) : EReal :=
  (∑ j : Fin 128, Scalar.select (msk i j) (x3 (ix3 g i j) * tvn x0 x1 x2 p g j d) 0) + x4 (ix3 g i 0)
/-- The constant that the kernel folds, as the product it stands for. -/
def k3 : EReal := ((241015141496493 / 2251799813685248 : ℝ) : EReal)
def tdu (p : Fin 2) (g : Fin 4) (i : Fin 128) (d : Fin 256) : EReal :=
  tY x5 p g i d * tmx x0 x1 x2 x3 x4 p g i d * dgel k3 (tU x0 p g i d)
def tdv (p : Fin 2) (g : Fin 4) (i : Fin 128) (d : Fin 256) : EReal :=
  lnb (fun d => gel (tV x0 p g i d)) (fun d => tdn x0 x3 x5 p g i d * x1 (ix3 g 0 d)) d * dgel k3 (tV x0 p g i d)

theorem prow_val : ∀ (p : Fin 2) (i : Fin 128), (prow p i).val = 128 * p.val + i.val
  | 0, i => by simp [prow]
  | 1, i => by simp [prow]
theorem gcol_val : ∀ (g : Fin 4) (d : Fin 256), (gcol g d).val = 256 * g.val + d.val
  | 0, i => by simp [gcol]
  | 1, i => by simp [gcol]
  | 2, i => by simp [gcol]
  | 3, i => by simp [gcol]
theorem ucol_val : ∀ (g : Fin 4) (d : Fin 256), (ucol g d).val = 256 * g.val + d.val
  | 0, i => by simp [ucol]
  | 1, i => by simp [ucol]
  | 2, i => by simp [ucol]
  | 3, i => by simp [ucol]
theorem vcol_val : ∀ (g : Fin 4) (d : Fin 256), (vcol g d).val = 1024 + (256 * g.val + d.val)
  | 0, i => by simp [vcol]
  | 1, i => by simp [vcol]; omega
  | 2, i => by simp [vcol]; omega
  | 3, i => by simp [vcol]; omega
end Spec

variable (c : Dev nD) (i : grid0.Coords) (arg1 : Memref sig .tc .vmem S256x2048 .bf16) (harg1 : arg1.IsWhole) (arg2 : Memref sig .tc .vmem S4x1x256 .f32)
  (harg2 : arg2.IsWhole) (arg3 : Memref sig .tc .vmem S4x1x256 .f32) (harg3 : arg3.IsWhole) (arg4 : Memref sig .tc .vmem S4x128x128 .f32) (harg4 :
  arg4.IsWhole) (arg5 : Memref sig .tc .vmem S4x128x1 .f32) (harg5 : arg5.IsWhole) (arg6 : Memref sig .tc .vmem S256x1024 .bf16) (harg6 : arg6.IsWhole)
  (arg7 : Memref sig .tc .vmem S256x2048 .bf16) (harg7 : arg7.IsWhole) (arg8 : Memref sig .tc .vmem S4x1x256 .f32) (harg8 : arg8.IsWhole) (arg9 : Memref
  sig .tc .vmem S4x1x256 .f32) (harg9 : arg9.IsWhole) (arg10 : Memref sig .tc .vmem S4x128x128 .f32) (harg10 : arg10.IsWhole) (arg11 : Memref sig .tc
  .vmem S4x128x1 .f32) (harg11 : arg11.IsWhole)
  (x0 : Vec Ideal S256x2048 .bf16) (x1 x2 : Vec Ideal S4x1x256 .f32) (x3 : Vec Ideal S4x128x128 .f32) (x4 : Vec Ideal S4x128x1 .f32) (x5 : Vec Ideal S256x1024 .bf16)
  (xo7 xo8 : Vec Ideal S4x1x256 .f32) (xo9 : Vec Ideal S4x128x128 .f32) (xo10 : Vec Ideal S4x128x1 .f32)

theorem B7 (hc0 : ¬cond0_0 i) (g : Fin 4) (z : Fin 1) (d : Fin 256) : out0_B_7 c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 (ix3 g z d)
    = xo7 (ix3 g 0 d) + s7 x0 x3 x5 0 g d + s7 x0 x3 x5 1 g d := by
  frame_out
  simp only [↓View.readCov_cons_toLoadRect, ↓View.readCov_skip, ↓View.readCov_fill]
  rw [canon_pairs]
  generalize hy : (ix3 g z d : S4x1x256.Idx) = y
  canon_tiles x h
  all_goals
    subst hy
    open_payloads
    pointwise []
    first
      | (have e : g.val = 3 := (by dsimp at h0; omega); obtain rfl : g = 3 := Fin.ext e)
      | (have e : g.val = 2 := (by dsimp at h0; omega); obtain rfl : g = 2 := Fin.ext e)
      | (have e : g.val = 1 := (by dsimp at h0; omega); obtain rfl : g = 1 := Fin.ext e)
      | (have e : g.val = 0 := (by dsimp at h0; omega); obtain rfl : g = 0 := Fin.ext e)
    have e2 : d.val = (x 2).val := by dsimp at h2; omega
    obtain rfl : d = x 2 := Fin.ext e2
    rfl

theorem B8 (hc0 : ¬cond0_0 i) (g : Fin 4) (z : Fin 1) (d : Fin 256) : out0_B_8 c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 (ix3 g z d)
    = xo8 (ix3 g 0 d) + s8 x0 x3 x5 0 g d + s8 x0 x3 x5 1 g d := by
  frame_out
  simp only [↓View.readCov_cons_toLoadRect, ↓View.readCov_skip, ↓View.readCov_fill]
  rw [canon_pairs]
  generalize hy : (ix3 g z d : S4x1x256.Idx) = y
  canon_tiles x h
  all_goals
    subst hy
    open_payloads
    pointwise []
    first
      | (have e : g.val = 3 := (by dsimp at h0; omega); obtain rfl : g = 3 := Fin.ext e)
      | (have e : g.val = 2 := (by dsimp at h0; omega); obtain rfl : g = 2 := Fin.ext e)
      | (have e : g.val = 1 := (by dsimp at h0; omega); obtain rfl : g = 1 := Fin.ext e)
      | (have e : g.val = 0 := (by dsimp at h0; omega); obtain rfl : g = 0 := Fin.ext e)
    have e2 : d.val = (x 2).val := by dsimp at h2; omega
    obtain rfl : d = x 2 := Fin.ext e2
    rfl

theorem B9 (hc0 : ¬cond0_0 i) (g : Fin 4) (a b : Fin 128) : out0_B_9 c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 (ix3 g a b)
    = xo9 (ix3 g a b) + s9 x0 x1 x2 x5 0 g a b + s9 x0 x1 x2 x5 1 g a b := by
  frame_out
  simp only [↓View.readCov_cons_toLoadRect, ↓View.readCov_skip, ↓View.readCov_fill]
  rw [canon_pairs]
  generalize hy : (ix3 g a b : S4x128x128.Idx) = y
  canon_tiles x h
  all_goals
    subst hy
    open_payloads
    pointwise []
    first
      | (have e : g.val = 3 := (by dsimp at h0; omega); obtain rfl : g = 3 := Fin.ext e)
      | (have e : g.val = 2 := (by dsimp at h0; omega); obtain rfl : g = 2 := Fin.ext e)
      | (have e : g.val = 1 := (by dsimp at h0; omega); obtain rfl : g = 1 := Fin.ext e)
      | (have e : g.val = 0 := (by dsimp at h0; omega); obtain rfl : g = 0 := Fin.ext e)
    have e1 : a.val = (x 1).val := by dsimp at h1; omega
    obtain rfl : a = x 1 := Fin.ext e1
    have e2 : b.val = (x 2).val := by dsimp at h2; omega
    obtain rfl : b = x 2 := Fin.ext e2
    rfl

theorem B10 (hc0 : ¬cond0_0 i) (g : Fin 4) (a : Fin 128) (z : Fin 1) : out0_B_10 c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 (ix3 g a z)
    = xo10 (ix3 g a 0) + s10 x0 x5 0 g a + s10 x0 x5 1 g a := by
  frame_out
  simp only [↓View.readCov_cons_toLoadRect, ↓View.readCov_skip, ↓View.readCov_fill]
  rw [canon_pairs]
  generalize hy : (ix3 g a z : S4x128x1.Idx) = y
  canon_tiles x h
  all_goals
    subst hy
    open_payloads
    pointwise []
    first
      | (have e : g.val = 3 := (by dsimp at h0; omega); obtain rfl : g = 3 := Fin.ext e)
      | (have e : g.val = 2 := (by dsimp at h0; omega); obtain rfl : g = 2 := Fin.ext e)
      | (have e : g.val = 1 := (by dsimp at h0; omega); obtain rfl : g = 1 := Fin.ext e)
      | (have e : g.val = 0 := (by dsimp at h0; omega); obtain rfl : g = 0 := Fin.ext e)
    have e1 : a.val = (x 1).val := by dsimp at h1; omega
    obtain rfl : a = x 1 := Fin.ext e1
    rfl

theorem A7 (hc0 : cond0_0 i) (g : Fin 4) (z : Fin 1) (d : Fin 256) : out0_A_7 c i arg1 harg1 arg2 harg2 arg3 harg3 arg4 harg4 arg5 harg5 arg6 harg6 arg7 harg7 arg8 harg8 arg9 harg9 arg10 harg10 arg11 harg11 hc0 x0 x1 x2 x3 x4 x5 (ix3 g z d)
    = 0 + s7 x0 x3 x5 0 g d + s7 x0 x3 x5 1 g d := by
  frame_out
  simp (disch := decide) only [↓View.readCov_cons_toLoadRect, ↓View.readCov_skip, ↓readCov_fill3]
  rw [canon_pairs]
  refine (canon_fill _ _ _ _ _ _ ?_).trans ?_
  · refine (View.cover_of_tiledL (s := S4x1x256) _ ![1, 1, 256] ?_ _); sl_kernel_rfl
  generalize hy : (ix3 g z d : S4x1x256.Idx) = y
  canon_tiles x h
  all_goals
    subst hy
    open_payloads
    pointwise []
    first
      | (have e : g.val = 3 := (by dsimp at h0; omega); obtain rfl : g = 3 := Fin.ext e)
      | (have e : g.val = 2 := (by dsimp at h0; omega); obtain rfl : g = 2 := Fin.ext e)
      | (have e : g.val = 1 := (by dsimp at h0; omega); obtain rfl : g = 1 := Fin.ext e)
      | (have e : g.val = 0 := (by dsimp at h0; omega); obtain rfl : g = 0 := Fin.ext e)
    have e2 : d.val = (x 2).val := by dsimp at h2; omega
    obtain rfl : d = x 2 := Fin.ext e2
    rfl

theorem A8 (hc0 : cond0_0 i) (g : Fin 4) (z : Fin 1) (d : Fin 256) : out0_A_8 c i arg1 harg1 arg2 harg2 arg3 harg3 arg4 harg4 arg5 harg5 arg6 harg6 arg7 harg7 arg8 harg8 arg9 harg9 arg10 harg10 arg11 harg11 hc0 x0 x1 x2 x3 x4 x5 (ix3 g z d)
    = 0 + s8 x0 x3 x5 0 g d + s8 x0 x3 x5 1 g d := by
  frame_out
  simp (disch := decide) only [↓View.readCov_cons_toLoadRect, ↓View.readCov_skip, ↓readCov_fill3]
  rw [canon_pairs]
  refine (canon_fill _ _ _ _ _ _ ?_).trans ?_
  · refine (View.cover_of_tiledL (s := S4x1x256) _ ![1, 1, 256] ?_ _); sl_kernel_rfl
  generalize hy : (ix3 g z d : S4x1x256.Idx) = y
  canon_tiles x h
  all_goals
    subst hy
    open_payloads
    pointwise []
    first
      | (have e : g.val = 3 := (by dsimp at h0; omega); obtain rfl : g = 3 := Fin.ext e)
      | (have e : g.val = 2 := (by dsimp at h0; omega); obtain rfl : g = 2 := Fin.ext e)
      | (have e : g.val = 1 := (by dsimp at h0; omega); obtain rfl : g = 1 := Fin.ext e)
      | (have e : g.val = 0 := (by dsimp at h0; omega); obtain rfl : g = 0 := Fin.ext e)
    have e2 : d.val = (x 2).val := by dsimp at h2; omega
    obtain rfl : d = x 2 := Fin.ext e2
    rfl

theorem A9 (hc0 : cond0_0 i) (g : Fin 4) (a b : Fin 128) : out0_A_9 c i arg1 harg1 arg2 harg2 arg3 harg3 arg4 harg4 arg5 harg5 arg6 harg6 arg7 harg7 arg8 harg8 arg9 harg9 arg10 harg10 arg11 harg11 hc0 x0 x1 x2 x3 x4 x5 (ix3 g a b)
    = 0 + s9 x0 x1 x2 x5 0 g a b + s9 x0 x1 x2 x5 1 g a b := by
  frame_out
  simp (disch := decide) only [↓View.readCov_cons_toLoadRect, ↓View.readCov_skip, ↓readCov_fill3]
  rw [canon_pairs]
  refine (canon_fill _ _ _ _ _ _ ?_).trans ?_
  · refine (View.cover_of_tiledL (s := S4x128x128) _ ![1, 128, 128] ?_ _); sl_kernel_rfl
  generalize hy : (ix3 g a b : S4x128x128.Idx) = y
  canon_tiles x h
  all_goals
    subst hy
    open_payloads
    pointwise []
    first
      | (have e : g.val = 3 := (by dsimp at h0; omega); obtain rfl : g = 3 := Fin.ext e)
      | (have e : g.val = 2 := (by dsimp at h0; omega); obtain rfl : g = 2 := Fin.ext e)
      | (have e : g.val = 1 := (by dsimp at h0; omega); obtain rfl : g = 1 := Fin.ext e)
      | (have e : g.val = 0 := (by dsimp at h0; omega); obtain rfl : g = 0 := Fin.ext e)
    have e1 : a.val = (x 1).val := by dsimp at h1; omega
    obtain rfl : a = x 1 := Fin.ext e1
    have e2 : b.val = (x 2).val := by dsimp at h2; omega
    obtain rfl : b = x 2 := Fin.ext e2
    rfl

theorem A10 (hc0 : cond0_0 i) (g : Fin 4) (a : Fin 128) (z : Fin 1) : out0_A_10 c i arg1 harg1 arg2 harg2 arg3 harg3 arg4 harg4 arg5 harg5 arg6 harg6 arg7 harg7 arg8 harg8 arg9 harg9 arg10 harg10 arg11 harg11 hc0 x0 x1 x2 x3 x4 x5 (ix3 g a z)
    = 0 + s10 x0 x5 0 g a + s10 x0 x5 1 g a := by
  frame_out
  simp (disch := decide) only [↓View.readCov_cons_toLoadRect, ↓View.readCov_skip, ↓readCov_fill3]
  rw [canon_pairs]
  refine (canon_fill _ _ _ _ _ _ ?_).trans ?_
  · refine (View.cover_of_tiledL (s := S4x128x1) _ ![1, 128, 1] ?_ _); sl_kernel_rfl
  generalize hy : (ix3 g a z : S4x128x1.Idx) = y
  canon_tiles x h
  all_goals
    subst hy
    open_payloads
    pointwise []
    first
      | (have e : g.val = 3 := (by dsimp at h0; omega); obtain rfl : g = 3 := Fin.ext e)
      | (have e : g.val = 2 := (by dsimp at h0; omega); obtain rfl : g = 2 := Fin.ext e)
      | (have e : g.val = 1 := (by dsimp at h0; omega); obtain rfl : g = 1 := Fin.ext e)
      | (have e : g.val = 0 := (by dsimp at h0; omega); obtain rfl : g = 0 := Fin.ext e)
    have e1 : a.val = (x 1).val := by dsimp at h1; omega
    obtain rfl : a = x 1 := Fin.ext e1
    rfl

theorem B6u (hc0 : ¬cond0_0 i) (p : Fin 2) (g : Fin 4) (a : Fin 128) (d : Fin 256) : out0_B_6 c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 (ix2 (prow p a) (ucol g d))
    = tdu x0 x1 x2 x3 x4 x5 p g a d := by
  have hp := prow_val p a
  have hg := ucol_val g d
  frame_out
  generalize hy : (ix2 (prow p a) (ucol g d) : S256x2048.Idx) = y
  canon_tiles x h
  all_goals
    subst hy
    dsimp at h0 h1
    try (exfalso; omega)
  all_goals
    open_payloads
    pointwise []
    first
      | (have e : p.val = 0 := (by omega); obtain rfl : p = 0 := Fin.ext e)
      | (have e : p.val = 1 := (by omega); obtain rfl : p = 1 := Fin.ext e)
    first
      | (have e : g.val = 3 := (by omega); obtain rfl : g = 3 := Fin.ext e)
      | (have e : g.val = 2 := (by omega); obtain rfl : g = 2 := Fin.ext e)
      | (have e : g.val = 1 := (by omega); obtain rfl : g = 1 := Fin.ext e)
      | (have e : g.val = 0 := (by omega); obtain rfl : g = 0 := Fin.ext e)
    have e0 : a.val = (x 0).val := by dsimp at hp; omega
    obtain rfl : a = x 0 := Fin.ext e0
    have e1 : d.val = (x 1).val := by dsimp at hg; omega
    obtain rfl : d = x 1 := Fin.ext e1
    rfl

theorem B6v (hc0 : ¬cond0_0 i) (p : Fin 2) (g : Fin 4) (a : Fin 128) (d : Fin 256) : out0_B_6 c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 (ix2 (prow p a) (vcol g d))
    = tdv x0 x1 x3 x5 p g a d := by
  have hp := prow_val p a
  have hg := vcol_val g d
  frame_out
  generalize hy : (ix2 (prow p a) (vcol g d) : S256x2048.Idx) = y
  canon_tiles x h
  all_goals
    subst hy
    dsimp at h0 h1
    try (exfalso; omega)
  all_goals
    open_payloads
    pointwise []
    first
      | (have e : p.val = 0 := (by omega); obtain rfl : p = 0 := Fin.ext e)
      | (have e : p.val = 1 := (by omega); obtain rfl : p = 1 := Fin.ext e)
    first
      | (have e : g.val = 3 := (by omega); obtain rfl : g = 3 := Fin.ext e)
      | (have e : g.val = 2 := (by omega); obtain rfl : g = 2 := Fin.ext e)
      | (have e : g.val = 1 := (by omega); obtain rfl : g = 1 := Fin.ext e)
      | (have e : g.val = 0 := (by omega); obtain rfl : g = 0 := Fin.ext e)
    have e0 : a.val = (x 0).val := by dsimp at hp; omega
    obtain rfl : a = x 0 := Fin.ext e0
    have e1 : d.val = (x 1).val := by dsimp at hg; omega
    obtain rfl : d = x 1 := Fin.ext e1
    rfl

theorem A6u (hc0 : cond0_0 i) (p : Fin 2) (g : Fin 4) (a : Fin 128) (d : Fin 256) : out0_A_6 c i arg1 harg1 arg2 harg2 arg3 harg3 arg4 harg4 arg5 harg5 arg6 harg6 arg7 harg7 arg8 harg8 arg9 harg9 arg10 harg10 arg11 harg11 hc0 x0 x1 x2 x3 x4 x5 (ix2 (prow p a) (ucol g d))
    = tdu x0 x1 x2 x3 x4 x5 p g a d := by
  have hp := prow_val p a
  have hg := ucol_val g d
  frame_out
  generalize hy : (ix2 (prow p a) (ucol g d) : S256x2048.Idx) = y
  canon_tiles x h
  all_goals
    subst hy
    dsimp at h0 h1
    try (exfalso; omega)
  all_goals
    open_payloads
    pointwise []
    first
      | (have e : p.val = 0 := (by omega); obtain rfl : p = 0 := Fin.ext e)
      | (have e : p.val = 1 := (by omega); obtain rfl : p = 1 := Fin.ext e)
    first
      | (have e : g.val = 3 := (by omega); obtain rfl : g = 3 := Fin.ext e)
      | (have e : g.val = 2 := (by omega); obtain rfl : g = 2 := Fin.ext e)
      | (have e : g.val = 1 := (by omega); obtain rfl : g = 1 := Fin.ext e)
      | (have e : g.val = 0 := (by omega); obtain rfl : g = 0 := Fin.ext e)
    have e0 : a.val = (x 0).val := by dsimp at hp; omega
    obtain rfl : a = x 0 := Fin.ext e0
    have e1 : d.val = (x 1).val := by dsimp at hg; omega
    obtain rfl : d = x 1 := Fin.ext e1
    rfl

theorem A6v (hc0 : cond0_0 i) (p : Fin 2) (g : Fin 4) (a : Fin 128) (d : Fin 256) : out0_A_6 c i arg1 harg1 arg2 harg2 arg3 harg3 arg4 harg4 arg5 harg5 arg6 harg6 arg7 harg7 arg8 harg8 arg9 harg9 arg10 harg10 arg11 harg11 hc0 x0 x1 x2 x3 x4 x5 (ix2 (prow p a) (vcol g d))
    = tdv x0 x1 x3 x5 p g a d := by
  have hp := prow_val p a
  have hg := vcol_val g d
  frame_out
  generalize hy : (ix2 (prow p a) (vcol g d) : S256x2048.Idx) = y
  canon_tiles x h
  all_goals
    subst hy
    dsimp at h0 h1
    try (exfalso; omega)
  all_goals
    open_payloads
    pointwise []
    first
      | (have e : p.val = 0 := (by omega); obtain rfl : p = 0 := Fin.ext e)
      | (have e : p.val = 1 := (by omega); obtain rfl : p = 1 := Fin.ext e)
    first
      | (have e : g.val = 3 := (by omega); obtain rfl : g = 3 := Fin.ext e)
      | (have e : g.val = 2 := (by omega); obtain rfl : g = 2 := Fin.ext e)
      | (have e : g.val = 1 := (by omega); obtain rfl : g = 1 := Fin.ext e)
      | (have e : g.val = 0 := (by omega); obtain rfl : g = 0 := Fin.ext e)
    have e0 : a.val = (x 0).val := by dsimp at hp; omega
    obtain rfl : a = x 0 := Fin.ext e0
    have e1 : d.val = (x 1).val := by dsimp at hg; omega
    obtain rfl : d = x 1 := Fin.ext e1
    rfl

end Cert.SguIdeal.Tile

end
-- ==== Proof.SguLink.lean ====
module

public import proofs.«01_k».proof.Proof.SguTile

/-! What a grid point of the gated unit's kernel computes, against the derivative: the tiles' terms are the specification's when the
inputs have real entries. -/

@[expose] public section

noncomputable section

namespace Cert.SguIdeal.Tile

open Cert.SguIdeal Idealize.ShloMosaic
open Cert.Scalar Cert.SguIdeal.Spec

theorem gel_eq {x : EReal} (h : IsReal x) : gel x = rgel x := by
  obtain ⟨r, rfl⟩ := h
  rw [gel_coe, rgel_coe]

theorem rgel_isReal {x : EReal} (h : IsReal x) : IsReal (rgel x) := by
  obtain ⟨r, rfl⟩ := h
  exact ⟨_, rgel_coe r⟩

theorem k3_eq : k3 = ((3 * cA * cC : ℝ) : EReal) := by
  rw [k3]; congr 1; norm_num

/-- The kernel's derivative of the activation times a real cotangent is the derivative's. -/
theorem grad_eq {c x : EReal} (hc : IsReal c) (hx : IsReal x) : c * dgel k3 x = rgrad c x := by
  obtain ⟨c, rfl⟩ := hc
  obtain ⟨x, rfl⟩ := hx
  rw [dgel_coe x k3 k3_eq, rgrad_coe]; norm_cast

theorem coe_of_isReal {n : ℕ} {r : Fin n → EReal} (h : ∀ x, IsReal (r x)) : ∃ f : Fin n → ℝ, r = fun x => (f x : EReal) :=
  ⟨fun x => (h x).choose, funext fun x => (h x).choose_spec⟩

theorem lnx_isReal {r : Fin 256 → EReal} (h : ∀ x, IsReal (r x)) (d : Fin 256) : IsReal (lnx r d) := by
  obtain ⟨f, rfl⟩ := coe_of_isReal h
  rw [lnx, lnc_coe, lns_coe]
  exact .mul (.coe _) (.coe _)

theorem rlnb_eq {r q : Fin 256 → EReal} (h : ∀ x, IsReal (r x)) (k : ∀ x, IsReal (q x)) (d : Fin 256) : lnb r q d = rlnb r q d := by
  obtain ⟨f, rfl⟩ := coe_of_isReal h
  obtain ⟨f', rfl⟩ := coe_of_isReal k
  exact lnb_eq f f' d

theorem lnb_isReal {r q : Fin 256 → EReal} (h : ∀ x, IsReal (r x)) (k : ∀ x, IsReal (q x)) (d : Fin 256) : IsReal (lnb r q d) := by
  obtain ⟨f, rfl⟩ := coe_of_isReal h
  obtain ⟨f', rfl⟩ := coe_of_isReal k
  exact ⟨_, lnb_coe f f' d⟩

theorem select_mul (c : BitVec 1) (a b : EReal) : Scalar.select c (a * b) 0 = b * Scalar.select c a 0 := by
  unfold Scalar.select
  split
  · exact mul_comm _ _
  · rw [mul_zero]

theorem select_isReal {c : BitVec 1} {a : EReal} (h : IsReal a) : IsReal (Scalar.select c a 0) := by
  unfold Scalar.select
  split
  · exact h
  · exact .zero

variable (x0 : Vec Ideal S256x2048 .bf16) (x1 x2 : Vec Ideal S4x1x256 .f32) (x3 : Vec Ideal S4x128x128 .f32) (x4 : Vec Ideal S4x128x1 .f32)
  (x5 : Vec Ideal S256x1024 .bf16)
  (Y0 Y1 : Mat) (Y2 Y3 : Spec.Vec) (Y4 : Wgt) (Y5 : Bia) (Y6 : Mat)

/-- All inputs have real entries. -/
structure Reals : Prop where
  r0 : ∀ i, IsReal (Y0 i)
  r1 : ∀ i, IsReal (Y1 i)
  r2 : ∀ i, IsReal (Y2 i)
  r3 : ∀ i, IsReal (Y3 i)
  r4 : ∀ i, IsReal (Y4 i)
  r5 : ∀ i, IsReal (Y5 i)
  r6 : ∀ i, IsReal (Y6 i)

/-- The blocks of a point hold the inputs at chunk `n` when read at its half `p`. -/
structure Reads (n : Fin 32) (p : Fin 2) : Prop where
  hU : ∀ g i d, tU x0 p g i d = Y0 (ix2 (row n i) (col g d))
  hV : ∀ g i d, tV x0 p g i d = Y1 (ix2 (row n i) (col g d))
  hY : ∀ g i d, tY x5 p g i d = Y6 (ix2 (row n i) (col g d))
  h1 : ∀ g d, x1 (ix3 g 0 d) = Y2 (ix2 g d)
  h2 : ∀ g d, x2 (ix3 g 0 d) = Y3 (ix2 g d)
  h3 : ∀ g i j, x3 (ix3 g i j) = Y4 (ix3 g i j)
  h4 : ∀ g i, x4 (ix3 g i 0) = Y5 (ix2 g i)

variable {x0 x1 x2 x3 x4 x5 Y0 Y1 Y2 Y3 Y4 Y5 Y6} {n : Fin 32} {p : Fin 2}
variable (R : Reals Y0 Y1 Y2 Y3 Y4 Y5 Y6) (H : Reads x0 x1 x2 x3 x4 x5 Y0 Y1 Y2 Y3 Y4 Y5 Y6 n p)

include R

theorem act_isReal (s : Fin 4096) (g : Fin 4) (d : Fin 256) : IsReal (act Y1 s g d) := rgel_isReal (R.r1 _)
theorem nrm_isReal (s : Fin 4096) (g : Fin 4) (d : Fin 256) : IsReal (nrm Y1 Y2 Y3 s g d) :=
  .add (.mul (lnx_isReal (act_isReal R s g) d) (R.r2 _)) (R.r3 _)
theorem wm_isReal (g : Fin 4) (i j : Fin 128) : IsReal (wm Y4 g i j) := select_isReal (R.r4 _)
theorem mix_isReal (i : Fin 128) (g : Fin 4) (d : Fin 256) : IsReal (mix Y1 Y2 Y3 Y4 Y5 n i g d) :=
  .add (.sum _ fun j => .mul (nrm_isReal R _ _ _) (wm_isReal R _ _ _)) (R.r5 _)
theorem dmix_isReal (i : Fin 128) (g : Fin 4) (d : Fin 256) : IsReal (dmix Y0 Y6 n i g d) := .mul (rgel_isReal (R.r0 _)) (R.r6 _)
theorem dnrm_isReal (i : Fin 128) (g : Fin 4) (d : Fin 256) : IsReal (dnrm Y0 Y4 Y6 n i g d) :=
  .sum _ fun j => .mul (dmix_isReal R _ _ _) (wm_isReal R _ _ _)

include H

theorem tdm_eq (g : Fin 4) (i : Fin 128) (d : Fin 256) : tdm x0 x5 p g i d = dmix Y0 Y6 n i g d := by
  rw [tdm, H.hU, H.hY, gel_eq (R.r0 _), dmix, mul_comm]

theorem tdn_eq (g : Fin 4) (j : Fin 128) (d : Fin 256) : tdn x0 x3 x5 p g j d = dnrm Y0 Y4 Y6 n j g d := by
  rw [tdn, dnrm]
  exact Finset.sum_congr rfl fun i _ => by rw [tdm_eq R H, H.h3, select_mul, wm]

theorem row_eq (g : Fin 4) (j : Fin 128) : (fun d => gel (tV x0 p g j d)) = act Y1 (row n j) g :=
  funext fun d => by rw [H.hV, gel_eq (R.r1 _), act]

theorem txh_eq (g : Fin 4) (j : Fin 128) (d : Fin 256) : txh x0 p g j d = lnx (act Y1 (row n j) g) d := by
  rw [txh, row_eq R H]

theorem tvn_eq (g : Fin 4) (j : Fin 128) (d : Fin 256) : tvn x0 x1 x2 p g j d = nrm Y1 Y2 Y3 (row n j) g d := by
  rw [tvn, txh_eq R H, H.h1, H.h2, nrm]

theorem tmx_eq (g : Fin 4) (i : Fin 128) (d : Fin 256) : tmx x0 x1 x2 x3 x4 p g i d = mix Y1 Y2 Y3 Y4 Y5 n i g d := by
  rw [tmx, mix, H.h4]
  refine congrArg (· + _) (Finset.sum_congr rfl fun j _ => ?_)
  rw [tvn_eq R H, H.h3, select_mul, wm]

theorem tdu_eq (g : Fin 4) (i : Fin 128) (d : Fin 256) : tdu x0 x1 x2 x3 x4 x5 p g i d = du Y0 Y1 Y2 Y3 Y4 Y5 Y6 n i g d := by
  rw [tdu, tmx_eq R H, H.hY, H.hU, du, grad_eq (.mul (R.r6 _) (mix_isReal R _ _ _)) (R.r0 _)]

theorem tdv_eq (g : Fin 4) (i : Fin 128) (d : Fin 256) : tdv x0 x1 x3 x5 p g i d = dv Y0 Y1 Y2 Y4 Y6 n i g d := by
  have hq : (fun d => tdn x0 x3 x5 p g i d * x1 (ix3 g 0 d)) = fun d => dnrm Y0 Y4 Y6 n i g d * Y2 (ix2 g d) :=
    funext fun d => by rw [tdn_eq R H, H.h1]
  have hk : ∀ d, IsReal (dnrm Y0 Y4 Y6 n i g d * Y2 (ix2 g d)) := fun d => .mul (dnrm_isReal R _ _ _) (R.r2 _)
  rw [tdv, row_eq R H, hq, H.hV, dv, dact, grad_eq (lnb_isReal (act_isReal R _ _) hk d) (R.r1 _), rlnb_eq (act_isReal R _ _) hk]

theorem s7_eq (g : Fin 4) (d : Fin 256) : s7 x0 x3 x5 p g d = ∑ i : Fin 128, lnx (act Y1 (row n i) g) d * dnrm Y0 Y4 Y6 n i g d := by
  rw [s7]
  exact Finset.sum_congr rfl fun j _ => by rw [tdn_eq R H, txh_eq R H, mul_comm]

theorem s8_eq (g : Fin 4) (d : Fin 256) : s8 x0 x3 x5 p g d = ∑ i : Fin 128, dnrm Y0 Y4 Y6 n i g d := by
  rw [s8]
  exact Finset.sum_congr rfl fun j _ => tdn_eq R H g j d

theorem s9_eq (g : Fin 4) (i j : Fin 128) : s9 x0 x1 x2 x5 p g i j
    = Scalar.select (msk i j) (∑ d : Fin 256, dmix Y0 Y6 n i g d * nrm Y1 Y2 Y3 (row n j) g d) 0 := by
  rw [s9]
  exact congrArg (Scalar.select _ · 0) (Finset.sum_congr rfl fun d _ => by rw [tdm_eq R H, tvn_eq R H])

theorem s10_eq (g : Fin 4) (i : Fin 128) : s10 x0 x5 p g i = ∑ d : Fin 256, dmix Y0 Y6 n i g d := by
  rw [s10]
  exact Finset.sum_congr rfl fun d _ => tdm_eq R H g i d

end Cert.SguIdeal.Tile

namespace Cert.SguIdeal.Spec

open Idealize.ShloMosaic

/-- The chunk of half `p` of point `t`. -/
abbrev chunk (t : Fin 16) (p : Fin 2) : Fin 32 := ⟨2 * t.val + p.val, by omega⟩

/-- A sum over the points of what their two halves add is the sum over the chunks. -/
theorem sum_halves (f : Fin 32 → EReal) : ∑ t : Fin 16, (f (chunk t 0) + f (chunk t 1)) = ∑ n, f n := by
  rw [← Fintype.sum_equiv (finProdFinEquiv (m := 16) (n := 2)) (fun q => f (chunk q.1 q.2)) f
    fun q => congrArg f (Fin.ext (by simp [finProdFinEquiv]; omega)), Fintype.sum_prod_type]
  exact Finset.sum_congr rfl fun t _ => (Fin.sum_univ_two fun p => f (chunk t p)).symm

theorem select_sum (c : BitVec 1) (f : Fin 32 → EReal) : ∑ n, Scalar.select c (f n) 0 = Scalar.select c (∑ n, f n) 0 := by
  unfold Scalar.select
  split
  · rfl
  · exact Finset.sum_const_zero

end Cert.SguIdeal.Spec

end
-- ==== Proof.SguValue.lean ====
module

public import proofs.«01_k».proof.Proof.SguLink
public import Idealize.ShloMosaic.Lib.Pipeline.ValueKit

/-! The arrays the gated unit's kernel leaves are the reference's: the activations' cotangents block by block, the four sums over the grid. -/

@[expose] public section

set_option maxRecDepth 16384

noncomputable section

namespace Cert.SguIdeal.RefValue

open Cert.SguIdeal Cert.SguIdeal.Gen Idealize.ShloMosaic Idealize.ShloMosaic.TcCoe Idealize.SL.Sem
open Idealize.ShloMosaic.Pipeline (Dat)
open Cert.SguRefIdeal.Read Cert.Scalar Cert.SguIdeal.Spec Cert.SguIdeal.Tile

variable (m : (ℓ : Loc nD τ sig) → Buf (Elt Ideal) ℓ)

theorem idx_val : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] ∧ win0_6.index t = ![t.val, 0] :=
  (by decide +kernel : ∀ t : Fin grid0.N, _)

theorem lt16 (t : Fin cfg0.N) : t.val < 16 := lt_of_lt_of_eq t.isLt N_0

/-- The two halves are staged side by side. -/
theorem V_uv (c : Dev nD) : V m c main_v0 = concatenate S4096x2048 1 [⟨S4096x1024, m ((c : Thread nD τ).loc main_arg0)⟩,
    ⟨S4096x1024, m ((c : Thread nD τ).loc main_arg1)⟩] Facts₀.concatenates_S4096x1024_S4096x1024_S4096x2048_d1 := by
  unfold V; after_results

theorem V_lg (c : Dev nD) : V m c main_v1 = shapeCast S4x1x256 (m ((c : Thread nD τ).loc main_arg2)) Facts₀.shapeCasts_S4x256_S4x1x256 := by
  unfold V; after_results; rfl
theorem V_lb (c : Dev nD) : V m c main_v2 = shapeCast S4x1x256 (m ((c : Thread nD τ).loc main_arg3)) Facts₀.shapeCasts_S4x256_S4x1x256 := by
  unfold V; after_results; rfl
theorem V_bs (c : Dev nD) : V m c main_v3 = shapeCast S4x128x1 (m ((c : Thread nD τ).loc main_arg5)) Facts₀.shapeCasts_S4x128_S4x128x1 := by
  unfold V; after_results; rfl

theorem u_iblk (c : Dev nD) (t : Fin cfg0.N) (a : Fin 256) (b : Fin 2048) (s : Fin 4096) (k : Fin 1024) (hs : s.val = 256 * t.val + a.val)
    (hk : k.val = b.val) : iblk m c 0 t (ix2 a b) = m ((c : Thread nD τ).loc main_arg0) (ix2 s k) := by
  have e0 : (((View.whole main_v0).slice ((win0 0).rect t)).emb (ix2 a b) 0 : ℕ) = s.val := by
    blk_simp [idx_val t]; omega
  have e1 : (((View.whole main_v0).slice ((win0 0).rect t)).emb (ix2 a b) 1 : ℕ) = k.val := by
    blk_simp [idx_val t]; omega
  refine (congrFun (V_uv m c) _).trans ?_
  pointwise
  rw [dif_pos (by omega)]
  simp only [e1, Fin.eta]
  exact congrArg (fun q => m ((c : Thread nD τ).loc main_arg0) (ix2 q k)) (Fin.ext e0)

theorem v_iblk (c : Dev nD) (t : Fin cfg0.N) (a : Fin 256) (b : Fin 2048) (s : Fin 4096) (k : Fin 1024) (hs : s.val = 256 * t.val + a.val)
    (hk : b.val = 1024 + k.val) : iblk m c 0 t (ix2 a b) = m ((c : Thread nD τ).loc main_arg1) (ix2 s k) := by
  have e0 : (((View.whole main_v0).slice ((win0 0).rect t)).emb (ix2 a b) 0 : ℕ) = s.val := by
    blk_simp [idx_val t]; omega
  have e1 : (((View.whole main_v0).slice ((win0 0).rect t)).emb (ix2 a b) 1 : ℕ) = 1024 + k.val := by
    blk_simp [idx_val t]; omega
  refine (congrFun (V_uv m c) _).trans ?_
  pointwise
  rw [dif_neg (by omega)]
  simp only [e1, Fin.eta, Nat.add_sub_cancel_left]
  exact congrArg (fun q => m ((c : Thread nD τ).loc main_arg1) (ix2 q k)) (Fin.ext e0)

theorem reads (c : Dev nD) (t : Fin cfg0.N) (p : Fin 2) : Reads (iblk m c 0 t) (iblk m c 1 t) (iblk m c 2 t) (iblk m c 3 t) (iblk m c 4 t)
    (iblk m c 5 t) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (chunk ⟨t.val, lt16 t⟩ p) p where
  hU g i d := u_iblk m c t _ _ _ _ (by rw [prow_val]; dsimp only; omega) (by rw [ucol_val]; dsimp only; omega)
  hV g i d := v_iblk m c t _ _ _ _ (by rw [prow_val]; dsimp only; omega) (by rw [vcol_val]; dsimp only; omega)
  hY g i d := by
    have h0 := prow_val p i
    have h1 := gcol_val g d
    rw [tY]
    blk_point [iblk, V, idx_val t]
  h1 g d := by
    refine (congrFun (V_lg m c) _).trans ?_
    pointwise
    blk_point [iblk, V, idx_val t]
  h2 g d := by
    refine (congrFun (V_lb m c) _).trans ?_
    pointwise
    blk_point [iblk, V, idx_val t]
  h3 g i j := by
    blk_point [iblk, V, idx_val t]
  h4 g i := by
    refine (congrFun (V_bs m c) _).trans ?_
    pointwise
    blk_point [iblk, V, idx_val t]

/-- A sum over the grid's points, point by point. -/
theorem sum_points (f : Fin cfg0.N → EReal) (g : Fin 16 → EReal) (h : ∀ t : Fin cfg0.N, f t = g ⟨t.val, lt16 t⟩) : ∑ t, f t = ∑ t, g t :=
  Fintype.sum_equiv (finCongr N_0) f g h

/-- All inputs of a device have real entries. -/
abbrev RealAt (c : Dev nD) : Prop := Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

variable (hR : ∀ c, RealAt m c)

theorem r169u (x0 x1 : Mat) (x2 x3 : Spec.Vec) (x4 : Wgt) (x5 : Bia) (x6 : Mat) (s : Fin 4096) (k : Fin 1024) (j : Fin 2048) (h : j.val = k.val) :
    val_main_v169 (F := Ideal) x0 x1 x2 x3 x4 x5 x6 (ix2 s j) = val_main_v167 (F := Ideal) x0 x1 x2 x3 x4 x5 x6 (ix2 s k) := by
  pointwise [val_main_v169, val_main_v168]
  rw [dif_pos (by omega)]
  simp only [h, Fin.eta]

theorem r169v (x0 x1 : Mat) (x2 x3 : Spec.Vec) (x4 : Wgt) (x5 : Bia) (x6 : Mat) (s : Fin 4096) (k : Fin 1024) (j : Fin 2048) (h : j.val = 1024 + k.val) :
    val_main_v169 (F := Ideal) x0 x1 x2 x3 x4 x5 x6 (ix2 s j) = val_main_v155 (F := Ideal) x0 x1 x2 x4 x6 (ix2 s k) := by
  pointwise [val_main_v169, val_main_v168]
  rw [dif_neg (by omega)]
  simp only [h, Nat.add_sub_cancel_left, Fin.eta]

theorem emb6 (t : Fin cfg0.N) (a : Fin 256) (b : Fin 2048) (s : Fin 4096) (hs : s.val = 256 * t.val + a.val) :
    ((cfg0.win 6).blk t).view.emb (ix2 a b) = (ix2 s b : S4096x2048.Idx) := by
  funext k
  refine Fin.ext ?_
  match k with
  | ⟨0, _⟩ => blk_simp [idx_val t]; omega
  | ⟨1, _⟩ => blk_simp [idx_val t]

/-- Any row of a block is a row of one of its halves. -/
theorem row_cases (a : Fin 256) : ∃ p i, a = prow p i :=
  if h : a.val < 128 then ⟨0, ⟨a.val, h⟩, Fin.ext (by rw [prow_val]; simp)⟩
  else ⟨1, ⟨a.val - 128, by omega⟩, Fin.ext (by rw [prow_val]; simp; omega)⟩

/-- Any column of the staged pair is a column of a group of one of the halves. -/
theorem col_cases (b : Fin 2048) : ∃ g d, b = ucol g d ∨ b = vcol g d :=
  if h : b.val < 1024 then ⟨⟨b.val / 256, by omega⟩, ⟨b.val % 256, by omega⟩, .inl (Fin.ext (by rw [ucol_val]; dsimp only; omega))⟩
  else ⟨⟨(b.val - 1024) / 256, by omega⟩, ⟨b.val % 256, by omega⟩, .inr (Fin.ext (by rw [vcol_val]; dsimp only; omega))⟩

include hR in
theorem out6u (c : Dev nD) (t : Fin cfg0.N) (p : Fin 2) (i : Fin 128) (g : Fin 4) (d : Fin 256) : (outsAt0 m c t.val t.isLt).1 (ix2 (prow p i) (ucol g d))
    = du (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (chunk ⟨t.val, lt16 t⟩ p) i g d := by
  by_cases h : t.val % 16 = 0
  · rw [outsAt0_A m c t h]; dsimp only
    exact (A6u ..).trans (tdu_eq (hR c) (reads m c t p) g i d)
  · rw [outsAt0_B m c t h]; dsimp only
    exact (B6u ..).trans (tdu_eq (hR c) (reads m c t p) g i d)

include hR in
theorem out6v (c : Dev nD) (t : Fin cfg0.N) (p : Fin 2) (i : Fin 128) (g : Fin 4) (d : Fin 256) : (outsAt0 m c t.val t.isLt).1 (ix2 (prow p i) (vcol g d))
    = dv (m ((c : Thread nD τ).loc main_arg0)) (m ((c : Thread nD τ).loc main_arg1)) (m ((c : Thread nD τ).loc main_arg2)) (m ((c : Thread nD τ).loc main_arg4)) (m ((c : Thread nD τ).loc main_arg6)) (chunk ⟨t.val, lt16 t⟩ p) i g d := by
  by_cases h : t.val % 16 = 0
  · rw [outsAt0_A m c t h]; dsimp only
    exact (A6v ..).trans (tdv_eq (hR c) (reads m c t p) g i d)
  · rw [outsAt0_B m c t h]; dsimp only
    exact (B6v ..).trans (tdv_eq (hR c) (reads m c t p) g i d)

include hR in
theorem final6 (c : Dev nD) : (dats m 0 c).arrAt 6 (cfgs 0).N = val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t _ y => ?_
  obtain ⟨a, b, rfl⟩ : ∃ (a : Fin 256) (b : Fin 2048), y = ix2 a b := ⟨y 0, y 1, eq_ix2 y⟩
  blk_simp
  rw [after0_6]
  obtain ⟨p, i, rfl⟩ := row_cases a
  have hp := prow_val p i
  have ht := lt16 t
  obtain ⟨g, d, rfl | rfl⟩ := col_cases b
  · rw [out6u m hR]
    refine Eq.trans ?_ (congrArg _ (emb6 t _ _ (row (chunk ⟨t.val, lt16 t⟩ p) i) (by dsimp only; omega))).symm
    rw [r169u _ _ _ _ _ _ _ _ (col g d) _ (by rw [ucol_val]; dsimp only; omega), v167]
  · rw [out6v m hR]
    refine Eq.trans ?_ (congrArg _ (emb6 t _ _ (row (chunk ⟨t.val, lt16 t⟩ p) i) (by dsimp only; omega))).symm
    rw [r169v _ _ _ _ _ _ _ _ (col g d) _ (by rw [vcol_val]; dsimp only; omega), v155]

/-- What a point adds into window 7. -/
def add7 (c : Dev nD) (t : Fin cfg0.N) (j : S4x1x256.Idx) : EReal :=
  s7 (iblk m c 0 t) (iblk m c 3 t) (iblk m c 5 t) 0 (j 0) (j 2) + s7 (iblk m c 0 t) (iblk m c 3 t) (iblk m c 5 t) 1 (j 0) (j 2)

theorem reset7 (c : Dev nD) (t : Fin cfg0.N) (h : t.val % 16 = 0) (j : S4x1x256.Idx) :
    (outsAt0 m c t.val t.isLt).2.1 j = (0 : EReal) + add7 m c t j := by
  obtain ⟨g, z, d, rfl⟩ : ∃ (g : Fin 4) (z : Fin 1) (d : Fin 256), j = ix3 g z d := ⟨j 0, j 1, j 2, eq_ix3 j⟩
  obtain rfl : z = 0 := Subsingleton.elim _ _
  rw [outsAt0_A m c t h]; dsimp only
  exact (A7 ..).trans (add_assoc _ _ _)

theorem step7 (c : Dev nD) (t : Fin cfg0.N) (h : ¬t.val % 16 = 0) (j : S4x1x256.Idx) :
    (outsAt0 m c t.val t.isLt).2.1 j
      = ((outsAt0 m c (t.val - 1) (Nat.lt_of_le_of_lt (Nat.sub_le _ _) t.isLt)).2.1 j + add7 m c t j : EReal) := by
  obtain ⟨g, z, d, rfl⟩ : ∃ (g : Fin 4) (z : Fin 1) (d : Fin 256), j = ix3 g z d := ⟨j 0, j 1, j 2, eq_ix3 j⟩
  obtain rfl : z = 0 := Subsingleton.elim _ _
  rw [outsAt0_B m c t h]; dsimp only
  exact (B7 ..).trans (add_assoc _ _ _)

include hR in
theorem final7 (c : Dev nD) : (dats m 0 c).arrAt 7 (cfgs 0).N = val_main_v170 (F := Ideal) (m ((c : Thread nD τ).loc main_arg0)) (m ((c : Thread nD τ).loc main_arg1)) (m ((c : Thread nD τ).loc main_arg4)) (m ((c : Thread nD τ).loc main_arg6)) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => (0 : EReal)) (add7 m c)
    (reset7 m c) (step7 m c) (le_of_eq N_0) t0_15 rfl j, zero_add]
  obtain ⟨g, z, d, rfl⟩ : ∃ (g : Fin 4) (z : Fin 1) (d : Fin 256), j = ix3 g z d := ⟨j 0, j 1, j 2, eq_ix3 j⟩
  obtain rfl : z = 0 := Subsingleton.elim _ _
  refine Eq.trans ?_ (r170 ..).symm
  refine Eq.trans ?_ (sum_halves fun n => ∑ i : Fin 128, lnx (act (m ((c : Thread nD τ).loc main_arg1)) (row n i) g) d * dnrm (m ((c : Thread nD τ).loc main_arg0)) (m ((c : Thread nD τ).loc main_arg4)) (m ((c : Thread nD τ).loc main_arg6)) n i g d)
  refine sum_points _ _ fun t => ?_
  exact congrArg₂ (· + ·) (s7_eq (hR c) (reads m c t 0) g d) (s7_eq (hR c) (reads m c t 1) g d)

/-- What a point adds into window 8. -/
def add8 (c : Dev nD) (t : Fin cfg0.N) (j : S4x1x256.Idx) : EReal :=
  s8 (iblk m c 0 t) (iblk m c 3 t) (iblk m c 5 t) 0 (j 0) (j 2) + s8 (iblk m c 0 t) (iblk m c 3 t) (iblk m c 5 t) 1 (j 0) (j 2)

theorem reset8 (c : Dev nD) (t : Fin cfg0.N) (h : t.val % 16 = 0) (j : S4x1x256.Idx) :
    (outsAt0 m c t.val t.isLt).2.2.1 j = (0 : EReal) + add8 m c t j := by
  obtain ⟨g, z, d, rfl⟩ : ∃ (g : Fin 4) (z : Fin 1) (d : Fin 256), j = ix3 g z d := ⟨j 0, j 1, j 2, eq_ix3 j⟩
  obtain rfl : z = 0 := Subsingleton.elim _ _
  rw [outsAt0_A m c t h]; dsimp only
  exact (A8 ..).trans (add_assoc _ _ _)

theorem step8 (c : Dev nD) (t : Fin cfg0.N) (h : ¬t.val % 16 = 0) (j : S4x1x256.Idx) :
    (outsAt0 m c t.val t.isLt).2.2.1 j
      = ((outsAt0 m c (t.val - 1) (Nat.lt_of_le_of_lt (Nat.sub_le _ _) t.isLt)).2.2.1 j + add8 m c t j : EReal) := by
  obtain ⟨g, z, d, rfl⟩ : ∃ (g : Fin 4) (z : Fin 1) (d : Fin 256), j = ix3 g z d := ⟨j 0, j 1, j 2, eq_ix3 j⟩
  obtain rfl : z = 0 := Subsingleton.elim _ _
  rw [outsAt0_B m c t h]; dsimp only
  exact (B8 ..).trans (add_assoc _ _ _)

include hR in
theorem final8 (c : Dev nD) : (dats m 0 c).arrAt 8 (cfgs 0).N = val_main_v171 (F := Ideal) (m ((c : Thread nD τ).loc main_arg0)) (m ((c : Thread nD τ).loc main_arg4)) (m ((c : Thread nD τ).loc main_arg6)) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => (0 : EReal)) (add8 m c)
    (reset8 m c) (step8 m c) (le_of_eq N_0) t0_15 rfl j, zero_add]
  obtain ⟨g, z, d, rfl⟩ : ∃ (g : Fin 4) (z : Fin 1) (d : Fin 256), j = ix3 g z d := ⟨j 0, j 1, j 2, eq_ix3 j⟩
  obtain rfl : z = 0 := Subsingleton.elim _ _
  refine Eq.trans ?_ (r171 ..).symm
  refine Eq.trans ?_ (sum_halves fun n => ∑ i : Fin 128, dnrm (m ((c : Thread nD τ).loc main_arg0)) (m ((c : Thread nD τ).loc main_arg4)) (m ((c : Thread nD τ).loc main_arg6)) n i g d)
  refine sum_points _ _ fun t => ?_
  exact congrArg₂ (· + ·) (s8_eq (hR c) (reads m c t 0) g d) (s8_eq (hR c) (reads m c t 1) g d)

/-- What a point adds into window 9. -/
def add9 (c : Dev nD) (t : Fin cfg0.N) (j : S4x128x128.Idx) : EReal :=
  s9 (iblk m c 0 t) (iblk m c 1 t) (iblk m c 2 t) (iblk m c 5 t) 0 (j 0) (j 1) (j 2) + s9 (iblk m c 0 t) (iblk m c 1 t) (iblk m c 2 t) (iblk m c 5 t) 1 (j 0) (j 1) (j 2)

theorem reset9 (c : Dev nD) (t : Fin cfg0.N) (h : t.val % 16 = 0) (j : S4x128x128.Idx) :
    (outsAt0 m c t.val t.isLt).2.2.2.1 j = (0 : EReal) + add9 m c t j := by
  obtain ⟨g, a, b, rfl⟩ : ∃ (g : Fin 4) (a b : Fin 128), j = ix3 g a b := ⟨j 0, j 1, j 2, eq_ix3 j⟩
  rw [outsAt0_A m c t h]; dsimp only
  exact (A9 ..).trans (add_assoc _ _ _)

theorem step9 (c : Dev nD) (t : Fin cfg0.N) (h : ¬t.val % 16 = 0) (j : S4x128x128.Idx) :
    (outsAt0 m c t.val t.isLt).2.2.2.1 j
      = ((outsAt0 m c (t.val - 1) (Nat.lt_of_le_of_lt (Nat.sub_le _ _) t.isLt)).2.2.2.1 j + add9 m c t j : EReal) := by
  obtain ⟨g, a, b, rfl⟩ : ∃ (g : Fin 4) (a b : Fin 128), j = ix3 g a b := ⟨j 0, j 1, j 2, eq_ix3 j⟩
  rw [outsAt0_B m c t h]; dsimp only
  exact (B9 ..).trans (add_assoc _ _ _)

include hR in
theorem final9 (c : Dev nD) : (dats m 0 c).arrAt 9 (cfgs 0).N = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => (0 : EReal)) (add9 m c)
    (reset9 m c) (step9 m c) (le_of_eq N_0) t0_15 rfl j, zero_add]
  obtain ⟨g, a, b, rfl⟩ : ∃ (g : Fin 4) (a b : Fin 128), j = ix3 g a b := ⟨j 0, j 1, j 2, eq_ix3 j⟩
  refine Eq.trans ?_ (r108 ..).symm
  refine Eq.trans ?_ ((sum_halves fun n => Scalar.select (msk a b) (∑ d : Fin 256, dmix (m ((c : Thread nD τ).loc main_arg0)) (m ((c : Thread nD τ).loc main_arg6)) n a g d * nrm (m ((c : Thread nD τ).loc main_arg1)) (m ((c : Thread nD τ).loc main_arg2)) (m ((c : Thread nD τ).loc main_arg3)) (row n b) g d) 0).trans (select_sum _ _))
  refine sum_points _ _ fun t => ?_
  exact congrArg₂ (· + ·) (s9_eq (hR c) (reads m c t 0) g a b) (s9_eq (hR c) (reads m c t 1) g a b)

/-- What a point adds into window 10. -/
def add10 (c : Dev nD) (t : Fin cfg0.N) (j : S4x128x1.Idx) : EReal :=
  s10 (iblk m c 0 t) (iblk m c 5 t) 0 (j 0) (j 1) + s10 (iblk m c 0 t) (iblk m c 5 t) 1 (j 0) (j 1)

theorem reset10 (c : Dev nD) (t : Fin cfg0.N) (h : t.val % 16 = 0) (j : S4x128x1.Idx) :
    (outsAt0 m c t.val t.isLt).2.2.2.2 j = (0 : EReal) + add10 m c t j := by
  obtain ⟨g, a, z, rfl⟩ : ∃ (g : Fin 4) (a : Fin 128) (z : Fin 1), j = ix3 g a z := ⟨j 0, j 1, j 2, eq_ix3 j⟩
  obtain rfl : z = 0 := Subsingleton.elim _ _
  rw [outsAt0_A m c t h]; dsimp only
  exact (A10 ..).trans (add_assoc _ _ _)

theorem step10 (c : Dev nD) (t : Fin cfg0.N) (h : ¬t.val % 16 = 0) (j : S4x128x1.Idx) :
    (outsAt0 m c t.val t.isLt).2.2.2.2 j
      = ((outsAt0 m c (t.val - 1) (Nat.lt_of_le_of_lt (Nat.sub_le _ _) t.isLt)).2.2.2.2 j + add10 m c t j : EReal) := by
  obtain ⟨g, a, z, rfl⟩ : ∃ (g : Fin 4) (a : Fin 128) (z : Fin 1), j = ix3 g a z := ⟨j 0, j 1, j 2, eq_ix3 j⟩
  obtain rfl : z = 0 := Subsingleton.elim _ _
  rw [outsAt0_B m c t h]; dsimp only
  exact (B10 ..).trans (add_assoc _ _ _)

include hR in
theorem final10 (c : Dev nD) : (dats m 0 c).arrAt 10 (cfgs 0).N = val_main_v172 (F := Ideal) (m ((c : Thread nD τ).loc main_arg0)) (m ((c : Thread nD τ).loc main_arg6)) := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => (0 : EReal)) (add10 m c)
    (reset10 m c) (step10 m c) (le_of_eq N_0) t0_15 rfl j, zero_add]
  obtain ⟨g, a, z, rfl⟩ : ∃ (g : Fin 4) (a : Fin 128) (z : Fin 1), j = ix3 g a z := ⟨j 0, j 1, j 2, eq_ix3 j⟩
  obtain rfl : z = 0 := Subsingleton.elim _ _
  refine Eq.trans ?_ (r172 ..).symm
  refine Eq.trans ?_ (sum_halves fun n => ∑ d : Fin 256, dmix (m ((c : Thread nD τ).loc main_arg0)) (m ((c : Thread nD τ).loc main_arg6)) n a g d)
  refine sum_points _ _ fun t => ?_
  exact congrArg₂ (· + ·) (s10_eq (hR c) (reads m c t 0) g a) (s10_eq (hR c) (reads m c t 1) g a)

end Cert.SguIdeal.RefValue

end
-- ==== Proof.SguClaim.lean ====
module

public import proofs.«01_k».proof.Defs
public import proofs.«01_k».proof.Proof.SguValue
public import proofs.«01_k».proof.Proof.Gen.Sgu.Frame
public import proofs.«01_k».proof.Proof.Gen.SguIdeal.Frame
public import proofs.«01_k».proof.Proof.Gen.SguRefIdeal.Run
public import proofs.«01_k».proof.Proof.Gen.SguRefIdeal.Read
public import Idealize.ShloMosaic.Lib.Claim

/-! The claims about the gated unit's gradient: both programs' runs set beside each other. -/

@[expose] public section

namespace Cert.Proof.Sgu

open Idealize.ShloMosaic Idealize.SL.Sem Cert.Scalar

theorem preFacts : Cert.Pre_finite_sgu.Facts where
  bitsLt_bf16_f32 := by decide
  bcast_S_S4096x1024 := by decide
  reducesTo_S4096x1024_S_d0_1 := by decide
  h_S_ := by decide
  bcast_S_S4x256 := by decide
  reducesTo_S4x256_S_d0_1 := by decide
  bcast_S_S4x128x128 := by decide
  reducesTo_S4x128x128_S_d0_1_2 := by decide
  bcast_S_S4x128 := by decide
  reducesTo_S4x128_S_d0_1 := by decide

theorem kernel : Cert.quiescent_Sgu := fun m ρ _ => Cert.Sgu.Gen.frame m ρ

theorem ideal : Cert.quiescent_SguIdeal := fun m ρ _ => Cert.SguIdeal.Gen.frame m ρ

theorem ref : Cert.quiescent_SguRefIdeal := fun m ρ _ =>
  (θ_run _ _ _).mono (fun r h => ⟨fun c => (h c).2.2.2.2.2, sem_eq_zero_of_no_sems (by decide) r.2⟩)
    (Cert.SguRefIdeal.Value.run m ρ)

/-- The folded constant's word is the rounding of its exact value. -/
theorem preserves : Cert.preserves_Sgu_SguIdeal :=
  IdealRules.named_const.statement Cert.SguIdeal.κ "gelu_3ac" .f32 0x3DDB33B6#32 _ rfl

/-- The precondition says that all inputs have real entries. -/
theorem real_of_pre [Cert.Pre_finite_sgu.Facts] (m : (ℓ : Loc Cert.SguIdeal.nD Cert.SguIdeal.τ Cert.SguIdeal.sig) → Buf (Elt Ideal) ℓ)
    (h : Cert.Pre_SguIdeal_finite_sgu m) (c : Dev Cert.SguIdeal.nD) : Cert.SguIdeal.RefValue.RealAt m c :=
  have ⟨h, h6⟩ := andi_split (h c)
  have ⟨h, h5⟩ := andi_split h
  have ⟨h, h4⟩ := andi_split h
  have ⟨h, h3⟩ := andi_split h
  have ⟨h, h2⟩ := andi_split h
  have ⟨h0, h1⟩ := andi_split h
  ⟨isReal_of_all _ _ _ _ h0, isReal_of_all _ _ _ _ h1, isReal_of_all _ _ _ _ h2, isReal_of_all _ _ _ _ h3, isReal_of_all _ _ _ _ h4,
    isReal_of_all _ _ _ _ h5, isReal_of_all _ _ _ _ h6⟩

open Cert.SguRefIdeal.Read Cert.SguIdeal.RefValue in
theorem value [Cert.Pre_finite_sgu.Facts] : Cert.algebraic_SguIdeal_SguRefIdeal_pre_finite_sgu := fun m g m' g' hp ha =>
  have hR : ∀ c, RealAt m c := real_of_pre m hp
  ⟨fun c => val_main_v169 (F := Ideal) (m ((c.tc : Thread _ _).loc Cert.SguIdeal.main_arg0)) (m ((c.tc : Thread _ _).loc Cert.SguIdeal.main_arg1)) (m ((c.tc : Thread _ _).loc Cert.SguIdeal.main_arg2)) (m ((c.tc : Thread _ _).loc Cert.SguIdeal.main_arg3)) (m ((c.tc : Thread _ _).loc Cert.SguIdeal.main_arg4)) (m ((c.tc : Thread _ _).loc Cert.SguIdeal.main_arg5)) (m ((c.tc : Thread _ _).loc Cert.SguIdeal.main_arg6)),
   fun c => val_main_v170 (F := Ideal) (m ((c.tc : Thread _ _).loc Cert.SguIdeal.main_arg0)) (m ((c.tc : Thread _ _).loc Cert.SguIdeal.main_arg1)) (m ((c.tc : Thread _ _).loc Cert.SguIdeal.main_arg4)) (m ((c.tc : Thread _ _).loc Cert.SguIdeal.main_arg6)),
   fun c => val_main_v171 (F := Ideal) (m ((c.tc : Thread _ _).loc Cert.SguIdeal.main_arg0)) (m ((c.tc : Thread _ _).loc Cert.SguIdeal.main_arg4)) (m ((c.tc : Thread _ _).loc Cert.SguIdeal.main_arg6)),
   fun c => val_main_v108 (F := Ideal) (m ((c.tc : Thread _ _).loc Cert.SguIdeal.main_arg0)) (m ((c.tc : Thread _ _).loc Cert.SguIdeal.main_arg1)) (m ((c.tc : Thread _ _).loc Cert.SguIdeal.main_arg2)) (m ((c.tc : Thread _ _).loc Cert.SguIdeal.main_arg3)) (m ((c.tc : Thread _ _).loc Cert.SguIdeal.main_arg6)),
   fun c => val_main_v172 (F := Ideal) (m ((c.tc : Thread _ _).loc Cert.SguIdeal.main_arg0)) (m ((c.tc : Thread _ _).loc Cert.SguIdeal.main_arg6)),
   (θ_run _ _ _).mono (fun r h c => by
       obtain ⟨h6, h7, h8, h9, h10, h⟩ := h c
       exact ⟨h6.trans (final6 m hR c), h7.trans (final7 m hR c), h8.trans (final8 m hR c), h9.trans (final9 m hR c),
         h10.trans (final10 m hR c), h⟩)
     (Cert.SguIdeal.Value.run_blocks m g),
   (θ_run _ _ _).mono (fun r h c => by
       obtain ⟨e0, e1, e2, e3, e4, e5, e6⟩ := ha c
       obtain ⟨h0, h1, h2, h3, h4, h⟩ := h c
       replace h0 := h0.trans (val_main_v169_eq _)
       replace h1 := h1.trans (val_main_v170_eq _)
       replace h2 := h2.trans (val_main_v171_eq _)
       replace h3 := h3.trans (val_main_v108_eq _)
       replace h4 := h4.trans (val_main_v172_eq _)
       refine ⟨h0.trans ?_, h1.trans ?_, h2.trans ?_, h3.trans ?_, h4.trans ?_, h⟩
       · dsimp only; rw [← e0, ← e1, ← e2, ← e3, ← e4, ← e5, ← e6]
       · dsimp only; rw [← e0, ← e1, ← e4, ← e6]
       · dsimp only; rw [← e0, ← e4, ← e6]
       · dsimp only; rw [← e0, ← e1, ← e2, ← e3, ← e6]
       · dsimp only; rw [← e0, ← e6])
     (Cert.SguRefIdeal.Value.run m' g')⟩

end Cert.Proof.Sgu
-- ==== Proof.FfnValue.lean ====
module

public import proofs.«01_k».proof.Proof.Finite
public import proofs.«01_k».proof.Proof.Gen.FfnIdeal.Value
public import proofs.«01_k».proof.Proof.Gen.FfnRefIdeal.Read
public import Idealize.ShloMosaic.Lib.Pipeline.ValueKit

@[expose] public section

set_option maxRecDepth 16384

noncomputable section

namespace Cert.FfnIdeal.RefValue

open Cert.FfnIdeal Cert.FfnIdeal.Gen Idealize.ShloMosaic Idealize.ShloMosaic.TcCoe Idealize.SL.Sem
open Idealize.ShloMosaic.Pipeline (Dat)
open Cert.FfnRefIdeal.Read Cert.Scalar

variable (m : (ℓ : Loc nD τ sig) → Buf (Elt Ideal) ℓ)

theorem idx_val : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- Window 2 stages the gate's and the other half's columns side by side. -/
theorem V_gu (c : Dev nD) : V m c main_v0 = concatenate S4096x5632 1 [⟨S4096x2816, m ((c : Thread nD τ).loc main_arg0)⟩,
    ⟨S4096x2816, m ((c : Thread nD τ).loc main_arg1)⟩] Facts₀.concatenates_S4096x2816_S4096x2816_S4096x5632_d1 := by
  unfold V; after_results

theorem gate_iblk (c : Dev nD) (t : Fin cfg0.N) (a : Fin 512) (b : Fin 5632) (hb : b.val < 2816) :
    iblk m c 2 t (ix2 a b) = m ((c : Thread nD τ).loc main_arg0) (ix2 (((cfg0.win 2).blk t).view.emb (ix2 a b) 0) ⟨b.val, hb⟩) := by
  have e1 : (((View.whole main_v0).slice ((win0 2).rect t)).emb (ix2 a b) 1 : ℕ) = b.val := by
    blk_simp [idx_val t]
  refine (congrFun (V_gu m c) _).trans ?_
  pointwise
  rw [dif_pos (by omega)]
  simp only [e1]

theorem up_iblk (c : Dev nD) (t : Fin cfg0.N) (a : Fin 512) (b : Fin 2816) (b' : Fin 5632) (hb : b'.val = 2816 + b.val) :
    iblk m c 2 t (ix2 a b') = m ((c : Thread nD τ).loc main_arg1) (ix2 (((cfg0.win 2).blk t).view.emb (ix2 a b') 0) b) := by
  have e1 : (((View.whole main_v0).slice ((win0 2).rect t)).emb (ix2 a b') 1 : ℕ) = 2816 + b.val := by
    rw [← hb]; blk_simp [idx_val t]
  refine (congrFun (V_gu m c) _).trans ?_
  pointwise
  rw [dif_neg (by omega)]
  simp only [e1, Nat.add_sub_cancel_left, Fin.eta]

variable (hu : ∀ (c : Dev nD) i, IsReal (m ((c : Thread nD τ).loc main_arg1) i))
  (hw : ∀ (c : Dev nD) i, IsReal (m ((c : Thread nD τ).loc main_arg2) i))
  (hy : ∀ (c : Dev nD) i, IsReal (m ((c : Thread nD τ).loc main_arg3) i))

include hy in
theorem dy_isReal (c : Dev nD) (t : Fin cfg0.N) (i) : IsReal (iblk m c 0 t i) := by
  rw [show iblk m c 0 t i = V m c main_arg3 (((cfg0.win 0).blk t).view.emb i) from rfl, V_main_arg3]
  exact hy c _

include hw in
theorem w_isReal (c : Dev nD) (t : Fin cfg0.N) (i) : IsReal (iblk m c 1 t i) := by
  rw [show iblk m c 1 t i = V m c main_arg2 (((cfg0.win 1).blk t).view.emb i) from rfl, V_main_arg2]
  exact hw c _

include hu in
theorem up_isReal (c : Dev nD) (t : Fin cfg0.N) (a : Fin 512) (b' : Fin 5632) (hb : 2816 ≤ b'.val) : IsReal (iblk m c 2 t (ix2 a b')) := by
  rw [up_iblk m c t a ⟨b'.val - 2816, by omega⟩ b' (by simp only []; omega)]
  exact hu c _

/-- The gate's gradient read off its three operands. -/
theorem gate_step {c u g c' u' g' : EReal} (hc : c = c') (hu : u = u') (hg : g = g') (hr : IsReal (c * u)) :
    c * u * Ideal.div 1 (1 + Ideal.exp (-g)) * (1 + g * (1 - Ideal.div 1 (1 + Ideal.exp (-g))))
      = c' * u' * Ideal.div 1 (1 + Ideal.exp (-g')) + g' * (c' * u') * (Ideal.div 1 (1 + Ideal.exp (-g'))
        * (1 - Ideal.div 1 (1 + Ideal.exp (-g')))) := by
  subst hc hu hg
  exact silu_grad_div _ _ hr

/-- The other half's gradient read off its two operands. -/
theorem up_step {c g c' g' : EReal} (hc : c = c') (hg : g = g') :
    c * g * Ideal.div 1 (1 + Ideal.exp (-g)) = g' * Ideal.div 1 (1 + Ideal.exp (-g')) * c' := by
  subst hc hg
  rw [mul_comm (g * _), mul_assoc]

include hu hw hy in
theorem final3 (c : Dev nD) : (dats m 0 c).arrAt 3 (cfgs 0).N = val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]
  unfold Gen.outsAt0
  frame_out
  canon_tiles x h using (View.cover_of_tiledBy _ ![512, 256] (by sl_kernel_rfl) y)
  all_goals
    open_payloads
    pointwise [val_main_v12, val_main_v11, val_main_v10, val_main_v9, val_main_v8, val_main_v7, val_main_v4_0, val_main_v4_1, val_main_v4_2, val_main_v3, val_main_v2, val_main_v1, val_main_v0,
      val_main_call0_v0, val_main_call0_v1, val_main_call0_v2, val_main_call0_v3, val_main_call0_v4, val_main_call0_v6, val_main_call0_v7, val_main_call0_cst, val_main_call0_cst_0, val_main_call0_cst_1,
      val_main_call1_v0, val_main_call1_v1, val_main_call1_v2,
      half_f32, half_bf16, half_tanh_div, zero_add]
  case piece1 | piece3 | piece5 =>
    rw [dif_pos (by blk_simp [idx_val t]; omega)]
    refine gate_step ?_ ?_ ?_ (.mul (.sum _ fun k => .mul (dy_isReal m hy c t _) (w_isReal m hw c t _))
      (up_isReal m hu c t _ _ (by first | exact Nat.le_add_right _ _ | (dsimp only; omega))))
    · blk_point [iblk, V, idx_val t]
    · refine (up_iblk m c t _ ⟨(y 1 : ℕ), by omega⟩ _ (by dsimp only; omega)).trans ?_
      blk_point [iblk, V, idx_val t]
    · refine (gate_iblk m c t _ _ (by dsimp only; omega)).trans ?_
      blk_point [iblk, V, idx_val t]
  all_goals
    have he : (((View.whole main_v1).slice (win0_3.rect t)).emb y 1 : ℕ) = 2816 + ((y 1 : ℕ) - 2816) := by blk_simp [idx_val t]; omega
    rw [dif_neg (by omega)]
    simp only [he, Nat.add_sub_cancel_left]
    refine up_step ?_ ?_
    · blk_point [iblk, V, idx_val t]
    · refine (gate_iblk m c t _ _ (by dsimp only; omega)).trans ?_
      blk_point [iblk, V, idx_val t]

end Cert.FfnIdeal.RefValue

end
-- ==== Proof.FfnClaim.lean ====
module

public import proofs.«01_k».proof.Defs
public import proofs.«01_k».proof.Proof.FfnValue
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import Idealize.ShloMosaic.Lib.Claim

/-! The claims about the gated feed-forward's gradient: both programs' runs set beside each other. -/

@[expose] public section

namespace Cert.Proof.Ffn

open Idealize.ShloMosaic Idealize.SL.Sem Cert.Scalar

theorem preFacts : Cert.Pre_finite_ffn.Facts where
  bitsLt_bf16_f32 := by decide
  bcast_S_S4096x2816 := by decide
  reducesTo_S4096x2816_S_d0_1 := by decide
  h_S_ := by decide
  bcast_S_S2816x1024 := by decide
  reducesTo_S2816x1024_S_d0_1 := by decide
  bcast_S_S4096x1024 := by decide
  reducesTo_S4096x1024_S_d0_1 := by decide

theorem kernel : Cert.quiescent_Ffn := fun m ρ _ => Cert.Ffn.Gen.frame m ρ

theorem ideal : Cert.quiescent_FfnIdeal := fun m ρ _ => Cert.FfnIdeal.Gen.frame m ρ

theorem ref : Cert.quiescent_FfnRefIdeal := fun m ρ _ =>
  (θ_run _ _ _).mono (fun r h => ⟨fun c => (h c).2, sem_eq_zero_of_no_sems (by decide) r.2⟩)
    (Cert.FfnRefIdeal.Value.run m ρ)

/-- The precondition says the other half, the weight and the cotangent have real entries. -/
theorem real_of_pre [Cert.Pre_finite_ffn.Facts] (m : (ℓ : Loc Cert.FfnIdeal.nD Cert.FfnIdeal.τ Cert.FfnIdeal.sig) → Buf (Elt Ideal) ℓ)
    (h : Cert.Pre_FfnIdeal_finite_ffn m) (c : Dev Cert.FfnIdeal.nD) :
    (∀ i, IsReal (m ((c.tc : Thread _ _).loc Cert.FfnIdeal.main_arg1) i)) ∧ (∀ i, IsReal (m ((c.tc : Thread _ _).loc Cert.FfnIdeal.main_arg2) i))
      ∧ ∀ i, IsReal (m ((c.tc : Thread _ _).loc Cert.FfnIdeal.main_arg3) i) :=
  have ⟨h12, h3⟩ := andi_split (h c)
  have ⟨h1, h2⟩ := andi_split h12
  ⟨isReal_of_all _ _ _ _ h1, isReal_of_all _ _ _ _ h2, isReal_of_all _ _ _ _ h3⟩

open Cert.FfnRefIdeal.Read Cert.FfnIdeal.RefValue in
theorem value [Cert.Pre_finite_ffn.Facts] : Cert.algebraic_FfnIdeal_FfnRefIdeal_pre_finite_ffn := fun m g m' g' hp ha =>
  ⟨fun c => val_main_v12 (F := Ideal) (m ((c.tc : Thread _ _).loc Cert.FfnIdeal.main_arg0)) (m ((c.tc : Thread _ _).loc Cert.FfnIdeal.main_arg1))
     (m ((c.tc : Thread _ _).loc Cert.FfnIdeal.main_arg2)) (m ((c.tc : Thread _ _).loc Cert.FfnIdeal.main_arg3)),
   (θ_run _ _ _).mono (fun r h c => ⟨(h c).1.trans (final3 m (fun c => (real_of_pre m hp c).1) (fun c => (real_of_pre m hp c).2.1)
       (fun c => (real_of_pre m hp c).2.2) c), (h c).2⟩)
     (Cert.FfnIdeal.Value.run_blocks m g),
   (θ_run _ _ _).mono (fun r h c => by
       obtain ⟨e0, e1, e2, e3⟩ := ha c
       obtain ⟨h0, h⟩ := h c
       rw [val_main_v12_eq, e0, e1, e2, e3] at h0
       exact ⟨h0, h⟩)
     (Cert.FfnRefIdeal.Value.run m' g')⟩

end Cert.Proof.Ffn

end
-- ==== Proof.MixerValue.lean ====
module

public import proofs.«01_k».proof.Proof.Scalar
public import proofs.«01_k».proof.Proof.Gen.MixerIdeal.Value
public import proofs.«01_k».proof.Proof.Gen.MixerRefIdeal.Read
public import Idealize.ShloMosaic.Lib.Pipeline.ValueKit

@[expose] public section

set_option maxRecDepth 16384

noncomputable section

namespace Cert.MixerIdeal.RefValue

open Cert.MixerIdeal Cert.MixerIdeal.Gen Idealize.ShloMosaic Idealize.ShloMosaic.TcCoe Idealize.SL.Sem
open Idealize.ShloMosaic.Pipeline (Dat)
open Cert.MixerRefIdeal.Read Cert.Scalar

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

theorem final7 (c : Dev nD) : (dats m 0 c).arrAt 7 (cfgs 0).N = val_main_v43 (F := Ideal) (m ((c : Thread nD τ).loc main_arg2)) (m ((c : Thread nD τ).loc main_arg3)) (m ((c : Thread nD τ).loc main_arg6)) := by
  refine (dats m 0 c).arrAt_eq_of_covers 7 _ (by decide +kernel) fun t _ y => ?_
  blk_simp
  rw [after0_7]
  unfold_out out0_7
  canon_tiles x h
  all_goals
    open_payloads
    pointwise [val_main_v43, val_main_v37, val_main_v16, val_main_v15, val_main_v14, val_main_cst_0, val_main_v13, val_main_cst, val_main_v12, val_main_v11, val_main_v9, val_main_v2, val_main_v33, val_main_v6, val_main_v3,
      half_f32, half_tanh_div, zero_add]
    blk_point [iblk, V, idx_val t]

theorem final8 (c : Dev nD) : (dats m 0 c).arrAt 8 (cfgs 0).N = val_main_v44 (F := Ideal) (m ((c : Thread nD τ).loc main_arg2)) (m ((c : Thread nD τ).loc main_arg3)) (m ((c : Thread nD τ).loc main_arg6)) := by
  refine (dats m 0 c).arrAt_eq_of_covers 8 _ (by decide +kernel) fun t _ y => ?_
  blk_simp
  rw [after0_8]
  unfold_out out0_8
  canon_tiles x h
  all_goals
    open_payloads
    pointwise [val_main_v44, val_main_v34, val_main_v26, val_main_v25, val_main_v24, val_main_cst_3, val_main_v23, val_main_cst_2, val_main_v22, val_main_v21, val_main_v10, val_main_v2, val_main_v33, val_main_v6, val_main_v3,
      half_f32, half_tanh_div, zero_add]
    blk_point [iblk, V, idx_val t]

theorem final10 (c : Dev nD) : (dats m 0 c).arrAt 10 (cfgs 0).N = val_main_v46 (F := Ideal) (m ((c : Thread nD τ).loc main_arg2)) (m ((c : Thread nD τ).loc main_arg3)) (m ((c : Thread nD τ).loc main_arg4)) (m ((c : Thread nD τ).loc main_arg6)) := by
  refine (dats m 0 c).arrAt_eq_of_covers 10 _ (by decide +kernel) fun t _ y => ?_
  blk_simp
  rw [after0_10]
  unfold_out out0_10
  canon_tiles x h
  all_goals
    open_payloads
    pointwise [val_main_v46, val_main_v41, val_main_v37, val_main_v4, val_main_v16, val_main_v15, val_main_v14, val_main_cst_0, val_main_v13, val_main_cst, val_main_v12, val_main_v11, val_main_v9, val_main_v2, val_main_v33, val_main_v6, val_main_v3,
      half_f32, half_tanh_div, zero_add]
    blk_point [iblk, V, idx_val t]

theorem final11 (c : Dev nD) : (dats m 0 c).arrAt 11 (cfgs 0).N = val_main_v47 (F := Ideal) (m ((c : Thread nD τ).loc main_arg2)) (m ((c : Thread nD τ).loc main_arg3)) (m ((c : Thread nD τ).loc main_arg5)) (m ((c : Thread nD τ).loc main_arg6)) := by
  refine (dats m 0 c).arrAt_eq_of_covers 11 _ (by decide +kernel) fun t _ y => ?_
  blk_simp
  rw [after0_11]
  unfold_out out0_11
  canon_tiles x h
  all_goals
    open_payloads
    pointwise [val_main_v47, val_main_v42, val_main_v34, val_main_v5, val_main_v26, val_main_v25, val_main_v24, val_main_cst_3, val_main_v23, val_main_cst_2, val_main_v22, val_main_v21, val_main_v10, val_main_v2, val_main_v33, val_main_v6, val_main_v3,
      half_f32, half_tanh_div, zero_add]
    blk_point [iblk, V, idx_val t]

end Cert.MixerIdeal.RefValue

end
-- ==== Proof.MixerGate.lean ====
module

public import proofs.«01_k».proof.Proof.Scalar
public import proofs.«01_k».proof.Proof.Gen.MixerIdeal.Value
public import proofs.«01_k».proof.Proof.Gen.MixerRefIdeal.Read
public import Idealize.ShloMosaic.Lib.Pipeline.ValueKit

@[expose] public section

set_option maxRecDepth 16384

noncomputable section

namespace Cert.MixerIdeal.RefValue

open Cert.MixerIdeal Cert.MixerIdeal.Gen Idealize.ShloMosaic Idealize.ShloMosaic.TcCoe Idealize.SL.Sem
open Idealize.ShloMosaic.Pipeline (Dat)
open Cert.MixerRefIdeal.Read Cert.Scalar

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- Window 1 stages the host's first product (the gated linear attention's branch). -/
theorem t1_iblk (c : Dev nD) (t : Fin cfg0.N) (i) : iblk m c 1 t i
    = val_main_v7 (F := Ideal) (m ((c : Thread nD τ).loc main_arg0)) (m ((c : Thread nD τ).loc main_arg4))
        (((cfg0.win 1).blk t).view.emb i) := by
  have h : V m c main_v3 = val_main_v7 (F := Ideal) (m ((c : Thread nD τ).loc main_arg0)) (m ((c : Thread nD τ).loc main_arg4)) := by
    unfold V; after_results; rfl
  exact congrFun h _

/-- Window 2 stages the host's second product (the spatial gating unit's branch). -/
theorem t2_iblk (c : Dev nD) (t : Fin cfg0.N) (i) : iblk m c 2 t i
    = val_main_v8 (F := Ideal) (m ((c : Thread nD τ).loc main_arg1)) (m ((c : Thread nD τ).loc main_arg5))
        (((cfg0.win 2).blk t).view.emb i) := by
  have h : V m c main_v7 = val_main_v8 (F := Ideal) (m ((c : Thread nD τ).loc main_arg1)) (m ((c : Thread nD τ).loc main_arg5)) := by
    unfold V; after_results; rfl
  exact congrFun h _

set_option maxHeartbeats 800000 in
theorem final9 (c : Dev nD) : (dats m 0 c).arrAt 9 (cfgs 0).N = val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  unfold_out out0_9
  canon_tiles x h
  all_goals
    open_payloads
    pointwise [val_main_v45, val_main_v40, val_main_v39, val_main_v38, val_main_v36, val_main_v35, val_main_v19, val_main_v18, val_main_v17, val_main_cst_1, val_main_v29, val_main_v28, val_main_v27, val_main_cst_4,
      val_main_v16, val_main_v15, val_main_v14, val_main_cst_0, val_main_v13, val_main_cst, val_main_v12, val_main_v11, val_main_v9, val_main_v2, val_main_v26, val_main_v25, val_main_v24, val_main_cst_3, val_main_v23, val_main_cst_2, val_main_v22, val_main_v21, val_main_v10, val_main_v2, val_main_v33, val_main_v6, val_main_v3,
      half_f32, half_tanh_div, zero_add]
  case piece0 | piece2 =>
    have he : (((View.whole main_v8_2).slice (win0_9.rect t)).emb y 1 : ℕ) = 1024 + (x 1 : ℕ) := by
      blk_simp [idx_val t]; omega
    rw [mul_assoc, dif_neg (by omega)]
    simp only [he, Nat.add_sub_cancel_left, Fin.eta, t2_iblk]
    blk_point [iblk, V, idx_val t]
  case piece1 | piece3 =>
    rw [mul_assoc, dif_pos (by blk_simp [idx_val t]; omega)]
    simp only [t1_iblk]
    blk_point [iblk, V, idx_val t]

end Cert.MixerIdeal.RefValue

end
-- ==== Proof.MixerClaim.lean ====
module

public import proofs.«01_k».proof.Defs
public import proofs.«01_k».proof.Proof.MixerValue
public import proofs.«01_k».proof.Proof.MixerGate
public import proofs.«01_k».proof.Proof.Gen.Mixer.Frame
public import proofs.«01_k».proof.Proof.Gen.MixerIdeal.Frame
public import proofs.«01_k».proof.Proof.Gen.MixerRefIdeal.Run
public import proofs.«01_k».proof.Proof.Gen.MixerRefIdeal.Read
public import Idealize.ShloMosaic.Lib.Claim

/-! The claims about the mixer tail's gradient: both programs' runs set beside each other. -/

@[expose] public section

namespace Cert.Proof.Mixer

open Idealize.ShloMosaic Idealize.SL.Sem

theorem kernel : Cert.quiescent_Mixer := fun m ρ _ => Cert.Mixer.Gen.frame m ρ

theorem ideal : Cert.quiescent_MixerIdeal := fun m ρ _ => Cert.MixerIdeal.Gen.frame m ρ

theorem ref : Cert.quiescent_MixerRefIdeal := fun m ρ _ =>
  (θ_run _ _ _).mono (fun r h => ⟨fun c => (h c).2.2.2.2.2, sem_eq_zero_of_no_sems (by decide) r.2⟩)
    (Cert.MixerRefIdeal.Value.run m ρ)

open Cert.MixerRefIdeal.Read Cert.MixerIdeal.RefValue in
theorem value : Cert.algebraic_MixerIdeal_MixerRefIdeal := fun m g m' g' _ ha =>
  ⟨fun c => val_main_v43 (F := Ideal) (m ((c.tc : Thread _ _).loc Cert.MixerIdeal.main_arg2)) (m ((c.tc : Thread _ _).loc Cert.MixerIdeal.main_arg3)) (m ((c.tc : Thread _ _).loc Cert.MixerIdeal.main_arg6)),
   fun c => val_main_v44 (F := Ideal) (m ((c.tc : Thread _ _).loc Cert.MixerIdeal.main_arg2)) (m ((c.tc : Thread _ _).loc Cert.MixerIdeal.main_arg3)) (m ((c.tc : Thread _ _).loc Cert.MixerIdeal.main_arg6)),
   fun c => val_main_v45 (F := Ideal) (m ((c.tc : Thread _ _).loc Cert.MixerIdeal.main_arg0)) (m ((c.tc : Thread _ _).loc Cert.MixerIdeal.main_arg1)) (m ((c.tc : Thread _ _).loc Cert.MixerIdeal.main_arg2))
     (m ((c.tc : Thread _ _).loc Cert.MixerIdeal.main_arg3)) (m ((c.tc : Thread _ _).loc Cert.MixerIdeal.main_arg4)) (m ((c.tc : Thread _ _).loc Cert.MixerIdeal.main_arg5)) (m ((c.tc : Thread _ _).loc Cert.MixerIdeal.main_arg6)),
   fun c => val_main_v46 (F := Ideal) (m ((c.tc : Thread _ _).loc Cert.MixerIdeal.main_arg2)) (m ((c.tc : Thread _ _).loc Cert.MixerIdeal.main_arg3)) (m ((c.tc : Thread _ _).loc Cert.MixerIdeal.main_arg4)) (m ((c.tc : Thread _ _).loc Cert.MixerIdeal.main_arg6)),
   fun c => val_main_v47 (F := Ideal) (m ((c.tc : Thread _ _).loc Cert.MixerIdeal.main_arg2)) (m ((c.tc : Thread _ _).loc Cert.MixerIdeal.main_arg3)) (m ((c.tc : Thread _ _).loc Cert.MixerIdeal.main_arg5)) (m ((c.tc : Thread _ _).loc Cert.MixerIdeal.main_arg6)),
   (θ_run _ _ _).mono (fun r h c => ⟨(h c).1.trans (final7 m c), (h c).2.1.trans (final8 m c), (h c).2.2.1.trans (final9 m c),
       (h c).2.2.2.1.trans (final10 m c), (h c).2.2.2.2.1.trans (final11 m c), (h c).2.2.2.2.2⟩)
     (Cert.MixerIdeal.Value.run_blocks m g),
   (θ_run _ _ _).mono (fun r h c => by
       obtain ⟨e0, e1, e2, e3, e4, e5, e6⟩ := ha c
       obtain ⟨h0, h1, h2, h3, h4, h⟩ := h c
       rw [val_main_v43_eq, e2, e3, e6] at h0
       rw [val_main_v44_eq, e2, e3, e6] at h1
       rw [val_main_v45_eq, e0, e1, e2, e3, e4, e5, e6] at h2
       rw [val_main_v46_eq, e2, e3, e4, e6] at h3
       rw [val_main_v47_eq, e2, e3, e5, e6] at h4
       exact ⟨h0, h1, h2, h3, h4, h⟩)
     (Cert.MixerRefIdeal.Value.run m' g')⟩

end Cert.Proof.Mixer
-- ==== Proof.NormMath.lean ====
module

public import proofs.«01_k».proof.Proof.SguMath

/-! The root-mean-square normalisation of a row of 1024: its gradient as the kernels factor it against the derivative's form. -/

@[expose] public section

noncomputable section

namespace Cert.Scalar

open Idealize.ShloMosaic

theorem n1024_val : Ideal.ofBits .f32 0x44800000#32 = ((1024 : ℝ) : EReal) := by
  simp [Ideal.ofBits, Ideal.ieee]; norm_cast; norm_num

/-- The mean square of a row, kept off zero. -/
def nv (r : Fin 1024 → EReal) : EReal :=
  Ideal.div (∑ x, r x * r x) (Ideal.ofBits .f32 0x44800000#32) + Ideal.ofBits .f32 0x358637BD#32
/-- The factor that normalises it. -/
def ns (r : Fin 1024 → EReal) : EReal := Ideal.rsqrt (nv r)
/-- The normalised row. -/
def nx (r : Fin 1024 → EReal) (d : Fin 1024) : EReal := r d * ns r
/-- The cotangent `q` of the normalised row carried to the row, as the kernels factor it. -/
def nb (r q : Fin 1024 → EReal) (d : Fin 1024) : EReal :=
  ns r * (q d - nx r d * Ideal.div (∑ x, q x * nx r x) (Ideal.ofBits .f32 0x44800000#32))
/-- The cotangent of the row's squares. -/
def nw (r q : Fin 1024 → EReal) : EReal :=
  Ideal.div ((∑ x, r x * q x) * (Ideal.ofBits .f32 0xBF000000#32 * Ideal.div (ns r) (nv r))) (Ideal.ofBits .f32 0x44800000#32)
/-- The same cotangent as the derivative has it. -/
def rnb (r q : Fin 1024 → EReal) (d : Fin 1024) : EReal := q d * ns r + r d * nw r q + nw r q * r d

def nvR (r : Fin 1024 → ℝ) : ℝ := (∑ x, r x * r x) / 1024 + cE
def nsR (r : Fin 1024 → ℝ) : ℝ := (Real.sqrt (nvR r))⁻¹

theorem nvR_pos (r : Fin 1024 → ℝ) : 0 < nvR r := by
  have : 0 ≤ ∑ x, r x * r x := Finset.sum_nonneg fun x _ => mul_self_nonneg _
  rw [nvR, cE]
  positivity

theorem nv_coe (r : Fin 1024 → ℝ) : nv (fun x => (r x : EReal)) = (nvR r : EReal) := by
  simp only [nv, ← EReal.coe_mul]
  rw [coe_sum, n1024_val, coe_div _ _ (by norm_num), eps_val, nvR]; norm_cast

theorem ns_coe (r : Fin 1024 → ℝ) : ns (fun x => (r x : EReal)) = (nsR r : EReal) := by
  rw [ns, nv_coe, coe_rsqrt _ (nvR_pos r), nsR]

theorem nsR_sq (r : Fin 1024 → ℝ) : 1 / nvR r = nsR r * nsR r := by
  rw [nsR, ← mul_inv, Real.mul_self_sqrt (nvR_pos r).le, one_div]

theorem nb_coe (r q : Fin 1024 → ℝ) (d : Fin 1024) : nb (fun x => (r x : EReal)) (fun x => (q x : EReal)) d
    = ((nsR r * (q d - r d * nsR r * ((∑ x, q x * (r x * nsR r)) / 1024)) : ℝ) : EReal) := by
  simp only [nb, nx, ns_coe, ← EReal.coe_mul]
  rw [coe_sum, n1024_val, coe_div _ _ (by norm_num)]
  norm_cast

theorem nw_coe (r q : Fin 1024 → ℝ) : nw (fun x => (r x : EReal)) (fun x => (q x : EReal))
    = (((∑ x, r x * q x) * (cM * (nsR r / nvR r)) / 1024 : ℝ) : EReal) := by
  simp only [nw, ns_coe, nv_coe, ← EReal.coe_mul]
  rw [coe_sum, coe_div _ _ (nvR_pos r).ne', mhalf_val, n1024_val, ← EReal.coe_mul, ← EReal.coe_mul, coe_div _ _ (by norm_num)]

theorem nb_eq_coe (r q : Fin 1024 → ℝ) (d : Fin 1024) :
    nb (fun x => (r x : EReal)) (fun x => (q x : EReal)) d = rnb (fun x => (r x : EReal)) (fun x => (q x : EReal)) d := by
  rw [nb_coe, rnb]
  simp only [nw_coe, ns_coe, ← EReal.coe_mul, ← EReal.coe_add]
  have h3 : (∑ x, q x * (r x * nsR r)) = (∑ x, r x * q x) * nsR r := by
    rw [Finset.sum_mul]; exact Finset.sum_congr rfl fun x _ => by ring
  rw [h3, div_eq_mul_one_div (nsR r) (nvR r), nsR_sq, cM]
  congr 1
  ring

variable {r q : Fin 1024 → EReal} (hr : ∀ x, IsReal (r x)) (hq : ∀ x, IsReal (q x)) (d : Fin 1024)

include hr

include hq in
/-- At real rows the two forms agree. -/
theorem nb_eq : nb r q d = rnb r q d := by
  choose r' hr' using hr
  choose q' hq' using hq
  obtain rfl := funext hr'
  obtain rfl := funext hq'
  exact nb_eq_coe r' q' d

include hq in
/-- At real rows the gradient is real. -/
theorem nb_real : IsReal (nb r q d) := by
  choose r' hr' using hr
  choose q' hq' using hq
  obtain rfl := funext hr'
  obtain rfl := funext hq'
  exact ⟨_, nb_coe r' q' d⟩

/-- A normalised real row is real. -/
theorem nx_real : IsReal (nx r d) := by
  choose r' hr' using hr
  obtain rfl := funext hr'
  exact ⟨r' d * nsR r', by rw [nx, ns_coe, EReal.coe_mul]⟩

end Cert.Scalar

end
-- ==== Proof.FfnInRef.lean ====
module

public import proofs.«01_k».proof.Proof.NormMath
public import proofs.«01_k».proof.Proof.Gen.FfnInRefIdeal.Read
public import Idealize.ShloMosaic.Lib.Pipeline.ValueKit

/-! The reference of the two middle norms' gradient read layer by layer, at a token `s` and a lane `d`. -/

@[expose] public section

set_option maxRecDepth 16384

noncomputable section

namespace Cert.FfnInIdeal.Spec

open Cert.FfnInRefIdeal Cert.FfnInRefIdeal.Read Idealize.ShloMosaic
open Cert.Scalar

abbrev Mat (n : ℕ) := (⟨2, ![4096, n]⟩ : Shape).Idx → EReal
abbrev Wgt := (⟨2, ![5632, 1024]⟩ : Shape).Idx → EReal
abbrev Gain := (⟨2, ![1, 1024]⟩ : Shape).Idx → EReal

variable (x0 x1 : Mat 1024) (x2 x3 : Gain) (x4 : Wgt) (x5 : Mat 1024) (x6 : Mat 5632)

/-- The token's row of the mixer's output. -/
def mr (s : Fin 4096) (d : Fin 1024) : EReal := x1 (ix2 s d)
/-- The residual row: the token's row plus the normalised, scaled row. -/
def rr (s : Fin 4096) (d : Fin 1024) : EReal := x0 (ix2 s d) + nx (mr x1 s) d * x2 (ix2 0 d)
/-- The cotangent of the scaled row. -/
def dh (s : Fin 4096) (d : Fin 1024) : EReal := ∑ k : Fin 5632, x6 (ix2 s k) * x4 (ix2 k d)
/-- The cotangent of the normalised residual row. -/
def q3 (s : Fin 4096) (d : Fin 1024) : EReal := dh x4 x6 s d * x3 (ix2 0 d)
/-- The cotangent of the residual row. -/
def dr (s : Fin 4096) (d : Fin 1024) : EReal := x5 (ix2 s d) + rnb (rr x0 x1 x2 s) (q3 x3 x4 x6 s) d
/-- The cotangent of the normalised row of the mixer's output. -/
def q2 (s : Fin 4096) (d : Fin 1024) : EReal := dr x0 x1 x2 x3 x4 x5 x6 s d * x2 (ix2 0 d)

theorem v8 (s : Fin 4096) (z : Fin 1) : val_main_v8 (F := Ideal) x1 (ix2 s z) = nv (mr x1 s) := by
  pointwise [val_main_v8, val_main_v7, val_main_v6, val_main_v5, val_main_v4, val_main_v3, val_main_v2, val_main_cst_0, val_main_cst_1,
    val_main_cst]
  rfl

theorem v9 (s : Fin 4096) (z : Fin 1) : val_main_v9 (F := Ideal) x1 (ix2 s z) = ns (mr x1 s) := by
  pointwise [val_main_v9, v8]
  rfl

theorem v14 (s : Fin 4096) (d : Fin 1024) : val_main_v14 (F := Ideal) x1 (ix2 s d) = nx (mr x1 s) d := by
  pointwise [val_main_v14, val_main_v13, v9]
  rfl

theorem v17 (s : Fin 4096) (d : Fin 1024) : val_main_v17 (F := Ideal) x0 x1 x2 (ix2 s d) = rr x0 x1 x2 s d := by
  pointwise [val_main_v17, val_main_v16, val_main_v15, v14]
  rfl

theorem v24 (s : Fin 4096) (z : Fin 1) : val_main_v24 (F := Ideal) x0 x1 x2 (ix2 s z) = nv (rr x0 x1 x2 s) := by
  pointwise [val_main_v24, val_main_v23, val_main_v22, val_main_v21, val_main_v20, val_main_v19, val_main_v18, v17, val_main_cst_4,
    val_main_cst_5, val_main_cst_3]
  rfl

theorem v25 (s : Fin 4096) (z : Fin 1) : val_main_v25 (F := Ideal) x0 x1 x2 (ix2 s z) = ns (rr x0 x1 x2 s) := by
  pointwise [val_main_v25, v24]
  rfl

theorem v30 (s : Fin 4096) (d : Fin 1024) : val_main_v30 (F := Ideal) x0 x1 x2 (ix2 s d) = nx (rr x0 x1 x2 s) d := by
  pointwise [val_main_v30, val_main_v29, v25, v17]
  rfl

theorem v34 (s : Fin 4096) (d : Fin 1024) : val_main_v34 (F := Ideal) x4 x6 (ix2 s d) = dh x4 x6 s d := by
  pointwise [val_main_v34, val_main_v0, val_main_v1]
  rfl

theorem i37 (z : Fin 1) (d : Fin 1024) : idx_main_v37 (ix2 z d) = ix1 d :=
  funext fun a => Fin.ext (by match a with | ⟨0, _⟩ => dsimp; omega)

theorem r37 (z : Fin 1) (d : Fin 1024) : val_main_v37 (F := Ideal) x0 x1 x2 x4 x6 (ix2 z d)
    = ∑ s : Fin 4096, nx (rr x0 x1 x2 s) d * dh x4 x6 s d := by
  rw [val_main_v37_apply, i37]
  pointwise [val_main_v36, val_main_v35, v30, v34, val_main_cst_7]

theorem v39 (s : Fin 4096) (d : Fin 1024) : val_main_v39 (F := Ideal) x3 x4 x6 (ix2 s d) = q3 x3 x4 x6 s d := by
  pointwise [val_main_v39, val_main_v38, v34]
  rfl

theorem i42 (s : Fin 4096) (z : Fin 1) : idx_main_v42 (ix2 s z) = ix1 s :=
  funext fun a => Fin.ext (by match a with | ⟨0, _⟩ => dsimp; omega)

theorem v42 (s : Fin 4096) (z : Fin 1) : val_main_v42 (F := Ideal) x0 x1 x2 x3 x4 x6 (ix2 s z)
    = ∑ d : Fin 1024, rr x0 x1 x2 s d * q3 x3 x4 x6 s d := by
  rw [val_main_v42_apply, i42]
  pointwise [val_main_v41, val_main_v40, v39, v17, val_main_cst_8]

theorem v49 (s : Fin 4096) : val_main_v49 (F := Ideal) x0 x1 x2 x3 x4 x6 (ix1 s) = nw (rr x0 x1 x2 s) (q3 x3 x4 x6 s) := by
  pointwise [val_main_v49, val_main_v48, val_main_v47, val_main_v46, val_main_v28, val_main_v27, val_main_v26, v42, v25, v24,
    val_main_cst_6, val_main_cst_9, val_main_cst_10]
  simp only [Finset.univ_unique, Finset.sum_singleton]
  rfl

theorem r54 (s : Fin 4096) (d : Fin 1024) : val_main_v54 (F := Ideal) x0 x1 x2 x3 x4 x5 x6 (ix2 s d) = dr x0 x1 x2 x3 x4 x5 x6 s d := by
  pointwise [val_main_v54, val_main_v53, val_main_v52, val_main_v51, val_main_v50, val_main_v45, val_main_v44, val_main_v43, v25, v39, v49, v17]
  rw [dr, rnb, ← add_assoc, ← add_assoc]

theorem i55 (s : Fin 4096) (d : Fin 1024) : idx_main_v55 (ix2 s d) = ix2 s d :=
  funext fun a => Fin.ext (by match a with | ⟨0, _⟩ => dsimp; omega | ⟨1, _⟩ => dsimp; omega)

theorem v55 (s : Fin 4096) (d : Fin 1024) : val_main_v55 (F := Ideal) x0 x1 x2 x3 x4 x5 x6 (ix2 s d) = dr x0 x1 x2 x3 x4 x5 x6 s d := by
  rw [val_main_v55_apply, i55, r54]

theorem i58 (z : Fin 1) (d : Fin 1024) : idx_main_v58 (ix2 z d) = ix1 d :=
  funext fun a => Fin.ext (by match a with | ⟨0, _⟩ => dsimp; omega)

theorem r58 (z : Fin 1) (d : Fin 1024) : val_main_v58 (F := Ideal) x0 x1 x2 x3 x4 x5 x6 (ix2 z d)
    = ∑ s : Fin 4096, nx (mr x1 s) d * dr x0 x1 x2 x3 x4 x5 x6 s d := by
  rw [val_main_v58_apply, i58]
  pointwise [val_main_v57, val_main_v56, v14, v55, val_main_cst_11]

theorem v60 (s : Fin 4096) (d : Fin 1024) : val_main_v60 (F := Ideal) x0 x1 x2 x3 x4 x5 x6 (ix2 s d) = q2 x0 x1 x2 x3 x4 x5 x6 s d := by
  pointwise [val_main_v60, val_main_v59, v55]
  rfl

theorem i63 (s : Fin 4096) (z : Fin 1) : idx_main_v63 (ix2 s z) = ix1 s :=
  funext fun a => Fin.ext (by match a with | ⟨0, _⟩ => dsimp; omega)

theorem v63 (s : Fin 4096) (z : Fin 1) : val_main_v63 (F := Ideal) x0 x1 x2 x3 x4 x5 x6 (ix2 s z)
    = ∑ d : Fin 1024, mr x1 s d * q2 x0 x1 x2 x3 x4 x5 x6 s d := by
  rw [val_main_v63_apply, i63]
  pointwise [val_main_v62, val_main_v61, v60, val_main_cst_12]
  rfl

theorem v69 (s : Fin 4096) : val_main_v69 (F := Ideal) x0 x1 x2 x3 x4 x5 x6 (ix1 s) = nw (mr x1 s) (q2 x0 x1 x2 x3 x4 x5 x6 s) := by
  pointwise [val_main_v69, val_main_v68, val_main_v67, val_main_v66, val_main_v12, val_main_v11, val_main_v10, v63, v9, v8,
    val_main_cst_2, val_main_cst_13, val_main_cst_14]
  simp only [Finset.univ_unique, Finset.sum_singleton]
  rfl

theorem r75 (s : Fin 4096) (d : Fin 1024) : val_main_v75 (F := Ideal) x0 x1 x2 x3 x4 x5 x6 (ix2 s d)
    = rnb (mr x1 s) (q2 x0 x1 x2 x3 x4 x5 x6 s) d := by
  pointwise [val_main_v75, val_main_v74, val_main_v73, val_main_v72, val_main_v71, val_main_v70, val_main_v65, val_main_v64, v9, v60, v69]
  rfl

end Cert.FfnInIdeal.Spec

end
-- ==== Proof.FfnInTile.lean ====
module

public import proofs.«01_k».proof.Proof.FfnInRef
public import proofs.«01_k».proof.Proof.Gen.FfnInIdeal.Value
public import Idealize.ShloMosaic.Lib.Pipeline.ReadBack

/-! What one grid point of the two middle norms' gradient kernel leaves in its outputs: it works on two halves of its rows. -/

@[expose] public section

set_option maxRecDepth 16384

noncomputable section

namespace Cert.FfnInIdeal.Tile

open Cert.FfnInIdeal Cert.FfnInIdeal.Gen Idealize.ShloMosaic Idealize.ShloMosaic.TcCoe Idealize.SL.Sem
open Idealize.ShloMosaic.Pipeline (Dat)
open Cert.Scalar Cert.FfnInIdeal.Spec

def prow : Fin 2 → Fin 256 → Fin 512
  | 0, i => ⟨i.val, by omega⟩
  | 1, i => ⟨256 + i.val, by omega⟩
theorem prow_val : ∀ (p : Fin 2) (i : Fin 256), (prow p i).val = 256 * p.val + i.val
  | 0, i => by simp [prow]
  | 1, i => by simp [prow]

section Spec
variable (x0 : Vec Ideal S512x5632 .bf16) (x1 : Vec Ideal S5632x1024 .bf16) (x2 x3 x4 : Vec Ideal S512x1024 .f32) (x5 x6 : Vec Ideal S1x1024 .f32)

/-- The cotangent of the scaled residual row. -/
def td (r : Fin 512) (d : Fin 1024) : EReal := ∑ k : Fin 5632, x0 (ix2 r k) * x1 (ix2 k d)
def t1 (r : Fin 512) (d : Fin 1024) : EReal := x3 (ix2 r d)
def tq3 (r : Fin 512) (d : Fin 1024) : EReal := td x0 x1 r d * x5 (ix2 0 d)
/-- The residual row's cotangent. -/
def tdr (r : Fin 512) (d : Fin 1024) : EReal := x2 (ix2 r d) + nb (t1 x3 r) (tq3 x0 x1 x5 r) d
def tm (r : Fin 512) (d : Fin 1024) : EReal := x4 (ix2 r d)
def tq2 (r : Fin 512) (d : Fin 1024) : EReal := tdr x0 x1 x2 x3 x5 r d * x6 (ix2 0 d)
/-- What half `p` adds to the second gain's gradient. -/
def s9 (p : Fin 2) (d : Fin 1024) : EReal := ∑ i : Fin 256, td x0 x1 (prow p i) d * nx (t1 x3 (prow p i)) d
/-- What half `p` adds to the first gain's gradient. -/
def s10 (p : Fin 2) (d : Fin 1024) : EReal := ∑ i : Fin 256, tdr x0 x1 x2 x3 x5 (prow p i) d * nx (tm x4 (prow p i)) d
end Spec

variable (c : Dev nD) (i : grid0.Coords) (arg1 : Memref sig .tc .vmem S512x5632 .bf16) (harg1 : arg1.IsWhole) (arg2 : Memref sig .tc .vmem S5632x1024
  .bf16) (harg2 : arg2.IsWhole) (arg3 : Memref sig .tc .vmem S512x1024 .f32) (harg3 : arg3.IsWhole) (arg4 : Memref sig .tc .vmem S512x1024 .f32)
  (harg4 : arg4.IsWhole) (arg5 : Memref sig .tc .vmem S512x1024 .f32) (harg5 : arg5.IsWhole) (arg6 : Memref sig .tc .vmem S1x1024 .f32) (harg6 :
  arg6.IsWhole) (arg7 : Memref sig .tc .vmem S1x1024 .f32) (harg7 : arg7.IsWhole) (arg8 : Memref sig .tc .vmem S512x1024 .f32) (harg8 : arg8.IsWhole)
  (arg9 : Memref sig .tc .vmem S512x1024 .bf16) (harg9 : arg9.IsWhole) (arg10 : Memref sig .tc .vmem S1x1024 .f32) (harg10 : arg10.IsWhole) (arg11 :
  Memref sig .tc .vmem S1x1024 .f32) (harg11 : arg11.IsWhole) (x0 : Vec Ideal S512x5632 .bf16) (x1 : Vec Ideal S5632x1024 .bf16) (x2 x3 x4 : Vec Ideal
  S512x1024 .f32) (x5 x6 xo9 xo10 : Vec Ideal S1x1024 .f32)

theorem A7 (hc0 : cond0_0 i) (hc1 : ¬cond0_1 i) (hc2 : cond0_2 i) (hc3 : ¬cond0_3 i) (r : Fin 512) (d : Fin 1024) : out0_A_7 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 (ix2 r d)
    = tdr x0 x1 x2 x3 x5 r d := by
  frame_out
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise []
    rfl

theorem A8 (hc0 : cond0_0 i) (hc1 : ¬cond0_1 i) (hc2 : cond0_2 i) (hc3 : ¬cond0_3 i) (r : Fin 512) (d : Fin 1024) : out0_A_8 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 (ix2 r d)
    = nb (tm x4 r) (tq2 x0 x1 x2 x3 x5 x6 r) d := by
  frame_out
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise []
    rfl

theorem A9 (hc0 : cond0_0 i) (hc1 : ¬cond0_1 i) (hc2 : cond0_2 i) (hc3 : ¬cond0_3 i) (z : Fin 1) (d : Fin 1024) : out0_A_9 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 (ix2 z d)
    = (0 + s9 x0 x1 x3 0 d + s9 x0 x1 x3 1 d) := by
  frame_out
  open_payloads
  pointwise []
  rfl

theorem A10 (hc0 : cond0_0 i) (hc1 : ¬cond0_1 i) (hc2 : cond0_2 i) (hc3 : ¬cond0_3 i) (z : Fin 1) (d : Fin 1024) : out0_A_10 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 (ix2 z d)
    = (0 + s10 x0 x1 x2 x3 x4 x5 0 d + s10 x0 x1 x2 x3 x4 x5 1 d) := by
  frame_out
  open_payloads
  pointwise []
  rfl

theorem B7 (hc0 : ¬cond0_0 i) (hc1 : cond0_1 i) (hc2 : ¬cond0_2 i) (hc3 : cond0_3 i) (r : Fin 512) (d : Fin 1024) : out0_B_7 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo9 xo10 (ix2 r d)
    = tdr x0 x1 x2 x3 x5 r d := by
  frame_out
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise []
    rfl

theorem B8 (hc0 : ¬cond0_0 i) (hc1 : cond0_1 i) (hc2 : ¬cond0_2 i) (hc3 : cond0_3 i) (r : Fin 512) (d : Fin 1024) : out0_B_8 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo9 xo10 (ix2 r d)
    = nb (tm x4 r) (tq2 x0 x1 x2 x3 x5 x6 r) d := by
  frame_out
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise []
    rfl

theorem B9 (hc0 : ¬cond0_0 i) (hc1 : cond0_1 i) (hc2 : ¬cond0_2 i) (hc3 : cond0_3 i) (z : Fin 1) (d : Fin 1024) : out0_B_9 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo9 xo10 (ix2 z d)
    = xo9 (ix2 z d) + (0 + s9 x0 x1 x3 0 d + s9 x0 x1 x3 1 d) := by
  frame_out
  open_payloads
  pointwise []
  rfl

theorem B10 (hc0 : ¬cond0_0 i) (hc1 : cond0_1 i) (hc2 : ¬cond0_2 i) (hc3 : cond0_3 i) (z : Fin 1) (d : Fin 1024) : out0_B_10 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo9 xo10 (ix2 z d)
    = xo10 (ix2 z d) + (0 + s10 x0 x1 x2 x3 x4 x5 0 d + s10 x0 x1 x2 x3 x4 x5 1 d) := by
  frame_out
  open_payloads
  pointwise []
  rfl

end Cert.FfnInIdeal.Tile

end
-- ==== Proof.FfnInValue.lean ====
module

public import proofs.«01_k».proof.Proof.FfnInTile
public import Idealize.ShloMosaic.Lib.Pipeline.ValueKit

/-! The arrays the two middle norms' gradient kernel leaves are the reference's: the rows' cotangents block by block, the gains'
gradients over the grid. -/

@[expose] public section

set_option maxRecDepth 16384

noncomputable section

namespace Cert.FfnInIdeal.RefValue

open Cert.FfnInIdeal Cert.FfnInIdeal.Gen Idealize.ShloMosaic Idealize.ShloMosaic.TcCoe Idealize.SL.Sem
open Idealize.ShloMosaic.Pipeline (Dat)
open Cert.FfnInRefIdeal.Read Cert.Scalar Cert.FfnInIdeal.Spec Cert.FfnInIdeal.Tile

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![t.val, 0]
    ∧ win0_8.index t = ![t.val, 0] :=
  (by decide +kernel : ∀ t : Fin grid0.N, _)

theorem lt8 (t : Fin cfg0.N) : t.val < 8 := lt_of_lt_of_eq t.isLt N_0

/-- The token a row of a point's block holds. -/
abbrev tok (t : Fin cfg0.N) (r : Fin 512) : Fin 4096 := ⟨512 * t.val + r.val, by have := lt8 t; omega⟩

/-- The rows of a block are those of its halves. -/
theorem sum_halves (f : Fin 512 → EReal) : ∑ r, f r = ∑ i, f (prow 0 i) + ∑ i, f (prow 1 i) := by
  refine (Fin.sum_univ_add (a := 256) (b := 256) f).trans ?_
  rfl

/-- A sum over the points of what their rows add is the sum over the tokens. -/
theorem sum_tokens (f : Fin 4096 → EReal) (g : Fin cfg0.N → EReal) (h : ∀ t, g t = ∑ r : Fin 512, f (tok t r)) : ∑ t, g t = ∑ s, f s := by
  rw [← Fintype.sum_equiv (finProdFinEquiv (m := 8) (n := 512)) (fun q => f ⟨512 * q.1.val + q.2.val, by omega⟩) f
    fun q => congrArg f (Fin.ext (by simp [finProdFinEquiv]; omega)), Fintype.sum_prod_type]
  exact Fintype.sum_equiv (finCongr N_0) _ _ h

variable (c : Dev nD) (t : Fin cfg0.N)

/-- The residual row that the host prepares is the reference's. -/
theorem V_row : V m c main_v12 = val_main_v17 (F := Ideal) (m ((c : Thread nD τ).loc main_arg0)) (m ((c : Thread nD τ).loc main_arg1)) (m ((c : Thread nD τ).loc main_arg2)) := by
  unfold V
  after_results
  rfl

theorem rd0 (r : Fin 512) (k : Fin 5632) : iblk m c 0 t (ix2 r k) = (m ((c : Thread nD τ).loc main_arg6)) (ix2 (tok t r) k) := by
  refine (congrFun (V_main_arg6 m c) _).trans ?_
  blk_point [iblk, V, idx_val t]
theorem rd1 (k : Fin 5632) (d : Fin 1024) : iblk m c 1 t (ix2 k d) = (m ((c : Thread nD τ).loc main_arg4)) (ix2 k d) := by
  refine (congrFun (V_main_arg4 m c) _).trans ?_
  blk_point [iblk, V, idx_val t]
theorem rd2 (r : Fin 512) (k : Fin 1024) : iblk m c 2 t (ix2 r k) = (m ((c : Thread nD τ).loc main_arg5)) (ix2 (tok t r) k) := by
  refine (congrFun (V_main_arg5 m c) _).trans ?_
  blk_point [iblk, V, idx_val t]
theorem rd4 (r : Fin 512) (k : Fin 1024) : iblk m c 4 t (ix2 r k) = (m ((c : Thread nD τ).loc main_arg1)) (ix2 (tok t r) k) := by
  refine (congrFun (V_main_arg1 m c) _).trans ?_
  blk_point [iblk, V, idx_val t]
theorem rd5 (k : Fin 1) (d : Fin 1024) : iblk m c 5 t (ix2 k d) = (m ((c : Thread nD τ).loc main_arg3)) (ix2 k d) := by
  refine (congrFun (V_main_arg3 m c) _).trans ?_
  blk_point [iblk, V, idx_val t]
theorem rd6 (k : Fin 1) (d : Fin 1024) : iblk m c 6 t (ix2 k d) = (m ((c : Thread nD τ).loc main_arg2)) (ix2 k d) := by
  refine (congrFun (V_main_arg2 m c) _).trans ?_
  blk_point [iblk, V, idx_val t]
theorem rd3 (r : Fin 512) (k : Fin 1024) : iblk m c 3 t (ix2 r k) = rr (m ((c : Thread nD τ).loc main_arg0)) (m ((c : Thread nD τ).loc main_arg1)) (m ((c : Thread nD τ).loc main_arg2)) (tok t r) k := by
  rw [← v17, ← V_row m c]
  blk_point [iblk, idx_val t]

theorem td_eq (r : Fin 512) (d : Fin 1024) : td (iblk m c 0 t) (iblk m c 1 t) r d = dh (m ((c : Thread nD τ).loc main_arg4)) (m ((c : Thread nD τ).loc main_arg6)) (tok t r) d := by
  simp only [td, dh, rd0, rd1]

theorem t1_eq (r : Fin 512) : t1 (iblk m c 3 t) r = rr (m ((c : Thread nD τ).loc main_arg0)) (m ((c : Thread nD τ).loc main_arg1)) (m ((c : Thread nD τ).loc main_arg2)) (tok t r) := funext fun d => rd3 m c t r d
theorem tm_eq (r : Fin 512) : tm (iblk m c 4 t) r = mr (m ((c : Thread nD τ).loc main_arg1)) (tok t r) := funext fun d => rd4 m c t r d
theorem tq3_eq (r : Fin 512) : tq3 (iblk m c 0 t) (iblk m c 1 t) (iblk m c 5 t) r = q3 (m ((c : Thread nD τ).loc main_arg3)) (m ((c : Thread nD τ).loc main_arg4)) (m ((c : Thread nD τ).loc main_arg6)) (tok t r) := funext fun d => by rw [tq3, td_eq, rd5, q3]

/-- All inputs have real entries. -/
structure RealAt : Prop where
  r0 : ∀ i, IsReal ((m ((c : Thread nD τ).loc main_arg0)) i)
  r1 : ∀ i, IsReal ((m ((c : Thread nD τ).loc main_arg1)) i)
  r2 : ∀ i, IsReal ((m ((c : Thread nD τ).loc main_arg2)) i)
  r3 : ∀ i, IsReal ((m ((c : Thread nD τ).loc main_arg3)) i)
  r4 : ∀ i, IsReal ((m ((c : Thread nD τ).loc main_arg4)) i)
  r5 : ∀ i, IsReal ((m ((c : Thread nD τ).loc main_arg5)) i)
  r6 : ∀ i, IsReal ((m ((c : Thread nD τ).loc main_arg6)) i)

variable (hR : ∀ c, RealAt m c)

include hR in
theorem rr_real (s : Fin 4096) (d : Fin 1024) : IsReal (rr (m ((c : Thread nD τ).loc main_arg0)) (m ((c : Thread nD τ).loc main_arg1)) (m ((c : Thread nD τ).loc main_arg2)) s d) :=
  .add ((hR c).r0 _) (.mul (nx_real (fun _ => (hR c).r1 _) d) ((hR c).r2 _))

include hR in
theorem q3_real (s : Fin 4096) (d : Fin 1024) : IsReal (q3 (m ((c : Thread nD τ).loc main_arg3)) (m ((c : Thread nD τ).loc main_arg4)) (m ((c : Thread nD τ).loc main_arg6)) s d) :=
  .mul (.sum _ fun _ => .mul ((hR c).r6 _) ((hR c).r4 _)) ((hR c).r3 _)

include hR in
/-- The residual row's cotangent as the kernel factors it is the derivative's. -/
theorem dr_eq (s : Fin 4096) (d : Fin 1024) (a : EReal) (ha : a = (m ((c : Thread nD τ).loc main_arg5)) (ix2 s d)) :
    a + nb (rr (m ((c : Thread nD τ).loc main_arg0)) (m ((c : Thread nD τ).loc main_arg1)) (m ((c : Thread nD τ).loc main_arg2)) s) (q3 (m ((c : Thread nD τ).loc main_arg3)) (m ((c : Thread nD τ).loc main_arg4)) (m ((c : Thread nD τ).loc main_arg6)) s) d = dr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) s d := by
  rw [nb_eq (rr_real m c hR s) (q3_real m c hR s), ha]
  rfl

include hR in
theorem dr_real (s : Fin 4096) (d : Fin 1024) : IsReal (dr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) s d) := by
  rw [← dr_eq m c hR s d _ rfl]
  exact .add ((hR c).r5 _) (nb_real (rr_real m c hR s) (q3_real m c hR s) d)

include hR in
theorem tdr_eq (r : Fin 512) (d : Fin 1024) : tdr (iblk m c 0 t) (iblk m c 1 t) (iblk m c 2 t) (iblk m c 3 t) (iblk m c 5 t) r d = dr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t r) d := by
  rw [tdr, t1_eq, tq3_eq]
  exact dr_eq m c hR _ d _ (rd2 m c t r d)

include hR in
theorem tq2_eq (r : Fin 512) : tq2 (iblk m c 0 t) (iblk m c 1 t) (iblk m c 2 t) (iblk m c 3 t) (iblk m c 5 t) (iblk m c 6 t) r = q2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t r) :=
  funext fun d => by rw [tq2, tdr_eq m c t hR, rd6, q2]

include hR in
theorem t8_eq (r : Fin 512) (d : Fin 1024) : nb (tm (iblk m c 4 t) r) (tq2 (iblk m c 0 t) (iblk m c 1 t) (iblk m c 2 t) (iblk m c 3 t) (iblk m c 5 t) (iblk m c 6 t) r) d = rnb (mr (m ((c : Thread nD τ).loc main_arg1)) (tok t r)) (q2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t r)) d := by
  rw [tm_eq, tq2_eq m c t hR]
  exact nb_eq (fun _ => (hR c).r1 _) (fun _ => .mul (dr_real m c hR _ _) ((hR c).r2 _)) d

include hR in
theorem out7 (r : Fin 512) (d : Fin 1024) : (outsAt0 m c t.val t.isLt).1 (ix2 r d) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tok t r) d) := by
  have e : tdr (iblk m c 0 t) (iblk m c 1 t) (iblk m c 2 t) (iblk m c 3 t) (iblk m c 5 t) r d = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tok t r) d) := (tdr_eq m c t hR r d).trans (r54 ..).symm
  by_cases h : t.val % 8 = 0
  · rw [outsAt0_A m c t h (by have := lt8 t; omega) h (by have := lt8 t; omega)]; dsimp only
    exact (A7 ..).trans e
  · rw [outsAt0_B m c t h (by omega) h (by omega)]; dsimp only
    exact (B7 ..).trans e

theorem emb7 (r : Fin 512) (d : Fin 1024) (s : Fin 4096) (hs : s.val = 512 * t.val + r.val) :
    ((cfg0.win 7).blk t).view.emb (ix2 r d) = (ix2 s d : S4096x1024.Idx) := by
  funext k
  refine Fin.ext ?_
  match k with
  | ⟨0, _⟩ => blk_simp [idx_val t]; omega
  | ⟨1, _⟩ => blk_simp [idx_val t]

include hR in
theorem final7 : (dats m 0 c).arrAt 7 (cfgs 0).N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  obtain ⟨r, d, rfl⟩ : ∃ (r : Fin 512) (d : Fin 1024), y = ix2 r d := ⟨y 0, y 1, eq_ix2 y⟩
  blk_simp
  rw [after0_7, out7 m c t hR]
  exact (congrArg _ (emb7 t r d _ rfl)).symm

include hR in
theorem out8 (r : Fin 512) (d : Fin 1024) : (outsAt0 m c t.val t.isLt).2.1 (ix2 r d) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tok t r) d) := by
  have e : nb (tm (iblk m c 4 t) r) (tq2 (iblk m c 0 t) (iblk m c 1 t) (iblk m c 2 t) (iblk m c 3 t) (iblk m c 5 t) (iblk m c 6 t) r) d = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (tok t r) d) := (t8_eq m c t hR r d).trans (r75 ..).symm
  by_cases h : t.val % 8 = 0
  · rw [outsAt0_A m c t h (by have := lt8 t; omega) h (by have := lt8 t; omega)]; dsimp only
    exact (A8 ..).trans e
  · rw [outsAt0_B m c t h (by omega) h (by omega)]; dsimp only
    exact (B8 ..).trans e

theorem emb8 (r : Fin 512) (d : Fin 1024) (s : Fin 4096) (hs : s.val = 512 * t.val + r.val) :
    ((cfg0.win 8).blk t).view.emb (ix2 r d) = (ix2 s d : S4096x1024.Idx) := by
  funext k
  refine Fin.ext ?_
  match k with
  | ⟨0, _⟩ => blk_simp [idx_val t]; omega
  | ⟨1, _⟩ => blk_simp [idx_val t]

include hR in
theorem final8 : (dats m 0 c).arrAt 8 (cfgs 0).N = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  obtain ⟨r, d, rfl⟩ : ∃ (r : Fin 512) (d : Fin 1024), y = ix2 r d := ⟨y 0, y 1, eq_ix2 y⟩
  blk_simp
  rw [after0_8, out8 m c t hR]
  exact (congrArg _ (emb8 t r d _ rfl)).symm

theorem s9_eq (d : Fin 1024) : 0 + s9 (iblk m c 0 t) (iblk m c 1 t) (iblk m c 3 t) 0 d + s9 (iblk m c 0 t) (iblk m c 1 t) (iblk m c 3 t) 1 d
    = ∑ r : Fin 512, nx (rr (m ((c : Thread nD τ).loc main_arg0)) (m ((c : Thread nD τ).loc main_arg1)) (m ((c : Thread nD τ).loc main_arg2)) (tok t r)) d * dh (m ((c : Thread nD τ).loc main_arg4)) (m ((c : Thread nD τ).loc main_arg6)) (tok t r) d := by
  rw [sum_halves, zero_add, s9, s9]
  simp only [td_eq, t1_eq, mul_comm (dh _ _ _ _)]

include hR in
theorem s10_eq (d : Fin 1024) : 0 + s10 (iblk m c 0 t) (iblk m c 1 t) (iblk m c 2 t) (iblk m c 3 t) (iblk m c 4 t) (iblk m c 5 t) 0 d + s10 (iblk m c 0 t) (iblk m c 1 t) (iblk m c 2 t) (iblk m c 3 t) (iblk m c 4 t) (iblk m c 5 t) 1 d
    = ∑ r : Fin 512, nx (mr (m ((c : Thread nD τ).loc main_arg1)) (tok t r)) d * dr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (tok t r) d := by
  rw [sum_halves, zero_add, s10, s10]
  simp only [tdr_eq m c t hR, tm_eq, mul_comm (dr _ _ _ _ _ _ _ _ _)]

/-- What a point adds to the second gain's gradient. -/
def add9 (j : S1x1024.Idx) : EReal := 0 + s9 (iblk m c 0 t) (iblk m c 1 t) (iblk m c 3 t) 0 (j 1) + s9 (iblk m c 0 t) (iblk m c 1 t) (iblk m c 3 t) 1 (j 1)

theorem reset9 (h : t.val % 8 = 0) (j : S1x1024.Idx) : (outsAt0 m c t.val t.isLt).2.2.1 j = (0 : EReal) + add9 m c t j := by
  obtain ⟨z, d, rfl⟩ : ∃ (z : Fin 1) (d : Fin 1024), j = ix2 z d := ⟨j 0, j 1, eq_ix2 j⟩
  rw [outsAt0_A m c t h (by have := lt8 t; omega) h (by have := lt8 t; omega)]; dsimp only
  exact (A9 ..).trans (zero_add _).symm

theorem step9 (h : ¬t.val % 8 = 0) (j : S1x1024.Idx) : (outsAt0 m c t.val t.isLt).2.2.1 j
    = ((outsAt0 m c (t.val - 1) (Nat.lt_of_le_of_lt (Nat.sub_le _ _) t.isLt)).2.2.1 j + add9 m c t j : EReal) := by
  obtain ⟨z, d, rfl⟩ : ∃ (z : Fin 1) (d : Fin 1024), j = ix2 z d := ⟨j 0, j 1, eq_ix2 j⟩
  rw [outsAt0_B m c t h (by omega) h (by omega)]; dsimp only
  exact B9 ..

theorem final9 : (dats m 0 c).arrAt 9 (cfgs 0).N = val_main_v37 (F := Ideal) (m ((c : Thread nD τ).loc main_arg0)) (m ((c : Thread nD τ).loc main_arg1)) (m ((c : Thread nD τ).loc main_arg2)) (m ((c : Thread nD τ).loc main_arg4)) (m ((c : Thread nD τ).loc main_arg6)) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => (0 : EReal)) (add9 m c)
    (reset9 m c) (step9 m c) (le_of_eq N_0) t0_7 rfl j, zero_add]
  obtain ⟨z, d, rfl⟩ : ∃ (z : Fin 1) (d : Fin 1024), j = ix2 z d := ⟨j 0, j 1, eq_ix2 j⟩
  refine Eq.trans ?_ (r37 ..).symm
  exact sum_tokens _ _ fun t => s9_eq m c t d

/-- What a point adds to the first gain's gradient. -/
def add10 (j : S1x1024.Idx) : EReal := 0 + s10 (iblk m c 0 t) (iblk m c 1 t) (iblk m c 2 t) (iblk m c 3 t) (iblk m c 4 t) (iblk m c 5 t) 0 (j 1) + s10 (iblk m c 0 t) (iblk m c 1 t) (iblk m c 2 t) (iblk m c 3 t) (iblk m c 4 t) (iblk m c 5 t) 1 (j 1)

theorem reset10 (h : t.val % 8 = 0) (j : S1x1024.Idx) : (outsAt0 m c t.val t.isLt).2.2.2 j = (0 : EReal) + add10 m c t j := by
  obtain ⟨z, d, rfl⟩ : ∃ (z : Fin 1) (d : Fin 1024), j = ix2 z d := ⟨j 0, j 1, eq_ix2 j⟩
  rw [outsAt0_A m c t h (by have := lt8 t; omega) h (by have := lt8 t; omega)]; dsimp only
  exact (A10 ..).trans (zero_add _).symm

theorem step10 (h : ¬t.val % 8 = 0) (j : S1x1024.Idx) : (outsAt0 m c t.val t.isLt).2.2.2 j
    = ((outsAt0 m c (t.val - 1) (Nat.lt_of_le_of_lt (Nat.sub_le _ _) t.isLt)).2.2.2 j + add10 m c t j : EReal) := by
  obtain ⟨z, d, rfl⟩ : ∃ (z : Fin 1) (d : Fin 1024), j = ix2 z d := ⟨j 0, j 1, eq_ix2 j⟩
  rw [outsAt0_B m c t h (by omega) h (by omega)]; dsimp only
  exact B10 ..

include hR in
theorem final10 : (dats m 0 c).arrAt 10 (cfgs 0).N = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 10 t0_7 (by decide +kernel) _ fun j => ?_
  blk_simp
  rw [after0_10, Pipeline.eq_sum_fin_of_reset_step_apply_last (fun n h => (outsAt0 m c n h).2.2.2) 8 (fun _ => (0 : EReal)) (add10 m c)
    (reset10 m c) (step10 m c) (le_of_eq N_0) t0_7 rfl j, zero_add]
  obtain ⟨z, d, rfl⟩ : ∃ (z : Fin 1) (d : Fin 1024), j = ix2 z d := ⟨j 0, j 1, eq_ix2 j⟩
  refine Eq.trans ?_ (r58 ..).symm
  exact sum_tokens _ _ fun t => s10_eq m c t hR d

end Cert.FfnInIdeal.RefValue

end
-- ==== Proof.FfnInClaim.lean ====
module

public import proofs.«01_k».proof.Defs
public import proofs.«01_k».proof.Proof.FfnInValue
public import proofs.«01_k».proof.Proof.Gen.FfnIn.Frame
public import proofs.«01_k».proof.Proof.Gen.FfnInIdeal.Frame
public import proofs.«01_k».proof.Proof.Gen.FfnInRefIdeal.Run
public import proofs.«01_k».proof.Proof.Gen.FfnInRefIdeal.Read
public import Idealize.ShloMosaic.Lib.Claim

/-! The claims about the two middle norms' gradient: both programs' runs set beside each other. -/

@[expose] public section

namespace Cert.Proof.FfnIn

open Idealize.ShloMosaic Idealize.SL.Sem Cert.Scalar

theorem preFacts : Cert.Pre_finite_ffn_in.Facts where
  bcast_S_S4096x1024 := by decide
  reducesTo_S4096x1024_S_d0_1 := by decide
  h_S_ := by decide
  bcast_S_S1x1024 := by decide
  reducesTo_S1x1024_S_d0_1 := by decide
  bitsLt_bf16_f32 := by decide
  bcast_S_S5632x1024 := by decide
  reducesTo_S5632x1024_S_d0_1 := by decide
  bcast_S_S4096x5632 := by decide
  reducesTo_S4096x5632_S_d0_1 := by decide

theorem kernel : Cert.quiescent_FfnIn := fun m ρ _ => Cert.FfnIn.Gen.frame m ρ

theorem ideal : Cert.quiescent_FfnInIdeal := fun m ρ _ => Cert.FfnInIdeal.Gen.frame m ρ

theorem ref : Cert.quiescent_FfnInRefIdeal := fun m ρ _ =>
  (θ_run _ _ _).mono (fun r h => ⟨fun c => (h c).2.2.2.2, sem_eq_zero_of_no_sems (by decide) r.2⟩)
    (Cert.FfnInRefIdeal.Value.run m ρ)

/-- The precondition says that the inputs it names have real entries. -/
theorem real_of_pre [Cert.Pre_finite_ffn_in.Facts] (m : (ℓ : Loc Cert.FfnInIdeal.nD Cert.FfnInIdeal.τ Cert.FfnInIdeal.sig) → Buf (Elt Ideal) ℓ)
    (h : Cert.Pre_FfnInIdeal_finite_ffn_in m) (c : Dev Cert.FfnInIdeal.nD) : Cert.FfnInIdeal.RefValue.RealAt m c :=
  have ⟨h, g6⟩ := andi_split (h c)
  have ⟨h, g5⟩ := andi_split h
  have ⟨h, g4⟩ := andi_split h
  have ⟨h, g3⟩ := andi_split h
  have ⟨h, g2⟩ := andi_split h
  have ⟨h, g1⟩ := andi_split h
  ⟨isReal_of_all _ _ _ _ h, isReal_of_all _ _ _ _ g1, isReal_of_all _ _ _ _ g2, isReal_of_all _ _ _ _ g3, isReal_of_all _ _ _ _ g4, isReal_of_all _ _ _ _ g5, isReal_of_all _ _ _ _ g6⟩

open Cert.FfnInRefIdeal.Read Cert.FfnInIdeal.RefValue in
theorem value [Cert.Pre_finite_ffn_in.Facts] : Cert.algebraic_FfnInIdeal_FfnInRefIdeal_pre_finite_ffn_in := fun m g m' g' hp ha =>
  have hR : ∀ c, RealAt m c := real_of_pre m hp
  ⟨fun c => val_main_v54 (F := Ideal) (m ((c.tc : Thread _ _).loc Cert.FfnInIdeal.main_arg0)) (m ((c.tc : Thread _ _).loc Cert.FfnInIdeal.main_arg1)) (m ((c.tc : Thread _ _).loc Cert.FfnInIdeal.main_arg2)) (m ((c.tc : Thread _ _).loc Cert.FfnInIdeal.main_arg3)) (m ((c.tc : Thread _ _).loc Cert.FfnInIdeal.main_arg4)) (m ((c.tc : Thread _ _).loc Cert.FfnInIdeal.main_arg5)) (m ((c.tc : Thread _ _).loc Cert.FfnInIdeal.main_arg6)),
   fun c => val_main_v75 (F := Ideal) (m ((c.tc : Thread _ _).loc Cert.FfnInIdeal.main_arg0)) (m ((c.tc : Thread _ _).loc Cert.FfnInIdeal.main_arg1)) (m ((c.tc : Thread _ _).loc Cert.FfnInIdeal.main_arg2)) (m ((c.tc : Thread _ _).loc Cert.FfnInIdeal.main_arg3)) (m ((c.tc : Thread _ _).loc Cert.FfnInIdeal.main_arg4)) (m ((c.tc : Thread _ _).loc Cert.FfnInIdeal.main_arg5)) (m ((c.tc : Thread _ _).loc Cert.FfnInIdeal.main_arg6)),
   fun c => val_main_v37 (F := Ideal) (m ((c.tc : Thread _ _).loc Cert.FfnInIdeal.main_arg0)) (m ((c.tc : Thread _ _).loc Cert.FfnInIdeal.main_arg1)) (m ((c.tc : Thread _ _).loc Cert.FfnInIdeal.main_arg2)) (m ((c.tc : Thread _ _).loc Cert.FfnInIdeal.main_arg4)) (m ((c.tc : Thread _ _).loc Cert.FfnInIdeal.main_arg6)),
   fun c => val_main_v58 (F := Ideal) (m ((c.tc : Thread _ _).loc Cert.FfnInIdeal.main_arg0)) (m ((c.tc : Thread _ _).loc Cert.FfnInIdeal.main_arg1)) (m ((c.tc : Thread _ _).loc Cert.FfnInIdeal.main_arg2)) (m ((c.tc : Thread _ _).loc Cert.FfnInIdeal.main_arg3)) (m ((c.tc : Thread _ _).loc Cert.FfnInIdeal.main_arg4)) (m ((c.tc : Thread _ _).loc Cert.FfnInIdeal.main_arg5)) (m ((c.tc : Thread _ _).loc Cert.FfnInIdeal.main_arg6)),
   (θ_run _ _ _).mono (fun r h c => by
       obtain ⟨k0, k1, k2, k3, h⟩ := h c
       exact ⟨k0.trans (final7 m c hR), k1.trans (final8 m c hR), k2.trans (final9 m c), k3.trans (final10 m c hR), h⟩)
     (Cert.FfnInIdeal.Value.run_blocks m g),
   (θ_run _ _ _).mono (fun r h c => by
       obtain ⟨e0, e1, e2, e3, e4, e5, e6⟩ := ha c
       obtain ⟨k0, k1, k2, k3, h⟩ := h c
       replace k0 := k0.trans (val_main_v54_eq ..)
       replace k1 := k1.trans (val_main_v75_eq ..)
       replace k2 := k2.trans (val_main_v37_eq ..)
       replace k3 := k3.trans (val_main_v58_eq ..)
       refine ⟨k0.trans ?_, k1.trans ?_, k2.trans ?_, k3.trans ?_, h⟩
       · dsimp only; rw [← e0, ← e1, ← e2, ← e3, ← e4, ← e5, ← e6]
       · dsimp only; rw [← e0, ← e1, ← e2, ← e3, ← e4, ← e5, ← e6]
       · dsimp only; rw [← e0, ← e1, ← e2, ← e4, ← e6]
       · dsimp only; rw [← e0, ← e1, ← e2, ← e3, ← e4, ← e5, ← e6])
     (Cert.FfnInRefIdeal.Value.run m' g')⟩

end Cert.Proof.FfnIn
-- ==== Proof.InPRef.lean ====
module

public import proofs.«01_k».proof.Proof.NormMath
public import proofs.«01_k».proof.Proof.Gen.InPRefIdeal.Read
public import Idealize.ShloMosaic.Lib.Pipeline.ValueKit

/-! The reference of the first norm's gradient read layer by layer, at a token `s` and a lane `d`. -/

@[expose] public section

set_option maxRecDepth 16384

noncomputable section

namespace Cert.InPIdeal.Spec

open Cert.InPRefIdeal Cert.InPRefIdeal.Read Idealize.ShloMosaic
open Cert.Scalar

abbrev Mat (n : ℕ) := (⟨2, ![4096, n]⟩ : Shape).Idx → EReal
abbrev Wgt := (⟨2, ![7184, 1024]⟩ : Shape).Idx → EReal
abbrev Gain := (⟨2, ![1, 1024]⟩ : Shape).Idx → EReal

variable (x0 : Mat 3072) (x1 : Mat 16) (x2 x3 : Mat 2048) (x4 : Wgt) (x5 x6 : Mat 1024) (x7 : Gain)

/-- A row of the weight in each of the four bands. -/
abbrev wA (k : Fin 3072) : Fin 7184 := ⟨k.val, by omega⟩
abbrev wL (k : Fin 16) : Fin 7184 := ⟨3072 + k.val, by omega⟩
abbrev wS (k : Fin 2048) : Fin 7184 := ⟨3088 + k.val, by omega⟩
abbrev wG (k : Fin 2048) : Fin 7184 := ⟨5136 + k.val, by omega⟩

/-- The cotangent of the scaled row: each band's cotangent times its rows of the weight. -/
def da (s : Fin 4096) (d : Fin 1024) : EReal :=
  (∑ k : Fin 3072, x0 (ix2 s k) * x4 (ix2 (wA k) d)) + (∑ k : Fin 16, x1 (ix2 s k) * x4 (ix2 (wL k) d))
    + (∑ k : Fin 2048, x2 (ix2 s k) * x4 (ix2 (wS k) d)) + (∑ k : Fin 2048, x3 (ix2 s k) * x4 (ix2 (wG k) d))
/-- The token's row. -/
def xr (s : Fin 4096) (d : Fin 1024) : EReal := x5 (ix2 s d)
/-- The cotangent of the normalised row. -/
def dq (s : Fin 4096) (d : Fin 1024) : EReal := da x0 x1 x2 x3 x4 s d * x7 (ix2 0 d)

/-- A sum over the weight's rows, band by band. -/
theorem sum_bands (f : Fin 7184 → EReal) :
    ∑ k, f k = (∑ k, f (wA k)) + (∑ k, f (wL k)) + (∑ k, f (wS k)) + ∑ k, f (wG k) := by
  have h1 := Fin.sum_univ_add (a := 5136) (b := 2048) f
  have h2 := Fin.sum_univ_add (a := 3088) (b := 2048) fun k => f (Fin.castAdd 2048 k)
  have h3 := Fin.sum_univ_add (a := 3072) (b := 16) fun k => f (Fin.castAdd 2048 (Fin.castAdd 2048 k))
  exact h1.trans (congrArg (· + _) (h2.trans (congrArg (· + _) h3)))

theorem cA (s : Fin 4096) (k : Fin 3072) : val_main_v5 (F := Ideal) x0 x1 x2 x3 (ix2 s (wA k)) = x0 (ix2 s k) := by
  pointwise [val_main_v5, val_main_v0]

theorem cL (s : Fin 4096) (k : Fin 16) : val_main_v5 (F := Ideal) x0 x1 x2 x3 (ix2 s (wL k)) = x1 (ix2 s k) := by
  pointwise [val_main_v5, val_main_v1]

theorem cS (s : Fin 4096) (k : Fin 2048) : val_main_v5 (F := Ideal) x0 x1 x2 x3 (ix2 s (wS k)) = x2 (ix2 s k) := by
  pointwise [val_main_v5, val_main_v2]
  rw [dif_neg (by omega), dif_neg (by omega), dif_pos (by omega)]
  exact congrArg (fun q => x2 (ix2 s q)) (Fin.ext (by dsimp only; omega))

theorem cG (s : Fin 4096) (k : Fin 2048) : val_main_v5 (F := Ideal) x0 x1 x2 x3 (ix2 s (wG k)) = x3 (ix2 s k) := by
  pointwise [val_main_v5, val_main_v3]
  rw [dif_neg (by omega), dif_neg (by omega), dif_neg (by omega)]
  exact congrArg (fun q => x3 (ix2 s q)) (Fin.ext (by dsimp only; omega))

theorem v22 (s : Fin 4096) (d : Fin 1024) : val_main_v22 (F := Ideal) x0 x1 x2 x3 x4 (ix2 s d) = da x0 x1 x2 x3 x4 s d := by
  pointwise [val_main_v22, val_main_v4]
  rw [sum_bands]
  simp only [cA, cL, cS, cG]
  rfl

theorem v12 (s : Fin 4096) (z : Fin 1) : val_main_v12 (F := Ideal) x5 (ix2 s z) = nv (xr x5 s) := by
  pointwise [val_main_v12, val_main_v11, val_main_v10, val_main_v9, val_main_v8, val_main_v7, val_main_v6, val_main_cst_0, val_main_cst_1,
    val_main_cst]
  rfl

theorem v13 (s : Fin 4096) (z : Fin 1) : val_main_v13 (F := Ideal) x5 (ix2 s z) = ns (xr x5 s) := by
  pointwise [val_main_v13, v12]
  rfl

theorem v18 (s : Fin 4096) (d : Fin 1024) : val_main_v18 (F := Ideal) x5 (ix2 s d) = nx (xr x5 s) d := by
  pointwise [val_main_v18, val_main_v17, v13]
  rfl

theorem i25 (z : Fin 1) (d : Fin 1024) : idx_main_v25 (ix2 z d) = ix1 d :=
  funext fun a => Fin.ext (by match a with | ⟨0, _⟩ => dsimp; omega)

theorem r25 (z : Fin 1) (d : Fin 1024) : val_main_v25 (F := Ideal) x0 x1 x2 x3 x4 x5 (ix2 z d)
    = ∑ s : Fin 4096, nx (xr x5 s) d * da x0 x1 x2 x3 x4 s d := by
  rw [val_main_v25_apply, i25]
  pointwise [val_main_v24, val_main_v23, v18, v22, val_main_cst_3]

theorem v27 (s : Fin 4096) (d : Fin 1024) : val_main_v27 (F := Ideal) x0 x1 x2 x3 x4 x7 (ix2 s d) = dq x0 x1 x2 x3 x4 x7 s d := by
  pointwise [val_main_v27, val_main_v26, v22]
  rfl

theorem i30 (s : Fin 4096) (z : Fin 1) : idx_main_v30 (ix2 s z) = ix1 s :=
  funext fun a => Fin.ext (by match a with | ⟨0, _⟩ => dsimp; omega)

theorem v30 (s : Fin 4096) (z : Fin 1) : val_main_v30 (F := Ideal) x0 x1 x2 x3 x4 x5 x7 (ix2 s z)
    = ∑ d : Fin 1024, xr x5 s d * dq x0 x1 x2 x3 x4 x7 s d := by
  rw [val_main_v30_apply, i30]
  pointwise [val_main_v29, val_main_v28, v27, val_main_cst_4]
  rfl

theorem v37 (s : Fin 4096) : val_main_v37 (F := Ideal) x0 x1 x2 x3 x4 x5 x7 (ix1 s) = nw (xr x5 s) (dq x0 x1 x2 x3 x4 x7 s) := by
  pointwise [val_main_v37, val_main_v36, val_main_v35, val_main_v34, val_main_v16, val_main_v15, val_main_v14, v30, v13, v12,
    val_main_cst_2, val_main_cst_5, val_main_cst_6]
  simp only [Finset.univ_unique, Finset.sum_singleton]
  rfl

theorem r42 (s : Fin 4096) (d : Fin 1024) : val_main_v42 (F := Ideal) x0 x1 x2 x3 x4 x5 x6 x7 (ix2 s d)
    = x6 (ix2 s d) + rnb (xr x5 s) (dq x0 x1 x2 x3 x4 x7 s) d := by
  pointwise [val_main_v42, val_main_v41, val_main_v40, val_main_v39, val_main_v38, val_main_v33, val_main_v32, val_main_v31, v13, v27, v37]
  rw [rnb, xr, ← add_assoc, ← add_assoc]

end Cert.InPIdeal.Spec

end
-- ==== Proof.InPTile.lean ====
module

public import proofs.«01_k».proof.Proof.InPRef
public import proofs.«01_k».proof.Proof.Gen.InPIdeal.Value
public import Idealize.ShloMosaic.Lib.Pipeline.ReadBack

/-! What one grid point of the first norm's gradient kernel leaves in its two outputs. -/

@[expose] public section

set_option maxRecDepth 16384

noncomputable section

namespace Cert.InPIdeal.Tile

open Cert.InPIdeal Cert.InPIdeal.Gen Idealize.ShloMosaic Idealize.ShloMosaic.TcCoe Idealize.SL.Sem
open Idealize.ShloMosaic.Pipeline (Dat)
open Cert.Scalar Cert.InPIdeal.Spec

section Spec
variable (x0 : Vec Ideal S512x3072 .bf16) (x1 : Vec Ideal S512x128 .bf16) (x2 x3 : Vec Ideal S512x2048 .bf16) (x4 : Vec Ideal S7184x1024 .bf16)
  (x5 : Vec Ideal S512x1024 .f32) (x7 : Vec Ideal S1x1024 .f32)

/-- The row of the weight that a lane of the padded band meets. -/
abbrev wP (k : Fin 128) : Fin 7184 := ⟨3072 + k.val, by omega⟩
/-- The cotangent of the scaled row. -/
def tda (r : Fin 512) (d : Fin 1024) : EReal :=
  (∑ k : Fin 3072, x0 (ix2 r k) * x4 (ix2 (wA k) d)) + (∑ k : Fin 128, x1 (ix2 r k) * x4 (ix2 (wP k) d))
    + (∑ k : Fin 2048, x2 (ix2 r k) * x4 (ix2 (wS k) d)) + (∑ k : Fin 2048, x3 (ix2 r k) * x4 (ix2 (wG k) d))
def txr (r : Fin 512) (d : Fin 1024) : EReal := x5 (ix2 r d)
def tdq (r : Fin 512) (d : Fin 1024) : EReal := tda x0 x1 x2 x3 x4 r d * x7 (ix2 0 d)
/-- The tile's part of the gain's gradient. -/
def s9 (d : Fin 1024) : EReal := ∑ r : Fin 512, tda x0 x1 x2 x3 x4 r d * nx (txr x5 r) d
end Spec

variable (c : Dev nD) (i : grid0.Coords) (arg1 : Memref sig .tc .vmem S512x3072 .bf16) (harg1 : arg1.IsWhole) (arg2 : Memref sig .tc .vmem S512x128
  .bf16) (harg2 : arg2.IsWhole) (arg3 : Memref sig .tc .vmem S512x2048 .bf16) (harg3 : arg3.IsWhole) (arg4 : Memref sig .tc .vmem S512x2048 .bf16)
  (harg4 : arg4.IsWhole) (arg5 : Memref sig .tc .vmem S7184x1024 .bf16) (harg5 : arg5.IsWhole) (arg6 : Memref sig .tc .vmem S512x1024 .f32) (harg6 :
  arg6.IsWhole) (arg7 : Memref sig .tc .vmem S512x1024 .f32) (harg7 : arg7.IsWhole) (arg8 : Memref sig .tc .vmem S1x1024 .f32) (harg8 : arg8.IsWhole)
  (arg9 : Memref sig .tc .vmem S512x1024 .f32) (harg9 : arg9.IsWhole) (arg10 : Memref sig .tc .vmem S1x1024 .f32) (harg10 : arg10.IsWhole) (x0 : Vec
  Ideal S512x3072 .bf16) (x1 : Vec Ideal S512x128 .bf16) (x2 x3 : Vec Ideal S512x2048 .bf16) (x4 : Vec Ideal S7184x1024 .bf16) (x5 x6 : Vec Ideal
  S512x1024 .f32) (x7 xo9 : Vec Ideal S1x1024 .f32)

theorem A8 (hc0 : cond0_0 i) (hc1 : ¬cond0_1 i) (r : Fin 512) (d : Fin 1024) : out0_A_8 c i arg1 harg1 arg2 harg2 arg3 harg3 arg4 harg4 arg5 harg5 arg6 harg6 arg7 harg7 arg8 harg8 arg9 harg9 arg10 harg10 hc0 hc1 x0 x1 x2 x3 x4 x5 x6 x7 (ix2 r d)
    = x6 (ix2 r d) + nb (txr x5 r) (tdq x0 x1 x2 x3 x4 x7 r) d := by
  frame_out
  open_payloads
  pointwise []
  rfl

theorem A9 (hc0 : cond0_0 i) (hc1 : ¬cond0_1 i) (z : Fin 1) (d : Fin 1024) : out0_A_9 c i arg1 harg1 arg2 harg2 arg3 harg3 arg4 harg4 arg5 harg5 arg6 harg6 arg7 harg7 arg8 harg8 arg9 harg9 arg10 harg10 hc0 hc1 x0 x1 x2 x3 x4 x5 x6 x7 (ix2 z d)
    = s9 x0 x1 x2 x3 x4 x5 d := by
  frame_out
  open_payloads
  pointwise []
  rfl

theorem B8 (hc0 : ¬cond0_0 i) (hc1 : cond0_1 i) (r : Fin 512) (d : Fin 1024) : out0_B_8 c i arg1 harg1 arg2 harg2 arg3 harg3 arg4 harg4 arg5 harg5 arg6 harg6 arg7 harg7 arg8 harg8 arg9 harg9 arg10 harg10 hc0 hc1 x0 x1 x2 x3 x4 x5 x6 x7 xo9 (ix2 r d)
    = x6 (ix2 r d) + nb (txr x5 r) (tdq x0 x1 x2 x3 x4 x7 r) d := by
  frame_out
  open_payloads
  pointwise []
  rfl

theorem B9 (hc0 : ¬cond0_0 i) (hc1 : cond0_1 i) (z : Fin 1) (d : Fin 1024) : out0_B_9 c i arg1 harg1 arg2 harg2 arg3 harg3 arg4 harg4 arg5 harg5 arg6 harg6 arg7 harg7 arg8 harg8 arg9 harg9 arg10 harg10 hc0 hc1 x0 x1 x2 x3 x4 x5 x6 x7 xo9 (ix2 z d)
    = xo9 (ix2 z d) + s9 x0 x1 x2 x3 x4 x5 d := by
  frame_out
  open_payloads
  pointwise []
  rfl

end Cert.InPIdeal.Tile

end
-- ==== Proof.InPValue.lean ====
module

public import proofs.«01_k».proof.Proof.InPTile
public import Idealize.ShloMosaic.Lib.Pipeline.ValueKit

/-! The arrays the first norm's gradient kernel leaves are the reference's: the token's cotangent block by block, the gain's gradient
over the grid. -/

@[expose] public section

set_option maxRecDepth 16384

noncomputable section

namespace Cert.InPIdeal.RefValue

open Cert.InPIdeal Cert.InPIdeal.Gen Idealize.ShloMosaic Idealize.ShloMosaic.TcCoe Idealize.SL.Sem
open Idealize.ShloMosaic.Pipeline (Dat)
open Cert.InPRefIdeal.Read Cert.Scalar Cert.InPIdeal.Spec Cert.InPIdeal.Tile

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![t.val, 0] :=
  (by decide +kernel : ∀ t : Fin grid0.N, _)

theorem lt8 (t : Fin cfg0.N) : t.val < 8 := lt_of_lt_of_eq t.isLt N_0

/-- The narrow band is staged with zeros in the lanes above it. -/
theorem V_pad (c : Dev nD) : V m c main_v0 = pad (s := S4096x16) S4096x128 ![0, 0] ![0, 112] ![0, 0] (m ((c : Thread nD τ).loc main_arg1))
    (sitofp (F := Ideal) .bf16 (constantI S_ 32 0#32)) Facts₀.pads_S4096x16_S4096x128_000_01120 Facts₀.h_S_ := by
  unfold V
  simp only [hostOps0, hostOps0_1, List.flatten_cons, List.flatten_nil, List.append_nil, List.cons_append, List.nil_append]
  after_results
  rfl

/-- The token a row of a point's block holds. -/
abbrev tok (t : Fin cfg0.N) (r : Fin 512) : Fin 4096 := ⟨512 * t.val + r.val, by have := lt8 t; omega⟩

variable (c : Dev nD) (t : Fin cfg0.N)

theorem rd0 (r : Fin 512) (k : Fin 3072) : iblk m c 0 t (ix2 r k) = (m ((c : Thread nD τ).loc main_arg0)) (ix2 (tok t r) k) := by
  refine (congrFun (V_main_arg0 m c) _).trans ?_
  blk_point [iblk, V, idx_val t]
theorem rd2 (r : Fin 512) (k : Fin 2048) : iblk m c 2 t (ix2 r k) = (m ((c : Thread nD τ).loc main_arg2)) (ix2 (tok t r) k) := by
  refine (congrFun (V_main_arg2 m c) _).trans ?_
  blk_point [iblk, V, idx_val t]
theorem rd3 (r : Fin 512) (k : Fin 2048) : iblk m c 3 t (ix2 r k) = (m ((c : Thread nD τ).loc main_arg3)) (ix2 (tok t r) k) := by
  refine (congrFun (V_main_arg3 m c) _).trans ?_
  blk_point [iblk, V, idx_val t]
theorem rd5 (r : Fin 512) (k : Fin 1024) : iblk m c 5 t (ix2 r k) = (m ((c : Thread nD τ).loc main_arg5)) (ix2 (tok t r) k) := by
  refine (congrFun (V_main_arg5 m c) _).trans ?_
  blk_point [iblk, V, idx_val t]
theorem rd6 (r : Fin 512) (k : Fin 1024) : iblk m c 6 t (ix2 r k) = (m ((c : Thread nD τ).loc main_arg6)) (ix2 (tok t r) k) := by
  refine (congrFun (V_main_arg6 m c) _).trans ?_
  blk_point [iblk, V, idx_val t]
theorem rd4 (k : Fin 7184) (d : Fin 1024) : iblk m c 4 t (ix2 k d) = (m ((c : Thread nD τ).loc main_arg4)) (ix2 k d) := by
  refine (congrFun (V_main_arg4 m c) _).trans ?_
  blk_point [iblk, V, idx_val t]
theorem rd7 (z : Fin 1) (d : Fin 1024) : iblk m c 7 t (ix2 z d) = (m ((c : Thread nD τ).loc main_arg7)) (ix2 z d) := by
  refine (congrFun (V_main_arg7 m c) _).trans ?_
  blk_point [iblk, V, idx_val t]

theorem rd1 (r : Fin 512) (k : Fin 128) : iblk m c 1 t (ix2 r k) = pad (s := S4096x16) S4096x128 ![0, 0] ![0, 112] ![0, 0] (m ((c : Thread nD τ).loc main_arg1))
    (sitofp (F := Ideal) .bf16 (constantI S_ 32 0#32)) Facts₀.pads_S4096x16_S4096x128_000_01120 Facts₀.h_S_ (ix2 (tok t r) k) := by
  rw [← V_pad m c]
  blk_point [iblk, idx_val t]

theorem rd1_low (r : Fin 512) (k : Fin 16) : iblk m c 1 t (ix2 r (⟨k.val, by omega⟩ : Fin 128)) = (m ((c : Thread nD τ).loc main_arg1)) (ix2 (tok t r) k) := by
  rw [rd1]
  pointwise
  rw [dif_pos (by have := lt8 t; omega)]

theorem rd1_high (r : Fin 512) (k : Fin 128) (h : 16 ≤ k.val) : iblk m c 1 t (ix2 r k) = (0 : EReal) := by
  rw [rd1]
  pointwise
  rw [dif_neg (by omega)]
  show (((0#32 : BitVec 32).toInt : ℝ) : EReal) = 0
  simp

/-- A sum over a row of lanes whose upper ones are zero. -/
theorem sum_lanes (f : Fin 128 → EReal) (h : ∀ k, 16 ≤ k.val → f k = 0) : ∑ k, f k = ∑ k : Fin 16, f ⟨k.val, by omega⟩ := by
  refine (Fin.sum_univ_add (a := 16) (b := 112) f).trans ?_
  rw [Finset.sum_eq_zero (s := Finset.univ) (f := fun k : Fin 112 => f (Fin.natAdd 16 k)) fun k _ => h _ (by simp), add_zero]
  rfl

theorem tda_eq (r : Fin 512) (d : Fin 1024) : tda (iblk m c 0 t) (iblk m c 1 t) (iblk m c 2 t) (iblk m c 3 t) (iblk m c 4 t) r d
    = da (m ((c : Thread nD τ).loc main_arg0)) (m ((c : Thread nD τ).loc main_arg1)) (m ((c : Thread nD τ).loc main_arg2)) (m ((c : Thread nD τ).loc main_arg3)) (m ((c : Thread nD τ).loc main_arg4)) (tok t r) d := by
  rw [tda, da, sum_lanes _ fun k h => by rw [rd1_high m c t r k h, zero_mul]]
  simp only [rd0, rd1_low, rd2, rd3, rd4]

theorem txr_eq (r : Fin 512) : txr (iblk m c 5 t) r = xr (m ((c : Thread nD τ).loc main_arg5)) (tok t r) := funext fun d => rd5 m c t r d

theorem tdq_eq (r : Fin 512) : tdq (iblk m c 0 t) (iblk m c 1 t) (iblk m c 2 t) (iblk m c 3 t) (iblk m c 4 t) (iblk m c 7 t) r
    = dq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (tok t r) := funext fun d => by rw [tdq, tda_eq, rd7, dq]

/-- All inputs but the added cotangent have real entries. -/
structure RealAt : Prop where
  r0 : ∀ i, IsReal (m ((c : Thread nD τ).loc main_arg0) i)
  r1 : ∀ i, IsReal (m ((c : Thread nD τ).loc main_arg1) i)
  r2 : ∀ i, IsReal (m ((c : Thread nD τ).loc main_arg2) i)
  r3 : ∀ i, IsReal (m ((c : Thread nD τ).loc main_arg3) i)
  r4 : ∀ i, IsReal (m ((c : Thread nD τ).loc main_arg4) i)
  r5 : ∀ i, IsReal (m ((c : Thread nD τ).loc main_arg5) i)
  r7 : ∀ i, IsReal (m ((c : Thread nD τ).loc main_arg7) i)

variable (hR : ∀ c, RealAt m c)

include hR in
theorem da_real (s : Fin 4096) (d : Fin 1024) : IsReal (da (m ((c : Thread nD τ).loc main_arg0)) (m ((c : Thread nD τ).loc main_arg1)) (m ((c : Thread nD τ).loc main_arg2)) (m ((c : Thread nD τ).loc main_arg3)) (m ((c : Thread nD τ).loc main_arg4)) s d) :=
  .add (.add (.add (.sum _ fun _ => .mul ((hR c).r0 _) ((hR c).r4 _)) (.sum _ fun _ => .mul ((hR c).r1 _) ((hR c).r4 _)))
    (.sum _ fun _ => .mul ((hR c).r2 _) ((hR c).r4 _))) (.sum _ fun _ => .mul ((hR c).r3 _) ((hR c).r4 _))

include hR in
theorem out8 (r : Fin 512) (d : Fin 1024) : (outsAt0 m c t.val t.isLt).1 (ix2 r d)
    = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (tok t r) d) := by
  have e : ∀ a : EReal, a = (m ((c : Thread nD τ).loc main_arg6)) (ix2 (tok t r) d) →
      a + nb (txr (iblk m c 5 t) r) (tdq (iblk m c 0 t) (iblk m c 1 t) (iblk m c 2 t) (iblk m c 3 t) (iblk m c 4 t) (iblk m c 7 t) r) d
        = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (tok t r) d) := by
    rintro _ rfl
    rw [r42, txr_eq, tdq_eq]
    exact congrArg _ (nb_eq (fun x => (hR c).r5 _) (fun x => .mul (da_real m c hR _ _) ((hR c).r7 _)) d)
  by_cases h : t.val % 8 = 0
  · rw [outsAt0_A m c t h (by have := lt8 t; omega)]; dsimp only
    exact (A8 ..).trans (e _ (rd6 m c t r d))
  · rw [outsAt0_B m c t h (by omega)]; dsimp only
    exact (B8 ..).trans (e _ (rd6 m c t r d))

theorem emb8 (r : Fin 512) (d : Fin 1024) (s : Fin 4096) (hs : s.val = 512 * t.val + r.val) :
    ((cfg0.win 8).blk t).view.emb (ix2 r d) = (ix2 s d : S4096x1024.Idx) := by
  funext k
  refine Fin.ext ?_
  match k with
  | ⟨0, _⟩ => blk_simp [idx_val t]; omega
  | ⟨1, _⟩ => blk_simp [idx_val t]

include hR in
theorem final8 : (dats m 0 c).arrAt 8 (cfgs 0).N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  obtain ⟨r, d, rfl⟩ : ∃ (r : Fin 512) (d : Fin 1024), y = ix2 r d := ⟨y 0, y 1, eq_ix2 y⟩
  blk_simp
  rw [after0_8, out8 m c t hR]
  exact (congrArg _ (emb8 t r d _ rfl)).symm

/-- A sum over the points of what their rows add is the sum over the tokens. -/
theorem sum_tokens (f : Fin 4096 → EReal) (g : Fin cfg0.N → EReal) (h : ∀ t, g t = ∑ r : Fin 512, f (tok t r)) : ∑ t, g t = ∑ s, f s := by
  rw [← Fintype.sum_equiv (finProdFinEquiv (m := 8) (n := 512)) (fun q => f ⟨512 * q.1.val + q.2.val, by omega⟩) f
    fun q => congrArg f (Fin.ext (by simp [finProdFinEquiv]; omega)), Fintype.sum_prod_type]
  exact Fintype.sum_equiv (finCongr N_0) _ _ h

theorem s9_eq (d : Fin 1024) : s9 (iblk m c 0 t) (iblk m c 1 t) (iblk m c 2 t) (iblk m c 3 t) (iblk m c 4 t) (iblk m c 5 t) d
    = ∑ r : Fin 512, nx (xr (m ((c : Thread nD τ).loc main_arg5)) (tok t r)) d * da (m ((c : Thread nD τ).loc main_arg0)) (m ((c : Thread nD τ).loc main_arg1)) (m ((c : Thread nD τ).loc main_arg2)) (m ((c : Thread nD τ).loc main_arg3)) (m ((c : Thread nD τ).loc main_arg4)) (tok t r) d :=
  Finset.sum_congr rfl fun r _ => by rw [tda_eq, txr_eq, mul_comm]

/-- What a point adds to the gain's gradient. -/
def add9 (j : S1x1024.Idx) : EReal := s9 (iblk m c 0 t) (iblk m c 1 t) (iblk m c 2 t) (iblk m c 3 t) (iblk m c 4 t) (iblk m c 5 t) (j 1)

theorem reset9 (h : t.val % 8 = 0) (j : S1x1024.Idx) : (outsAt0 m c t.val t.isLt).2 j = (0 : EReal) + add9 m c t j := by
  obtain ⟨z, d, rfl⟩ : ∃ (z : Fin 1) (d : Fin 1024), j = ix2 z d := ⟨j 0, j 1, eq_ix2 j⟩
  rw [outsAt0_A m c t h (by have := lt8 t; omega)]; dsimp only
  exact (A9 ..).trans (zero_add _).symm

theorem step9 (h : ¬t.val % 8 = 0) (j : S1x1024.Idx) : (outsAt0 m c t.val t.isLt).2 j
    = ((outsAt0 m c (t.val - 1) (Nat.lt_of_le_of_lt (Nat.sub_le _ _) t.isLt)).2 j + add9 m c t j : EReal) := by
  obtain ⟨z, d, rfl⟩ : ∃ (z : Fin 1) (d : Fin 1024), j = ix2 z d := ⟨j 0, j 1, eq_ix2 j⟩
  rw [outsAt0_B m c t h (by omega)]; dsimp only
  exact B9 ..

theorem final9 : (dats m 0 c).arrAt 9 (cfgs 0).N = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => (0 : EReal)) (add9 m c)
    (reset9 m c) (step9 m c) (le_of_eq N_0) t0_7 rfl j, zero_add]
  obtain ⟨z, d, rfl⟩ : ∃ (z : Fin 1) (d : Fin 1024), j = ix2 z d := ⟨j 0, j 1, eq_ix2 j⟩
  refine Eq.trans ?_ (r25 ..).symm
  exact sum_tokens _ _ fun t => s9_eq m c t d

end Cert.InPIdeal.RefValue

end
-- ==== Proof.InPClaim.lean ====
module

public import proofs.«01_k».proof.Defs
public import proofs.«01_k».proof.Proof.InPValue
public import proofs.«01_k».proof.Proof.Gen.InP.Frame
public import proofs.«01_k».proof.Proof.Gen.InPIdeal.Frame
public import proofs.«01_k».proof.Proof.Gen.InPRefIdeal.Run
public import proofs.«01_k».proof.Proof.Gen.InPRefIdeal.Read
public import Idealize.ShloMosaic.Lib.Claim

/-! The claims about the first norm's gradient: both programs' runs set beside each other. -/

@[expose] public section

namespace Cert.Proof.InP

open Idealize.ShloMosaic Idealize.SL.Sem Cert.Scalar

theorem preFacts : Cert.Pre_finite_in.Facts where
  bitsLt_bf16_f32 := by decide
  bcast_S_S4096x3072 := by decide
  reducesTo_S4096x3072_S_d0_1 := by decide
  h_S_ := by decide
  bcast_S_S4096x16 := by decide
  reducesTo_S4096x16_S_d0_1 := by decide
  bcast_S_S4096x2048 := by decide
  reducesTo_S4096x2048_S_d0_1 := by decide
  bcast_S_S7184x1024 := by decide
  reducesTo_S7184x1024_S_d0_1 := by decide
  bcast_S_S4096x1024 := by decide
  reducesTo_S4096x1024_S_d0_1 := by decide
  bcast_S_S1x1024 := by decide
  reducesTo_S1x1024_S_d0_1 := by decide

theorem kernel : Cert.quiescent_InP := fun m ρ _ => Cert.InP.Gen.frame m ρ

theorem ideal : Cert.quiescent_InPIdeal := fun m ρ _ => Cert.InPIdeal.Gen.frame m ρ

theorem ref : Cert.quiescent_InPRefIdeal := fun m ρ _ =>
  (θ_run _ _ _).mono (fun r h => ⟨fun c => (h c).2.2, sem_eq_zero_of_no_sems (by decide) r.2⟩)
    (Cert.InPRefIdeal.Value.run m ρ)

/-- The precondition says that the inputs it names have real entries. -/
theorem real_of_pre [Cert.Pre_finite_in.Facts] (m : (ℓ : Loc Cert.InPIdeal.nD Cert.InPIdeal.τ Cert.InPIdeal.sig) → Buf (Elt Ideal) ℓ)
    (h : Cert.Pre_InPIdeal_finite_in m) (c : Dev Cert.InPIdeal.nD) : Cert.InPIdeal.RefValue.RealAt m c :=
  have ⟨h, g6⟩ := andi_split (h c)
  have ⟨h, g5⟩ := andi_split h
  have ⟨h, g4⟩ := andi_split h
  have ⟨h, g3⟩ := andi_split h
  have ⟨h, g2⟩ := andi_split h
  have ⟨h, g1⟩ := andi_split h
  ⟨isReal_of_all _ _ _ _ h, isReal_of_all _ _ _ _ g1, isReal_of_all _ _ _ _ g2, isReal_of_all _ _ _ _ g3, isReal_of_all _ _ _ _ g4, isReal_of_all _ _ _ _ g5, isReal_of_all _ _ _ _ g6⟩

open Cert.InPRefIdeal.Read Cert.InPIdeal.RefValue in
theorem value [Cert.Pre_finite_in.Facts] : Cert.algebraic_InPIdeal_InPRefIdeal_pre_finite_in := fun m g m' g' hp ha =>
  have hR : ∀ c, RealAt m c := real_of_pre m hp
  ⟨fun c => val_main_v42 (F := Ideal) (m ((c.tc : Thread _ _).loc Cert.InPIdeal.main_arg0)) (m ((c.tc : Thread _ _).loc Cert.InPIdeal.main_arg1)) (m ((c.tc : Thread _ _).loc Cert.InPIdeal.main_arg2)) (m ((c.tc : Thread _ _).loc Cert.InPIdeal.main_arg3)) (m ((c.tc : Thread _ _).loc Cert.InPIdeal.main_arg4)) (m ((c.tc : Thread _ _).loc Cert.InPIdeal.main_arg5)) (m ((c.tc : Thread _ _).loc Cert.InPIdeal.main_arg6)) (m ((c.tc : Thread _ _).loc Cert.InPIdeal.main_arg7)),
   fun c => val_main_v25 (F := Ideal) (m ((c.tc : Thread _ _).loc Cert.InPIdeal.main_arg0)) (m ((c.tc : Thread _ _).loc Cert.InPIdeal.main_arg1)) (m ((c.tc : Thread _ _).loc Cert.InPIdeal.main_arg2)) (m ((c.tc : Thread _ _).loc Cert.InPIdeal.main_arg3)) (m ((c.tc : Thread _ _).loc Cert.InPIdeal.main_arg4)) (m ((c.tc : Thread _ _).loc Cert.InPIdeal.main_arg5)),
   (θ_run _ _ _).mono (fun r h c => by
       obtain ⟨k0, k1, h⟩ := h c
       exact ⟨k0.trans (final8 m c hR), k1.trans (final9 m c), h⟩)
     (Cert.InPIdeal.Value.run_blocks m g),
   (θ_run _ _ _).mono (fun r h c => by
       obtain ⟨e0, e1, e2, e3, e4, e5, e6, e7⟩ := ha c
       obtain ⟨k0, k1, h⟩ := h c
       replace k0 := k0.trans (val_main_v42_eq ..)
       replace k1 := k1.trans (val_main_v25_eq ..)
       refine ⟨k0.trans ?_, k1.trans ?_, h⟩
       · dsimp only; rw [← e0, ← e1, ← e2, ← e3, ← e4, ← e5, ← e6, ← e7]
       · dsimp only; rw [← e0, ← e1, ← e2, ← e3, ← e4, ← e5])
     (Cert.InPRefIdeal.Value.run m' g')⟩

end Cert.Proof.InP
-- ==== Proof.LossRef.lean ====
module

public import proofs.«01_k».proof.Proof.NormMath
public import proofs.«01_k».proof.Proof.Gen.LossRefIdeal.Read
public import Idealize.ShloMosaic.Lib.Pipeline.ValueKit

/-! The reference of the loss and of the last norm's gradient read layer by layer, at a token `s` and a lane `d`. -/

@[expose] public section

set_option maxRecDepth 16384

noncomputable section

namespace Cert.LossIdeal.Spec

open Cert.LossRefIdeal Cert.LossRefIdeal.Read Idealize.ShloMosaic
open Cert.Scalar

abbrev Mat (n : ℕ) := (⟨2, ![4096, n]⟩ : Shape).Idx → EReal
abbrev Wgt := (⟨2, ![2816, 1024]⟩ : Shape).Idx → EReal
abbrev Gain := (⟨2, ![1, 1024]⟩ : Shape).Idx → EReal

variable (x0 : Mat 2816) (x1 : Wgt) (x2 x3 : Mat 1024) (x4 : Gain)

/-- The token's row of the channel mixer's output. -/
def yr (s : Fin 4096) (d : Fin 1024) : EReal := ∑ k : Fin 2816, x0 (ix2 s k) * x1 (ix2 k d)
/-- The output's difference from the target. -/
def df (s : Fin 4096) (d : Fin 1024) : EReal := x2 (ix2 s d) + nx (yr x0 x1 s) d * x4 (ix2 0 d) - x3 (ix2 s d)
/-- Its mean square. -/
def ms (s : Fin 4096) : EReal := Ideal.div (∑ d, df x0 x1 x2 x3 x4 s d * df x0 x1 x2 x3 x4 s d) (Ideal.ofBits .f32 0x44800000#32)
/-- The output's cotangent, as the derivative has it. -/
def dx (s : Fin 4096) (d : Fin 1024) : EReal :=
  Ideal.div (Ideal.ofBits .f32 0x3F000000#32) (Ideal.ofBits .f32 0x44800000#32)
    * (Ideal.ofBits .f32 0x40000000#32 * df x0 x1 x2 x3 x4 s d)
/-- The cotangent of the normalised row. -/
def q4 (s : Fin 4096) (d : Fin 1024) : EReal := dx x0 x1 x2 x3 x4 s d * x4 (ix2 0 d)

theorem v2 (s : Fin 4096) (d : Fin 1024) : val_main_v2 (F := Ideal) x0 x1 (ix2 s d) = yr x0 x1 s d := by
  pointwise [val_main_v2, val_main_v0, val_main_v1]
  rfl

theorem v9 (s : Fin 4096) (z : Fin 1) : val_main_v9 (F := Ideal) x0 x1 (ix2 s z) = nv (yr x0 x1 s) := by
  pointwise [val_main_v9, val_main_v8, val_main_v7, val_main_v6, val_main_v5, val_main_v4, val_main_v3, v2, val_main_cst_0, val_main_cst_1,
    val_main_cst]
  rfl

theorem v10 (s : Fin 4096) (z : Fin 1) : val_main_v10 (F := Ideal) x0 x1 (ix2 s z) = ns (yr x0 x1 s) := by
  pointwise [val_main_v10, v9]
  rfl

theorem v15 (s : Fin 4096) (d : Fin 1024) : val_main_v15 (F := Ideal) x0 x1 (ix2 s d) = nx (yr x0 x1 s) d := by
  pointwise [val_main_v15, val_main_v14, v10, v2]
  rfl

theorem v19 (s : Fin 4096) (d : Fin 1024) : val_main_v19 (F := Ideal) x0 x1 x2 x3 x4 (ix2 s d) = df x0 x1 x2 x3 x4 s d := by
  pointwise [val_main_v19, val_main_v18, val_main_v17, val_main_v16, v15]
  rfl

theorem v25 (s : Fin 4096) : val_main_v25 (F := Ideal) x0 x1 x2 x3 x4 (ix1 s) = ms x0 x1 x2 x3 x4 s := by
  pointwise [val_main_v25, val_main_v24, val_main_v23, val_main_v20, v19, val_main_cst_4, val_main_cst_5]
  rfl

theorem r53 (z : Fin 1) (l : Fin 128) : val_main_v53 (F := Ideal) x0 x1 x2 x3 x4 (ix2 z l)
    = Ideal.ofBits .f32 0x3F000000#32 * ∑ s : Fin 4096, ms x0 x1 x2 x3 x4 s := by
  pointwise [val_main_v53, val_main_v27, val_main_v26, v25, val_main_cst_6, val_main_cst_7]

theorem r33 (s : Fin 4096) (d : Fin 1024) : val_main_v33 (F := Ideal) x0 x1 x2 x3 x4 (ix2 s d) = dx x0 x1 x2 x3 x4 s d := by
  pointwise [val_main_v33, val_main_v32, val_main_v31, val_main_v30, val_main_v29, val_main_v28, val_main_v22, val_main_v21, v19,
    val_main_cst_2, val_main_cst_3, val_main_cst_8, val_main_cst_9, val_main_cst_10]
  rfl

theorem i36 (z : Fin 1) (d : Fin 1024) : idx_main_v36 (ix2 z d) = ix1 d :=
  funext fun a => Fin.ext (by match a with | ⟨0, _⟩ => dsimp; omega)

theorem r36 (z : Fin 1) (d : Fin 1024) : val_main_v36 (F := Ideal) x0 x1 x2 x3 x4 (ix2 z d)
    = ∑ s : Fin 4096, nx (yr x0 x1 s) d * dx x0 x1 x2 x3 x4 s d := by
  rw [val_main_v36_apply, i36]
  pointwise [val_main_v35, val_main_v34, v15, r33, val_main_cst_11]

theorem v38 (s : Fin 4096) (d : Fin 1024) : val_main_v38 (F := Ideal) x0 x1 x2 x3 x4 (ix2 s d) = q4 x0 x1 x2 x3 x4 s d := by
  pointwise [val_main_v38, val_main_v37, r33]
  rfl

theorem i41 (s : Fin 4096) (z : Fin 1) : idx_main_v41 (ix2 s z) = ix1 s :=
  funext fun a => Fin.ext (by match a with | ⟨0, _⟩ => dsimp; omega)

theorem v41 (s : Fin 4096) (z : Fin 1) : val_main_v41 (F := Ideal) x0 x1 x2 x3 x4 (ix2 s z)
    = ∑ d : Fin 1024, yr x0 x1 s d * q4 x0 x1 x2 x3 x4 s d := by
  rw [val_main_v41_apply, i41]
  pointwise [val_main_v40, val_main_v39, v38, v2, val_main_cst_12]

theorem v47 (s : Fin 4096) : val_main_v47 (F := Ideal) x0 x1 x2 x3 x4 (ix1 s) = nw (yr x0 x1 s) (q4 x0 x1 x2 x3 x4 s) := by
  pointwise [val_main_v47, val_main_v46, val_main_v45, val_main_v44, val_main_v13, val_main_v12, val_main_v11, v41, v10, v9,
    val_main_cst_2, val_main_cst_13, val_main_cst_14]
  simp only [Finset.univ_unique, Finset.sum_singleton]
  rfl

theorem r54 (s : Fin 4096) (d : Fin 1024) : val_main_v54 (F := Ideal) x0 x1 x2 x3 x4 (ix2 s d)
    = rnb (yr x0 x1 s) (q4 x0 x1 x2 x3 x4 s) d := by
  pointwise [val_main_v54, val_main_v52, val_main_v51, val_main_v50, val_main_v49, val_main_v48, val_main_v43, val_main_v42, v10, v38, v47, v2]
  rfl

end Cert.LossIdeal.Spec

end
-- ==== Proof.LossTile.lean ====
module

public import proofs.«01_k».proof.Proof.LossRef
public import proofs.«01_k».proof.Proof.Gen.LossIdeal.Value
public import Idealize.ShloMosaic.Lib.Pipeline.ReadBack

/-! What one grid point of the loss kernel leaves in its outputs: it works on two halves of its rows. -/

@[expose] public section

set_option maxRecDepth 16384

noncomputable section

namespace Cert.LossIdeal.Tile

open Cert.LossIdeal Cert.LossIdeal.Gen Idealize.ShloMosaic Idealize.ShloMosaic.TcCoe Idealize.SL.Sem
open Idealize.ShloMosaic.Pipeline (Dat)
open Cert.Scalar Cert.LossIdeal.Spec

def prow : Fin 2 → Fin 256 → Fin 512
  | 0, i => ⟨i.val, by omega⟩
  | 1, i => ⟨256 + i.val, by omega⟩
theorem prow_val : ∀ (p : Fin 2) (i : Fin 256), (prow p i).val = 256 * p.val + i.val
  | 0, i => by simp [prow]
  | 1, i => by simp [prow]

section Spec
variable (x0 : Vec Ideal S512x2816 .bf16) (x1 : Vec Ideal S2816x1024 .bf16) (x2 x3 : Vec Ideal S512x1024 .f32) (x4 : Vec Ideal S1x1024 .f32)

/-- The row of the channel mixer's output. -/
def ty (r : Fin 512) (d : Fin 1024) : EReal := ∑ k : Fin 2816, x0 (ix2 r k) * x1 (ix2 k d)
/-- Its difference from the target, normalised, scaled and added to the residual row. -/
def tdf (r : Fin 512) (d : Fin 1024) : EReal := x2 (ix2 r d) + nx (ty x0 x1 r) d * x4 (ix2 0 d) - x3 (ix2 r d)
def tms (r : Fin 512) : EReal := Ideal.div (∑ d, tdf x0 x1 x2 x3 x4 r d * tdf x0 x1 x2 x3 x4 r d) (Ideal.ofBits .f32 0x44800000#32)
def tdx (r : Fin 512) (d : Fin 1024) : EReal := tdf x0 x1 x2 x3 x4 r d * Ideal.ofBits .f32 0x3A800000#32
def tq4 (r : Fin 512) (d : Fin 1024) : EReal := tdx x0 x1 x2 x3 x4 r d * x4 (ix2 0 d)
/-- What half `p` adds to the loss. -/
def s5 (p : Fin 2) : EReal := Ideal.ofBits .f32 0x3F000000#32 * ∑ i : Fin 256, tms x0 x1 x2 x3 x4 (prow p i)
/-- What half `p` adds to the gain's gradient. -/
def s8 (p : Fin 2) (d : Fin 1024) : EReal := ∑ i : Fin 256, tdx x0 x1 x2 x3 x4 (prow p i) d * nx (ty x0 x1 (prow p i)) d
end Spec

variable (c : Dev nD) (i : grid0.Coords) (arg1 : Memref sig .tc .vmem S512x2816 .bf16) (harg1 : arg1.IsWhole) (arg2 : Memref sig .tc .vmem S2816x1024
  .bf16) (harg2 : arg2.IsWhole) (arg3 : Memref sig .tc .vmem S512x1024 .f32) (harg3 : arg3.IsWhole) (arg4 : Memref sig .tc .vmem S512x1024 .f32)
  (harg4 : arg4.IsWhole) (arg5 : Memref sig .tc .vmem S1x1024 .f32) (harg5 : arg5.IsWhole) (arg6 : Memref sig .tc .vmem S1x128 .f32) (harg6 :
  arg6.IsWhole) (arg7 : Memref sig .tc .vmem S512x1024 .f32) (harg7 : arg7.IsWhole) (arg8 : Memref sig .tc .vmem S512x1024 .bf16) (harg8 :
  arg8.IsWhole) (arg9 : Memref sig .tc .vmem S1x1024 .f32) (harg9 : arg9.IsWhole) (x0 : Vec Ideal S512x2816 .bf16) (x1 : Vec Ideal S2816x1024 .bf16)
  (x2 x3 : Vec Ideal S512x1024 .f32) (x4 : Vec Ideal S1x1024 .f32) (xo5 : Vec Ideal S1x128 .f32) (xo8 : Vec Ideal S1x1024 .f32)

theorem A5 (hc0 : cond0_0 i) (hc1 : ¬cond0_1 i) (hc2 : cond0_2 i) (hc3 : ¬cond0_3 i) (z : Fin 1) (l : Fin 128) : out0_A_5 c i arg1 harg1 arg2 harg2 arg3 harg3 arg4 harg4 arg5 harg5 arg6 harg6 arg7 harg7 arg8 harg8 arg9 harg9 hc0 hc1 hc2 hc3 x0 x1 x2 x3 x4 (ix2 z l)
    = (0 + s5 x0 x1 x2 x3 x4 0 + s5 x0 x1 x2 x3 x4 1) := by
  frame_out
  open_payloads
  pointwise []
  rfl

theorem A6 (hc0 : cond0_0 i) (hc1 : ¬cond0_1 i) (hc2 : cond0_2 i) (hc3 : ¬cond0_3 i) (r : Fin 512) (d : Fin 1024) : out0_A_6 c i arg1 harg1 arg2 harg2 arg3 harg3 arg4 harg4 arg5 harg5 arg6 harg6 arg7 harg7 arg8 harg8 arg9 harg9 hc0 hc1 hc2 hc3 x0 x1 x2 x3 x4 (ix2 r d)
    = tdx x0 x1 x2 x3 x4 r d := by
  frame_out
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise []
    rfl

theorem A7 (hc0 : cond0_0 i) (hc1 : ¬cond0_1 i) (hc2 : cond0_2 i) (hc3 : ¬cond0_3 i) (r : Fin 512) (d : Fin 1024) : out0_A_7 c i arg1 harg1 arg2 harg2 arg3 harg3 arg4 harg4 arg5 harg5 arg6 harg6 arg7 harg7 arg8 harg8 arg9 harg9 hc0 hc1 hc2 hc3 x0 x1 x2 x3 x4 (ix2 r d)
    = nb (ty x0 x1 r) (tq4 x0 x1 x2 x3 x4 r) d := by
  frame_out
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise []
    rfl

theorem A8 (hc0 : cond0_0 i) (hc1 : ¬cond0_1 i) (hc2 : cond0_2 i) (hc3 : ¬cond0_3 i) (z : Fin 1) (d : Fin 1024) : out0_A_8 c i arg1 harg1 arg2 harg2 arg3 harg3 arg4 harg4 arg5 harg5 arg6 harg6 arg7 harg7 arg8 harg8 arg9 harg9 hc0 hc1 hc2 hc3 x0 x1 x2 x3 x4 (ix2 z d)
    = (0 + s8 x0 x1 x2 x3 x4 0 d + s8 x0 x1 x2 x3 x4 1 d) := by
  frame_out
  open_payloads
  pointwise []
  rfl

theorem B5 (hc0 : ¬cond0_0 i) (hc1 : cond0_1 i) (hc2 : ¬cond0_2 i) (hc3 : cond0_3 i) (z : Fin 1) (l : Fin 128) : out0_B_5 c i arg1 harg1 arg2 harg2 arg3 harg3 arg4 harg4 arg5 harg5 arg6 harg6 arg7 harg7 arg8 harg8 arg9 harg9 hc0 hc1 hc2 hc3 x0 x1 x2 x3 x4 xo5 xo8 (ix2 z l)
    = xo5 (ix2 z l) + (0 + s5 x0 x1 x2 x3 x4 0 + s5 x0 x1 x2 x3 x4 1) := by
  frame_out
  open_payloads
  pointwise []
  rfl

theorem B6 (hc0 : ¬cond0_0 i) (hc1 : cond0_1 i) (hc2 : ¬cond0_2 i) (hc3 : cond0_3 i) (r : Fin 512) (d : Fin 1024) : out0_B_6 c i arg1 harg1 arg2 harg2 arg3 harg3 arg4 harg4 arg5 harg5 arg6 harg6 arg7 harg7 arg8 harg8 arg9 harg9 hc0 hc1 hc2 hc3 x0 x1 x2 x3 x4 xo5 xo8 (ix2 r d)
    = tdx x0 x1 x2 x3 x4 r d := by
  frame_out
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise []
    rfl

theorem B7 (hc0 : ¬cond0_0 i) (hc1 : cond0_1 i) (hc2 : ¬cond0_2 i) (hc3 : cond0_3 i) (r : Fin 512) (d : Fin 1024) : out0_B_7 c i arg1 harg1 arg2 harg2 arg3 harg3 arg4 harg4 arg5 harg5 arg6 harg6 arg7 harg7 arg8 harg8 arg9 harg9 hc0 hc1 hc2 hc3 x0 x1 x2 x3 x4 xo5 xo8 (ix2 r d)
    = nb (ty x0 x1 r) (tq4 x0 x1 x2 x3 x4 r) d := by
  frame_out
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise []
    rfl

theorem B8 (hc0 : ¬cond0_0 i) (hc1 : cond0_1 i) (hc2 : ¬cond0_2 i) (hc3 : cond0_3 i) (z : Fin 1) (d : Fin 1024) : out0_B_8 c i arg1 harg1 arg2 harg2 arg3 harg3 arg4 harg4 arg5 harg5 arg6 harg6 arg7 harg7 arg8 harg8 arg9 harg9 hc0 hc1 hc2 hc3 x0 x1 x2 x3 x4 xo5 xo8 (ix2 z d)
    = xo8 (ix2 z d) + (0 + s8 x0 x1 x2 x3 x4 0 d + s8 x0 x1 x2 x3 x4 1 d) := by
  frame_out
  open_payloads
  pointwise []
  rfl

end Cert.LossIdeal.Tile

end
-- ==== Proof.LossValue.lean ====
module

public import proofs.«01_k».proof.Proof.LossTile
public import Idealize.ShloMosaic.Lib.Pipeline.ValueKit

/-! The arrays the loss kernel leaves are the reference's: the two cotangents block by block, the loss and the gain's gradient over
the grid. -/

@[expose] public section

set_option maxRecDepth 16384

noncomputable section

namespace Cert.LossIdeal.RefValue

open Cert.LossIdeal Cert.LossIdeal.Gen Idealize.ShloMosaic Idealize.ShloMosaic.TcCoe Idealize.SL.Sem
open Idealize.ShloMosaic.Pipeline (Dat)
open Cert.LossRefIdeal.Read Cert.Scalar Cert.LossIdeal.Spec Cert.LossIdeal.Tile

variable (m : (ℓ : Loc nD τ sig) → Buf (Elt Ideal) ℓ)

theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_6.index t = ![t.val, 0]
    ∧ win0_7.index t = ![t.val, 0] :=
  (by decide +kernel : ∀ t : Fin grid0.N, _)

theorem lt8 (t : Fin cfg0.N) : t.val < 8 := lt_of_lt_of_eq t.isLt N_0

/-- The token a row of a point's block holds. -/
abbrev tok (t : Fin cfg0.N) (r : Fin 512) : Fin 4096 := ⟨512 * t.val + r.val, by have := lt8 t; omega⟩

/-- The rows of a block are those of its halves. -/
theorem sum_halves (f : Fin 512 → EReal) : ∑ r, f r = ∑ i, f (prow 0 i) + ∑ i, f (prow 1 i) := by
  refine (Fin.sum_univ_add (a := 256) (b := 256) f).trans ?_
  rfl

/-- A sum over the points of what their rows add is the sum over the tokens. -/
theorem sum_tokens (f : Fin 4096 → EReal) (g : Fin cfg0.N → EReal) (h : ∀ t, g t = ∑ r : Fin 512, f (tok t r)) : ∑ t, g t = ∑ s, f s := by
  rw [← Fintype.sum_equiv (finProdFinEquiv (m := 8) (n := 512)) (fun q => f ⟨512 * q.1.val + q.2.val, by omega⟩) f
    fun q => congrArg f (Fin.ext (by simp [finProdFinEquiv]; omega)), Fintype.sum_prod_type]
  exact Fintype.sum_equiv (finCongr N_0) _ _ h

variable (c : Dev nD) (t : Fin cfg0.N)

theorem rd0 (r : Fin 512) (k : Fin 2816) : iblk m c 0 t (ix2 r k) = (m ((c : Thread nD τ).loc main_arg0)) (ix2 (tok t r) k) := by
  refine (congrFun (V_main_arg0 m c) _).trans ?_
  blk_point [iblk, V, idx_val t]
theorem rd1 (k : Fin 2816) (d : Fin 1024) : iblk m c 1 t (ix2 k d) = (m ((c : Thread nD τ).loc main_arg1)) (ix2 k d) := by
  refine (congrFun (V_main_arg1 m c) _).trans ?_
  blk_point [iblk, V, idx_val t]
theorem rd2 (r : Fin 512) (k : Fin 1024) : iblk m c 2 t (ix2 r k) = (m ((c : Thread nD τ).loc main_arg2)) (ix2 (tok t r) k) := by
  refine (congrFun (V_main_arg2 m c) _).trans ?_
  blk_point [iblk, V, idx_val t]
theorem rd3 (r : Fin 512) (k : Fin 1024) : iblk m c 3 t (ix2 r k) = (m ((c : Thread nD τ).loc main_arg3)) (ix2 (tok t r) k) := by
  refine (congrFun (V_main_arg3 m c) _).trans ?_
  blk_point [iblk, V, idx_val t]
theorem rd4 (k : Fin 1) (d : Fin 1024) : iblk m c 4 t (ix2 k d) = (m ((c : Thread nD τ).loc main_arg4)) (ix2 k d) := by
  refine (congrFun (V_main_arg4 m c) _).trans ?_
  blk_point [iblk, V, idx_val t]

theorem ty_eq (r : Fin 512) : ty (iblk m c 0 t) (iblk m c 1 t) r = yr (m ((c : Thread nD τ).loc main_arg0)) (m ((c : Thread nD τ).loc main_arg1)) (tok t r) := funext fun d => by simp only [ty, yr, rd0, rd1]

theorem tdf_eq (r : Fin 512) (d : Fin 1024) : tdf (iblk m c 0 t) (iblk m c 1 t) (iblk m c 2 t) (iblk m c 3 t) (iblk m c 4 t) r d = df (m ((c : Thread nD τ).loc main_arg0)) (m ((c : Thread nD τ).loc main_arg1)) (m ((c : Thread nD τ).loc main_arg2)) (m ((c : Thread nD τ).loc main_arg3)) (m ((c : Thread nD τ).loc main_arg4)) (tok t r) d := by
  have e : ∀ a b : EReal, a = (m ((c : Thread nD τ).loc main_arg2)) (ix2 (tok t r) d) → b = (m ((c : Thread nD τ).loc main_arg3)) (ix2 (tok t r) d) →
      a + nx (ty (iblk m c 0 t) (iblk m c 1 t) r) d * iblk m c 4 t (ix2 0 d) - b = df (m ((c : Thread nD τ).loc main_arg0)) (m ((c : Thread nD τ).loc main_arg1)) (m ((c : Thread nD τ).loc main_arg2)) (m ((c : Thread nD τ).loc main_arg3)) (m ((c : Thread nD τ).loc main_arg4)) (tok t r) d := by
    rintro _ _ rfl rfl
    rw [ty_eq, rd4, df]
  exact e _ _ (rd2 m c t r d) (rd3 m c t r d)

theorem tms_eq (r : Fin 512) : tms (iblk m c 0 t) (iblk m c 1 t) (iblk m c 2 t) (iblk m c 3 t) (iblk m c 4 t) r = ms (m ((c : Thread nD τ).loc main_arg0)) (m ((c : Thread nD τ).loc main_arg1)) (m ((c : Thread nD τ).loc main_arg2)) (m ((c : Thread nD τ).loc main_arg3)) (m ((c : Thread nD τ).loc main_arg4)) (tok t r) := by
  simp only [tms, ms, tdf_eq]

/-- All inputs have real entries. -/
structure RealAt : Prop where
  r0 : ∀ i, IsReal ((m ((c : Thread nD τ).loc main_arg0)) i)
  r1 : ∀ i, IsReal ((m ((c : Thread nD τ).loc main_arg1)) i)
  r2 : ∀ i, IsReal ((m ((c : Thread nD τ).loc main_arg2)) i)
  r3 : ∀ i, IsReal ((m ((c : Thread nD τ).loc main_arg3)) i)
  r4 : ∀ i, IsReal ((m ((c : Thread nD τ).loc main_arg4)) i)

variable (hR : ∀ c, RealAt m c)

theorem half_val : Ideal.ofBits .f32 0x3F000000#32 = ((1 / 2 : ℝ) : EReal) := by
  simp [Ideal.ofBits, Ideal.ieee]; norm_cast; norm_num
theorem two_val : Ideal.ofBits .f32 0x40000000#32 = ((2 : ℝ) : EReal) := by
  simp [Ideal.ofBits, Ideal.ieee]; norm_cast; norm_num
theorem inv_val : Ideal.ofBits .f32 0x3A800000#32 = ((1 / 1024 : ℝ) : EReal) := by
  simp [Ideal.ofBits, Ideal.ieee]; norm_cast; norm_num

include hR in
theorem yr_real (s : Fin 4096) (d : Fin 1024) : IsReal (yr (m ((c : Thread nD τ).loc main_arg0)) (m ((c : Thread nD τ).loc main_arg1)) s d) := .sum _ fun _ => .mul ((hR c).r0 _) ((hR c).r1 _)

include hR in
theorem df_real (s : Fin 4096) (d : Fin 1024) : IsReal (df (m ((c : Thread nD τ).loc main_arg0)) (m ((c : Thread nD τ).loc main_arg1)) (m ((c : Thread nD τ).loc main_arg2)) (m ((c : Thread nD τ).loc main_arg3)) (m ((c : Thread nD τ).loc main_arg4)) s d) :=
  .sub (.add ((hR c).r2 _) (.mul (nx_real (yr_real m c hR s) d) ((hR c).r4 _))) ((hR c).r3 _)

include hR in
theorem tdx_eq (r : Fin 512) (d : Fin 1024) : tdx (iblk m c 0 t) (iblk m c 1 t) (iblk m c 2 t) (iblk m c 3 t) (iblk m c 4 t) r d = dx (m ((c : Thread nD τ).loc main_arg0)) (m ((c : Thread nD τ).loc main_arg1)) (m ((c : Thread nD τ).loc main_arg2)) (m ((c : Thread nD τ).loc main_arg3)) (m ((c : Thread nD τ).loc main_arg4)) (tok t r) d := by
  rw [tdx, tdf_eq, dx, half_val, two_val, inv_val, n1024_val, coe_div _ _ (by norm_num)]
  obtain ⟨x, hx⟩ := df_real m c hR (tok t r) d
  rw [hx]
  norm_cast
  ring

include hR in
theorem dx_real (s : Fin 4096) (d : Fin 1024) : IsReal (dx (m ((c : Thread nD τ).loc main_arg0)) (m ((c : Thread nD τ).loc main_arg1)) (m ((c : Thread nD τ).loc main_arg2)) (m ((c : Thread nD τ).loc main_arg3)) (m ((c : Thread nD τ).loc main_arg4)) s d) := by
  rw [dx, half_val, two_val, n1024_val, coe_div _ _ (by norm_num)]
  exact .mul ⟨_, rfl⟩ (.mul ⟨_, rfl⟩ (df_real m c hR s d))

include hR in
theorem tq4_eq (r : Fin 512) : tq4 (iblk m c 0 t) (iblk m c 1 t) (iblk m c 2 t) (iblk m c 3 t) (iblk m c 4 t) r = q4 (m ((c : Thread nD τ).loc main_arg0)) (m ((c : Thread nD τ).loc main_arg1)) (m ((c : Thread nD τ).loc main_arg2)) (m ((c : Thread nD τ).loc main_arg3)) (m ((c : Thread nD τ).loc main_arg4)) (tok t r) := funext fun d => by rw [tq4, tdx_eq m c t hR, rd4, q4]

include hR in
theorem t7_eq (r : Fin 512) (d : Fin 1024) : nb (ty (iblk m c 0 t) (iblk m c 1 t) r) (tq4 (iblk m c 0 t) (iblk m c 1 t) (iblk m c 2 t) (iblk m c 3 t) (iblk m c 4 t) r) d = rnb (yr (m ((c : Thread nD τ).loc main_arg0)) (m ((c : Thread nD τ).loc main_arg1)) (tok t r)) (q4 (m ((c : Thread nD τ).loc main_arg0)) (m ((c : Thread nD τ).loc main_arg1)) (m ((c : Thread nD τ).loc main_arg2)) (m ((c : Thread nD τ).loc main_arg3)) (m ((c : Thread nD τ).loc main_arg4)) (tok t r)) d := by
  rw [ty_eq, tq4_eq m c t hR]
  exact nb_eq (yr_real m c hR _) (fun _ => .mul (dx_real m c hR _ _) ((hR c).r4 _)) d

include hR in
theorem out6 (r : Fin 512) (d : Fin 1024) : (outsAt0 m c t.val t.isLt).2.1 (ix2 r d) = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (tok t r) d) := by
  have e : tdx (iblk m c 0 t) (iblk m c 1 t) (iblk m c 2 t) (iblk m c 3 t) (iblk m c 4 t) r d = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (tok t r) d) := (tdx_eq m c t hR r d).trans (r33 ..).symm
  by_cases h : t.val % 8 = 0
  · rw [outsAt0_A m c t h (by have := lt8 t; omega) h (by have := lt8 t; omega)]; dsimp only
    exact (A6 ..).trans e
  · rw [outsAt0_B m c t h (by omega) h (by omega)]; dsimp only
    exact (B6 ..).trans e

theorem emb6 (r : Fin 512) (d : Fin 1024) (s : Fin 4096) (hs : s.val = 512 * t.val + r.val) :
    ((cfg0.win 6).blk t).view.emb (ix2 r d) = (ix2 s d : S4096x1024.Idx) := by
  funext k
  refine Fin.ext ?_
  match k with
  | ⟨0, _⟩ => blk_simp [idx_val t]; omega
  | ⟨1, _⟩ => blk_simp [idx_val t]

include hR in
theorem final6 : (dats m 0 c).arrAt 6 (cfgs 0).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  obtain ⟨r, d, rfl⟩ : ∃ (r : Fin 512) (d : Fin 1024), y = ix2 r d := ⟨y 0, y 1, eq_ix2 y⟩
  blk_simp
  rw [after0_6, out6 m c t hR]
  exact (congrArg _ (emb6 t r d _ rfl)).symm

include hR in
theorem out7 (r : Fin 512) (d : Fin 1024) : (outsAt0 m c t.val t.isLt).2.2.1 (ix2 r d) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (tok t r) d) := by
  have e : nb (ty (iblk m c 0 t) (iblk m c 1 t) r) (tq4 (iblk m c 0 t) (iblk m c 1 t) (iblk m c 2 t) (iblk m c 3 t) (iblk m c 4 t) r) d = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (tok t r) d) := (t7_eq m c t hR r d).trans (r54 ..).symm
  by_cases h : t.val % 8 = 0
  · rw [outsAt0_A m c t h (by have := lt8 t; omega) h (by have := lt8 t; omega)]; dsimp only
    exact (A7 ..).trans e
  · rw [outsAt0_B m c t h (by omega) h (by omega)]; dsimp only
    exact (B7 ..).trans e

theorem emb7 (r : Fin 512) (d : Fin 1024) (s : Fin 4096) (hs : s.val = 512 * t.val + r.val) :
    ((cfg0.win 7).blk t).view.emb (ix2 r d) = (ix2 s d : S4096x1024.Idx) := by
  funext k
  refine Fin.ext ?_
  match k with
  | ⟨0, _⟩ => blk_simp [idx_val t]; omega
  | ⟨1, _⟩ => blk_simp [idx_val t]

include hR in
theorem final7 : (dats m 0 c).arrAt 7 (cfgs 0).N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  obtain ⟨r, d, rfl⟩ : ∃ (r : Fin 512) (d : Fin 1024), y = ix2 r d := ⟨y 0, y 1, eq_ix2 y⟩
  blk_simp
  rw [after0_7, out7 m c t hR]
  exact (congrArg _ (emb7 t r d _ rfl)).symm

include hR in
theorem s8_eq (d : Fin 1024) : 0 + s8 (iblk m c 0 t) (iblk m c 1 t) (iblk m c 2 t) (iblk m c 3 t) (iblk m c 4 t) 0 d + s8 (iblk m c 0 t) (iblk m c 1 t) (iblk m c 2 t) (iblk m c 3 t) (iblk m c 4 t) 1 d
    = ∑ r : Fin 512, nx (yr (m ((c : Thread nD τ).loc main_arg0)) (m ((c : Thread nD τ).loc main_arg1)) (tok t r)) d * dx (m ((c : Thread nD τ).loc main_arg0)) (m ((c : Thread nD τ).loc main_arg1)) (m ((c : Thread nD τ).loc main_arg2)) (m ((c : Thread nD τ).loc main_arg3)) (m ((c : Thread nD τ).loc main_arg4)) (tok t r) d := by
  rw [sum_halves, zero_add, s8, s8]
  simp only [tdx_eq m c t hR, ty_eq, mul_comm (dx _ _ _ _ _ _ _)]

/-- A half of a sum is the sum of the halves. -/
theorem half_sum {ι : Type} [Fintype ι] (f : ι → EReal) : Ideal.ofBits .f32 0x3F000000#32 * ∑ i, f i = ∑ i, Ideal.ofBits .f32 0x3F000000#32 * f i := by
  rw [half_val]
  let g : EReal →+ EReal :=
    { toFun := fun x => ((1 / 2 : ℝ) : EReal) * x,
       map_zero' := mul_zero _,
       map_add' := fun a b => EReal.left_distrib_of_nonneg_of_ne_top (EReal.coe_nonneg.mpr (by norm_num)) (EReal.coe_ne_top _) a b }
  exact map_sum g f Finset.univ

theorem s5_eq : 0 + s5 (iblk m c 0 t) (iblk m c 1 t) (iblk m c 2 t) (iblk m c 3 t) (iblk m c 4 t) 0 + s5 (iblk m c 0 t) (iblk m c 1 t) (iblk m c 2 t) (iblk m c 3 t) (iblk m c 4 t) 1
    = ∑ r : Fin 512, Ideal.ofBits .f32 0x3F000000#32 * ms (m ((c : Thread nD τ).loc main_arg0)) (m ((c : Thread nD τ).loc main_arg1)) (m ((c : Thread nD τ).loc main_arg2)) (m ((c : Thread nD τ).loc main_arg3)) (m ((c : Thread nD τ).loc main_arg4)) (tok t r) := by
  rw [sum_halves, zero_add, s5, s5, half_sum, half_sum]
  simp only [tms_eq]

/-- What a point adds to the loss. -/
def add5 (j : S1x128.Idx) : EReal := 0 + s5 (iblk m c 0 t) (iblk m c 1 t) (iblk m c 2 t) (iblk m c 3 t) (iblk m c 4 t) 0 + s5 (iblk m c 0 t) (iblk m c 1 t) (iblk m c 2 t) (iblk m c 3 t) (iblk m c 4 t) 1

theorem reset5 (h : t.val % 8 = 0) (j : S1x128.Idx) : (outsAt0 m c t.val t.isLt).1 j = (0 : EReal) + add5 m c t j := by
  obtain ⟨z, d, rfl⟩ : ∃ (z : Fin 1) (d : Fin 128), j = ix2 z d := ⟨j 0, j 1, eq_ix2 j⟩
  rw [outsAt0_A m c t h (by have := lt8 t; omega) h (by have := lt8 t; omega)]; dsimp only
  exact (A5 ..).trans (zero_add _).symm

theorem step5 (h : ¬t.val % 8 = 0) (j : S1x128.Idx) : (outsAt0 m c t.val t.isLt).1 j
    = ((outsAt0 m c (t.val - 1) (Nat.lt_of_le_of_lt (Nat.sub_le _ _) t.isLt)).1 j + add5 m c t j : EReal) := by
  obtain ⟨z, d, rfl⟩ : ∃ (z : Fin 1) (d : Fin 128), j = ix2 z d := ⟨j 0, j 1, eq_ix2 j⟩
  rw [outsAt0_B m c t h (by omega) h (by omega)]; dsimp only
  exact B5 ..

theorem final5 : (dats m 0 c).arrAt 5 (cfgs 0).N = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 5 t0_7 (by decide +kernel) _ fun j => ?_
  blk_simp
  rw [after0_5, Pipeline.eq_sum_fin_of_reset_step_apply_last (fun n h => (outsAt0 m c n h).1) 8 (fun _ => (0 : EReal)) (add5 m c)
    (reset5 m c) (step5 m c) (le_of_eq N_0) t0_7 rfl j, zero_add]
  obtain ⟨z, d, rfl⟩ : ∃ (z : Fin 1) (d : Fin 128), j = ix2 z d := ⟨j 0, j 1, eq_ix2 j⟩
  refine Eq.trans ?_ (r53 ..).symm
  rw [half_sum]
  exact sum_tokens _ _ fun t => s5_eq m c t

/-- What a point adds to the gain's gradient. -/
def add8 (j : S1x1024.Idx) : EReal := 0 + s8 (iblk m c 0 t) (iblk m c 1 t) (iblk m c 2 t) (iblk m c 3 t) (iblk m c 4 t) 0 (j 1) + s8 (iblk m c 0 t) (iblk m c 1 t) (iblk m c 2 t) (iblk m c 3 t) (iblk m c 4 t) 1 (j 1)

theorem reset8 (h : t.val % 8 = 0) (j : S1x1024.Idx) : (outsAt0 m c t.val t.isLt).2.2.2 j = (0 : EReal) + add8 m c t j := by
  obtain ⟨z, d, rfl⟩ : ∃ (z : Fin 1) (d : Fin 1024), j = ix2 z d := ⟨j 0, j 1, eq_ix2 j⟩
  rw [outsAt0_A m c t h (by have := lt8 t; omega) h (by have := lt8 t; omega)]; dsimp only
  exact (A8 ..).trans (zero_add _).symm

theorem step8 (h : ¬t.val % 8 = 0) (j : S1x1024.Idx) : (outsAt0 m c t.val t.isLt).2.2.2 j
    = ((outsAt0 m c (t.val - 1) (Nat.lt_of_le_of_lt (Nat.sub_le _ _) t.isLt)).2.2.2 j + add8 m c t j : EReal) := by
  obtain ⟨z, d, rfl⟩ : ∃ (z : Fin 1) (d : Fin 1024), j = ix2 z d := ⟨j 0, j 1, eq_ix2 j⟩
  rw [outsAt0_B m c t h (by omega) h (by omega)]; dsimp only
  exact B8 ..

include hR in
theorem final8 : (dats m 0 c).arrAt 8 (cfgs 0).N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => (0 : EReal)) (add8 m c)
    (reset8 m c) (step8 m c) (le_of_eq N_0) t0_7 rfl j, zero_add]
  obtain ⟨z, d, rfl⟩ : ∃ (z : Fin 1) (d : Fin 1024), j = ix2 z d := ⟨j 0, j 1, eq_ix2 j⟩
  refine Eq.trans ?_ (r36 ..).symm
  exact sum_tokens _ _ fun t => s8_eq m c t hR d

end Cert.LossIdeal.RefValue

end
-- ==== Proof.LossClaim.lean ====
module

public import proofs.«01_k».proof.Defs
public import proofs.«01_k».proof.Proof.LossValue
public import proofs.«01_k».proof.Proof.Gen.Loss.Frame
public import proofs.«01_k».proof.Proof.Gen.LossIdeal.Frame
public import proofs.«01_k».proof.Proof.Gen.LossRefIdeal.Run
public import proofs.«01_k».proof.Proof.Gen.LossRefIdeal.Read
public import Idealize.ShloMosaic.Lib.Claim

/-! The claims about the loss and the last norm's gradient: both programs' runs set beside each other. -/

@[expose] public section

namespace Cert.Proof.Loss

open Idealize.ShloMosaic Idealize.SL.Sem Cert.Scalar

theorem preFacts : Cert.Pre_finite_loss.Facts where
  bitsLt_bf16_f32 := by decide
  bcast_S_S4096x2816 := by decide
  reducesTo_S4096x2816_S_d0_1 := by decide
  h_S_ := by decide
  bcast_S_S2816x1024 := by decide
  reducesTo_S2816x1024_S_d0_1 := by decide
  bcast_S_S4096x1024 := by decide
  reducesTo_S4096x1024_S_d0_1 := by decide
  bcast_S_S1x1024 := by decide
  reducesTo_S1x1024_S_d0_1 := by decide

theorem kernel : Cert.quiescent_Loss := fun m ρ _ => Cert.Loss.Gen.frame m ρ

theorem ideal : Cert.quiescent_LossIdeal := fun m ρ _ => Cert.LossIdeal.Gen.frame m ρ

theorem ref : Cert.quiescent_LossRefIdeal := fun m ρ _ =>
  (θ_run _ _ _).mono (fun r h => ⟨fun c => (h c).2.2.2.2, sem_eq_zero_of_no_sems (by decide) r.2⟩)
    (Cert.LossRefIdeal.Value.run m ρ)

/-- The precondition says that the inputs it names have real entries. -/
theorem real_of_pre [Cert.Pre_finite_loss.Facts] (m : (ℓ : Loc Cert.LossIdeal.nD Cert.LossIdeal.τ Cert.LossIdeal.sig) → Buf (Elt Ideal) ℓ)
    (h : Cert.Pre_LossIdeal_finite_loss m) (c : Dev Cert.LossIdeal.nD) : Cert.LossIdeal.RefValue.RealAt m c :=
  have ⟨h, g4⟩ := andi_split (h c)
  have ⟨h, g3⟩ := andi_split h
  have ⟨h, g2⟩ := andi_split h
  have ⟨h, g1⟩ := andi_split h
  ⟨isReal_of_all _ _ _ _ h, isReal_of_all _ _ _ _ g1, isReal_of_all _ _ _ _ g2, isReal_of_all _ _ _ _ g3, isReal_of_all _ _ _ _ g4⟩

open Cert.LossRefIdeal.Read Cert.LossIdeal.RefValue in
theorem value [Cert.Pre_finite_loss.Facts] : Cert.algebraic_LossIdeal_LossRefIdeal_pre_finite_loss := fun m g m' g' hp ha =>
  have hR : ∀ c, RealAt m c := real_of_pre m hp
  ⟨fun c => val_main_v53 (F := Ideal) (m ((c.tc : Thread _ _).loc Cert.LossIdeal.main_arg0)) (m ((c.tc : Thread _ _).loc Cert.LossIdeal.main_arg1)) (m ((c.tc : Thread _ _).loc Cert.LossIdeal.main_arg2)) (m ((c.tc : Thread _ _).loc Cert.LossIdeal.main_arg3)) (m ((c.tc : Thread _ _).loc Cert.LossIdeal.main_arg4)),
   fun c => val_main_v33 (F := Ideal) (m ((c.tc : Thread _ _).loc Cert.LossIdeal.main_arg0)) (m ((c.tc : Thread _ _).loc Cert.LossIdeal.main_arg1)) (m ((c.tc : Thread _ _).loc Cert.LossIdeal.main_arg2)) (m ((c.tc : Thread _ _).loc Cert.LossIdeal.main_arg3)) (m ((c.tc : Thread _ _).loc Cert.LossIdeal.main_arg4)),
   fun c => val_main_v54 (F := Ideal) (m ((c.tc : Thread _ _).loc Cert.LossIdeal.main_arg0)) (m ((c.tc : Thread _ _).loc Cert.LossIdeal.main_arg1)) (m ((c.tc : Thread _ _).loc Cert.LossIdeal.main_arg2)) (m ((c.tc : Thread _ _).loc Cert.LossIdeal.main_arg3)) (m ((c.tc : Thread _ _).loc Cert.LossIdeal.main_arg4)),
   fun c => val_main_v36 (F := Ideal) (m ((c.tc : Thread _ _).loc Cert.LossIdeal.main_arg0)) (m ((c.tc : Thread _ _).loc Cert.LossIdeal.main_arg1)) (m ((c.tc : Thread _ _).loc Cert.LossIdeal.main_arg2)) (m ((c.tc : Thread _ _).loc Cert.LossIdeal.main_arg3)) (m ((c.tc : Thread _ _).loc Cert.LossIdeal.main_arg4)),
   (θ_run _ _ _).mono (fun r h c => by
       obtain ⟨k0, k1, k2, k3, h⟩ := h c
       exact ⟨k0.trans (final5 m c), k1.trans (final6 m c hR), k2.trans (final7 m c hR), k3.trans (final8 m c hR), h⟩)
     (Cert.LossIdeal.Value.run_blocks m g),
   (θ_run _ _ _).mono (fun r h c => by
       obtain ⟨e0, e1, e2, e3, e4⟩ := ha c
       obtain ⟨k0, k1, k2, k3, h⟩ := h c
       replace k0 := k0.trans (val_main_v53_eq ..)
       replace k1 := k1.trans (val_main_v33_eq ..)
       replace k2 := k2.trans (val_main_v54_eq ..)
       replace k3 := k3.trans (val_main_v36_eq ..)
       refine ⟨k0.trans ?_, k1.trans ?_, k2.trans ?_, k3.trans ?_, h⟩
       · dsimp only; rw [← e0, ← e1, ← e2, ← e3, ← e4]
       · dsimp only; rw [← e0, ← e1, ← e2, ← e3, ← e4]
       · dsimp only; rw [← e0, ← e1, ← e2, ← e3, ← e4]
       · dsimp only; rw [← e0, ← e1, ← e2, ← e3, ← e4])
     (Cert.LossRefIdeal.Value.run m' g')⟩

end Cert.Proof.Loss
-- ==== Proof.GlaMath.lean ====
module

public import proofs.«01_k».proof.Proof.Scalar
public import Idealize.ShloMosaic.Lib.Pipeline.ValueKit

/-! The gated linear attention as functions of plain indices: log gates, their running sums inside a chunk of 64 rows, the
state carried from chunk to chunk, and the readout. And the host's running sum at an index. -/

@[expose] public section

noncomputable section

namespace Cert.GlaMath

open Idealize.ShloMosaic
open Cert.Scalar

/-- Row `i` of chunk `n`. -/
abbrev row (n i : Fin 64) : Fin 4096 := ⟨n.val * 64 + i.val, by omega⟩
/-- Lane `k` of head `h` among the query and key columns. -/
abbrev qk (h : Fin 4) (k : Fin 128) : Fin 512 := ⟨h.val * 128 + k.val, by omega⟩
/-- Lane `v` of head `h` among the value columns. -/
abbrev gv (h : Fin 4) (v : Fin 256) : Fin 1024 := ⟨h.val * 256 + v.val, by omega⟩
/-- The columns of the packed projection: queries, keys, values, output gates. -/
abbrev qcol (h : Fin 4) (k : Fin 128) : Fin 3072 := ⟨h.val * 128 + k.val, by omega⟩
abbrev kcol (h : Fin 4) (k : Fin 128) : Fin 3072 := ⟨512 + (h.val * 128 + k.val), by omega⟩
abbrev vcol (h : Fin 4) (v : Fin 256) : Fin 3072 := ⟨1024 + (h.val * 256 + v.val), by omega⟩
abbrev rcol (h : Fin 4) (v : Fin 256) : Fin 3072 := ⟨2048 + (h.val * 256 + v.val), by omega⟩
/-- Chunk number `n`, counted round. -/
abbrev chunk (n : ℕ) : Fin 64 := ⟨n % 64, Nat.mod_lt _ (by decide)⟩

/-- The log gate of a logit: the log of the logistic function, over 16. -/
def lsg (L : EReal) : EReal :=
  Ideal.div (-(max (-L) 0 + Ideal.log1p (Ideal.exp (-(max (-L) (- -L)))))) ((16 : ℝ) : EReal)

/-- The running sum over the rows of a chunk. -/
def cum (la : Fin 64 → EReal) (i : Fin 64) : EReal := ∑ j : Fin 64, if j ≤ i then la j else 0

/-- What a chunk adds to one entry of the state. -/
def upd (la K v : Fin 64 → EReal) : EReal := ∑ i : Fin 64, K i * Ideal.exp (cum la 63 - cum la i) * v i

section Spec

variable (pa : Fin 4096 → Fin 3072 → EReal) (al : Fin 4096 → Fin 16 → EReal) (wg : Fin 16 → Fin 512 → EReal)
  (bg : Fin 512 → EReal) (gn : Fin 4 → Fin 256 → EReal)

/-- The log gates of lane `k` of head `h` over chunk `n`. -/
def la (n : Fin 64) (h : Fin 4) (k : Fin 128) (i : Fin 64) : EReal :=
  lsg (∑ x, al (row n i) x * wg x (qk h k) + bg (qk h k))

/-- The state BEFORE chunk `n`. -/
def state (h : Fin 4) (k : Fin 128) (v : Fin 256) : ℕ → EReal
  | 0 => 0
  | n + 1 => Ideal.exp (cum (la al wg bg (chunk n) h k) 63) * state h k v n
      + upd (la al wg bg (chunk n) h k) (fun i => pa (row (chunk n) i) (kcol h k)) (fun i => pa (row (chunk n) i) (vcol h v))

/-- The scale of the queries. -/
def qs : EReal := Ideal.ofBits .f32 0x3DB504F3#32

/-- The readout of chunk `n`, row `i`. -/
def att (n i : Fin 64) (h : Fin 4) (v : Fin 256) : EReal :=
  ∑ k, state pa al wg bg h k v (n.val + 1) * (pa (row n i) (qcol h k) * qs)

/-- The readout over its root mean square, with the norm's scale and the output gate. -/
def gated (o : Fin 256 → EReal) (g : Fin 256 → EReal) (r : Fin 256 → EReal) (v : Fin 256) : EReal :=
  o v * Ideal.rsqrt (Ideal.div (∑ u, o u * o u) ((256 : ℝ) : EReal) + Ideal.ofBits .f32 0x358637BD#32) * g v * (r v * sig (r v))

def out (n i : Fin 64) (h : Fin 4) (v : Fin 256) : EReal :=
  gated (att pa al wg bg n i h) (gn h) (fun u => pa (row n i) (rcol h u)) v

end Spec

theorem c16_val : Ideal.ofBits .f32 0x41800000#32 = ((16 : ℝ) : EReal) := by
  simp [Ideal.ofBits, Ideal.ieee, -EReal.coe_mul]; norm_num

theorem c256_val : Ideal.ofBits .f32 0x43800000#32 = ((256 : ℝ) : EReal) := by
  simp [Ideal.ofBits, Ideal.ieee, -EReal.coe_mul]; norm_num

/-! ## The host's running sum -/

/-- A left fold that adds one term a step adds the sum of the terms. -/
theorem foldl_add_sum {ι : Type} (f : ι → EReal) (g : EReal → ι → EReal) (hg : ∀ r n, g r n = r + f n) :
    ∀ (l : List ι) (z : EReal), l.foldl g z = z + (l.map f).sum
  | [], z => by simp
  | a :: l, z => by rw [List.foldl_cons, foldl_add_sum f g hg l, hg, List.map_cons, List.sum_cons, add_assoc]

/-- A window of 64 rows padded low by 63 sums a prefix. -/
theorem window_prefix (f : Fin 64 → EReal) (i : Fin 64) :
    (∑ w : Fin 64, if h : 63 ≤ i.val + w.val then f ⟨i.val + w.val - 63, by omega⟩ else 0) = cum f i := by
  unfold cum
  symm
  rw [← Finset.sum_filter]
  have e : (∑ w : Fin 64, if h : 63 ≤ i.val + w.val then f ⟨i.val + w.val - 63, by omega⟩ else 0)
      = ∑ w ∈ Finset.univ.filter (fun w : Fin 64 => 63 ≤ i.val + w.val), f ⟨i.val + w.val - 63, by omega⟩ := by
    rw [Finset.sum_filter]
    exact Finset.sum_congr rfl fun w _ => by split <;> rfl
  rw [e]
  refine Finset.sum_bij' (fun j hj => ⟨j.val + 63 - i.val, ?_⟩) (fun w hw => ⟨i.val + w.val - 63, by omega⟩) ?_ ?_ ?_ ?_ ?_
  · have := (Finset.mem_filter.1 hj).2; have := Fin.le_def.1 this; omega
  · intro j hj
    have := Fin.le_def.1 (Finset.mem_filter.1 hj).2
    refine Finset.mem_filter.2 ⟨Finset.mem_univ _, ?_⟩
    dsimp only
    omega
  · intro w hw
    have := (Finset.mem_filter.1 hw).2
    refine Finset.mem_filter.2 ⟨Finset.mem_univ _, Fin.le_def.2 ?_⟩
    dsimp only
    omega
  · intro j hj
    have := Fin.le_def.1 (Finset.mem_filter.1 hj).2
    apply Fin.ext
    dsimp only
    omega
  · intro w hw
    have := (Finset.mem_filter.1 hw).2
    apply Fin.ext
    dsimp only
    omega
  · intro j hj
    have := Fin.le_def.1 (Finset.mem_filter.1 hj).2
    congr 1
    apply Fin.ext
    dsimp only
    omega

/-- A window of the second of four axes. -/
abbrev W4 : Shape := ⟨4, ![1, 64, 1, 1]⟩

theorem numel_W4 : W4.numel = 64 := rfl

/-- Place `w` of the window. -/
theorem symm_W4 (w : Fin 64) : ∀ a, (W4.rowMajor.symm (w.cast numel_W4.symm) a).val = (![0, w.val, 0, 0] : Fin 4 → ℕ) a := by
  revert w; decide +kernel

/-- The host's running sum along the second of four axes, as it prints. -/
theorem cumsum_at {n h k : ℕ} (x : (⟨4, ![n, 64, h, k]⟩ : Shape).Idx → EReal) (init : (⟨0, ![]⟩ : Shape).Idx → EReal)
    (hinit : ∀ j, init j = 0)
    (hw : (⟨4, ![n, 64, h, k]⟩ : Shape).ReduceWindows ![1, 64, 1, 1] ![1, 1, 1, 1] ![0, 63, 0, 0] ![0, 0, 0, 0] ⟨4, ![n, 64, h, k]⟩)
    (hu : 0 < (⟨0, ![]⟩ : Shape).numel) (a : Fin n) (i : Fin 64) (b : Fin h) (c : Fin k) :
    Host.reduceWindow (· + ·) ![1, 64, 1, 1] ![1, 1, 1, 1] ![0, 63, 0, 0] ![0, 0, 0, 0] x init hw hu (ix4 a i b c)
      = cum (fun j => x (ix4 a j b c)) i := by
  unfold Host.reduceWindow
  dsimp only
  rw [hinit, ← window_prefix]
  refine (foldl_add_sum (fun w : Fin W4.numel => if h : 63 ≤ i.val + w.val then x (ix4 a ⟨i.val + w.val - 63, by have := lt_of_lt_of_eq w.isLt numel_W4; omega⟩ b c) else 0)
    _ (fun r w => ?_) _ _).trans ?_
  · obtain ⟨w, rfl⟩ : ∃ w' : Fin 64, w = w'.cast numel_W4.symm := ⟨w.cast numel_W4, rfl⟩
    have s0 := symm_W4 w 0
    have s1 := symm_W4 w 1
    have s2 := symm_W4 w 2
    have s3 := symm_W4 w 3
    have ha := a.isLt
    have hb := b.isLt
    have hc := c.isLt
    have hi := i.isLt
    have hwl := w.isLt
    congr 1
    split
    · next hin =>
      have h1 := hin 1
      change 63 ≤ i.val * 1 + (W4.rowMajor.symm (w.cast numel_W4.symm) 1).val ∧ _ at h1
      have h1' := h1.1
      rw [s1] at h1'
      change 63 ≤ i.val * 1 + w.val at h1'
      rw [dif_pos (show 63 ≤ i.val + (w.cast numel_W4.symm).val by show 63 ≤ i.val + w.val; omega)]
      congr 1
      funext q
      apply Fin.ext
      match q with
      | ⟨0, _⟩ => show a.val * 1 + (W4.rowMajor.symm (w.cast numel_W4.symm) 0).val - 0 = a.val; rw [s0]; show a.val * 1 + 0 - 0 = _; omega
      | ⟨1, _⟩ => show i.val * 1 + (W4.rowMajor.symm (w.cast numel_W4.symm) 1).val - 63 = i.val + w.val - 63; rw [s1]; show i.val * 1 + w.val - 63 = _; omega
      | ⟨2, _⟩ => show b.val * 1 + (W4.rowMajor.symm (w.cast numel_W4.symm) 2).val - 0 = b.val; rw [s2]; show b.val * 1 + 0 - 0 = _; omega
      | ⟨3, _⟩ => show c.val * 1 + (W4.rowMajor.symm (w.cast numel_W4.symm) 3).val - 0 = c.val; rw [s3]; show c.val * 1 + 0 - 0 = _; omega
    · next hin =>
      rw [dif_neg (show ¬ 63 ≤ i.val + (w.cast numel_W4.symm).val from fun hle => hin fun q => ?_)]
      change 63 ≤ i.val + w.val at hle
      match q with
      | ⟨0, _⟩ =>
        show 0 ≤ a.val * 1 + (W4.rowMajor.symm (w.cast numel_W4.symm) 0).val ∧ a.val * 1 + (W4.rowMajor.symm (w.cast numel_W4.symm) 0).val - 0 < n
        rw [s0]; show 0 ≤ a.val * 1 + 0 ∧ a.val * 1 + 0 - 0 < n; omega
      | ⟨1, _⟩ =>
        show 63 ≤ i.val * 1 + (W4.rowMajor.symm (w.cast numel_W4.symm) 1).val ∧ i.val * 1 + (W4.rowMajor.symm (w.cast numel_W4.symm) 1).val - 63 < 64
        rw [s1]; show 63 ≤ i.val * 1 + w.val ∧ i.val * 1 + w.val - 63 < 64; omega
      | ⟨2, _⟩ =>
        show 0 ≤ b.val * 1 + (W4.rowMajor.symm (w.cast numel_W4.symm) 2).val ∧ b.val * 1 + (W4.rowMajor.symm (w.cast numel_W4.symm) 2).val - 0 < h
        rw [s2]; show 0 ≤ b.val * 1 + 0 ∧ b.val * 1 + 0 - 0 < h; omega
      | ⟨3, _⟩ =>
        show 0 ≤ c.val * 1 + (W4.rowMajor.symm (w.cast numel_W4.symm) 3).val ∧ c.val * 1 + (W4.rowMajor.symm (w.cast numel_W4.symm) 3).val - 0 < k
        rw [s3]; show 0 ≤ c.val * 1 + 0 ∧ c.val * 1 + 0 - 0 < k; omega
  · rw [zero_add, ← List.ofFn_eq_map, List.sum_ofFn]
    rfl

end Cert.GlaMath

end
-- ==== Proof.GlaFwdRef.lean ====
module

public import proofs.«01_k».proof.Proof.GlaMath
public import proofs.«01_k».proof.Proof.Gen.GlaFwdRefIdeal.Run
public import Idealize.ShloMosaic.Lib.StableHlo.ReadAt
public import Idealize.ShloMosaic.Lib.DynamicIndex
public import Idealize.ShloMosaic.Lib.WordCmp

/-! The reference of the gated linear attention's forward pass, read stretch by stretch. -/

@[expose] public section

set_option maxRecDepth 16384

noncomputable section

namespace Cert.GlaFwdIdeal.Spec

open Cert.GlaFwdRefIdeal Cert.GlaFwdRefIdeal.Gen Cert.GlaFwdRefIdeal.Value Idealize.ShloMosaic Idealize.ShloMosaic.TcCoe
open Idealize.ShloMosaic.StableHlo
open Cert.Scalar Cert.GlaMath

/-- An array of numbers, as a function of its index. -/
abbrev rd {S : Shape} (f : S.Idx → EReal) : S.Idx → EReal := f

variable (V : Valuation τ sig (Elt Ideal))

/-! ## Before the loop -/

theorem a14 (s : Fin 4096) (k : Fin 512) : (after hostOps0 V (Proc.devRef .tc main_v14) : FVec Ideal S4096x512 .f32) (ix2 s k)
    = (∑ x, rd (S := S4096x16) (V (Proc.devRef .tc main_arg1)) (ix2 s x) * rd (S := S16x512) (V (Proc.devRef .tc main_arg2)) (ix2 x k)
      + rd (S := S512) (V (Proc.devRef .tc main_arg3)) (ix1 k) : EReal) := by
  after_reads_at

theorem a8 (n : Fin 64) (i : Fin 64) (h : Fin 4) (k : Fin 128) : (after hostOps0 V (Proc.devRef .tc main_v8) : FVec Ideal S64x64x4x128 .f32) (ix4 n i h k)
    = (rd (S := S4096x3072) (V (Proc.devRef .tc main_arg0)) (ix2 (row n i) (qcol h k)) * qs : EReal) := by
  after_reads_at
  rfl

theorem a9 (n : Fin 64) (i : Fin 64) (h : Fin 4) (k : Fin 128) : (after hostOps0 V (Proc.devRef .tc main_v9) : FVec Ideal S64x64x4x128 .f32) (ix4 n i h k)
    = (rd (S := S4096x3072) (V (Proc.devRef .tc main_arg0)) (ix2 (row n i) (kcol h k)) : EReal) := by
  after_reads_at

theorem a10 (n : Fin 64) (i : Fin 64) (h : Fin 4) (k : Fin 256) : (after hostOps0 V (Proc.devRef .tc main_v10) : FVec Ideal S64x64x4x256 .f32) (ix4 n i h k)
    = (rd (S := S4096x3072) (V (Proc.devRef .tc main_arg0)) (ix2 (row n i) (vcol h k)) : EReal) := by
  after_reads_at

theorem a5 (s : Fin 4096) (d : Fin 1024) : (after hostOps0 V (Proc.devRef .tc main_v5) : FVec Ideal S4096x1024 .f32) (ix2 s d)
    = (rd (S := S4096x3072) (V (Proc.devRef .tc main_arg0)) (ix2 s ⟨2048 + d.val, by omega⟩) : EReal) := by
  after_reads_at

theorem a15 (s : Fin 4096) (k : Fin 512) : (after hostOps0_1 V (Proc.devRef .tc main_v15) : FVec Ideal S4096x512 .f32) (ix2 s k)
    = (-(max (-rd (S := S4096x512) (V (Proc.devRef .tc main_v14)) (ix2 s k)) 0 + Ideal.log1p (Ideal.exp (-(max (-rd (S := S4096x512) (V (Proc.devRef .tc main_v14)) (ix2 s k))
      (- -rd (S := S4096x512) (V (Proc.devRef .tc main_v14)) (ix2 s k)))))) : EReal) := by
  after_reads_at
  rw [if_neg (fun h => h rfl)]
  rfl

theorem a18 (n : Fin 64) (i : Fin 64) (h : Fin 4) (k : Fin 128) : (after hostOps0_2 V (Proc.devRef .tc main_v18) : FVec Ideal S64x64x4x128 .f32) (ix4 n i h k)
    = (Ideal.div (rd (S := S4096x512) (V (Proc.devRef .tc main_v15)) (ix2 (row n i) (qk h k))) ((16 : ℝ) : EReal) : EReal) := by
  after_reads_at
  rw [c16_val]

theorem a19 (n : Fin 64) (i : Fin 64) (h : Fin 4) (k : Fin 128) : (after hostOps0_3 V (Proc.devRef .tc main_v19) : FVec Ideal S64x64x4x128 .f32) (ix4 n i h k)
    = (cum (fun j => rd (S := S64x64x4x128) (V (Proc.devRef .tc main_v18)) (ix4 n j h k)) i : EReal) := by
  after_reads_at
  exact cumsum_at (V (Proc.devRef .tc main_v18)) _ (fun _ => Ideal.ofBits_zero_f32)
    reduceWindows_S64x64x4x128_S64x64x4x128_w1s1p0_0_w64s1p63_0_w1s1p0_0_w1s1p0_0 h_S_ n i h k

theorem a28 (n : Fin 64) (h : Fin 4) (k : Fin 128) : (after hostOps0_4 V (Proc.devRef .tc main_v31_0) : FVec Ideal S64x4x128 .f32) (ix3 n h k)
    = (Ideal.exp (rd (S := S64x64x4x128) (V (Proc.devRef .tc main_v19)) (ix4 n 63 h k)) : EReal) := by
  after_reads_at
  rfl

theorem a27 (n : Fin 64) (h : Fin 4) (k : Fin 128) (v : Fin 256) : (after hostOps0_4 V (Proc.devRef .tc main_v31_1) : FVec Ideal S64x4x128x256 .f32) (ix4 n h k v)
    = (∑ i, rd (S := S64x64x4x128) (V (Proc.devRef .tc main_v9)) (ix4 n i h k)
        * Ideal.exp (rd (S := S64x64x4x128) (V (Proc.devRef .tc main_v19)) (ix4 n 63 h k) - rd (S := S64x64x4x128) (V (Proc.devRef .tc main_v19)) (ix4 n i h k))
        * rd (S := S64x64x4x256) (V (Proc.devRef .tc main_v10)) (ix4 n i h v) : EReal) := by
  after_reads_at
  simp only [id]
  pointwise []

theorem a29 (h : Fin 4) (k : Fin 128) (v : Fin 256) : (after hostOps0_4 V (Proc.devRef .tc main_v31_3) : FVec Ideal S4x128x256 .f32) (ix3 h k v)
    = (0 : EReal) := by
  after_reads_at
  exact Ideal.ofBits_zero_f32

/-! ## After the loop -/

/-- The readout of the saved states, from the contents before it. -/
def attV (n i : Fin 64) (h : Fin 4) (v : Fin 256) : EReal :=
  ∑ x, rd (S := S64x4x128x256) (V (Proc.devRef .tc main_v31_4)) (ix4 n h x v) * rd (S := S64x64x4x128) (V (Proc.devRef .tc main_v8)) (ix4 n i h x)

theorem a47 (n i : Fin 64) (h : Fin 4) (v : Fin 256) (s : Fin 4096) (d : Fin 1024) (hs : s = row n i) (hd : d = gv h v) :
    (after hostOps0_5 V (Proc.devRef .tc main_v47) : FVec Ideal S4096x1024 .f32) (ix2 s d)
    = (attV V n i h v * Ideal.rsqrt (Ideal.div (∑ u, attV V n i h u * attV V n i h u) ((256 : ℝ) : EReal) + Ideal.ofBits .f32 0x358637BD#32)
      * rd (S := S4x256) (V (Proc.devRef .tc main_arg4)) (ix2 h v) : EReal) := by
  have e0 : (⟨s.val / 64, by omega⟩ : Fin 64) = n := Fin.ext (by have := congrArg Fin.val hs; dsimp only at this ⊢; omega)
  have e1 : (⟨s.val % 64, by omega⟩ : Fin 64) = i := Fin.ext (by have := congrArg Fin.val hs; dsimp only at this ⊢; omega)
  have e2 : (⟨d.val / 256, by omega⟩ : Fin 4) = h := Fin.ext (by have := congrArg Fin.val hd; dsimp only at this ⊢; omega)
  have e3 : (⟨d.val % 256, by omega⟩ : Fin 256) = v := Fin.ext (by have := congrArg Fin.val hd; dsimp only at this ⊢; omega)
  after_reads_at
  simp only [e0, e1, e2, e3, c256_val]
  rfl

theorem a48 (s : Fin 4096) (d : Fin 1024) : (after hostOps0_6 V (Proc.devRef .tc main_v48) : FVec Ideal S4096x1024 .f32) (ix2 s d)
    = (rd (S := S4096x1024) (V (Proc.devRef .tc main_v5)) (ix2 s d) * sig (rd (S := S4096x1024) (V (Proc.devRef .tc main_v5)) (ix2 s d)) : EReal) := by
  after_reads_at
  rfl

theorem a50 (s : Fin 4096) (d : Fin 1024) : (after hostOps0_7 V (Proc.devRef .tc main_v50) : FVec Ideal S4096x1024 .bf16) (ix2 s d)
    = (rd (S := S4096x1024) (V (Proc.devRef .tc main_v47)) (ix2 s d) * rd (S := S4096x1024) (V (Proc.devRef .tc main_v48)) (ix2 s d) : EReal) := by
  after_reads_at

theorem a51 (n : Fin 64) (h : Fin 4) (v : Fin 256) (k : Fin 128) : (after hostOps0_7 V (Proc.devRef .tc main_v51) : FVec Ideal S64x4x256x128 .f32) (ix4 n h v k)
    = (rd (S := S64x4x128x256) (V (Proc.devRef .tc main_v31_4)) (ix4 n h k v) : EReal) := by
  after_reads_at

/-! ## One trip -/

theorem iv_toInt (c : ℕ) (hc : c < 64) : (Scf.iv 0#32 1#32 c).toInt = (c : ℤ) := by
  have : ∀ c : Fin 64, (Scf.iv 0#32 1#32 c.val).toInt = (c.val : ℤ) := by decide +kernel
  exact this ⟨c, hc⟩

theorem step3 (c : Fin 64) (hV : V (Proc.devRef .tc main_v31_2) = fun _ => Scf.iv 0#32 1#32 c.val) (h : Fin 4) (k : Fin 128) (v : Fin 256) :
    rd (S := S4x128x256) (res_main_while0b_v57 V) (ix3 h k v)
      = (rd (S := S64x4x128) (V (Proc.devRef .tc main_v31_0)) (ix3 c h k) * rd (S := S4x128x256) (V (Proc.devRef .tc main_v31_3)) (ix3 h k v)
        + rd (S := S64x4x128x256) (V (Proc.devRef .tc main_v31_1)) (ix4 c h k v) : EReal) := by
  have hi := iv_toInt c.val c.isLt
  have hc := c.isLt
  unfold res_main_while0b_v57
  rw [Host.dynamicSlice_eq_extractStridedSlice (s := S64x4x128) S1x4x128 (V (Proc.devRef .tc main_v31_0)) _ ![c.val, 0, 0] _ ⟨rfl, fun a => by match a with | ⟨0, _⟩ => show c.val + 1 ≤ 64; omega | ⟨1, _⟩ => show 0 + 4 ≤ 4; omega | ⟨2, _⟩ => show 0 + 128 ≤ 128; omega⟩ (fun a => by
      rw [hV]
      match a with
      | ⟨0, _⟩ => exact hi
      | ⟨1, _⟩ => rfl
      | ⟨2, _⟩ => rfl)]
  rw [Host.dynamicSlice_eq_extractStridedSlice (s := S64x4x128x256) S1x4x128x256 (V (Proc.devRef .tc main_v31_1)) _ ![c.val, 0, 0, 0] _ ⟨rfl, fun a => by match a with | ⟨0, _⟩ => show c.val + 1 ≤ 64; omega | ⟨1, _⟩ => show 0 + 4 ≤ 4; omega | ⟨2, _⟩ => show 0 + 128 ≤ 128; omega | ⟨3, _⟩ => show 0 + 256 ≤ 256; omega⟩ (fun a => by
      rw [hV]
      match a with
      | ⟨0, _⟩ => exact hi
      | ⟨1, _⟩ => rfl
      | ⟨2, _⟩ => rfl
      | ⟨3, _⟩ => rfl)]
  pointwise []

theorem step4 (c : Fin 64) (hV : V (Proc.devRef .tc main_v31_2) = fun _ => Scf.iv 0#32 1#32 c.val) (n : Fin 64) (h : Fin 4) (k : Fin 128) (v : Fin 256) :
    (step_main_v31_4 V : FVec Ideal S64x4x128x256 .f32) (ix4 n h k v)
      = (if n = c then rd (S := S4x128x256) (res_main_while0b_v57 V) (ix3 h k v) else rd (S := S64x4x128x256) (V (Proc.devRef .tc main_v31_4)) (ix4 n h k v) : EReal) := by
  have hi := iv_toInt c.val c.isLt
  have hc := c.isLt
  unfold step_main_v31_4
  rw [WordCmp.dynamicUpdateSlice_eq_update (s := S64x4x128x256) (u := S1x4x128x256) (V (Proc.devRef .tc main_v31_4)) _ _ _ ![c.val, 0, 0, 0] ⟨rfl, fun a => by match a with | ⟨0, _⟩ => show c.val + 1 ≤ 64; omega | ⟨1, _⟩ => show 0 + 4 ≤ 4; omega | ⟨2, _⟩ => show 0 + 128 ≤ 128; omega | ⟨3, _⟩ => show 0 + 256 ≤ 256; omega⟩ (fun a => by
      rw [hV]
      match a with
      | ⟨0, _⟩ => exact hi
      | ⟨1, _⟩ => rfl
      | ⟨2, _⟩ => rfl
      | ⟨3, _⟩ => rfl)]
  unfold updateSlice
  dsimp only [id]
  by_cases hn : n = c
  · subst hn
    rw [if_pos rfl, dif_pos (fun a => by match a with | ⟨0, _⟩ => exact ⟨le_rfl, Nat.lt_succ_self _⟩ | ⟨1, _⟩ => exact ⟨Nat.zero_le _, lt_of_lt_of_eq h.isLt (Nat.zero_add _).symm⟩ | ⟨2, _⟩ => exact ⟨Nat.zero_le _, lt_of_lt_of_eq k.isLt (Nat.zero_add _).symm⟩ | ⟨3, _⟩ => exact ⟨Nat.zero_le _, lt_of_lt_of_eq v.isLt (Nat.zero_add _).symm⟩)]
    refine congrArg (res_main_while0b_v57 V : FVec Ideal S4x128x256 .f32) (funext fun a => Fin.ext ?_)
    match a with
    | ⟨0, _⟩ => rfl
    | ⟨1, _⟩ => rfl
    | ⟨2, _⟩ => rfl
  · rw [if_neg hn, dif_neg fun hin => hn (Fin.ext (by
      have h0 := hin 0
      change c.val ≤ n.val ∧ n.val < c.val + 1 at h0
      omega))]

/-! ## The run -/

variable (m : (ℓ : Loc nD τ sig) → Buf (Elt Ideal) ℓ) (c : Dev nD)

/-- The arguments, as functions of plain indices. -/
abbrev aPa (s : Fin 4096) (d : Fin 3072) : EReal := rd (S := S4096x3072) (m ((c.tc : Thread nD τ).loc main_arg0)) (ix2 s d)
abbrev aAl (s : Fin 4096) (x : Fin 16) : EReal := rd (S := S4096x16) (m ((c.tc : Thread nD τ).loc main_arg1)) (ix2 s x)
abbrev aWg (x : Fin 16) (k : Fin 512) : EReal := rd (S := S16x512) (m ((c.tc : Thread nD τ).loc main_arg2)) (ix2 x k)
abbrev aBg (k : Fin 512) : EReal := rd (S := S512) (m ((c.tc : Thread nD τ).loc main_arg3)) (ix1 k)
abbrev aGn (h : Fin 4) (v : Fin 256) : EReal := rd (S := S4x256) (m ((c.tc : Thread nD τ).loc main_arg4)) (ix2 h v)

/-- The contents before each stretch. -/
def W0 : Valuation τ sig (Elt Ideal) := entryContents ([] : List (List (HloOp τ sig (Elt Ideal)))) m c
def W1 : Valuation τ sig (Elt Ideal) := after hostOps0 (W0 m c)
def W2 : Valuation τ sig (Elt Ideal) := after hostOps0_1 (W1 m c)
def W3 : Valuation τ sig (Elt Ideal) := after hostOps0_2 (W2 m c)
def W4 : Valuation τ sig (Elt Ideal) := after hostOps0_3 (W3 m c)
def W5 : Valuation τ sig (Elt Ideal) := after hostOps0_4 (W4 m c)
def W6 : Valuation τ sig (Elt Ideal) := after condOps (atK m 64 c)
def W7 : Valuation τ sig (Elt Ideal) := after hostOps0_5 (W6 m c)
def W8 : Valuation τ sig (Elt Ideal) := after hostOps0_6 (W7 m c)
def W9 : Valuation τ sig (Elt Ideal) := after hostOps0_7 (W8 m c)

theorem W5_eq : W5 m c = entryContents preI m c := rfl
theorem W9_eq : W9 m c = finalContents condOps preI bodyI postI 64 m c := rfl

/-! Buffers a stretch does not write. -/

abbrev preW : List (Ref sig .tc) := hostOps0_W ++ hostOps0_1_W ++ hostOps0_2_W ++ hostOps0_3_W ++ hostOps0_4_W
abbrev loopW : List (Ref sig .tc) := condOps_W ++ while0Ops0_W ++ while0Ops0_1_W ++ while0Ops0_2_W ++ while0Ops0_3_W ++ while0Ops0_4_W
abbrev post5W : List (Ref sig .tc) := [main_v32, main_v33, main_v34, main_cst_3, main_v35, main_v36, main_cst_4, main_v37, main_v38, main_cst_5,
  main_v39, main_v40, main_v41, main_v42, main_v43, main_v44, main_v45, main_v46, main_v47]

theorem hostOps0_5_writes : (hostOps0_5 : List (HloOp τ sig (Elt Ideal))).Forall fun op => op.writes ⊆ (post5W.map (Proc.devRef (τ := τ) .tc)).toFinset :=
  StableHlo.forall_writes_sub_of_map rfl

theorem keep5 (r : Ref sig .tc) (h : r ∉ post5W) : after hostOps0_5 V (Proc.devRef .tc r) = V (Proc.devRef .tc r) :=
  after_of_writes_sub hostOps0_5 V hostOps0_5_writes h

theorem keep_trip (r : Ref sig .tc) (h : r ∉ loopW) : afterL bodyI (after condOps V) (Proc.devRef .tc r) = V (Proc.devRef .tc r) := by
  simp only [loopW, List.mem_append, not_or] at h
  obtain ⟨⟨⟨⟨⟨h0, h1⟩, h2⟩, h3⟩, h4⟩, h5⟩ := h
  simp only [afterL_cons, afterL_nil]
  rw [after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

theorem keep_loop (r : Ref sig .tc) (h : r ∉ loopW) : ∀ k, atK m k c (Proc.devRef .tc r) = W5 m c (Proc.devRef .tc r)
  | 0 => rfl
  | k + 1 => (keep_trip (atK m k c) r h).trans (keep_loop r h k)

theorem keep_W6 (r : Ref sig .tc) (h : r ∉ loopW) : W6 m c (Proc.devRef .tc r) = W5 m c (Proc.devRef .tc r) :=
  (after_of_writes_sub condOps _ condOps_writes (fun h' => h (by simp only [loopW, List.mem_append]; exact Or.inl (Or.inl (Or.inl (Or.inl (Or.inl h'))))))).trans (keep_loop m c r h 64)

theorem keep_W5 (r : Ref sig .tc) (h : r ∉ hostOps0_1_W ++ hostOps0_2_W ++ hostOps0_3_W ++ hostOps0_4_W) :
    W5 m c (Proc.devRef .tc r) = W1 m c (Proc.devRef .tc r) := by
  simp only [List.mem_append, not_or] at h
  obtain ⟨⟨⟨h1, h2⟩, h3⟩, h4⟩ := h
  unfold W5 W4 W3 W2
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1]

theorem keep_W1 (r : Ref sig .tc) (h : r ∉ hostOps0_W) : W1 m c (Proc.devRef .tc r) = m ((c.tc : Thread nD τ).loc r) :=
  after_of_writes_sub hostOps0 _ hostOps0_writes h

/-! The values at the loop's entry. -/

theorem v18_at (n i : Fin 64) (h : Fin 4) (k : Fin 128) :
    rd (S := S64x64x4x128) (W3 m c (Proc.devRef .tc main_v18)) (ix4 n i h k) = la (aAl m c) (aWg m c) (aBg m c) n h k i := by
  rw [show W3 m c = after hostOps0_2 (W2 m c) from rfl]
  refine (a18 (W2 m c) n i h k).trans ?_
  rw [show W2 m c = after hostOps0_1 (W1 m c) from rfl]
  have e14 : rd (S := S4096x512) (W1 m c (Proc.devRef .tc main_v14)) (ix2 (row n i) (qk h k))
      = ∑ x, aAl m c (row n i) x * aWg m c x (qk h k) + aBg m c (qk h k) := a14 (W0 m c) (row n i) (qk h k)
  have e15 := a15 (W1 m c) (row n i) (qk h k)
  rw [e14] at e15
  exact congrArg (fun x => Ideal.div x ((16 : ℝ) : EReal)) e15

theorem v19_at (n i : Fin 64) (h : Fin 4) (k : Fin 128) :
    rd (S := S64x64x4x128) (W4 m c (Proc.devRef .tc main_v19)) (ix4 n i h k) = cum (la (aAl m c) (aWg m c) (aBg m c) n h k) i :=
  (a19 (W3 m c) n i h k).trans (congrArg (fun f => cum f i) (funext fun j => v18_at m c n j h k))

theorem decay_at (n : Fin 64) (h : Fin 4) (k : Fin 128) :
    rd (S := S64x4x128) (W5 m c (Proc.devRef .tc main_v31_0)) (ix3 n h k) = Ideal.exp (cum (la (aAl m c) (aWg m c) (aBg m c) n h k) 63) :=
  (a28 (W4 m c) n h k).trans (congrArg Ideal.exp (v19_at m c n 63 h k))

theorem keep_W4 (r : Ref sig .tc) (h : r ∉ hostOps0_1_W ++ hostOps0_2_W ++ hostOps0_3_W) :
    W4 m c (Proc.devRef .tc r) = W1 m c (Proc.devRef .tc r) := by
  simp only [List.mem_append, not_or] at h
  obtain ⟨⟨h1, h2⟩, h3⟩ := h
  unfold W4 W3 W2
  rw [after_of_writes_sub hostOps0_3 _ hostOps0_3_writes h3,
    after_of_writes_sub hostOps0_2 _ hostOps0_2_writes h2, after_of_writes_sub hostOps0_1 _ hostOps0_1_writes h1]

theorem upd_at (n : Fin 64) (h : Fin 4) (k : Fin 128) (v : Fin 256) :
    rd (S := S64x4x128x256) (W5 m c (Proc.devRef .tc main_v31_1)) (ix4 n h k v)
      = upd (la (aAl m c) (aWg m c) (aBg m c) n h k) (fun i => aPa m c (row n i) (kcol h k)) (fun i => aPa m c (row n i) (vcol h v)) := by
  refine (a27 (W4 m c) n h k v).trans ?_
  unfold upd
  change @Eq EReal _ _
  refine Finset.sum_congr rfl fun i _ => ?_
  rw [v19_at, v19_at, keep_W4 m c main_v9 (by decide), keep_W4 m c main_v10 (by decide)]
  exact congrArg₂ (· * ·) (congrArg (· * _) (a9 (W0 m c) n i h k)) (a10 (W0 m c) n i h v)

/-! The loop. -/

/-- What the loop has done before its `k`-th condition. -/
theorem loop_inv : ∀ k : ℕ, k ≤ 64 →
    atK m k c (Proc.devRef .tc main_v31_0) = W5 m c (Proc.devRef .tc main_v31_0)
    ∧ atK m k c (Proc.devRef .tc main_v31_1) = W5 m c (Proc.devRef .tc main_v31_1)
    ∧ (∀ (h : Fin 4) (q : Fin 128) (v : Fin 256), rd (S := S4x128x256) (atK m k c (Proc.devRef .tc main_v31_3)) (ix3 h q v)
        = state (aPa m c) (aAl m c) (aWg m c) (aBg m c) h q v k)
    ∧ (∀ (n : Fin 64) (h : Fin 4) (q : Fin 128) (v : Fin 256), n.val < k → rd (S := S64x4x128x256) (atK m k c (Proc.devRef .tc main_v31_4)) (ix4 n h q v)
        = state (aPa m c) (aAl m c) (aWg m c) (aBg m c) h q v (n.val + 1))
  | 0, _ => ⟨rfl, rfl, fun h q v => a29 (W4 m c) h q v, fun n h q v hn => absurd hn (Nat.not_lt_zero _)⟩
  | k + 1, hk => by
    obtain ⟨i0, i1, i3, i4⟩ := loop_inv k (by omega)
    have hk' : k < 64 := by omega
    have t := trip_agree (atK m k c)
    have hc := atK_ctr m c k
    have ec : chunk k = ⟨k, hk'⟩ := Fin.ext (Nat.mod_eq_of_lt hk')
    have s3 : ∀ (h : Fin 4) (q : Fin 128) (v : Fin 256), rd (S := S4x128x256) (res_main_while0b_v57 (atK m k c)) (ix3 h q v)
        = state (aPa m c) (aAl m c) (aWg m c) (aBg m c) h q v (k + 1) := fun h q v => by
      refine (step3 (atK m k c) ⟨k, hk'⟩ hc h q v).trans ?_
      rw [i0, i1, i3, decay_at, upd_at, state, ec]
    refine ⟨?_, ?_, ?_, ?_⟩
    · exact (t main_v31_0 (by decide)).trans ((STEP_main_v31_0 _).trans i0)
    · exact (t main_v31_1 (by decide)).trans ((STEP_main_v31_1 _).trans i1)
    · intro h q v
      exact (congrFun ((t main_v31_3 (by decide)).trans (STEP_main_v31_3 _)) (ix3 h q v)).trans (s3 h q v)
    · intro n h q v hn
      refine (congrFun ((t main_v31_4 (by decide)).trans (STEP_main_v31_4 _)) (ix4 n h q v)).trans ((step4 (atK m k c) ⟨k, hk'⟩ hc n h q v).trans ?_)
      by_cases e : n = ⟨k, hk'⟩
      · rw [if_pos e, s3, e]
      · rw [if_neg e]
        exact i4 n h q v (by have : n.val ≠ k := fun h' => e (Fin.ext h'); omega)

/-! The results. -/

theorem states_W6 (n : Fin 64) (h : Fin 4) (q : Fin 128) (v : Fin 256) :
    rd (S := S64x4x128x256) (W6 m c (Proc.devRef .tc main_v31_4)) (ix4 n h q v) = state (aPa m c) (aAl m c) (aWg m c) (aBg m c) h q v (n.val + 1) :=
  (congrFun (cond_keeps (atK m 64 c) main_v31_4 (by decide)) _).trans ((loop_inv m c 64 le_rfl).2.2.2 n h q v n.isLt)

theorem states_ref (n : Fin 64) (h : Fin 4) (v : Fin 256) (q : Fin 128) :
    rd (S := S64x4x256x128) (W9 m c (Proc.devRef .tc main_v51)) (ix4 n h v q) = state (aPa m c) (aAl m c) (aWg m c) (aBg m c) h q v (n.val + 1) := by
  refine (a51 (W8 m c) n h v q).trans ?_
  have e6 : W8 m c (Proc.devRef .tc main_v31_4) = W6 m c (Proc.devRef .tc main_v31_4) := by
    unfold W8 W7
    rw [← keep5 (W6 m c) main_v31_4 (by decide)]
    after_reads_simp
  rw [e6]
  exact states_W6 m c n h q v

theorem att_W6 (n i : Fin 64) (h : Fin 4) (v : Fin 256) : attV (W6 m c) n i h v = att (aPa m c) (aAl m c) (aWg m c) (aBg m c) n i h v := by
  refine Finset.sum_congr rfl fun x _ => ?_
  rw [states_W6, keep_W6 m c main_v8 (by decide), keep_W5 m c main_v8 (by decide)]
  exact congrArg (_ * ·) (a8 (W0 m c) n i h x)

theorem y_ref (n i : Fin 64) (h : Fin 4) (v : Fin 256) :
    rd (S := S4096x1024) (W9 m c (Proc.devRef .tc main_v50)) (ix2 (row n i) (gv h v))
      = out (aPa m c) (aAl m c) (aWg m c) (aBg m c) (aGn m c) n i h v := by
  refine (a50 (W8 m c) (row n i) (gv h v)).trans ?_
  have e47 : W8 m c (Proc.devRef .tc main_v47) = W7 m c (Proc.devRef .tc main_v47) := by
    unfold W8
    after_reads_simp
  have e5 : rd (S := S4096x1024) (W7 m c (Proc.devRef .tc main_v5)) (ix2 (row n i) (gv h v)) = aPa m c (row n i) (rcol h v) := by
    unfold W7
    rw [keep5 (W6 m c) main_v5 (by decide), keep_W6 m c main_v5 (by decide), keep_W5 m c main_v5 (by decide)]
    exact a5 (W0 m c) (row n i) (gv h v)
  have e4 : rd (S := S4x256) (W6 m c (Proc.devRef .tc main_arg4)) (ix2 h v) = aGn m c h v := by
    rw [keep_W6 m c main_arg4 (by decide), keep_W5 m c main_arg4 (by decide), keep_W1 m c main_arg4 (by decide)]
  have e48 : rd (S := S4096x1024) (W8 m c (Proc.devRef .tc main_v48)) (ix2 (row n i) (gv h v))
      = aPa m c (row n i) (rcol h v) * sig (aPa m c (row n i) (rcol h v)) := by
    rw [← e5]
    exact a48 (W7 m c) (row n i) (gv h v)
  rw [e47, e48]
  unfold out gated
  refine congrArg (fun x : EReal => x * (aPa m c (row n i) (rcol h v) * sig (aPa m c (row n i) (rcol h v)))) ((a47 (W6 m c) n i h v _ _ rfl rfl).trans ?_)
  rw [e4]
  simp only [att_W6]

end Cert.GlaFwdIdeal.Spec

end
-- ==== Proof.GlaFwdTile.lean ====
module

public import proofs.«01_k».proof.Proof.GlaFwdRef
public import proofs.«01_k».proof.Proof.Gen.GlaFwdIdeal.Value
public import proofs.«01_k».proof.Proof.TileKit

/-! What one grid point of the attention's forward kernel leaves in its outputs and its scratch. -/

@[expose] public section

set_option maxRecDepth 16384

noncomputable section

namespace Cert.GlaFwdIdeal.Tile

open Cert.GlaFwdIdeal Cert.GlaFwdIdeal.Gen Idealize.ShloMosaic Idealize.ShloMosaic.TcCoe Idealize.SL.Sem
open Idealize.ShloMosaic.Pipeline (Dat)
open Cert.Scalar Cert.GlaMath Cert.TileKit

/-- Row `i` of chunk `p` of a tile. -/
def prow : Fin 4 → Fin 64 → Fin 256
  | 0, k => ⟨k.val, by omega⟩
  | 1, k => ⟨64 + k.val, by omega⟩
  | 2, k => ⟨128 + k.val, by omega⟩
  | 3, k => ⟨192 + k.val, by omega⟩
/-- Lane `k` of head `h`. -/
def tq : Fin 4 → Fin 128 → Fin 512
  | 0, k => ⟨k.val, by omega⟩
  | 1, k => ⟨128 + k.val, by omega⟩
  | 2, k => ⟨256 + k.val, by omega⟩
  | 3, k => ⟨384 + k.val, by omega⟩
/-- Its key column. -/
def tk (h : Fin 4) (k : Fin 128) : Fin 3072 := ⟨512 + (tq h k).val, by omega⟩
/-- Its query column. -/
def tqc : Fin 4 → Fin 128 → Fin 3072
  | 0, k => ⟨k.val, by omega⟩
  | 1, k => ⟨128 + k.val, by omega⟩
  | 2, k => ⟨256 + k.val, by omega⟩
  | 3, k => ⟨384 + k.val, by omega⟩
/-- Its value column. -/
def tv : Fin 4 → Fin 256 → Fin 3072
  | 0, k => ⟨1024 + k.val, by omega⟩
  | 1, k => ⟨1280 + k.val, by omega⟩
  | 2, k => ⟨1536 + k.val, by omega⟩
  | 3, k => ⟨1792 + k.val, by omega⟩
/-- Its output gate column. -/
def tr : Fin 4 → Fin 256 → Fin 3072
  | 0, k => ⟨2048 + k.val, by omega⟩
  | 1, k => ⟨2304 + k.val, by omega⟩
  | 2, k => ⟨2560 + k.val, by omega⟩
  | 3, k => ⟨2816 + k.val, by omega⟩
/-- Its column of the result. -/
def tgv : Fin 4 → Fin 256 → Fin 1024
  | 0, k => ⟨k.val, by omega⟩
  | 1, k => ⟨256 + k.val, by omega⟩
  | 2, k => ⟨512 + k.val, by omega⟩
  | 3, k => ⟨768 + k.val, by omega⟩
theorem tq_eq (h : Fin 4) (k : Fin 128) : tq h k = qk h k := by
  match h with
  | 0 | 1 | 2 | 3 => exact Fin.ext (by simp [tq])
theorem tk_eq (h : Fin 4) (k : Fin 128) : tk h k = kcol h k := by
  match h with
  | 0 | 1 | 2 | 3 => exact Fin.ext (by simp [tk, tq])
theorem tqc_eq (h : Fin 4) (k : Fin 128) : tqc h k = qcol h k := by
  match h with
  | 0 | 1 | 2 | 3 => exact Fin.ext (by simp [tqc])
theorem tv_eq (h : Fin 4) (k : Fin 256) : tv h k = vcol h k := by
  match h with
  | 0 | 1 | 2 | 3 => exact Fin.ext (by simp [tv] <;> omega)
theorem tr_eq (h : Fin 4) (k : Fin 256) : tr h k = rcol h k := by
  match h with
  | 0 | 1 | 2 | 3 => exact Fin.ext (by simp [tr] <;> omega)
theorem tgv_eq (h : Fin 4) (k : Fin 256) : tgv h k = gv h k := by
  match h with
  | 0 | 1 | 2 | 3 => exact Fin.ext (by simp [tgv])

section Spec
variable (x0 : Vec Ideal S256x3072 .bf16) (x1 : Vec Ideal S256x128 .bf16) (x2 : Vec Ideal S128x512 .bf16) (x3 : Vec Ideal S1x512 .f32)
  (x4 : Vec Ideal S4x1x256 .f32)

/-- The log gates of column `q` over chunk `p` of the tile. -/
def tla (p : Fin 4) (q : Fin 512) (i : Fin 64) : EReal := lsg (∑ x : Fin 128, x1 (ix2 (prow p i) x) * x2 (ix2 x q) + x3 (ix2 0 q))

/-- What chunk `p` makes of an entry `z` of the state. -/
def tstep (p h : Fin 4) (v : Fin 256) (k : Fin 128) (z : EReal) : EReal :=
  z * Ideal.exp (cum (tla x1 x2 x3 p (tq h k)) 63)
    + ∑ i : Fin 64, x0 (ix2 (prow p i) (tv h v))
      * (x0 (ix2 (prow p i) (tk h k)) * Ideal.exp (cum (tla x1 x2 x3 p (tq h k)) 63 - cum (tla x1 x2 x3 p (tq h k)) i))

/-- The state after chunk `p`, from the entry `z` before the tile. -/
def tst (h : Fin 4) (v : Fin 256) (k : Fin 128) (z : EReal) : Fin 4 → EReal
  | 0 => tstep x0 x1 x2 x3 0 h v k z
  | 1 => tstep x0 x1 x2 x3 1 h v k (tstep x0 x1 x2 x3 0 h v k z)
  | 2 => tstep x0 x1 x2 x3 2 h v k (tstep x0 x1 x2 x3 1 h v k (tstep x0 x1 x2 x3 0 h v k z))
  | 3 => tstep x0 x1 x2 x3 3 h v k (tstep x0 x1 x2 x3 2 h v k (tstep x0 x1 x2 x3 1 h v k (tstep x0 x1 x2 x3 0 h v k z)))

end Spec

theorem log1p_nonneg (L : EReal) : 0 ≤ Ideal.log1p (Ideal.exp (0 - max L (-L))) := by
  have h : ∀ r : ℝ, 0 ≤ Ideal.log1p (Ideal.exp (r : EReal)) := fun r => by
    rw [Ideal.exp_coe, Ideal.log1p, ← EReal.coe_one, ← EReal.coe_add, Ideal.log_coe, if_neg (not_le.2 (by positivity))]
    exact_mod_cast Real.log_nonneg (by linarith [Real.exp_pos r])
  have h1 : Ideal.log 1 = 0 := by
    rw [← EReal.coe_one, Ideal.log_coe, if_neg (by norm_num), Real.log_one, EReal.coe_zero]
  induction L with
  | bot => simp [Ideal.log1p, h1]
  | top => simp [Ideal.log1p, h1]
  | coe r =>
    rcases le_total 0 r with h' | h'
    · rw [← EReal.coe_neg, max_eq_left (EReal.coe_le_coe_iff.2 (by linarith)), zero_sub, ← EReal.coe_neg]; exact h _
    · rw [← EReal.coe_neg, max_eq_right (EReal.coe_le_coe_iff.2 (by linarith)), zero_sub, ← EReal.coe_neg]; exact h _

/-- The kernel's spelling of the log gate. -/
theorem lsg_kernel (L : EReal) : (min L 0 - Ideal.log1p (Ideal.exp (0 - max L (-L)))) * ((1 / 16 : ℝ) : EReal) = lsg L := by
  unfold lsg
  rw [show max (-L) (- -L) = max L (-L) by rw [neg_neg, max_comm], ← zero_sub (max L (-L)), Ideal.div, if_neg (by norm_cast),
    EReal.neg_add (.inl (lt_of_lt_of_le EReal.bot_lt_zero (le_max_right _ _)).ne') (.inr (lt_of_lt_of_le EReal.bot_lt_zero (log1p_nonneg L)).ne')]
  congr 1
  · congr 1
    induction L with
    | bot => simp
    | top => simp
    | coe r =>
      rw [← EReal.coe_neg, ← EReal.coe_zero]
      rcases le_total 0 r with h | h
      · rw [min_eq_right (EReal.coe_le_coe_iff.2 h), max_eq_right (EReal.coe_le_coe_iff.2 (by linarith))]; simp
      · rw [min_eq_left (EReal.coe_le_coe_iff.2 h), max_eq_left (EReal.coe_le_coe_iff.2 (by linarith))]; simp
  · rw [← EReal.coe_inv]; norm_num

/-- A log gate is never `+∞`. -/
theorem lsg_ne_top (L : EReal) : lsg L ≠ ⊤ := by
  rw [← lsg_kernel]
  have h : min L 0 - Ideal.log1p (Ideal.exp (0 - max L (-L))) ≤ 0 :=
    (EReal.sub_le_sub (min_le_right L 0) (log1p_nonneg L)).trans (by simp)
  exact ((mul_nonpos_of_nonpos_of_nonneg h (by norm_cast; norm_num)).trans_lt EReal.zero_lt_top).ne

/-- The three parts of a number under a mask give it back. -/
theorem parts (x : EReal) (hx : x ≠ ⊤) (b : Prop) [Decidable b] :
    (if b then (1 : EReal) else 0) * x + (if b then (1 : EReal) else 0) * (x - x) + (if b then (1 : EReal) else 0) * (x - x - (x - x)) = if b then x else 0 := by
  split
  · rw [one_mul, one_mul, one_mul]
    induction x with
    | bot => simp
    | top => exact absurd rfl hx
    | coe r => rw [← EReal.coe_sub, sub_self, ← EReal.coe_sub, sub_self]; simp
  · simp

theorem parts_sum (f : Fin 64 → EReal) (hf : ∀ j, f j ≠ ⊤) (i : Fin 64) :
    (∑ j, (if j ≤ i then (1 : EReal) else 0) * f j) + (∑ j, (if j ≤ i then (1 : EReal) else 0) * (f j - f j))
      + (∑ j, (if j ≤ i then (1 : EReal) else 0) * (f j - f j - (f j - f j))) = cum f i := by
  rw [← Finset.sum_add_distrib, ← Finset.sum_add_distrib]
  exact Finset.sum_congr rfl fun j _ => parts (f j) (hf j) _

theorem sixteenth : Ideal.ofBits .f32 0x3D800000#32 = ((1 / 16 : ℝ) : EReal) := by
  simp [Ideal.ofBits, Ideal.ieee, -EReal.coe_mul]; norm_num

section Pay
variable (x1 : Vec Ideal S256x128 .bf16) (x2 : Vec Ideal S128x512 .bf16) (x3 : Vec Ideal S1x512 .f32)

theorem pay3_at (p : Fin 4) (i : Fin 64) (q : Fin 512) : k0_pay3 (F := Ideal) x1 x2 x3 (ix2 (prow p i) q) = tla x1 x2 x3 p q i := by
  pointwise [k0_pay3]
  rw [sixteenth]
  exact lsg_kernel _

theorem tri_at (i j : Fin 64) : k0_pay4 (F := Ideal) (ix2 i j) = if j ≤ i then 1 else 0 := by
  pointwise [k0_pay4]
  have e : ∀ i j : Fin 64, IntOp.cmpi .sge (BitVec.ofNat 32 i.val) (BitVec.ofNat 32 j.val) = if j ≤ i then 1#1 else 0#1 := by decide +kernel
  rw [e]
  split <;> rfl

theorem cum0 (i : Fin 64) (q : Fin 512) : k0_pay11 (F := Ideal) (k0_pay9 x1 x2 x3) (k0_pay10 x1 x2 x3) (ix2 i q) = cum (tla x1 x2 x3 0 q) i := by
  have e : ∀ j : Fin 64, k0_pay3 (F := Ideal) x1 x2 x3 (ix2 ⟨j.val, by omega⟩ q) = tla x1 x2 x3 0 q j := fun j =>
    (congrArg (fun r => k0_pay3 (F := Ideal) x1 x2 x3 (ix2 r q)) (Fin.ext (by simp [prow]))).trans (pay3_at x1 x2 x3 0 j q)
  pointwise [k0_pay11, k0_pay9, k0_pay10, k0_pay8, k0_pay7, k0_pay6, k0_pay5, tri_at]
  simp only [e]
  exact parts_sum _ (fun j => lsg_ne_top _) i

theorem cum1 (i : Fin 64) (q : Fin 512) : k0_pay27 (F := Ideal) (k0_pay3 x1 x2 x3) (k0_pay4 (F := Ideal)) (ix2 i q) = cum (tla x1 x2 x3 1 q) i := by
  have e : ∀ j : Fin 64, k0_pay3 (F := Ideal) x1 x2 x3 (ix2 ⟨64 + j.val, by omega⟩ q) = tla x1 x2 x3 1 q j := fun j =>
    (congrArg (fun r => k0_pay3 (F := Ideal) x1 x2 x3 (ix2 r q)) (Fin.ext (by simp [prow]))).trans (pay3_at x1 x2 x3 1 j q)
  pointwise [k0_pay27, tri_at]
  simp only [e]
  exact parts_sum _ (fun j => lsg_ne_top _) i

theorem cum2 (i : Fin 64) (q : Fin 512) : k0_pay43 (F := Ideal) (k0_pay3 x1 x2 x3) (k0_pay4 (F := Ideal)) (ix2 i q) = cum (tla x1 x2 x3 2 q) i := by
  have e : ∀ j : Fin 64, k0_pay3 (F := Ideal) x1 x2 x3 (ix2 ⟨128 + j.val, by omega⟩ q) = tla x1 x2 x3 2 q j := fun j =>
    (congrArg (fun r => k0_pay3 (F := Ideal) x1 x2 x3 (ix2 r q)) (Fin.ext (by simp [prow]))).trans (pay3_at x1 x2 x3 2 j q)
  pointwise [k0_pay43, tri_at]
  simp only [e]
  exact parts_sum _ (fun j => lsg_ne_top _) i

theorem cum3 (i : Fin 64) (q : Fin 512) : k0_pay60 (F := Ideal) (k0_pay3 x1 x2 x3) (k0_pay4 (F := Ideal)) (ix2 i q) = cum (tla x1 x2 x3 3 q) i := by
  have e : ∀ j : Fin 64, k0_pay3 (F := Ideal) x1 x2 x3 (ix2 ⟨192 + j.val, by omega⟩ q) = tla x1 x2 x3 3 q j := fun j =>
    (congrArg (fun r => k0_pay3 (F := Ideal) x1 x2 x3 (ix2 r q)) (Fin.ext (by simp [prow]))).trans (pay3_at x1 x2 x3 3 j q)
  pointwise [k0_pay60, tri_at]
  simp only [e]
  exact parts_sum _ (fun j => lsg_ne_top _) i

end Pay

/-- The gated norm as the kernel writes it. -/
def tgated (o g r : Fin 256 → EReal) (v : Fin 256) : EReal :=
  o v * Ideal.rsqrt (Ideal.div (∑ u, o u * o u) (Ideal.ofBits .f32 0x43800000#32) + Ideal.ofBits .f32 0x358637BD#32) * g v
    * (r v * (Ideal.ofBits .f32 0x3F000000#32 * Ideal.tanh (Ideal.ofBits .f32 0x3F000000#32 * r v) + Ideal.ofBits .f32 0x3F000000#32))

theorem tgated_eq (o g r : Fin 256 → EReal) (v : Fin 256) : tgated o g r v = gated o g r v := by
  unfold tgated gated
  rw [c256_val, half_f32, half_tanh]

theorem prow_val (p : Fin 4) (q : Fin 64) : (prow p q).val = 64 * p.val + q.val := by
  fin_cases p <;> simp [prow]

theorem tgv_val (h : Fin 4) (v : Fin 256) : (tgv h v).val = 256 * h.val + v.val := by
  fin_cases h <;> simp [tgv]
variable (c : Dev nD) (i : grid0.Coords) (arg1 : Memref sig .tc .vmem S256x3072 .bf16) (harg1 : arg1.IsWhole) (arg2 : Memref sig .tc .vmem S256x128 .bf16)
  (harg2 : arg2.IsWhole) (arg3 : Memref sig .tc .vmem S128x512 .bf16) (harg3 : arg3.IsWhole) (arg4 : Memref sig .tc .vmem S1x512 .f32) (harg4 :
  arg4.IsWhole) (arg5 : Memref sig .tc .vmem S4x1x256 .f32) (harg5 : arg5.IsWhole) (arg6 : Memref sig .tc .vmem S256x1024 .bf16) (harg6 : arg6.IsWhole)
  (arg7 : Memref sig .tc .vmem S4x4x256x128 .f32) (harg7 : arg7.IsWhole) (arg8 : Memref sig .tc .vmem S4x256x128 .f32) (harg8 : arg8.IsWhole)
  (x0 : Vec Ideal S256x3072 .bf16) (x1 : Vec Ideal S256x128 .bf16) (x2 : Vec Ideal S128x512 .bf16) (x3 : Vec Ideal S1x512 .f32)
  (x4 : Vec Ideal S4x1x256 .f32) (xs0 : Vec Ideal S4x256x128 .f32)

set_option maxHeartbeats 40000000 in
theorem A5 (hc0 : cond0_0 i) (z : EReal) (hz : ∀ j, k0_pay2 (F := Ideal) j = z) (p : Fin 4) (q : Fin 64) (h : Fin 4) (v : Fin 256) : out0_A_5 c i arg1 harg1 arg2 harg2 arg3 harg3 arg4 harg4 arg5 harg5 arg6 harg6 arg7 harg7 arg8 harg8 hc0 x0 x1 x2 x3 x4 (ix2 (prow p q) (tgv h v))
    = tgated (fun u => ∑ k, (x0 (ix2 (prow p q) (tqc h k)) * qs) * tst x0 x1 x2 x3 h u k z p) (fun u => x4 (ix3 h 0 u)) (fun u => x0 (ix2 (prow p q) (tr h u))) v := by
  frame_out
  generalize hy : (ix2 (prow p q) (tgv h v) : S256x1024.Idx) = y
  canon_tiles x hh
  all_goals
    subst hy
    obtain ⟨d, e, rfl⟩ : ∃ (d : Fin 64) (e : Fin 256), x = ix2 d e := ⟨x 0, x 1, eq_ix2 x⟩
    have ep := prow_val p q
    have ev := tgv_val h v
    have hp := p.isLt; have hq := q.isLt; have hd := d.isLt; have h4 := h.isLt; have hv := v.isLt; have he := e.isLt
    obtain rfl : q = d := Fin.ext (by dsimp at hh0; omega)
    obtain rfl : v = e := Fin.ext (by dsimp at hh1; omega)
    simp (disch := decide) only [↓View.readCov_cons_toLoadRect, ↓View.readCov_skip, ↓Cert.TileKit.readCov_fill3]
    first
      | (have e0 : p.val = (0 : Fin 4).val := (by dsimp at hh0 ⊢; omega); obtain rfl := Fin.ext e0)
      | (have e0 : p.val = (1 : Fin 4).val := (by dsimp at hh0 ⊢; omega); obtain rfl := Fin.ext e0)
      | (have e0 : p.val = (2 : Fin 4).val := (by dsimp at hh0 ⊢; omega); obtain rfl := Fin.ext e0)
      | (have e0 : p.val = (3 : Fin 4).val := (by dsimp at hh0 ⊢; omega); obtain rfl := Fin.ext e0)
    first
      | (have e0 : h.val = (0 : Fin 4).val := (by dsimp at hh1 ⊢; omega); obtain rfl := Fin.ext e0)
      | (have e0 : h.val = (1 : Fin 4).val := (by dsimp at hh1 ⊢; omega); obtain rfl := Fin.ext e0)
      | (have e0 : h.val = (2 : Fin 4).val := (by dsimp at hh1 ⊢; omega); obtain rfl := Fin.ext e0)
      | (have e0 : h.val = (3 : Fin 4).val := (by dsimp at hh1 ⊢; omega); obtain rfl := Fin.ext e0)
    pointwise [hz, k0_pay12, k0_pay13, k0_pay14, k0_pay15, k0_pay16, k0_pay17, k0_pay18, k0_pay19, k0_pay20, k0_pay21, k0_pay22, k0_pay23, k0_pay24, k0_pay25, k0_pay26, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay61, k0_pay62, k0_pay63, k0_pay64, k0_pay65, k0_pay66, k0_pay67, k0_pay68, k0_pay69, k0_pay70, k0_pay71, k0_pay72, k0_pay73, k0_pay74, k0_pay75, cum0, cum1, cum2, cum3, k0_pay1, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122]
    rfl

set_option maxHeartbeats 40000000 in
theorem B5 (hc0 : ¬cond0_0 i) (p : Fin 4) (q : Fin 64) (h : Fin 4) (v : Fin 256) : out0_B_5 c i arg1 harg1 arg2 harg2 arg3 harg3 arg4 harg4 arg5 harg5 arg6 harg6 arg7 harg7 arg8 harg8 hc0 x0 x1 x2 x3 x4 xs0 (ix2 (prow p q) (tgv h v))
    = tgated (fun u => ∑ k, (x0 (ix2 (prow p q) (tqc h k)) * qs) * tst x0 x1 x2 x3 h u k (xs0 (ix3 h u k)) p) (fun u => x4 (ix3 h 0 u)) (fun u => x0 (ix2 (prow p q) (tr h u))) v := by
  frame_out
  generalize hy : (ix2 (prow p q) (tgv h v) : S256x1024.Idx) = y
  canon_tiles x hh
  all_goals
    subst hy
    obtain ⟨d, e, rfl⟩ : ∃ (d : Fin 64) (e : Fin 256), x = ix2 d e := ⟨x 0, x 1, eq_ix2 x⟩
    have ep := prow_val p q
    have ev := tgv_val h v
    have hp := p.isLt; have hq := q.isLt; have hd := d.isLt; have h4 := h.isLt; have hv := v.isLt; have he := e.isLt
    obtain rfl : q = d := Fin.ext (by dsimp at hh0; omega)
    obtain rfl : v = e := Fin.ext (by dsimp at hh1; omega)
    simp (disch := decide) only [↓View.readCov_cons_toLoadRect, ↓View.readCov_skip, ↓Cert.TileKit.readCov_fill3]
    first
      | (have e0 : p.val = (0 : Fin 4).val := (by dsimp at hh0 ⊢; omega); obtain rfl := Fin.ext e0)
      | (have e0 : p.val = (1 : Fin 4).val := (by dsimp at hh0 ⊢; omega); obtain rfl := Fin.ext e0)
      | (have e0 : p.val = (2 : Fin 4).val := (by dsimp at hh0 ⊢; omega); obtain rfl := Fin.ext e0)
      | (have e0 : p.val = (3 : Fin 4).val := (by dsimp at hh0 ⊢; omega); obtain rfl := Fin.ext e0)
    first
      | (have e0 : h.val = (0 : Fin 4).val := (by dsimp at hh1 ⊢; omega); obtain rfl := Fin.ext e0)
      | (have e0 : h.val = (1 : Fin 4).val := (by dsimp at hh1 ⊢; omega); obtain rfl := Fin.ext e0)
      | (have e0 : h.val = (2 : Fin 4).val := (by dsimp at hh1 ⊢; omega); obtain rfl := Fin.ext e0)
      | (have e0 : h.val = (3 : Fin 4).val := (by dsimp at hh1 ⊢; omega); obtain rfl := Fin.ext e0)
    pointwise [k0_pay2, k0_pay12, k0_pay13, k0_pay14, k0_pay15, k0_pay16, k0_pay17, k0_pay18, k0_pay19, k0_pay20, k0_pay21, k0_pay22, k0_pay23, k0_pay24, k0_pay25, k0_pay26, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay61, k0_pay62, k0_pay63, k0_pay64, k0_pay65, k0_pay66, k0_pay67, k0_pay68, k0_pay69, k0_pay70, k0_pay71, k0_pay72, k0_pay73, k0_pay74, k0_pay75, cum0, cum1, cum2, cum3, k0_pay1, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122]
    rfl

set_option maxHeartbeats 4000000 in
theorem A6 (hc0 : cond0_0 i) (z : EReal) (hz : ∀ j, k0_pay2 (F := Ideal) j = z) (p : Fin 4) (h : Fin 4) (v : Fin 256) (k : Fin 128) : out0_A_6 c i arg1 harg1 arg2 harg2 arg3 harg3 arg4 harg4 arg5 harg5 arg6 harg6 arg7 harg7 arg8 harg8 hc0 x0 x1 x2 x3 x4 (ix4 p h v k)
    = tst x0 x1 x2 x3 h v k z p := by
  frame_out
  generalize hy : (ix4 p h v k : S4x4x256x128.Idx) = y
  canon_tiles x hh
  all_goals
    subst hy
    obtain ⟨a, b, d, e, rfl⟩ : ∃ (a : Fin 1) (b : Fin 1) (d : Fin 256) (e : Fin 128), x = ix4 a b d e := ⟨x 0, x 1, x 2, x 3, eq_ix4 x⟩
    obtain rfl : v = d := Fin.ext (by dsimp at hh2; omega)
    obtain rfl : k = e := Fin.ext (by dsimp at hh3; omega)
    obtain rfl : a = 0 := Subsingleton.elim _ _
    obtain rfl : b = 0 := Subsingleton.elim _ _
    try simp (disch := decide) only [↓View.readCov_cons_toLoadRect, ↓View.readCov_skip, ↓Cert.TileKit.readCov_fill3]
  all_goals
    first
      | (have e0 : p.val = (0 : Fin 4).val := (by dsimp at hh0 ⊢; omega); obtain rfl := Fin.ext e0)
      | (have e0 : p.val = (1 : Fin 4).val := (by dsimp at hh0 ⊢; omega); obtain rfl := Fin.ext e0)
      | (have e0 : p.val = (2 : Fin 4).val := (by dsimp at hh0 ⊢; omega); obtain rfl := Fin.ext e0)
      | (have e0 : p.val = (3 : Fin 4).val := (by dsimp at hh0 ⊢; omega); obtain rfl := Fin.ext e0)
    first
      | (have e0 : h.val = (0 : Fin 4).val := (by dsimp at hh1 ⊢; omega); obtain rfl := Fin.ext e0)
      | (have e0 : h.val = (1 : Fin 4).val := (by dsimp at hh1 ⊢; omega); obtain rfl := Fin.ext e0)
      | (have e0 : h.val = (2 : Fin 4).val := (by dsimp at hh1 ⊢; omega); obtain rfl := Fin.ext e0)
      | (have e0 : h.val = (3 : Fin 4).val := (by dsimp at hh1 ⊢; omega); obtain rfl := Fin.ext e0)
    pointwise [hz, k0_pay12, k0_pay13, k0_pay14, k0_pay15, k0_pay16, k0_pay17, k0_pay18, k0_pay19, k0_pay20, k0_pay21, k0_pay22, k0_pay23, k0_pay24, k0_pay25, k0_pay26, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay61, k0_pay62, k0_pay63, k0_pay64, k0_pay65, k0_pay66, k0_pay67, k0_pay68, k0_pay69, k0_pay70, k0_pay71, k0_pay72, k0_pay73, k0_pay74, k0_pay75, cum0, cum1, cum2, cum3]
    rfl

set_option maxHeartbeats 4000000 in
theorem B6 (hc0 : ¬cond0_0 i) (p : Fin 4) (h : Fin 4) (v : Fin 256) (k : Fin 128) : out0_B_6 c i arg1 harg1 arg2 harg2 arg3 harg3 arg4 harg4 arg5 harg5 arg6 harg6 arg7 harg7 arg8 harg8 hc0 x0 x1 x2 x3 x4 xs0 (ix4 p h v k)
    = tst x0 x1 x2 x3 h v k (xs0 (ix3 h v k)) p := by
  frame_out
  generalize hy : (ix4 p h v k : S4x4x256x128.Idx) = y
  canon_tiles x hh
  all_goals
    subst hy
    obtain ⟨a, b, d, e, rfl⟩ : ∃ (a : Fin 1) (b : Fin 1) (d : Fin 256) (e : Fin 128), x = ix4 a b d e := ⟨x 0, x 1, x 2, x 3, eq_ix4 x⟩
    obtain rfl : v = d := Fin.ext (by dsimp at hh2; omega)
    obtain rfl : k = e := Fin.ext (by dsimp at hh3; omega)
    obtain rfl : a = 0 := Subsingleton.elim _ _
    obtain rfl : b = 0 := Subsingleton.elim _ _
    try simp (disch := decide) only [↓View.readCov_cons_toLoadRect, ↓View.readCov_skip, ↓Cert.TileKit.readCov_fill3]
  all_goals
    first
      | (have e0 : p.val = (0 : Fin 4).val := (by dsimp at hh0 ⊢; omega); obtain rfl := Fin.ext e0)
      | (have e0 : p.val = (1 : Fin 4).val := (by dsimp at hh0 ⊢; omega); obtain rfl := Fin.ext e0)
      | (have e0 : p.val = (2 : Fin 4).val := (by dsimp at hh0 ⊢; omega); obtain rfl := Fin.ext e0)
      | (have e0 : p.val = (3 : Fin 4).val := (by dsimp at hh0 ⊢; omega); obtain rfl := Fin.ext e0)
    first
      | (have e0 : h.val = (0 : Fin 4).val := (by dsimp at hh1 ⊢; omega); obtain rfl := Fin.ext e0)
      | (have e0 : h.val = (1 : Fin 4).val := (by dsimp at hh1 ⊢; omega); obtain rfl := Fin.ext e0)
      | (have e0 : h.val = (2 : Fin 4).val := (by dsimp at hh1 ⊢; omega); obtain rfl := Fin.ext e0)
      | (have e0 : h.val = (3 : Fin 4).val := (by dsimp at hh1 ⊢; omega); obtain rfl := Fin.ext e0)
    pointwise [k0_pay2, k0_pay12, k0_pay13, k0_pay14, k0_pay15, k0_pay16, k0_pay17, k0_pay18, k0_pay19, k0_pay20, k0_pay21, k0_pay22, k0_pay23, k0_pay24, k0_pay25, k0_pay26, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay61, k0_pay62, k0_pay63, k0_pay64, k0_pay65, k0_pay66, k0_pay67, k0_pay68, k0_pay69, k0_pay70, k0_pay71, k0_pay72, k0_pay73, k0_pay74, k0_pay75, cum0, cum1, cum2, cum3]
    rfl

set_option maxHeartbeats 4000000 in
theorem A0 (hc0 : cond0_0 i) (z : EReal) (hz : ∀ j, k0_pay2 (F := Ideal) j = z) (h : Fin 4) (v : Fin 256) (k : Fin 128) : sout0_A_0 c i arg1 harg1 arg2 harg2 arg3 harg3 arg4 harg4 arg5 harg5 arg6 harg6 arg7 harg7 arg8 harg8 hc0 x0 x1 x2 x3 x4 (ix3 h v k)
    = tst x0 x1 x2 x3 h v k z 3 := by
  frame_out
  generalize hy : (ix3 h v k : S4x256x128.Idx) = y
  refine (canon_over _ _ _ _ _ y ?_).trans ?_
  · refine View.cover_of_tiledL (s := S4x256x128) _ S1x256x128.size ?_ y
    sl_kernel_rfl
  canon_tiles x hh
  all_goals
    subst hy
    obtain ⟨a, d, e, rfl⟩ : ∃ (a : Fin 1) (d : Fin 256) (e : Fin 128), x = ix3 a d e := ⟨x 0, x 1, x 2, eq_ix3 x⟩
    obtain rfl : v = d := Fin.ext (by dsimp at hh1; omega)
    obtain rfl : k = e := Fin.ext (by dsimp at hh2; omega)
    obtain rfl : a = 0 := Subsingleton.elim _ _
    try simp (disch := decide) only [↓View.readCov_cons_toLoadRect, ↓View.readCov_skip, ↓Cert.TileKit.readCov_fill3]
    first
      | (have e0 : h.val = (0 : Fin 4).val := (by dsimp at hh0 ⊢; omega); obtain rfl := Fin.ext e0)
      | (have e0 : h.val = (1 : Fin 4).val := (by dsimp at hh0 ⊢; omega); obtain rfl := Fin.ext e0)
      | (have e0 : h.val = (2 : Fin 4).val := (by dsimp at hh0 ⊢; omega); obtain rfl := Fin.ext e0)
      | (have e0 : h.val = (3 : Fin 4).val := (by dsimp at hh0 ⊢; omega); obtain rfl := Fin.ext e0)
    pointwise [hz, k0_pay12, k0_pay13, k0_pay14, k0_pay15, k0_pay16, k0_pay17, k0_pay18, k0_pay19, k0_pay20, k0_pay21, k0_pay22, k0_pay23, k0_pay24, k0_pay25, k0_pay26, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay61, k0_pay62, k0_pay63, k0_pay64, k0_pay65, k0_pay66, k0_pay67, k0_pay68, k0_pay69, k0_pay70, k0_pay71, k0_pay72, k0_pay73, k0_pay74, k0_pay75, cum0, cum1, cum2, cum3]
    rfl

set_option maxHeartbeats 4000000 in
theorem B0 (hc0 : ¬cond0_0 i) (h : Fin 4) (v : Fin 256) (k : Fin 128) : sout0_B_0 c i arg1 harg1 arg2 harg2 arg3 harg3 arg4 harg4 arg5 harg5 arg6 harg6 arg7 harg7 arg8 harg8 hc0 x0 x1 x2 x3 x4 xs0 (ix3 h v k)
    = tst x0 x1 x2 x3 h v k (xs0 (ix3 h v k)) 3 := by
  frame_out
  generalize hy : (ix3 h v k : S4x256x128.Idx) = y
  refine (canon_over _ _ _ _ _ y ?_).trans ?_
  · refine View.cover_of_tiledL (s := S4x256x128) _ S1x256x128.size ?_ y
    sl_kernel_rfl
  canon_tiles x hh
  all_goals
    subst hy
    obtain ⟨a, d, e, rfl⟩ : ∃ (a : Fin 1) (d : Fin 256) (e : Fin 128), x = ix3 a d e := ⟨x 0, x 1, x 2, eq_ix3 x⟩
    obtain rfl : v = d := Fin.ext (by dsimp at hh1; omega)
    obtain rfl : k = e := Fin.ext (by dsimp at hh2; omega)
    obtain rfl : a = 0 := Subsingleton.elim _ _
    try simp (disch := decide) only [↓View.readCov_cons_toLoadRect, ↓View.readCov_skip, ↓Cert.TileKit.readCov_fill3]
    first
      | (have e0 : h.val = (0 : Fin 4).val := (by dsimp at hh0 ⊢; omega); obtain rfl := Fin.ext e0)
      | (have e0 : h.val = (1 : Fin 4).val := (by dsimp at hh0 ⊢; omega); obtain rfl := Fin.ext e0)
      | (have e0 : h.val = (2 : Fin 4).val := (by dsimp at hh0 ⊢; omega); obtain rfl := Fin.ext e0)
      | (have e0 : h.val = (3 : Fin 4).val := (by dsimp at hh0 ⊢; omega); obtain rfl := Fin.ext e0)
    pointwise [k0_pay2, k0_pay12, k0_pay13, k0_pay14, k0_pay15, k0_pay16, k0_pay17, k0_pay18, k0_pay19, k0_pay20, k0_pay21, k0_pay22, k0_pay23, k0_pay24, k0_pay25, k0_pay26, k0_pay28, k0_pay29, k0_pay30, k0_pay31, k0_pay32, k0_pay33, k0_pay34, k0_pay35, k0_pay36, k0_pay37, k0_pay38, k0_pay39, k0_pay40, k0_pay41, k0_pay42, k0_pay44, k0_pay45, k0_pay46, k0_pay47, k0_pay48, k0_pay49, k0_pay50, k0_pay51, k0_pay52, k0_pay53, k0_pay54, k0_pay55, k0_pay56, k0_pay57, k0_pay58, k0_pay59, k0_pay61, k0_pay62, k0_pay63, k0_pay64, k0_pay65, k0_pay66, k0_pay67, k0_pay68, k0_pay69, k0_pay70, k0_pay71, k0_pay72, k0_pay73, k0_pay74, k0_pay75, cum0, cum1, cum2, cum3]
    rfl

end Cert.GlaFwdIdeal.Tile

end
-- ==== Proof.GlaFwdValue.lean ====
module

public import proofs.«01_k».proof.Proof.GlaFwdTile
public import proofs.«01_k».proof.Proof.Gen.GlaFwdIdeal.Value
public import Idealize.ShloMosaic.Lib.Pipeline.ValueKit

/-! The arrays the attention's forward kernel leaves: chunk by chunk the state carried over the grid, and the gated readout. -/

@[expose] public section

set_option maxRecDepth 16384

noncomputable section

namespace Cert.GlaFwdIdeal.RefValue

open Cert.GlaFwdIdeal Cert.GlaFwdIdeal.Gen Idealize.ShloMosaic Idealize.ShloMosaic.TcCoe Idealize.SL.Sem
open Idealize.ShloMosaic.Pipeline (Dat)
open Cert.Scalar Cert.GlaMath Cert.GlaFwdIdeal.Tile

/-- The forward pass's two results, as arrays of the arguments. -/
def Y (pa : Fin 4096 → Fin 3072 → EReal) (al : Fin 4096 → Fin 16 → EReal) (wg : Fin 16 → Fin 512 → EReal)
    (bg : Fin 512 → EReal) (gn : Fin 4 → Fin 256 → EReal) : Vec Ideal S4096x1024 .bf16 := fun i =>
  out pa al wg bg gn ⟨(i 0).val / 64, Nat.div_lt_of_lt_mul (i 0).isLt⟩ ⟨(i 0).val % 64, Nat.mod_lt _ (by decide)⟩
    ⟨(i 1).val / 256, Nat.div_lt_of_lt_mul (i 1).isLt⟩ ⟨(i 1).val % 256, Nat.mod_lt _ (by decide)⟩

def St (pa : Fin 4096 → Fin 3072 → EReal) (al : Fin 4096 → Fin 16 → EReal) (wg : Fin 16 → Fin 512 → EReal)
    (bg : Fin 512 → EReal) : Vec Ideal S64x4x256x128 .f32 := fun i => state pa al wg bg (i 1) (i 3) (i 2) ((i 0).val + 1)

theorem Y_at (pa : Fin 4096 → Fin 3072 → EReal) (al : Fin 4096 → Fin 16 → EReal) (wg : Fin 16 → Fin 512 → EReal)
    (bg : Fin 512 → EReal) (gn : Fin 4 → Fin 256 → EReal) (n i : Fin 64) (h : Fin 4) (v : Fin 256) :
    Y pa al wg bg gn (ix2 (row n i) (gv h v)) = out pa al wg bg gn n i h v := by
  have e0 : (⟨(row n i).val / 64, by omega⟩ : Fin 64) = n := Fin.ext (by dsimp only; omega)
  have e1 : (⟨(row n i).val % 64, by omega⟩ : Fin 64) = i := Fin.ext (by dsimp only; omega)
  have e2 : (⟨(gv h v).val / 256, by omega⟩ : Fin 4) = h := Fin.ext (by dsimp only; omega)
  have e3 : (⟨(gv h v).val % 256, by omega⟩ : Fin 256) = v := Fin.ext (by dsimp only; omega)
  change out pa al wg bg gn ⟨(row n i).val / 64, _⟩ ⟨(row n i).val % 64, _⟩ ⟨(gv h v).val / 256, _⟩ ⟨(gv h v).val % 256, _⟩ = _
  rw [e0, e1, e2, e3]

variable (m : (ℓ : Loc nD τ sig) → Buf (Elt Ideal) ℓ) (c : Dev nD)

/-- The arguments, as functions of plain indices. -/
abbrev aPa (s : Fin 4096) (d : Fin 3072) : EReal := (m ((c : Thread nD τ).loc main_arg0) : Vec Ideal S4096x3072 .bf16) (ix2 s d)
abbrev aAl (s : Fin 4096) (x : Fin 16) : EReal := (m ((c : Thread nD τ).loc main_arg1) : Vec Ideal S4096x16 .bf16) (ix2 s x)
abbrev aWg (x : Fin 16) (k : Fin 512) : EReal := (m ((c : Thread nD τ).loc main_arg2) : Vec Ideal S16x512 .f32) (ix2 x k)
abbrev aBg (k : Fin 512) : EReal := (m ((c : Thread nD τ).loc main_arg3) : Vec Ideal S512 .f32) (ix1 k)
abbrev aGn (h : Fin 4) (v : Fin 256) : EReal := (m ((c : Thread nD τ).loc main_arg4) : Vec Ideal S4x256 .f32) (ix2 h v)

theorem idx_val : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![t.val, 0] ∧ win0_6.index t = ![t.val, 0, 0, 0] :=
  (by decide +kernel : ∀ t : Fin grid0.N, _)

theorem lt16 (t : Fin cfg0.N) : t.val < 16 := lt_of_lt_of_eq t.isLt N_0

theorem sitofp_zero (f : FTy) : (FloatOps.sitofp (F := Ideal) f (0#32) : EReal) = 0 := by
  change (((0#32 : BitVec 32).toInt : ℝ) : EReal) = 0
  simp

theorem V_al (s : Fin 4096) (x : Fin 128) : (V m c main_v0 : Vec Ideal S4096x128 .bf16) (ix2 s x)
    = (if h : x.val < 16 then aAl m c s ⟨x.val, h⟩ else 0 : EReal) := by
  unfold V; simp only [hostOps0, hostOps0_1, hostOps0_2, hostOps0_3, hostOps0_4, List.flatten_cons, List.flatten_nil, List.append_nil, List.cons_append, List.nil_append]
  after_results
  change (pad (s := S4096x16) S4096x128 (![0, 0] : Fin 2 → Nat) ![0, 112] ![0, 0] (m ((c : Thread nD τ).loc main_arg1) : Vec Ideal S4096x16 .bf16)
    (sitofp (F := Ideal) .bf16 (constantI S_ 32 0#32)) Facts₀.pads_S4096x16_S4096x128_000_01120 Facts₀.h_S_ : Vec Ideal S4096x128 .bf16) (ix2 s x) = _
  pointwise
  rw [show (FloatOps.sitofp (F := Ideal) FTy.bf16 0#32 : EReal) = 0 from sitofp_zero _]

theorem V_wg (x : Fin 128) (q : Fin 512) : (V m c main_v2 : Vec Ideal S128x512 .bf16) (ix2 x q)
    = (if h : x.val < 16 then aWg m c ⟨x.val, h⟩ q else 0 : EReal) := by
  unfold V; simp only [hostOps0, hostOps0_1, hostOps0_2, hostOps0_3, hostOps0_4, List.flatten_cons, List.flatten_nil, List.append_nil, List.cons_append, List.nil_append]
  after_results
  change (pad (s := S16x512) S128x512 (![0, 0] : Fin 2 → Nat) ![112, 0] ![0, 0] (m ((c : Thread nD τ).loc main_arg2) : Vec Ideal S16x512 .f32)
    (sitofp (F := Ideal) .f32 (constantI S_ 32 0#32)) Facts₀.pads_S16x512_S128x512_01120_000 Facts₀.h_S_ : Vec Ideal S128x512 .f32) (ix2 x q) = _
  pointwise
  rw [show (FloatOps.sitofp (F := Ideal) FTy.f32 0#32 : EReal) = 0 from sitofp_zero _]

theorem V_bg : V m c main_v3 = shapeCast S1x512 (m ((c : Thread nD τ).loc main_arg3)) Facts₀.shapeCasts_S512_S1x512 := by
  unfold V; simp only [hostOps0, hostOps0_1, hostOps0_2, hostOps0_3, hostOps0_4, List.flatten_cons, List.flatten_nil, List.append_nil, List.cons_append, List.nil_append]
  after_results; rfl
theorem V_gn : V m c main_v4 = shapeCast S4x1x256 (m ((c : Thread nD τ).loc main_arg4)) Facts₀.shapeCasts_S4x256_S4x1x256 := by
  unfold V; simp only [hostOps0, hostOps0_1, hostOps0_2, hostOps0_3, hostOps0_4, List.flatten_cons, List.flatten_nil, List.append_nil, List.cons_append, List.nil_append]
  after_results; rfl

variable (t : Fin cfg0.N)

/-- The token a row of a point's block holds. -/
abbrev tok (a : Fin 256) : Fin 4096 := ⟨256 * t.val + a.val, by have := lt16 t; omega⟩

theorem rd0 (a : Fin 256) (d : Fin 3072) : iblk m c 0 t (ix2 a d) = aPa m c (tok t a) d := by
  refine (congrFun (V_main_arg0 m c) _).trans ?_
  blk_point [iblk, V, idx_val t]

theorem rd1 (a : Fin 256) (x : Fin 128) : (iblk m c 1 t (ix2 a x) : EReal) = if h : x.val < 16 then aAl m c (tok t a) ⟨x.val, h⟩ else 0 := by
  refine Eq.trans ?_ (V_al m c (tok t a) x)
  blk_point [iblk, idx_val t]

theorem rd2 (x : Fin 128) (q : Fin 512) : (iblk m c 2 t (ix2 x q) : EReal) = if h : x.val < 16 then aWg m c ⟨x.val, h⟩ q else 0 := by
  refine Eq.trans ?_ (V_wg m c x q)
  blk_point [iblk, idx_val t]

theorem rd3 (q : Fin 512) : (iblk m c 3 t (ix2 0 q) : EReal) = aBg m c q := by
  refine (congrFun (V_bg m c) _).trans ?_
  pointwise
  blk_point [iblk, idx_val t]

theorem rd4 (h : Fin 4) (v : Fin 256) : (iblk m c 4 t (ix3 h 0 v) : EReal) = aGn m c h v := by
  refine (congrFun (V_gn m c) _).trans ?_
  pointwise
  blk_point [iblk, idx_val t]

theorem prow_tok (p : Fin 4) (i : Fin 64) : tok t (prow p i) = row (chunk (4 * t.val + p.val)) i := by
  have := lt16 t
  have hp := p.isLt
  refine Fin.ext ?_
  dsimp only
  rw [prow_val]
  omega

/-- The padded lanes add nothing. -/
theorem sum_pad (f : Fin 16 → EReal) (g : Fin 16 → EReal) :
    (∑ x : Fin 128, (if h : x.val < 16 then f ⟨x.val, h⟩ else 0) * (if h : x.val < 16 then g ⟨x.val, h⟩ else 0)) = ∑ x, f x * g x := by
  refine (Fin.sum_univ_add (a := 16) (b := 112) _).trans ?_
  refine (congrArg₂ (· + ·) (Finset.sum_congr rfl fun x _ => ?_) (Finset.sum_eq_zero fun x _ => ?_)).trans (add_zero _)
  · rw [dif_pos (show (Fin.castAdd 112 x).val < 16 from x.isLt), dif_pos (show (Fin.castAdd 112 x).val < 16 from x.isLt)]
    rfl
  · rw [dif_neg (show ¬(Fin.natAdd 16 x).val < 16 by simp), zero_mul]

theorem tla_at (p : Fin 4) (h : Fin 4) (k : Fin 128) : tla (iblk m c 1 t) (iblk m c 2 t) (iblk m c 3 t) p (tq h k)
    = la (aAl m c) (aWg m c) (aBg m c) (chunk (4 * t.val + p.val)) h k := by
  funext i
  unfold tla la
  rw [rd3, tq_eq, ← prow_tok]
  refine congrArg (fun x : EReal => lsg (x + aBg m c (qk h k))) ?_
  rw [← sum_pad]
  exact Finset.sum_congr rfl fun x _ => congrArg₂ (· * ·) (rd1 m c t _ _) (rd2 m c t _ _)

theorem tstep_at (p h : Fin 4) (v : Fin 256) (k : Fin 128) :
    tstep (iblk m c 0 t) (iblk m c 1 t) (iblk m c 2 t) (iblk m c 3 t) p h v k (state (aPa m c) (aAl m c) (aWg m c) (aBg m c) h k v (4 * t.val + p.val))
      = state (aPa m c) (aAl m c) (aWg m c) (aBg m c) h k v (4 * t.val + p.val + 1) := by
  unfold tstep
  rw [tla_at, state, upd, mul_comm]
  refine congrArg (fun x : EReal => _ + x) (Finset.sum_congr rfl fun i _ => ?_)
  rw [mul_comm, rd0, rd0, prow_tok, tv_eq]
  exact congrArg (fun x => aPa m c _ x * _ * _) (Fin.ext (by have := tq_eq h k; simp [tk, this]))

/-- The state before a tile and after each of its chunks. -/
theorem tst_at (h : Fin 4) (v : Fin 256) (k : Fin 128) (p : Fin 4) :
    tst (iblk m c 0 t) (iblk m c 1 t) (iblk m c 2 t) (iblk m c 3 t) h v k (state (aPa m c) (aAl m c) (aWg m c) (aBg m c) h k v (4 * t.val)) p
      = state (aPa m c) (aAl m c) (aWg m c) (aBg m c) h k v (4 * t.val + p.val + 1) := by
  have s0 := tstep_at m c t 0 h v k
  have s1 := tstep_at m c t 1 h v k
  have s2 := tstep_at m c t 2 h v k
  have s3 := tstep_at m c t 3 h v k
  match p with
  | 0 => exact s0
  | 1 => exact (congrArg _ s0).trans s1
  | 2 => exact (congrArg _ ((congrArg _ s0).trans s1)).trans s2
  | 3 => exact (congrArg _ ((congrArg _ ((congrArg _ s0).trans s1)).trans s2)).trans s3

theorem pay2_zero (j : S4x256x128.Idx) : k0_pay2 (F := Ideal) j = (0 : EReal) := by
  pointwise [k0_pay2]

/-- What the scratch holds after a point. -/
theorem scratch_at (n : ℕ) : ∀ hn : n < cfg0.N, ∀ (h : Fin 4) (v : Fin 256) (k : Fin 128),
    (outsAt0 m c n hn).2.2 (ix3 h v k) = state (aPa m c) (aAl m c) (aWg m c) (aBg m c) h k v (4 * n + 4) := by
  induction n with
  | zero =>
    intro hn h v k
    refine (congrFun (congrArg (fun x => x.2.2) (outsAt0_A m c ⟨0, hn⟩ rfl)) _).trans ?_
    dsimp only
    rw [A0 _ _ _ _ _ _ _ _ _ _ _ _ _ _ _ _ _ _ _ _ _ _ _ _ 0 pay2_zero]
    exact tst_at m c ⟨0, hn⟩ h v k 3
  | succ n ih =>
    intro hn h v k
    have h16 : n + 1 < 16 := lt_of_lt_of_eq hn N_0
    refine (congrFun (congrArg (fun x => x.2.2) (outsAt0_B m c ⟨n + 1, hn⟩ (by dsimp only; omega))) _).trans ?_
    dsimp only
    rw [B0]
    refine (congrArg (fun z => tst _ _ _ _ h v k z 3) (ih (by omega) h v k)).trans ?_
    exact tst_at m c ⟨n + 1, hn⟩ h v k 3

theorem out6 (p h : Fin 4) (v : Fin 256) (k : Fin 128) : (outsAt0 m c t.val t.isLt).2.1 (ix4 p h v k)
    = state (aPa m c) (aAl m c) (aWg m c) (aBg m c) h k v (4 * t.val + p.val + 1) := by
  have h16 := lt16 t
  by_cases h0 : t.val % 16 = 0
  · rw [outsAt0_A m c t h0]; dsimp only
    rw [A6 _ _ _ _ _ _ _ _ _ _ _ _ _ _ _ _ _ _ _ _ _ _ _ _ 0 pay2_zero, ← tst_at]
    rw [show 4 * t.val = 0 by omega, state]
  · rw [outsAt0_B m c t h0]; dsimp only
    rw [B6, ← tst_at]
    refine congrArg (fun z => tst _ _ _ _ h v k z p) ((scratch_at m c (t.val - 1) _ h v k).trans ?_)
    rw [show 4 * (t.val - 1) + 4 = 4 * t.val by omega]

theorem tgated_at (x0 : Vec Ideal S256x3072 .bf16) (hx : ∀ a d, x0 (ix2 a d) = aPa m c (tok t a) d) (x4 : Vec Ideal S4x1x256 .f32)
    (hg : ∀ h u, x4 (ix3 h 0 u) = aGn m c h u) (p : Fin 4) (i : Fin 64) (h : Fin 4) (v : Fin 256) (T : Fin 256 → Fin 128 → EReal)
    (hT : ∀ u k, T u k = state (aPa m c) (aAl m c) (aWg m c) (aBg m c) h k u (4 * t.val + p.val + 1)) :
    tgated (fun u => ∑ k, (x0 (ix2 (prow p i) (tqc h k)) * qs) * T u k) (fun u => x4 (ix3 h 0 u)) (fun u => x0 (ix2 (prow p i) (tr h u))) v
      = out (aPa m c) (aAl m c) (aWg m c) (aBg m c) (aGn m c) (chunk (4 * t.val + p.val)) i h v := by
  have h16 := lt16 t
  have hp := p.isLt
  rw [tgated_eq]
  unfold out att
  have e1 : (fun u => ∑ k, (x0 (ix2 (prow p i) (tqc h k)) * qs) * T u k : Fin 256 → EReal)
      = fun u => ∑ k, state (aPa m c) (aAl m c) (aWg m c) (aBg m c) h k u ((chunk (4 * t.val + p.val)).val + 1)
        * (aPa m c (row (chunk (4 * t.val + p.val)) i) (qcol h k) * qs) := by
    funext u
    refine Finset.sum_congr rfl fun k _ => ?_
    rw [mul_comm, hT, hx, prow_tok, tqc_eq, show (chunk (4 * t.val + p.val)).val = 4 * t.val + p.val from Nat.mod_eq_of_lt (by omega)]
  have e2 : (fun u => x4 (ix3 h 0 u) : Fin 256 → EReal) = aGn m c h := funext fun u => hg h u
  have e3 : (fun u => x0 (ix2 (prow p i) (tr h u)) : Fin 256 → EReal)
      = fun u => aPa m c (row (chunk (4 * t.val + p.val)) i) (rcol h u) := funext fun u => by rw [hx, prow_tok, tr_eq]
  rw [e1, e2, e3]

set_option maxHeartbeats 2000000 in
theorem out5 (p : Fin 4) (i : Fin 64) (h : Fin 4) (v : Fin 256) : (outsAt0 m c t.val t.isLt).1 (ix2 (prow p i) (tgv h v))
    = out (aPa m c) (aAl m c) (aWg m c) (aBg m c) (aGn m c) (chunk (4 * t.val + p.val)) i h v := by
  have h16 := lt16 t
  by_cases h0 : t.val % 16 = 0
  · rw [outsAt0_A m c t h0]; dsimp only
    rw [A5 _ _ _ _ _ _ _ _ _ _ _ _ _ _ _ _ _ _ _ _ _ _ _ _ 0 pay2_zero]
    refine tgated_at m c t _ (rd0 m c t) _ (rd4 m c t) p i h v _ fun u k => ?_
    rw [← tst_at, show 4 * t.val = 0 by omega, state]
  · rw [outsAt0_B m c t h0]; dsimp only
    rw [B5]
    refine tgated_at m c t _ (rd0 m c t) _ (rd4 m c t) p i h v _ fun u k => ?_
    rw [← tst_at]
    refine congrArg (fun z => tst _ _ _ _ h u k z p) ((scratch_at m c (t.val - 1) _ h u k).trans ?_)
    rw [show 4 * (t.val - 1) + 4 = 4 * t.val by omega]

/-! ## The arrays -/

theorem emb5 (a : Fin 256) (d : Fin 1024) : ((cfg0.win 5).blk t).view.emb (ix2 a d) = (ix2 (tok t a) d : S4096x1024.Idx) := by
  funext k
  refine Fin.ext ?_
  match k with
  | ⟨0, _⟩ => blk_simp [idx_val t]; have e : (tok t a).val = 256 * t.val + a.val := rfl; omega
  | ⟨1, _⟩ => blk_simp [idx_val t]

theorem emb6 (p : Fin 4) (h : Fin 4) (v : Fin 256) (k : Fin 128) :
    ((cfg0.win 6).blk t).view.emb (ix4 p h v k) = (ix4 (chunk (4 * t.val + p.val)) h v k : S64x4x256x128.Idx) := by
  have h16 := lt16 t
  have hp := p.isLt
  funext k
  refine Fin.ext ?_
  match k with
  | ⟨0, _⟩ => blk_simp [idx_val t]; have e : (chunk (4 * t.val + p.val)).val = 4 * t.val + p.val := Nat.mod_eq_of_lt (by omega); omega
  | ⟨1, _⟩ => blk_simp [idx_val t]
  | ⟨2, _⟩ => blk_simp [idx_val t]
  | ⟨3, _⟩ => blk_simp [idx_val t]

theorem row_cases (a : Fin 256) : ∃ p i, a = prow p i :=
  ⟨⟨a.val / 64, by omega⟩, ⟨a.val % 64, by omega⟩, Fin.ext (by rw [prow_val]; dsimp only; omega)⟩

theorem col_cases (a : Fin 1024) : ∃ h v, a = tgv h v :=
  ⟨⟨a.val / 256, by omega⟩, ⟨a.val % 256, by omega⟩, Fin.ext (by rw [tgv_val]; dsimp only; omega)⟩

theorem final5 : (dats m 0 c).arrAt 5 (cfgs 0).N = Y (aPa m c) (aAl m c) (aWg m c) (aBg m c) (aGn m c) := by
  refine (dats m 0 c).arrAt_eq_of_covers 5 _ (by decide +kernel) fun t _ y => ?_
  obtain ⟨a, b, rfl⟩ : ∃ (a : Fin 256) (b : Fin 1024), y = ix2 a b := ⟨y 0, y 1, eq_ix2 y⟩
  blk_simp
  rw [after0_5]
  obtain ⟨p, i, rfl⟩ := row_cases a
  obtain ⟨h, v, rfl⟩ := col_cases b
  rw [out5]
  refine Eq.trans ?_ (congrArg _ (emb5 t _ _)).symm
  rw [prow_tok, tgv_eq, Y_at]

theorem final6 : (dats m 0 c).arrAt 6 (cfgs 0).N = St (aPa m c) (aAl m c) (aWg m c) (aBg m c) := by
  refine (dats m 0 c).arrAt_eq_of_covers 6 _ (by decide +kernel) fun t _ y => ?_
  obtain ⟨p, h, v, k, rfl⟩ : ∃ (p : Fin 4) (h : Fin 4) (v : Fin 256) (k : Fin 128), y = ix4 p h v k := ⟨y 0, y 1, y 2, y 3, eq_ix4 y⟩
  blk_simp
  rw [after0_6, out6]
  have h16 := lt16 t
  have hp := p.isLt
  refine Eq.trans ?_ (congrArg _ (emb6 t _ _ _ _)).symm
  change _ = state _ _ _ _ h k v ((chunk (4 * t.val + p.val)).val + 1)
  rw [show (chunk (4 * t.val + p.val)).val = 4 * t.val + p.val from Nat.mod_eq_of_lt (by omega)]

end Cert.GlaFwdIdeal.RefValue
-- ==== Proof.GlaFwdClaim.lean ====
module

public import proofs.«01_k».proof.Defs
public import proofs.«01_k».proof.Proof.GlaFwdValue
public import proofs.«01_k».proof.Proof.GlaFwdRef
public import proofs.«01_k».proof.Proof.Gen.GlaFwd.Frame
public import Idealize.ShloMosaic.Lib.Claim

/-! The claims about the attention's forward pass: both programs' runs set beside each other. -/

@[expose] public section

set_option maxRecDepth 16384

namespace Cert.Proof.GlaFwd

open Idealize.ShloMosaic Idealize.ShloMosaic.TcCoe Idealize.SL.Sem Cert.GlaMath Idealize.ShloMosaic.StableHlo

theorem kernel : Cert.quiescent_GlaFwd := fun m ρ _ => Cert.GlaFwd.Gen.frame m ρ

theorem ideal : Cert.quiescent_GlaFwdIdeal := fun m ρ _ => Cert.GlaFwdIdeal.Gen.frame m ρ

section Ref
open Cert.GlaFwdRefIdeal Cert.GlaFwdRefIdeal.Gen Cert.GlaFwdRefIdeal.Value Cert.GlaFwdIdeal.Spec

variable (m : (ℓ : Loc nD τ sig) → Buf (Elt Ideal) ℓ) (c : Dev nD)

/-- A buffer no stretch writes is as launched. -/
theorem kept (r : Ref sig .tc) (h9 : W9 m c (Proc.devRef .tc r) = W7 m c (Proc.devRef .tc r)) (h7 : r ∉ post5W) (h6 : r ∉ loopW)
    (h5 : r ∉ hostOps0_1_W ++ hostOps0_2_W ++ hostOps0_3_W ++ hostOps0_4_W) (h1 : r ∉ hostOps0_W) :
    W9 m c (Proc.devRef .tc r) = m ((c.tc : Thread nD τ).loc r) := by
  rw [h9, show W7 m c (Proc.devRef .tc r) = W6 m c (Proc.devRef .tc r) from keep5 (W6 m c) r h7, keep_W6 m c r h6, keep_W5 m c r h5,
    keep_W1 m c r h1]

theorem kept0 : W9 m c (Proc.devRef .tc main_arg0) = m ((c.tc : Thread nD τ).loc main_arg0) :=
  kept m c main_arg0 (by unfold W9 W8; after_reads_simp) (by decide) (by decide) (by decide) (by decide)
theorem kept1 : W9 m c (Proc.devRef .tc main_arg1) = m ((c.tc : Thread nD τ).loc main_arg1) :=
  kept m c main_arg1 (by unfold W9 W8; after_reads_simp) (by decide) (by decide) (by decide) (by decide)
theorem kept2 : W9 m c (Proc.devRef .tc main_arg2) = m ((c.tc : Thread nD τ).loc main_arg2) :=
  kept m c main_arg2 (by unfold W9 W8; after_reads_simp) (by decide) (by decide) (by decide) (by decide)
theorem kept3 : W9 m c (Proc.devRef .tc main_arg3) = m ((c.tc : Thread nD τ).loc main_arg3) :=
  kept m c main_arg3 (by unfold W9 W8; after_reads_simp) (by decide) (by decide) (by decide) (by decide)
theorem kept4 : W9 m c (Proc.devRef .tc main_arg4) = m ((c.tc : Thread nD τ).loc main_arg4) :=
  kept m c main_arg4 (by unfold W9 W8; after_reads_simp) (by decide) (by decide) (by decide) (by decide)

/-- The reference's run, its arguments kept. -/
theorem ref_run (ρ : Dev nD → PrngReg) : θ_run (defs (F := Ideal)) (onTc (τ := τ) (main (F := Ideal))) ⟨m, fun _ => 0, ρ⟩ fun r => ∀ c : Dev nD,
    r.2.mem ((c.tc : Thread nD τ).loc main_v50) = W9 m c (Proc.devRef .tc main_v50)
    ∧ r.2.mem ((c.tc : Thread nD τ).loc main_v51) = W9 m c (Proc.devRef .tc main_v51)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run _ _ _).mono (fun r h c => ⟨h c main_v50 rfl, h c main_v51 rfl, (h c main_arg0 rfl).trans (kept0 m c), (h c main_arg1 rfl).trans (kept1 m c),
    (h c main_arg2 rfl).trans (kept2 m c), (h c main_arg3 rfl).trans (kept3 m c), (h c main_arg4 rfl).trans (kept4 m c)⟩) (run_fold m ρ)

open Cert.GlaFwdIdeal.RefValue in
theorem y_eq : (W9 m c (Proc.devRef .tc main_v50) : Vec Ideal S4096x1024 .bf16)
    = Y (Cert.GlaFwdIdeal.Spec.aPa m c) (Cert.GlaFwdIdeal.Spec.aAl m c) (Cert.GlaFwdIdeal.Spec.aWg m c) (Cert.GlaFwdIdeal.Spec.aBg m c) (Cert.GlaFwdIdeal.Spec.aGn m c) := by
  funext j
  obtain ⟨s, d, rfl⟩ : ∃ (s : Fin 4096) (d : Fin 1024), j = ix2 s d := ⟨j 0, j 1, eq_ix2 j⟩
  obtain ⟨n, i, rfl⟩ : ∃ n i, s = row n i := ⟨⟨s.val / 64, by omega⟩, ⟨s.val % 64, by omega⟩, Fin.ext (by dsimp only; omega)⟩
  obtain ⟨h, v, rfl⟩ : ∃ h v, d = gv h v := ⟨⟨d.val / 256, by omega⟩, ⟨d.val % 256, by omega⟩, Fin.ext (by dsimp only; omega)⟩
  exact (y_ref m c n i h v).trans (Y_at ..).symm

open Cert.GlaFwdIdeal.RefValue in
theorem st_eq : (W9 m c (Proc.devRef .tc main_v51) : Vec Ideal S64x4x256x128 .f32)
    = St (Cert.GlaFwdIdeal.Spec.aPa m c) (Cert.GlaFwdIdeal.Spec.aAl m c) (Cert.GlaFwdIdeal.Spec.aWg m c) (Cert.GlaFwdIdeal.Spec.aBg m c) := by
  funext j
  obtain ⟨n, h, v, q, rfl⟩ : ∃ (n : Fin 64) (h : Fin 4) (v : Fin 256) (q : Fin 128), j = ix4 n h v q := ⟨j 0, j 1, j 2, j 3, eq_ix4 j⟩
  exact states_ref m c n h v q

end Ref

theorem ref : Cert.quiescent_GlaFwdRefIdeal := fun m ρ _ =>
  (θ_run _ _ _).mono (fun r h => ⟨fun c => (h c).2.2, sem_eq_zero_of_no_sems (by decide) r.2⟩) (ref_run m ρ)

open Cert.GlaFwdIdeal.RefValue in
theorem value : Cert.algebraic_GlaFwdIdeal_GlaFwdRefIdeal := fun m g m' g' hp ha =>
  ⟨fun c => Y (aPa m c) (aAl m c) (aWg m c) (aBg m c) (aGn m c), fun c => St (aPa m c) (aAl m c) (aWg m c) (aBg m c),
   (θ_run _ _ _).mono (fun r h c => by
       obtain ⟨k0, k1, h⟩ := h c
       exact ⟨k0.trans (final5 m c), k1.trans (final6 m c), h⟩)
     (Cert.GlaFwdIdeal.Value.run_blocks m g),
   (θ_run _ _ _).mono (fun r h c => by
       obtain ⟨e0, e1, e2, e3, e4⟩ := ha c
       obtain ⟨k0, k1, h⟩ := h c
       refine ⟨k0.trans ((y_eq m' c).trans ?_), k1.trans ((st_eq m' c).trans ?_), h⟩
       · unfold Cert.GlaFwdIdeal.Spec.aPa Cert.GlaFwdIdeal.Spec.aAl Cert.GlaFwdIdeal.Spec.aWg Cert.GlaFwdIdeal.Spec.aBg Cert.GlaFwdIdeal.Spec.aGn
         rw [e0, e1, e2, e3, e4]
       · unfold Cert.GlaFwdIdeal.Spec.aPa Cert.GlaFwdIdeal.Spec.aAl Cert.GlaFwdIdeal.Spec.aWg Cert.GlaFwdIdeal.Spec.aBg
         rw [e0, e1, e2, e3])
     (ref_run m' g')⟩

end Cert.Proof.GlaFwd
-- ==== Proof.SguFwdRef.lean ====
module

public import proofs.«01_k».proof.Proof.SguRef
public import proofs.«01_k».proof.Proof.Gen.SguFwdRefIdeal.Read

/-! The spatial gating unit itself, read layer by layer: the same normalised rows and mixing as in its gradient, times the activated
first half. -/

@[expose] public section

set_option maxRecDepth 16384

noncomputable section

namespace Cert.SguFwdIdeal.Spec

open Cert.SguFwdRefIdeal Cert.SguFwdRefIdeal.Read Idealize.ShloMosaic
open Cert.Scalar Cert.SguIdeal.Spec

variable (x0 x1 : Mat) (x2 x3 : SguIdeal.Spec.Vec) (x4 : Wgt) (x5 : Bia)

/-- The unit's result at a row of a chunk and a lane of a group. -/
def out (n : Fin 32) (i : Fin 128) (g : Fin 4) (d : Fin 256) : EReal :=
  rgel (x0 (ix2 (row n i) (col g d))) * mix x1 x2 x3 x4 x5 n i g d

theorem i28 (s : Fin 4096) (g : Fin 4) (d : Fin 256) : idx_main_v28 (ix3 s g d) = ix2 s (col g d) :=
  funext fun a => Fin.ext (by match a with | ⟨0, _⟩ => dsimp; omega | ⟨1, _⟩ => dsimp; omega)

theorem v28 (s : Fin 4096) (g : Fin 4) (d : Fin 256) : val_main_v28 (F := Ideal) x1 (ix3 s g d) = act x1 s g d := by
  rw [val_main_v28_apply, i28]
  pointwise [val_main_v27, val_main_v26, val_main_v25, val_main_v24, val_main_v23, val_main_v22, val_main_v21, val_main_v20,
    val_main_v19, val_main_v18, val_main_v17, val_main_v16, val_main_v15, val_main_v1, val_main_cst_3, val_main_cst_4,
    val_main_cst_5, val_main_cst_6]
  rfl

theorem v32 (s : Fin 4096) (g : Fin 4) : val_main_v32 (F := Ideal) x1 (ix3 s g 0) = mean (act x1 s g) := by
  pointwise [val_main_v32, val_main_v31, val_main_v30, val_main_v29, v28, val_main_cst_7, val_main_cst_8]
  rfl

theorem v34 (s : Fin 4096) (g : Fin 4) (d : Fin 256) : val_main_v34 (F := Ideal) x1 (ix3 s g d) = lnc (act x1 s g) d := by
  pointwise [val_main_v34, val_main_v33, v32, v28]
  rfl

theorem v41 (s : Fin 4096) (g : Fin 4) (d : Fin 256) : val_main_v41 (F := Ideal) x1 (ix3 s g d) = lnc (act x1 s g) d := by
  pointwise [val_main_v41, val_main_v40, v32, v28]
  rfl

theorem v44 (s : Fin 4096) (g : Fin 4) (z : Fin 1) : val_main_v44 (F := Ideal) x1 (ix3 s g z) = lns (act x1 s g) := by
  obtain rfl : z = 0 := Subsingleton.elim _ _
  pointwise [val_main_v44, val_main_v43, val_main_v42, val_main_v39, val_main_v38, val_main_v37, val_main_v36, val_main_v35, v34,
    val_main_cst_9, val_main_cst_10, val_main_cst_11]
  rfl

theorem v52 (s : Fin 4096) (g : Fin 4) (d : Fin 256) : val_main_v52 (F := Ideal) x1 x2 x3 (ix3 s g d) = nrm x1 x2 x3 s g d := by
  pointwise [val_main_v52, val_main_v51, val_main_v50, val_main_v49, val_main_v48, val_main_v47, val_main_v46, val_main_v45, v44, v41]
  rfl

theorem i53 (n : Fin 32) (i : Fin 128) (g : Fin 4) (d : Fin 256) : idx_main_v53 (ix4 n i g d) = ix3 (row n i) g d :=
  funext fun a => Fin.ext (by match a with | ⟨0, _⟩ => dsimp; omega | ⟨1, _⟩ => dsimp; omega | ⟨2, _⟩ => dsimp; omega)

theorem v53 (n : Fin 32) (i : Fin 128) (g : Fin 4) (d : Fin 256) :
    val_main_v53 (F := Ideal) x1 x2 x3 (ix4 n i g d) = nrm x1 x2 x3 (row n i) g d := by
  rw [val_main_v53_apply, i53, v52]

/-- The mask's two position arrays are each divided by the block's size. -/
theorem v61 (i j : Fin 128) : val_main_v61 (F := Ideal) (ix2 i j) = msk i j := by
  pointwise [val_main_v61, val_main_v60, val_main_v59, val_main_v58, val_main_v57, val_main_v56, val_main_v55, val_main_v54,
    val_main_call0_v0, val_main_call0_v1, val_main_call0_v2, val_main_call0_v3, val_main_call0_v4, val_main_call0_v5, val_main_call0_v6,
    val_main_call0_v7, val_main_call0_v8, val_main_call0_v9, val_main_call0_v10, val_main_call0_v11, val_main_call0_v12, val_main_call0_v13,
    val_main_call1_v0, val_main_call1_v1, val_main_call1_v2, val_main_call1_v3, val_main_call1_v4, val_main_call1_v5, val_main_call1_v6,
    val_main_call1_v7, val_main_call1_v8, val_main_call1_v9, val_main_call1_v10, val_main_call1_v11, val_main_call1_v12, val_main_call1_v13,
    val_main_c, val_main_c_12, val_main_call0_c, val_main_call0_c_0, val_main_call1_c, val_main_call1_c_0]
  revert i j
  decide +kernel

theorem v63 (g : Fin 4) (i j : Fin 128) : val_main_v63 (F := Ideal) x4 (ix3 g i j) = wm x4 g i j := by
  pointwise [val_main_v63, val_main_call2_v2, val_main_call2_v1, val_main_call2_v0, val_main_v62, id_eq, val_main_cst_13, v61]
  rfl

theorem v70 (n : Fin 32) (i : Fin 128) (g : Fin 4) (d : Fin 256) :
    val_main_v70 (F := Ideal) x1 x2 x3 x4 x5 (ix4 n i g d) = mix x1 x2 x3 x4 x5 n i g d := by
  pointwise [val_main_v70, val_main_v69, val_main_v68, val_main_v67, val_main_v66, val_main_v65, val_main_v64, v53, v63]
  rfl

theorem i71 (n : Fin 32) (i : Fin 128) (g : Fin 4) (d : Fin 256) : idx_main_v71 (ix2 (row n i) (col g d)) = ix4 n i g d :=
  funext fun a => Fin.ext (by match a with | ⟨0, _⟩ => dsimp; omega | ⟨1, _⟩ => dsimp; omega | ⟨2, _⟩ => dsimp; omega | ⟨3, _⟩ => dsimp; omega)

/-- The reference's result. -/
theorem v73 (n : Fin 32) (i : Fin 128) (g : Fin 4) (d : Fin 256) :
    val_main_v73 (F := Ideal) x0 x1 x2 x3 x4 x5 (ix2 (row n i) (col g d)) = out x0 x1 x2 x3 x4 x5 n i g d := by
  pointwise [val_main_v73, val_main_v72]
  rw [val_main_v71_apply, i71, v70]
  pointwise [val_main_v14, val_main_v13, val_main_v12, val_main_v11, val_main_v10, val_main_v9, val_main_v8, val_main_v7,
    val_main_v6, val_main_v5, val_main_v4, val_main_v3, val_main_v2, val_main_v0, val_main_cst, val_main_cst_0,
    val_main_cst_1, val_main_cst_2]
  rfl

end Cert.SguFwdIdeal.Spec

end
-- ==== Proof.SguFwdValue.lean ====
module

public import proofs.«01_k».proof.Proof.SguFwdRef
public import proofs.«01_k».proof.Proof.SguLink
public import proofs.«01_k».proof.Proof.Gen.SguFwdIdeal.Value
public import Idealize.ShloMosaic.Lib.Pipeline.ValueKit

/-! The array the spatial gating unit's kernel leaves is the reference's, block by block. -/

@[expose] public section

set_option maxRecDepth 16384

noncomputable section

namespace Cert.SguFwdIdeal.RefValue

open Cert.SguFwdIdeal Cert.SguFwdIdeal.Gen Idealize.ShloMosaic Idealize.ShloMosaic.TcCoe Idealize.SL.Sem
open Idealize.ShloMosaic.Pipeline (Dat)
open Cert.SguFwdRefIdeal.Read Cert.Scalar Cert.SguFwdIdeal.Spec
open Cert.SguIdeal.Spec (row col chunk mix)
open Cert.SguIdeal.Tile (prow gcol ucol vcol tU tV tY tmx prow_val gcol_val ucol_val vcol_val Reads Reals tmx_eq gel_eq)

/-- A grid point's result at half `p`, group `g`. -/
theorem tile (x0 : Vec Ideal S256x2048 .bf16) (x1 x2 : Vec Ideal S4x1x256 .f32) (x3 : Vec Ideal S4x128x128 .f32) (x4 : Vec Ideal S4x128x1 .f32)
    (p : Fin 2) (g : Fin 4) (a : Fin 128) (d : Fin 256) : out0_5 x0 x1 x2 x3 x4 (ix2 (prow p a) (gcol g d))
    = gel (tU x0 p g a d) * tmx x0 x1 x2 x3 x4 p g a d := by
  have hp := prow_val p a
  have hg := gcol_val g d
  frame_out
  generalize hy : (ix2 (prow p a) (gcol g d) : S256x1024.Idx) = y
  canon_tiles x h
  all_goals
    subst hy
    dsimp at h0 h1
    open_payloads
    pointwise []
    first
      | (have e : p.val = 0 := (by omega); obtain rfl : p = 0 := Fin.ext e)
      | (have e : p.val = 1 := (by omega); obtain rfl : p = 1 := Fin.ext e)
    first
      | (have e : g.val = 3 := (by omega); obtain rfl : g = 3 := Fin.ext e)
      | (have e : g.val = 2 := (by omega); obtain rfl : g = 2 := Fin.ext e)
      | (have e : g.val = 1 := (by omega); obtain rfl : g = 1 := Fin.ext e)
      | (have e : g.val = 0 := (by omega); obtain rfl : g = 0 := Fin.ext e)
    have e0 : a.val = (x 0).val := by dsimp at hp; omega
    obtain rfl : a = x 0 := Fin.ext e0
    have e1 : d.val = (x 1).val := by dsimp at hg; omega
    obtain rfl : d = x 1 := Fin.ext e1
    rfl

variable (m : (ℓ : Loc nD τ sig) → Buf (Elt Ideal) ℓ)

theorem idx_val : ∀ t : Fin cfg0.N, win0_0.index t = ![t.val, 0] ∧ win0_1.index t = ![0, 0, 0] ∧ win0_2.index t = ![0, 0, 0]
    ∧ win0_3.index t = ![0, 0, 0] ∧ win0_4.index t = ![0, 0, 0] ∧ win0_5.index t = ![t.val, 0] :=
  (by decide +kernel : ∀ t : Fin grid0.N, _)

theorem lt16 (t : Fin cfg0.N) : t.val < 16 := lt_of_lt_of_eq t.isLt N_0

/-- The two halves are staged side by side. -/
theorem V_uv (c : Dev nD) : V m c main_v0 = concatenate S4096x2048 1 [⟨S4096x1024, m ((c : Thread nD τ).loc main_arg0)⟩,
    ⟨S4096x1024, m ((c : Thread nD τ).loc main_arg1)⟩] Facts₀.concatenates_S4096x1024_S4096x1024_S4096x2048_d1 := by
  unfold V; after_results

theorem V_lg (c : Dev nD) : V m c main_v1 = shapeCast S4x1x256 (m ((c : Thread nD τ).loc main_arg2)) Facts₀.shapeCasts_S4x256_S4x1x256 := by
  unfold V; after_results; rfl
theorem V_lb (c : Dev nD) : V m c main_v2 = shapeCast S4x1x256 (m ((c : Thread nD τ).loc main_arg3)) Facts₀.shapeCasts_S4x256_S4x1x256 := by
  unfold V; after_results; rfl
theorem V_bs (c : Dev nD) : V m c main_v3 = shapeCast S4x128x1 (m ((c : Thread nD τ).loc main_arg5)) Facts₀.shapeCasts_S4x128_S4x128x1 := by
  unfold V; after_results; rfl

theorem u_iblk (c : Dev nD) (t : Fin cfg0.N) (a : Fin 256) (b : Fin 2048) (s : Fin 4096) (k : Fin 1024) (hs : s.val = 256 * t.val + a.val)
    (hk : k.val = b.val) : iblk m c 0 t (ix2 a b) = m ((c : Thread nD τ).loc main_arg0) (ix2 s k) := by
  have e0 : (((View.whole main_v0).slice ((win0 0).rect t)).emb (ix2 a b) 0 : ℕ) = s.val := by
    blk_simp [idx_val t]; omega
  have e1 : (((View.whole main_v0).slice ((win0 0).rect t)).emb (ix2 a b) 1 : ℕ) = k.val := by
    blk_simp [idx_val t]; omega
  refine (congrFun (V_uv m c) _).trans ?_
  pointwise
  rw [dif_pos (by omega)]
  simp only [e1, Fin.eta]
  exact congrArg (fun q => m ((c : Thread nD τ).loc main_arg0) (ix2 q k)) (Fin.ext e0)

theorem v_iblk (c : Dev nD) (t : Fin cfg0.N) (a : Fin 256) (b : Fin 2048) (s : Fin 4096) (k : Fin 1024) (hs : s.val = 256 * t.val + a.val)
    (hk : b.val = 1024 + k.val) : iblk m c 0 t (ix2 a b) = m ((c : Thread nD τ).loc main_arg1) (ix2 s k) := by
  have e0 : (((View.whole main_v0).slice ((win0 0).rect t)).emb (ix2 a b) 0 : ℕ) = s.val := by
    blk_simp [idx_val t]; omega
  have e1 : (((View.whole main_v0).slice ((win0 0).rect t)).emb (ix2 a b) 1 : ℕ) = 1024 + k.val := by
    blk_simp [idx_val t]; omega
  refine (congrFun (V_uv m c) _).trans ?_
  pointwise
  rw [dif_neg (by omega)]
  simp only [e1, Fin.eta, Nat.add_sub_cancel_left]
  exact congrArg (fun q => m ((c : Thread nD τ).loc main_arg1) (ix2 q k)) (Fin.ext e0)

/-- No cotangent enters: where the gradient's lemmas carry one, it is zero here. -/
abbrev noCot : SguIdeal.Spec.Mat := fun _ => 0

theorem reads (c : Dev nD) (t : Fin cfg0.N) (p : Fin 2) : Reads (iblk m c 0 t) (iblk m c 1 t) (iblk m c 2 t) (iblk m c 3 t) (iblk m c 4 t)
    (fun _ => (0 : EReal)) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    noCot (chunk ⟨t.val, lt16 t⟩ p) p where
  hU g i d := u_iblk m c t _ _ _ _ (by rw [prow_val]; dsimp only; omega) (by rw [ucol_val]; dsimp only; omega)
  hV g i d := v_iblk m c t _ _ _ _ (by rw [prow_val]; dsimp only; omega) (by rw [vcol_val]; dsimp only; omega)
  hY g i d := rfl
  h1 g d := by
    refine (congrFun (V_lg m c) _).trans ?_
    pointwise
    blk_point [iblk, V, idx_val t]
  h2 g d := by
    refine (congrFun (V_lb m c) _).trans ?_
    pointwise
    blk_point [iblk, V, idx_val t]
  h3 g i j := by
    blk_point [iblk, V, idx_val t]
  h4 g i := by
    refine (congrFun (V_bs m c) _).trans ?_
    pointwise
    blk_point [iblk, V, idx_val t]

/-- All inputs of a device have real entries. -/
abbrev RealAt (c : Dev nD) : Prop := Reals (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) noCot

theorem emb5 (t : Fin cfg0.N) (a : Fin 256) (b : Fin 1024) (s : Fin 4096) (k : Fin 1024) (hs : s.val = 256 * t.val + a.val) (hk : k.val = b.val) :
    ((cfg0.win 5).blk t).view.emb (ix2 a b) = (ix2 s k : S4096x1024.Idx) := by
  funext j
  refine Fin.ext ?_
  match j with
  | ⟨0, _⟩ => blk_simp [idx_val t]; omega
  | ⟨1, _⟩ => blk_simp [idx_val t]; omega

/-- Any row of a block is a row of one of its halves. -/
theorem row_cases (a : Fin 256) : ∃ p i, a = prow p i :=
  if h : a.val < 128 then ⟨0, ⟨a.val, h⟩, Fin.ext (by rw [prow_val]; simp)⟩
  else ⟨1, ⟨a.val - 128, by omega⟩, Fin.ext (by rw [prow_val]; simp; omega)⟩

/-- Any column is a column of a group. -/
theorem col_cases (b : Fin 1024) : ∃ g d, b = gcol g d :=
  ⟨⟨b.val / 256, by omega⟩, ⟨b.val % 256, by omega⟩, Fin.ext (by rw [gcol_val]; dsimp only; omega)⟩

variable (hR : ∀ c, RealAt m c)

include hR in
theorem final5 (c : Dev nD) : (dats m 0 c).arrAt 5 (cfgs 0).N = val_main_v73 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 5 _ (by decide +kernel) fun t _ y => ?_
  obtain ⟨a, b, rfl⟩ : ∃ (a : Fin 256) (b : Fin 1024), y = ix2 a b := ⟨y 0, y 1, eq_ix2 y⟩
  blk_simp
  rw [after0_5]
  obtain ⟨p, i, rfl⟩ := row_cases a
  obtain ⟨g, d, rfl⟩ := col_cases b
  have hp := prow_val p i
  have ht := lt16 t
  rw [tile]
  refine Eq.trans ?_ (congrArg _ (emb5 t _ _ (row (chunk ⟨t.val, lt16 t⟩ p) i) (col g d) (by dsimp only; omega)
    (by rw [gcol_val]; dsimp only; omega))).symm
  rw [v73, out, tmx_eq (hR c) (reads m c t p), (reads m c t p).hU, gel_eq ((hR c).r0 _)]

end Cert.SguFwdIdeal.RefValue

end
-- ==== Proof.SguFwdClaim.lean ====
module

public import proofs.«01_k».proof.Defs
public import proofs.«01_k».proof.Proof.SguFwdValue
public import proofs.«01_k».proof.Proof.Gen.SguFwd.Frame
public import proofs.«01_k».proof.Proof.Gen.SguFwdIdeal.Frame
public import proofs.«01_k».proof.Proof.Gen.SguFwdRefIdeal.Run
public import proofs.«01_k».proof.Proof.Gen.SguFwdRefIdeal.Read
public import Idealize.ShloMosaic.Lib.Claim

/-! The claims about the spatial gating unit: both programs' runs set beside each other. -/

@[expose] public section

namespace Cert.Proof.SguFwd

open Idealize.ShloMosaic Idealize.SL.Sem Cert.Scalar

theorem preFacts : Cert.Pre_finite_sgu_fwd.Facts where
  bitsLt_bf16_f32 := by decide
  bcast_S_S4096x1024 := by decide
  reducesTo_S4096x1024_S_d0_1 := by decide
  h_S_ := by decide
  bcast_S_S4x256 := by decide
  reducesTo_S4x256_S_d0_1 := by decide
  bcast_S_S4x128x128 := by decide
  reducesTo_S4x128x128_S_d0_1_2 := by decide
  bcast_S_S4x128 := by decide
  reducesTo_S4x128_S_d0_1 := by decide

theorem kernel : Cert.quiescent_SguFwd := fun m ρ _ => Cert.SguFwd.Gen.frame m ρ

theorem ideal : Cert.quiescent_SguFwdIdeal := fun m ρ _ => Cert.SguFwdIdeal.Gen.frame m ρ

theorem ref : Cert.quiescent_SguFwdRefIdeal := fun m ρ _ =>
  (θ_run _ _ _).mono (fun r h => ⟨fun c => (h c).2, sem_eq_zero_of_no_sems (by decide) r.2⟩)
    (Cert.SguFwdRefIdeal.Value.run m ρ)

/-- The precondition says that all inputs have real entries. -/
theorem real_of_pre [Cert.Pre_finite_sgu_fwd.Facts] (m : (ℓ : Loc Cert.SguFwdIdeal.nD Cert.SguFwdIdeal.τ Cert.SguFwdIdeal.sig) → Buf (Elt Ideal) ℓ)
    (h : Cert.Pre_SguFwdIdeal_finite_sgu_fwd m) (c : Dev Cert.SguFwdIdeal.nD) : Cert.SguFwdIdeal.RefValue.RealAt m c :=
  have ⟨h, h5⟩ := andi_split (h c)
  have ⟨h, h4⟩ := andi_split h
  have ⟨h, h3⟩ := andi_split h
  have ⟨h, h2⟩ := andi_split h
  have ⟨h0, h1⟩ := andi_split h
  ⟨isReal_of_all _ _ _ _ h0, isReal_of_all _ _ _ _ h1, isReal_of_all _ _ _ _ h2, isReal_of_all _ _ _ _ h3, isReal_of_all _ _ _ _ h4,
    isReal_of_all _ _ _ _ h5, fun _ => .zero⟩

open Cert.SguFwdRefIdeal.Read Cert.SguFwdIdeal.RefValue in
theorem value [Cert.Pre_finite_sgu_fwd.Facts] : Cert.algebraic_SguFwdIdeal_SguFwdRefIdeal_pre_finite_sgu_fwd := fun m g m' g' hp ha =>
  have hR : ∀ c, RealAt m c := real_of_pre m hp
  ⟨fun c => val_main_v73 (F := Ideal) (m ((c.tc : Thread _ _).loc Cert.SguFwdIdeal.main_arg0)) (m ((c.tc : Thread _ _).loc Cert.SguFwdIdeal.main_arg1)) (m ((c.tc : Thread _ _).loc Cert.SguFwdIdeal.main_arg2)) (m ((c.tc : Thread _ _).loc Cert.SguFwdIdeal.main_arg3)) (m ((c.tc : Thread _ _).loc Cert.SguFwdIdeal.main_arg4)) (m ((c.tc : Thread _ _).loc Cert.SguFwdIdeal.main_arg5)),
   (θ_run _ _ _).mono (fun r h c => ⟨(h c).1.trans (final5 m hR c), (h c).2⟩) (Cert.SguFwdIdeal.Value.run_blocks m g),
   (θ_run _ _ _).mono (fun r h c => by
       obtain ⟨e0, e1, e2, e3, e4, e5⟩ := ha c
       obtain ⟨h0, h⟩ := h c
       refine ⟨(h0.trans (val_main_v73_eq m' c)).trans ?_, h⟩
       dsimp only; rw [← e0, ← e1, ← e2, ← e3, ← e4, ← e5])
     (Cert.SguFwdRefIdeal.Value.run m' g')⟩

end Cert.Proof.SguFwd
-- ==== Proof.MixerFwdRef.lean ====
module

public import proofs.«01_k».proof.Proof.NormMath
public import proofs.«01_k».proof.Proof.Gen.MixerFwdRefIdeal.Read
public import Idealize.ShloMosaic.Lib.Pipeline.ValueKit

/-! The merge of the two branches and the norms after it: one token's rows, and the reference read as them. -/

@[expose] public section

set_option maxRecDepth 16384

noncomputable section

namespace Cert.MixerFwdIdeal.Spec

open Cert.MixerFwdRefIdeal Cert.MixerFwdRefIdeal.Read Idealize.ShloMosaic
open Cert.Scalar

abbrev Row := Fin 1024 → EReal
abbrev Sq := (⟨2, ![1024, 1024]⟩ : Shape).Idx → EReal
abbrev Gain := (⟨2, ![1, 1024]⟩ : Shape).Idx → EReal
abbrev Mat (n : ℕ) := (⟨2, ![4096, n]⟩ : Shape).Idx → EReal

/-- A branch's product. -/
def br (y : Row) (w : Sq) (d : Fin 1024) : EReal := ∑ k, y k * w (ix2 k d)
/-- The logistic gate. -/
def sg (z : EReal) : EReal := Ideal.div 1 (1 + Ideal.exp (-z))
/-- The merged row: each branch under its gate. -/
def mg (y0 y1 : Row) (p : Fin 2048 → EReal) (w4 w5 : Sq) (d : Fin 1024) : EReal :=
  sg (p ⟨d.val, by omega⟩) * br y0 w4 d + sg (p ⟨1024 + d.val, by omega⟩) * br y1 w5 d
/-- The output product. -/
def mx (y0 y1 : Row) (p : Fin 2048 → EReal) (w4 w5 w6 : Sq) (d : Fin 1024) : EReal := ∑ k, mg y0 y1 p w4 w5 k * w6 (ix2 k d)
/-- The residual row. -/
def xo (y0 y1 : Row) (p : Fin 2048 → EReal) (x : Row) (w4 w5 w6 : Sq) (g7 : Gain) (d : Fin 1024) : EReal :=
  x d + nx (mx y0 y1 p w4 w5 w6) d * g7 (ix2 0 d)
/-- The row the channel mixer is given. -/
def ho (y0 y1 : Row) (p : Fin 2048 → EReal) (x : Row) (w4 w5 w6 : Sq) (g7 g8 : Gain) (d : Fin 1024) : EReal :=
  nx (xo y0 y1 p x w4 w5 w6 g7) d * g8 (ix2 0 d)

/-- A token's row. -/
abbrev rw (n : ℕ) (x : Mat n) (s : Fin 4096) (d : Fin n) : EReal := x (ix2 s d)

variable (x0 x1 : Mat 1024) (x2 : Mat 2048) (x3 : Mat 1024) (x4 x5 x6 : Sq) (x7 x8 : Gain) (s : Fin 4096) (d : Fin 1024)

theorem v6 : val_main_v6 (F := Ideal) x0 x4 (ix2 s d) = br (rw _ x0 s) x4 d := by
  pointwise [val_main_v6, val_main_v0, val_main_v3]
  rfl

theorem v7 : val_main_v7 (F := Ideal) x1 x5 (ix2 s d) = br (rw _ x1 s) x5 d := by
  pointwise [val_main_v7, val_main_v1, val_main_v4]
  rfl

theorem v24 : val_main_v24 (F := Ideal) x0 x1 x2 x4 x5 (ix2 s d) = mg (rw _ x0 s) (rw _ x1 s) (rw _ x2 s) x4 x5 d := by
  pointwise [val_main_v24, val_main_v23, val_main_v22, val_main_v21, val_main_cst_2, val_main_v20, val_main_v19, val_main_cst_1,
    val_main_v18, val_main_v17, val_main_v16, val_main_v15, val_main_v14, val_main_cst_0, val_main_v13, val_main_v12, val_main_cst,
    val_main_v11, val_main_v10, val_main_v9, val_main_v8, val_main_v2, v6, v7]
  rfl

theorem v25 : val_main_v25 (F := Ideal) x0 x1 x2 x4 x5 x6 (ix2 s d) = mx (rw _ x0 s) (rw _ x1 s) (rw _ x2 s) x4 x5 x6 d := by
  pointwise [val_main_v25, val_main_v5, v24]
  rfl

theorem v38 : val_main_v38 (F := Ideal) x0 x1 x2 x3 x4 x5 x6 x7 (ix2 s d)
    = xo (rw _ x0 s) (rw _ x1 s) (rw _ x2 s) (rw _ x3 s) x4 x5 x6 x7 d := by
  pointwise [val_main_v38, val_main_v37, val_main_v36, val_main_v35, val_main_v34, val_main_v33, val_main_v32, val_main_v31, val_main_cst_5,
    val_main_v30, val_main_v29, val_main_cst_4, val_main_v28, val_main_v27, val_main_cst_3, val_main_v26, v25]
  rfl

theorem v54 : val_main_v54 (F := Ideal) x0 x1 x2 x3 x4 x5 x6 x7 x8 (ix2 s d)
    = ho (rw _ x0 s) (rw _ x1 s) (rw _ x2 s) (rw _ x3 s) x4 x5 x6 x7 x8 d := by
  pointwise [val_main_v54, val_main_v50, val_main_v49, val_main_v48, val_main_v47, val_main_v46, val_main_v45, val_main_v44, val_main_cst_8,
    val_main_v43, val_main_v42, val_main_cst_7, val_main_v41, val_main_v40, val_main_cst_6, val_main_v39, v38]
  rfl

end Cert.MixerFwdIdeal.Spec

end
-- ==== Proof.MixerFwdValue.lean ====
module

public import proofs.«01_k».proof.Proof.MixerFwdRef
public import proofs.«01_k».proof.Proof.Gen.MixerFwdIdeal.Value
public import Idealize.ShloMosaic.Lib.Pipeline.ValueKit

/-! What the merge kernel leaves in its six outputs, against the reference. -/

@[expose] public section

set_option maxRecDepth 16384

noncomputable section

namespace Cert.MixerFwdIdeal.RefValue

open Cert.MixerFwdIdeal Cert.MixerFwdIdeal.Gen Idealize.ShloMosaic Idealize.ShloMosaic.TcCoe Idealize.SL.Sem
open Idealize.ShloMosaic.Pipeline (Dat)
open Cert.MixerFwdRefIdeal.Read Cert.Scalar Cert.MixerFwdIdeal.Spec

section Tile

/-- A row of one of the block's two halves. -/
def prow : Fin 2 → Fin 256 → Fin 512
  | 0, i => ⟨i.val, by omega⟩
  | 1, i => ⟨256 + i.val, by omega⟩
theorem prow_val : ∀ (p : Fin 2) (i : Fin 256), (prow p i).val = 256 * p.val + i.val
  | 0, i => by simp [prow]
  | 1, i => by simp [prow]

variable (x0 x1 : Vec Ideal S512x1024 .bf16) (x2 : Vec Ideal S512x2048 .bf16) (x3 : Vec Ideal S512x1024 .f32) (x4 x5 x6 : Vec Ideal S1024x1024 .bf16)
  (x7 x8 : Vec Ideal S1x1024 .f32) (r : Fin 512) (d : Fin 1024)

theorem tile9 : out0_9 x0 x1 x2 x3 x4 x5 x6 x7 x8 (ix2 r d) = br (fun k => x0 (ix2 r k)) x4 d := by
  unfold_out out0_9
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise [half_f32, half_tanh_div, zero_add]
    rfl

theorem tile10 : out0_10 x0 x1 x2 x3 x4 x5 x6 x7 x8 (ix2 r d) = br (fun k => x1 (ix2 r k)) x5 d := by
  unfold_out out0_10
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise [half_f32, half_tanh_div, zero_add]
    rfl

theorem tile11 : out0_11 x0 x1 x2 x3 x4 x5 x6 x7 x8 (ix2 r d) = mg (fun k => x0 (ix2 r k)) (fun k => x1 (ix2 r k)) (fun k => x2 (ix2 r k)) x4 x5 d := by
  unfold_out out0_11
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise [half_f32, half_tanh_div, zero_add]
    rfl

theorem tile12 : out0_12 x0 x1 x2 x3 x4 x5 x6 x7 x8 (ix2 r d) = mx (fun k => x0 (ix2 r k)) (fun k => x1 (ix2 r k)) (fun k => x2 (ix2 r k)) x4 x5 x6 d := by
  unfold_out out0_12
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise [half_f32, half_tanh_div, zero_add]
    rfl

theorem tile13 : out0_13 x0 x1 x2 x3 x4 x5 x6 x7 x8 (ix2 r d) = xo (fun k => x0 (ix2 r k)) (fun k => x1 (ix2 r k)) (fun k => x2 (ix2 r k)) (fun k => x3 (ix2 r k)) x4 x5 x6 x7 d := by
  unfold_out out0_13
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise [half_f32, half_tanh_div, zero_add]
    rfl

theorem tile14 : out0_14 x0 x1 x2 x3 x4 x5 x6 x7 x8 (ix2 r d) = ho (fun k => x0 (ix2 r k)) (fun k => x1 (ix2 r k)) (fun k => x2 (ix2 r k)) (fun k => x3 (ix2 r k)) x4 x5 x6 x7 x8 d := by
  unfold_out out0_14
  generalize hy : (ix2 r d : S512x1024.Idx) = y
  canon_tiles x h
  all_goals
    subst hy
    obtain ⟨a, b, rfl⟩ : ∃ (a : Fin 256) (b : Fin 1024), x = ix2 a b := ⟨x 0, x 1, eq_ix2 x⟩
    have e1 : d.val = b.val := by dsimp at h1; omega
    obtain rfl := Fin.ext e1
    first
      | (have e0 : r.val = (prow 1 a).val := (by rw [prow_val]; dsimp at h0 ⊢; omega); obtain rfl := Fin.ext e0)
      | (have e0 : r.val = (prow 0 a).val := (by rw [prow_val]; dsimp at h0 ⊢; omega); obtain rfl := Fin.ext e0)
    open_payloads
    pointwise [half_f32, half_tanh_div, zero_add]
    rfl

end Tile

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0]
    ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

theorem lt8 (t : Fin cfg0.N) : t.val < 8 := lt_of_lt_of_eq t.isLt N_0

/-- The token a row of a grid point's block is. -/
abbrev tok (t : Fin cfg0.N) (r : Fin 512) : Fin 4096 := ⟨512 * t.val + r.val, by have := lt8 t; omega⟩
theorem tok_val (t : Fin cfg0.N) (r : Fin 512) : (tok t r).val = 512 * t.val + r.val := rfl

theorem blk0 (c : Dev nD) (t : Fin cfg0.N) (r : Fin 512) :
    (fun k : Fin 1024 => iblk m c 0 t (ix2 r k)) = rw _ (m ((c : Thread nD τ).loc main_arg0)) (tok t r) := by
  funext k
  have e := tok_val t r
  blk_point [iblk, V, idx_val t]

theorem blk1 (c : Dev nD) (t : Fin cfg0.N) (r : Fin 512) :
    (fun k : Fin 1024 => iblk m c 1 t (ix2 r k)) = rw _ (m ((c : Thread nD τ).loc main_arg1)) (tok t r) := by
  funext k
  have e := tok_val t r
  blk_point [iblk, V, idx_val t]

theorem blk2 (c : Dev nD) (t : Fin cfg0.N) (r : Fin 512) :
    (fun k : Fin 2048 => iblk m c 2 t (ix2 r k)) = rw _ (m ((c : Thread nD τ).loc main_arg2)) (tok t r) := by
  funext k
  have e := tok_val t r
  blk_point [iblk, V, idx_val t]

theorem blk3 (c : Dev nD) (t : Fin cfg0.N) (r : Fin 512) :
    (fun k : Fin 1024 => iblk m c 3 t (ix2 r k)) = rw _ (m ((c : Thread nD τ).loc main_arg3)) (tok t r) := by
  funext k
  have e := tok_val t r
  blk_point [iblk, V, idx_val t]

theorem blk4 (c : Dev nD) (t : Fin cfg0.N) : iblk m c 4 t = m ((c : Thread nD τ).loc main_arg4) := by
  funext y
  obtain ⟨a, b, rfl⟩ : ∃ (a : Fin 1024) (b : Fin 1024), y = ix2 a b := ⟨y 0, y 1, eq_ix2 y⟩
  blk_point [iblk, V, idx_val t]

theorem blk5 (c : Dev nD) (t : Fin cfg0.N) : iblk m c 5 t = m ((c : Thread nD τ).loc main_arg5) := by
  funext y
  obtain ⟨a, b, rfl⟩ : ∃ (a : Fin 1024) (b : Fin 1024), y = ix2 a b := ⟨y 0, y 1, eq_ix2 y⟩
  blk_point [iblk, V, idx_val t]

theorem blk6 (c : Dev nD) (t : Fin cfg0.N) : iblk m c 6 t = m ((c : Thread nD τ).loc main_arg6) := by
  funext y
  obtain ⟨a, b, rfl⟩ : ∃ (a : Fin 1024) (b : Fin 1024), y = ix2 a b := ⟨y 0, y 1, eq_ix2 y⟩
  blk_point [iblk, V, idx_val t]

theorem blk7 (c : Dev nD) (t : Fin cfg0.N) : iblk m c 7 t = m ((c : Thread nD τ).loc main_arg7) := by
  funext y
  obtain ⟨a, b, rfl⟩ : ∃ (a : Fin 1) (b : Fin 1024), y = ix2 a b := ⟨y 0, y 1, eq_ix2 y⟩
  blk_point [iblk, V, idx_val t]

theorem blk8 (c : Dev nD) (t : Fin cfg0.N) : iblk m c 8 t = m ((c : Thread nD τ).loc main_arg8) := by
  funext y
  obtain ⟨a, b, rfl⟩ : ∃ (a : Fin 1) (b : Fin 1024), y = ix2 a b := ⟨y 0, y 1, eq_ix2 y⟩
  blk_point [iblk, V, idx_val t]

theorem final9 (c : Dev nD) : (dats m 0 c).arrAt 9 (cfgs 0).N = val_main_v51 (F := Ideal) (m ((c : Thread nD τ).loc main_arg0)) (m ((c : Thread nD τ).loc main_arg4)) := by
  refine (dats m 0 c).arrAt_eq_of_covers 9 _ (by decide +kernel) fun t _ y => ?_
  obtain ⟨r, d, rfl⟩ : ∃ (r : Fin 512) (d : Fin 1024), y = ix2 r d := ⟨y 0, y 1, eq_ix2 y⟩
  have e : ((cfg0.win 9).blk t).view.emb (ix2 r d) = (ix2 (tok t r) d : S4096x1024.Idx) := by
    have e := tok_val t r
    funext j
    refine Fin.ext ?_
    match j with
    | ⟨0, _⟩ => blk_simp [idx_val t]; omega
    | ⟨1, _⟩ => blk_simp [idx_val t]
  blk_simp
  rw [after0_9, tile9]
  refine Eq.trans ?_ (congrArg _ e).symm
  pointwise [val_main_v51, v6]
  rw [blk0, blk4]

theorem final10 (c : Dev nD) : (dats m 0 c).arrAt 10 (cfgs 0).N = val_main_v52 (F := Ideal) (m ((c : Thread nD τ).loc main_arg1)) (m ((c : Thread nD τ).loc main_arg5)) := by
  refine (dats m 0 c).arrAt_eq_of_covers 10 _ (by decide +kernel) fun t _ y => ?_
  obtain ⟨r, d, rfl⟩ : ∃ (r : Fin 512) (d : Fin 1024), y = ix2 r d := ⟨y 0, y 1, eq_ix2 y⟩
  have e : ((cfg0.win 10).blk t).view.emb (ix2 r d) = (ix2 (tok t r) d : S4096x1024.Idx) := by
    have e := tok_val t r
    funext j
    refine Fin.ext ?_
    match j with
    | ⟨0, _⟩ => blk_simp [idx_val t]; omega
    | ⟨1, _⟩ => blk_simp [idx_val t]
  blk_simp
  rw [after0_10, tile10]
  refine Eq.trans ?_ (congrArg _ e).symm
  pointwise [val_main_v52, v7]
  rw [blk1, blk5]

theorem final11 (c : Dev nD) : (dats m 0 c).arrAt 11 (cfgs 0).N = val_main_v53 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 11 _ (by decide +kernel) fun t _ y => ?_
  obtain ⟨r, d, rfl⟩ : ∃ (r : Fin 512) (d : Fin 1024), y = ix2 r d := ⟨y 0, y 1, eq_ix2 y⟩
  have e : ((cfg0.win 11).blk t).view.emb (ix2 r d) = (ix2 (tok t r) d : S4096x1024.Idx) := by
    have e := tok_val t r
    funext j
    refine Fin.ext ?_
    match j with
    | ⟨0, _⟩ => blk_simp [idx_val t]; omega
    | ⟨1, _⟩ => blk_simp [idx_val t]
  blk_simp
  rw [after0_11, tile11]
  refine Eq.trans ?_ (congrArg _ e).symm
  pointwise [val_main_v53, v24]
  rw [blk0, blk1, blk2, blk4, blk5]

theorem final12 (c : Dev nD) : (dats m 0 c).arrAt 12 (cfgs 0).N = val_main_v25 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 12 _ (by decide +kernel) fun t _ y => ?_
  obtain ⟨r, d, rfl⟩ : ∃ (r : Fin 512) (d : Fin 1024), y = ix2 r d := ⟨y 0, y 1, eq_ix2 y⟩
  have e : ((cfg0.win 12).blk t).view.emb (ix2 r d) = (ix2 (tok t r) d : S4096x1024.Idx) := by
    have e := tok_val t r
    funext j
    refine Fin.ext ?_
    match j with
    | ⟨0, _⟩ => blk_simp [idx_val t]; omega
    | ⟨1, _⟩ => blk_simp [idx_val t]
  blk_simp
  rw [after0_12, tile12]
  refine Eq.trans ?_ (congrArg _ e).symm
  rw [v25, blk0, blk1, blk2, blk4, blk5, blk6]

theorem final13 (c : Dev nD) : (dats m 0 c).arrAt 13 (cfgs 0).N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t _ y => ?_
  obtain ⟨r, d, rfl⟩ : ∃ (r : Fin 512) (d : Fin 1024), y = ix2 r d := ⟨y 0, y 1, eq_ix2 y⟩
  have e : ((cfg0.win 13).blk t).view.emb (ix2 r d) = (ix2 (tok t r) d : S4096x1024.Idx) := by
    have e := tok_val t r
    funext j
    refine Fin.ext ?_
    match j with
    | ⟨0, _⟩ => blk_simp [idx_val t]; omega
    | ⟨1, _⟩ => blk_simp [idx_val t]
  blk_simp
  rw [after0_13, tile13]
  refine Eq.trans ?_ (congrArg _ e).symm
  rw [v38, blk0, blk1, blk2, blk3, blk4, blk5, blk6, blk7]

theorem final14 (c : Dev nD) : (dats m 0 c).arrAt 14 (cfgs 0).N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t _ y => ?_
  obtain ⟨r, d, rfl⟩ : ∃ (r : Fin 512) (d : Fin 1024), y = ix2 r d := ⟨y 0, y 1, eq_ix2 y⟩
  have e : ((cfg0.win 14).blk t).view.emb (ix2 r d) = (ix2 (tok t r) d : S4096x1024.Idx) := by
    have e := tok_val t r
    funext j
    refine Fin.ext ?_
    match j with
    | ⟨0, _⟩ => blk_simp [idx_val t]; omega
    | ⟨1, _⟩ => blk_simp [idx_val t]
  blk_simp
  rw [after0_14, tile14]
  refine Eq.trans ?_ (congrArg _ e).symm
  rw [v54, blk0, blk1, blk2, blk3, blk4, blk5, blk6, blk7, blk8]

end Cert.MixerFwdIdeal.RefValue

end
-- ==== Proof.MixerFwdClaim.lean ====
module

public import proofs.«01_k».proof.Defs
public import proofs.«01_k».proof.Proof.MixerFwdValue
public import proofs.«01_k».proof.Proof.Gen.MixerFwd.Frame
public import proofs.«01_k».proof.Proof.Gen.MixerFwdIdeal.Frame
public import proofs.«01_k».proof.Proof.Gen.MixerFwdRefIdeal.Run
public import proofs.«01_k».proof.Proof.Gen.MixerFwdRefIdeal.Read
public import Idealize.ShloMosaic.Lib.Claim

/-! The claims about the mixer tail: both programs' runs set beside each other. -/

@[expose] public section

namespace Cert.Proof.MixerFwd

open Idealize.ShloMosaic Idealize.SL.Sem

theorem kernel : Cert.quiescent_MixerFwd := fun m ρ _ => Cert.MixerFwd.Gen.frame m ρ

theorem ideal : Cert.quiescent_MixerFwdIdeal := fun m ρ _ => Cert.MixerFwdIdeal.Gen.frame m ρ

theorem ref : Cert.quiescent_MixerFwdRefIdeal := fun m ρ _ =>
  (θ_run _ _ _).mono (fun r h => ⟨fun c => (h c).2.2.2.2.2.2, sem_eq_zero_of_no_sems (by decide) r.2⟩)
    (Cert.MixerFwdRefIdeal.Value.run m ρ)

open Cert.MixerFwdRefIdeal.Read Cert.MixerFwdIdeal.RefValue in
theorem value : Cert.algebraic_MixerFwdIdeal_MixerFwdRefIdeal := fun m g m' g' _ ha =>
  ⟨fun c => val_main_v51 (F := Ideal) (m ((c.tc : Thread _ _).loc Cert.MixerFwdIdeal.main_arg0)) (m ((c.tc : Thread _ _).loc Cert.MixerFwdIdeal.main_arg4)),
   fun c => val_main_v52 (F := Ideal) (m ((c.tc : Thread _ _).loc Cert.MixerFwdIdeal.main_arg1)) (m ((c.tc : Thread _ _).loc Cert.MixerFwdIdeal.main_arg5)),
   fun c => val_main_v53 (F := Ideal) (m ((c.tc : Thread _ _).loc Cert.MixerFwdIdeal.main_arg0)) (m ((c.tc : Thread _ _).loc Cert.MixerFwdIdeal.main_arg1)) (m ((c.tc : Thread _ _).loc Cert.MixerFwdIdeal.main_arg2)) (m ((c.tc : Thread _ _).loc Cert.MixerFwdIdeal.main_arg4)) (m ((c.tc : Thread _ _).loc Cert.MixerFwdIdeal.main_arg5)),
   fun c => val_main_v25 (F := Ideal) (m ((c.tc : Thread _ _).loc Cert.MixerFwdIdeal.main_arg0)) (m ((c.tc : Thread _ _).loc Cert.MixerFwdIdeal.main_arg1)) (m ((c.tc : Thread _ _).loc Cert.MixerFwdIdeal.main_arg2)) (m ((c.tc : Thread _ _).loc Cert.MixerFwdIdeal.main_arg4)) (m ((c.tc : Thread _ _).loc Cert.MixerFwdIdeal.main_arg5)) (m ((c.tc : Thread _ _).loc Cert.MixerFwdIdeal.main_arg6)),
   fun c => val_main_v38 (F := Ideal) (m ((c.tc : Thread _ _).loc Cert.MixerFwdIdeal.main_arg0)) (m ((c.tc : Thread _ _).loc Cert.MixerFwdIdeal.main_arg1)) (m ((c.tc : Thread _ _).loc Cert.MixerFwdIdeal.main_arg2)) (m ((c.tc : Thread _ _).loc Cert.MixerFwdIdeal.main_arg3)) (m ((c.tc : Thread _ _).loc Cert.MixerFwdIdeal.main_arg4)) (m ((c.tc : Thread _ _).loc Cert.MixerFwdIdeal.main_arg5)) (m ((c.tc : Thread _ _).loc Cert.MixerFwdIdeal.main_arg6)) (m ((c.tc : Thread _ _).loc Cert.MixerFwdIdeal.main_arg7)),
   fun c => val_main_v54 (F := Ideal) (m ((c.tc : Thread _ _).loc Cert.MixerFwdIdeal.main_arg0)) (m ((c.tc : Thread _ _).loc Cert.MixerFwdIdeal.main_arg1)) (m ((c.tc : Thread _ _).loc Cert.MixerFwdIdeal.main_arg2)) (m ((c.tc : Thread _ _).loc Cert.MixerFwdIdeal.main_arg3)) (m ((c.tc : Thread _ _).loc Cert.MixerFwdIdeal.main_arg4)) (m ((c.tc : Thread _ _).loc Cert.MixerFwdIdeal.main_arg5)) (m ((c.tc : Thread _ _).loc Cert.MixerFwdIdeal.main_arg6)) (m ((c.tc : Thread _ _).loc Cert.MixerFwdIdeal.main_arg7)) (m ((c.tc : Thread _ _).loc Cert.MixerFwdIdeal.main_arg8)),
   (θ_run _ _ _).mono (fun r h c => ⟨(h c).1.trans (final9 m c),
       (h c).2.1.trans (final10 m c),
       (h c).2.2.1.trans (final11 m c),
       (h c).2.2.2.1.trans (final12 m c),
       (h c).2.2.2.2.1.trans (final13 m c),
       (h c).2.2.2.2.2.1.trans (final14 m c),
       (h c).2.2.2.2.2.2⟩)
     (Cert.MixerFwdIdeal.Value.run_blocks m g),
   (θ_run _ _ _).mono (fun r h c => by
       obtain ⟨e0, e1, e2, e3, e4, e5, e6, e7, e8⟩ := ha c
       obtain ⟨h0, h1, h2, h3, h4, h5, h⟩ := h c
       rw [val_main_v51_eq, e0, e4] at h0
       rw [val_main_v52_eq, e1, e5] at h1
       rw [val_main_v53_eq, e0, e1, e2, e4, e5] at h2
       rw [val_main_v25_eq, e0, e1, e2, e4, e5, e6] at h3
       rw [val_main_v38_eq, e0, e1, e2, e3, e4, e5, e6, e7] at h4
       rw [val_main_v54_eq, e0, e1, e2, e3, e4, e5, e6, e7, e8] at h5
       exact ⟨h0, h1, h2, h3, h4, h5, h⟩)
     (Cert.MixerFwdRefIdeal.Value.run m' g')⟩

end Cert.Proof.MixerFwd
-- ==== Proof.FfnFwdValue.lean ====
module

public import proofs.«01_k».proof.Proof.Scalar
public import proofs.«01_k».proof.Proof.Gen.FfnFwdIdeal.Value
public import proofs.«01_k».proof.Proof.Gen.FfnFwdRefIdeal.Read
public import Idealize.ShloMosaic.Lib.Pipeline.ValueKit

/-! What the SwiGLU's kernel leaves in its two outputs, against the reference. -/

@[expose] public section

set_option maxRecDepth 16384

noncomputable section

namespace Cert.FfnFwdIdeal.RefValue

open Cert.FfnFwdIdeal Cert.FfnFwdIdeal.Gen Idealize.ShloMosaic Idealize.ShloMosaic.TcCoe Idealize.SL.Sem
open Idealize.ShloMosaic.Pipeline (Dat)
open Cert.FfnFwdRefIdeal.Read Cert.Scalar

variable (m : (ℓ : Loc nD τ sig) → Buf (Elt Ideal) ℓ)

theorem idx_val : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

set_option maxHeartbeats 2000000 in
theorem final2 (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  canon_tiles x h using (View.cover_of_tiledBy _ ![512, 256] (by sl_kernel_rfl) y)
  all_goals
    open_payloads
    pointwise [val_main_v5, val_main_v2, val_main_v1, val_main_v0, zero_add]
    blk_point [iblk, V, idx_val t]

set_option maxHeartbeats 2000000 in
theorem final3 (c : Dev nD) : (dats m 0 c).arrAt 3 (cfgs 0).N = val_main_v8 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold Gen.outsAt0
  frame_out
  canon_tiles x h using (View.cover_of_tiledBy _ ![512, 256] (by sl_kernel_rfl) y)
  all_goals
    open_payloads
    pointwise [val_main_v8, val_main_v7, val_main_v6, val_main_v4, val_main_v3, val_main_v2, val_main_v1, val_main_v0,
      val_main_call0_v0, val_main_call0_v1, val_main_call0_v2, val_main_call0_v3, val_main_call0_v4, val_main_call0_v5,
      val_main_call0_cst, val_main_call0_cst_0, half_f32, half_tanh_div, zero_add]
    blk_point [iblk, V, idx_val t]

end Cert.FfnFwdIdeal.RefValue

end
-- ==== Proof.FfnFwdClaim.lean ====
module

public import proofs.«01_k».proof.Defs
public import proofs.«01_k».proof.Proof.FfnFwdValue
public import proofs.«01_k».proof.Proof.Gen.FfnFwd.Frame
public import proofs.«01_k».proof.Proof.Gen.FfnFwdIdeal.Frame
public import proofs.«01_k».proof.Proof.Gen.FfnFwdRefIdeal.Run
public import proofs.«01_k».proof.Proof.Gen.FfnFwdRefIdeal.Read
public import Idealize.ShloMosaic.Lib.Claim

/-! The claims about the SwiGLU: both programs' runs set beside each other. -/

@[expose] public section

namespace Cert.Proof.FfnFwd

open Idealize.ShloMosaic Idealize.SL.Sem

theorem kernel : Cert.quiescent_FfnFwd := fun m ρ _ => Cert.FfnFwd.Gen.frame m ρ

theorem ideal : Cert.quiescent_FfnFwdIdeal := fun m ρ _ => Cert.FfnFwdIdeal.Gen.frame m ρ

theorem ref : Cert.quiescent_FfnFwdRefIdeal := fun m ρ _ =>
  (θ_run _ _ _).mono (fun r h => ⟨fun c => (h c).2.2, sem_eq_zero_of_no_sems (by decide) r.2⟩)
    (Cert.FfnFwdRefIdeal.Value.run m ρ)

open Cert.FfnFwdRefIdeal.Read Cert.FfnFwdIdeal.RefValue in
theorem value : Cert.algebraic_FfnFwdIdeal_FfnFwdRefIdeal := fun m g m' g' _ ha =>
  ⟨fun c => val_main_v5 (F := Ideal) (m ((c.tc : Thread _ _).loc Cert.FfnFwdIdeal.main_arg0)) (m ((c.tc : Thread _ _).loc Cert.FfnFwdIdeal.main_arg1)),
   fun c => val_main_v8 (F := Ideal) (m ((c.tc : Thread _ _).loc Cert.FfnFwdIdeal.main_arg0)) (m ((c.tc : Thread _ _).loc Cert.FfnFwdIdeal.main_arg1)),
   (θ_run _ _ _).mono (fun r h c => ⟨(h c).1.trans (final2 m c),
       (h c).2.1.trans (final3 m c),
       (h c).2.2⟩)
     (Cert.FfnFwdIdeal.Value.run_blocks m g),
   (θ_run _ _ _).mono (fun r h c => by
       obtain ⟨e0, e1⟩ := ha c
       obtain ⟨h0, h1, h⟩ := h c
       rw [val_main_v5_eq, e0, e1] at h0
       rw [val_main_v8_eq, e0, e1] at h1
       exact ⟨h0, h1, h⟩)
     (Cert.FfnFwdRefIdeal.Value.run m' g')⟩

end Cert.Proof.FfnFwd
-- ==== Proof.ProdValue.lean ====
module

public import proofs.«01_k».proof.Proof.Gen.ProdIdeal.Value
public import proofs.«01_k».proof.Proof.Gen.ProdRefIdeal.Read
public import Idealize.ShloMosaic.Lib.Pipeline.ValueKit
public import Idealize.ShloMosaic.Lib.Pipeline.ReadBack

/-! The product of the output projection's weight gradient: what the carried sum holds, and the output, against the reference. -/

@[expose] public section

set_option maxRecDepth 16384

noncomputable section

namespace Cert.ProdIdeal.RefValue

open Cert.ProdIdeal Cert.ProdIdeal.Gen Idealize.ShloMosaic Idealize.ShloMosaic.TcCoe Idealize.SL.Sem
open Idealize.ShloMosaic.Pipeline (Dat)
open Cert.ProdRefIdeal.Read

section Tile

/-- Stores under three newer ones that hold the index do not count. -/
theorem canon_over {Val : EltTy → Type} [∀ e, Nonempty (Val e)] {s : Shape} {e : EltTy} (p q r : View.Piece Val s e)
    (Z : List (View.Piece Val s e)) (y : s.Idx) (hc : ∃ k ∈ [p, q, r], y ∈ k.1.set) : View.canon (p :: q :: r :: Z) y = View.canon [p, q, r] y := by
  have aux : ∀ (k : View.Piece Val s e) (L L' : List (View.Piece Val s e)), (y ∉ k.1.set → View.canon L y = View.canon L' y) →
      View.canon (k :: L) y = View.canon (k :: L') y := by
    intro k L L' h
    by_cases hm : y ∈ k.1.set
    · obtain ⟨x, rfl⟩ := k.1.exists_idx_of_mem hm
      rw [show k.1.idx x = k.1.emb x from rfl, View.canon_cons_emb, View.canon_cons_emb]
    · rw [View.canon_cons_of_not_mem _ _ hm, View.canon_cons_of_not_mem _ _ hm, h hm]
  refine aux p _ _ fun h1 => aux q _ _ fun h2 => aux r _ _ fun h3 => absurd hc ?_
  simp [h1, h2, h3]

/-- A load over a fill of the whole buffer reads the fill. -/
theorem readCov_fill2 {Val : EltTy → Type} [∀ e, Nonempty (Val e)] {e : EltTy} {sg : RefSig} {κ : Kind} {sp : Space} {n : Fin 2 → ℕ} (v : View sg κ sp ⟨2, n⟩ e)
    (inb : ∀ a, (![0, 0] : Fin 2 → ℕ) a + n a ≤ n a) (Z : (⟨2, n⟩ : Shape).Idx → Val e) (r : Rect ⟨2, n⟩) :
    v.readCov [⟨Rect.unit (s := ⟨2, n⟩) ![0, 0] n inb, Z⟩] r.toLoadRect = View.ld Z r :=
  View.readCov_fill v inb Z [] r fun a => by
    match a with
    | ⟨0, _⟩ => rfl
    | ⟨1, _⟩ => rfl

/-- What the last point stores of a sum. -/
theorem pay1_apply (v : Vec Ideal S2816x1024 .f32) (f : Fin 2816) (d : Fin 1024) : k0_pay1 (F := Ideal) v (ix2 f d) = v (ix2 f d) := by
  open_payloads
  pointwise []

/-- A token's term of the product. -/
def term (x0 : S4096x2816.Idx → EReal) (x1 : S4096x1024.Idx → EReal) (f : Fin 2816) (d : Fin 1024) (s : Fin 4096) : EReal := x0 (ix2 s f) * x1 (ix2 s d)

/-- What a point adds at a place. -/
def adds (x0 : Vec Ideal S512x2816 .bf16) (x1 : Vec Ideal S512x1024 .bf16) (f : Fin 2816) (d : Fin 1024) : EReal :=
  ∑ r : Fin 512, x0 (ix2 r f) * x1 (ix2 r d)

variable (c : Dev nD) (i : grid0.Coords) (arg1 : Memref sig .tc .vmem S512x2816 .bf16) (harg1 : arg1.IsWhole) (arg2 : Memref sig .tc .vmem S512x1024 .bf16) (harg2 : arg2.IsWhole)
  (arg3 : Memref sig .tc .vmem S2816x1024 .bf16) (harg3 : arg3.IsWhole) (arg4 : Memref sig .tc .vmem S2816x1024 .f32) (harg4 : arg4.IsWhole)
  (x0 : Vec Ideal S512x2816 .bf16) (x1 : Vec Ideal S512x1024 .bf16) (xs0 : Vec Ideal S2816x1024 .f32) (f : Fin 2816) (d : Fin 1024)

set_option maxHeartbeats 2000000 in
theorem A0 (hc0 : cond0_0 i) (hc1 : ¬cond0_1 i) : sout0_A_0 c i arg1 harg1 arg2 harg2 arg3 harg3 arg4 harg4 hc0 hc1 x0 x1 (ix2 f d) = adds x0 x1 f d := by
  frame_out
  generalize hy : (ix2 f d : S2816x1024.Idx) = y
  refine (canon_over _ _ _ _ y ?_).trans ?_
  · exact View.cover_of_tiledBy _ ![256, 1024] (by sl_kernel_rfl) y
  canon_tiles x hh using (View.cover_of_tiledBy _ ![256, 1024] (by sl_kernel_rfl) y)
  all_goals
    subst hy
    obtain ⟨a, e, rfl⟩ : ∃ (a : Fin _) (e : Fin 1024), x = ix2 a e := ⟨x 0, x 1, eq_ix2 x⟩
    obtain rfl : d = e := Fin.ext (by dsimp at hh1; omega)
    try simp (disch := decide) only [↓View.readCov_cons_toLoadRect, ↓View.readCov_skip, ↓readCov_fill2]
    open_payloads
    pointwise [zero_add]
    refine congrArg (fun f => adds x0 x1 f d) (?_ : _ = f)
    exact Fin.ext (by dsimp at hh0 ⊢; omega)

set_option maxHeartbeats 2000000 in
theorem B0 (hc0 : ¬cond0_0 i) (hc1 : ¬cond0_1 i) : sout0_B_0 c i arg1 harg1 arg2 harg2 arg3 harg3 arg4 harg4 hc0 hc1 x0 x1 xs0 (ix2 f d) = xs0 (ix2 f d) + adds x0 x1 f d := by
  frame_out
  generalize hy : (ix2 f d : S2816x1024.Idx) = y
  canon_tiles x hh using (View.cover_of_tiledBy _ ![256, 1024] (by sl_kernel_rfl) y)
  all_goals
    subst hy
    obtain ⟨a, e, rfl⟩ : ∃ (a : Fin _) (e : Fin 1024), x = ix2 a e := ⟨x 0, x 1, eq_ix2 x⟩
    obtain rfl : d = e := Fin.ext (by dsimp at hh1; omega)
    try simp (disch := decide) only [↓View.readCov_cons_toLoadRect, ↓View.readCov_skip, ↓readCov_fill2]
    open_payloads
    pointwise [zero_add]
    refine congrArg (fun f => xs0 (ix2 f d) + adds x0 x1 f d) (?_ : _ = f)
    exact Fin.ext (by dsimp at hh0 ⊢; omega)

set_option maxHeartbeats 2000000 in
theorem C0 (hc0 : ¬cond0_0 i) (hc1 : cond0_1 i) : sout0_C_0 c i arg1 harg1 arg2 harg2 arg3 harg3 arg4 harg4 hc0 hc1 x0 x1 xs0 (ix2 f d) = xs0 (ix2 f d) + adds x0 x1 f d := by
  frame_out
  generalize hy : (ix2 f d : S2816x1024.Idx) = y
  canon_tiles x hh using (View.cover_of_tiledBy _ ![256, 1024] (by sl_kernel_rfl) y)
  all_goals
    subst hy
    obtain ⟨a, e, rfl⟩ : ∃ (a : Fin _) (e : Fin 1024), x = ix2 a e := ⟨x 0, x 1, eq_ix2 x⟩
    obtain rfl : d = e := Fin.ext (by dsimp at hh1; omega)
    try simp (disch := decide) only [↓View.readCov_cons_toLoadRect, ↓View.readCov_skip, ↓readCov_fill2]
    open_payloads
    pointwise [zero_add]
    refine congrArg (fun f => xs0 (ix2 f d) + adds x0 x1 f d) (?_ : _ = f)
    exact Fin.ext (by dsimp at hh0 ⊢; omega)

set_option maxHeartbeats 2000000 in
theorem C2 (hc0 : ¬cond0_0 i) (hc1 : cond0_1 i) : out0_C_2 c i arg1 harg1 arg2 harg2 arg3 harg3 arg4 harg4 hc0 hc1 x0 x1 xs0 (ix2 f d) = xs0 (ix2 f d) + adds x0 x1 f d := by
  frame_out
  refine (pay1_apply _ f d).trans ?_
  generalize hy : (ix2 f d : S2816x1024.Idx) = y
  rw [View.readCov_eq_canon']
  show View.canon (Val := Elt Ideal) _ ((Rect.unit (s := S2816x1024) ![0, 0] S2816x1024.size inb_S2816x1024_S2816x1024_0_0).idx y) = _
  rw [show (Rect.unit (s := S2816x1024) ![0, 0] S2816x1024.size inb_S2816x1024_S2816x1024_0_0).idx y = y from funext fun a => Fin.ext (by
    match a with
    | ⟨0, _⟩ => exact (Nat.zero_add _).trans (Nat.one_mul _)
    | ⟨1, _⟩ => exact (Nat.zero_add _).trans (Nat.one_mul _))]
  canon_tiles x hh using (View.cover_of_tiledBy _ ![256, 1024] (by sl_kernel_rfl) y)
  all_goals
    subst hy
    obtain ⟨a, e, rfl⟩ : ∃ (a : Fin _) (e : Fin 1024), x = ix2 a e := ⟨x 0, x 1, eq_ix2 x⟩
    obtain rfl : d = e := Fin.ext (by dsimp at hh1; omega)
    try simp (disch := decide) only [↓View.readCov_cons_toLoadRect, ↓View.readCov_skip, ↓readCov_fill2]
    open_payloads
    pointwise [zero_add]
    refine congrArg (fun f => xs0 (ix2 f d) + adds x0 x1 f d) (?_ : _ = f)
    exact Fin.ext (by dsimp at hh0 ⊢; omega)

end Tile

variable (m : (ℓ : Loc nD τ sig) → Buf (Elt Ideal) ℓ) (c : Dev nD) (t : Fin cfg0.N)

theorem idx_val : ∀ t : Fin cfg0.N, win0_0.index t = ![t.val, 0] ∧ win0_1.index t = ![t.val, 0] ∧ win0_2.index t = ![0, 0] :=
  (by decide +kernel : ∀ t : Fin grid0.N, _)

theorem lt8 : t.val < 8 := lt_of_lt_of_eq t.isLt N_0

/-- A token of the point's tile. -/
def tok (r : Fin 512) : Fin 4096 := ⟨512 * t.val + r.val, by have := lt8 t; omega⟩

theorem rd0 (r : Fin 512) (f : Fin 2816) : iblk m c 0 t (ix2 r f) = (m ((c : Thread nD τ).loc main_arg0)) (ix2 (tok t r) f) := by
  refine (congrFun (V_main_arg0 m c) _).trans ?_
  blk_point [iblk, V, idx_val t, tok]

theorem rd1 (r : Fin 512) (d : Fin 1024) : iblk m c 1 t (ix2 r d) = (m ((c : Thread nD τ).loc main_arg1)) (ix2 (tok t r) d) := by
  refine (congrFun (V_main_arg1 m c) _).trans ?_
  blk_point [iblk, V, idx_val t, tok]

/-- What a point adds to the sum. -/
def add2 (j : S2816x1024.Idx) : EReal := adds (iblk m c 0 t) (iblk m c 1 t) (j 0) (j 1)

theorem reset (h : t.val % 8 = 0) (j : S2816x1024.Idx) : (outsAt0 m c t.val t.isLt).2 j = (0 : EReal) + add2 m c t j := by
  obtain ⟨f, d, rfl⟩ : ∃ (f : Fin 2816) (d : Fin 1024), j = ix2 f d := ⟨j 0, j 1, eq_ix2 j⟩
  rw [outsAt0_A m c t h (by omega)]; dsimp only
  exact (A0 ..).trans (zero_add _).symm

theorem step (h : ¬t.val % 8 = 0) (j : S2816x1024.Idx) : (outsAt0 m c t.val t.isLt).2 j
    = ((outsAt0 m c (t.val - 1) (Nat.lt_of_le_of_lt (Nat.sub_le _ _) t.isLt)).2 j + add2 m c t j : EReal) := by
  obtain ⟨f, d, rfl⟩ : ∃ (f : Fin 2816) (d : Fin 1024), j = ix2 f d := ⟨j 0, j 1, eq_ix2 j⟩
  by_cases h1 : t.val % 8 = 7
  · rw [outsAt0_C m c t h h1]; dsimp only
    exact C0 ..
  · rw [outsAt0_B m c t h h1]; dsimp only
    exact B0 ..

/-- The last point stores the sum it leaves. -/
theorem stored (h : t.val % 8 = 7) (j : S2816x1024.Idx) : (outsAt0 m c t.val t.isLt).1 j = (outsAt0 m c t.val t.isLt).2 j := by
  obtain ⟨f, d, rfl⟩ : ∃ (f : Fin 2816) (d : Fin 1024), j = ix2 f d := ⟨j 0, j 1, eq_ix2 j⟩
  rw [outsAt0_C m c t (by omega) h]; dsimp only
  exact (C2 ..).trans (C0 ..).symm

/-- A sum over the points of what their rows add is the sum over the tokens. -/
theorem sum_tokens (f : Fin 4096 → EReal) (g : Fin cfg0.N → EReal) (h : ∀ t, g t = ∑ r : Fin 512, f (tok t r)) : ∑ t, g t = ∑ s, f s := by
  rw [← Fintype.sum_equiv (finProdFinEquiv (m := 8) (n := 512)) (fun q => f ⟨512 * q.1.val + q.2.val, by omega⟩) f
    fun q => congrArg f (Fin.ext (by simp [finProdFinEquiv]; omega)), Fintype.sum_prod_type]
  exact Fintype.sum_equiv (finCongr N_0) _ _ h

set_option maxHeartbeats 2000000 in
theorem final2 : (dats m 0 c).arrAt 2 (cfgs 0).N = val_main_v6 (F := Ideal) (m ((c : Thread nD τ).loc main_arg0)) (m ((c : Thread nD τ).loc main_arg1)) := by
  refine (dats m 0 c).arrAt_eq_of_after_last 2 t0_7 (by decide +kernel) _ fun j => ?_
  blk_simp
  rw [after0_2, stored m c t0_7 rfl, Pipeline.eq_sum_fin_of_reset_step_apply_last (fun n h => (outsAt0 m c n h).2) 8 (fun _ => (0 : EReal)) (add2 m c)
    (reset m c) (step m c) (le_of_eq N_0) t0_7 rfl j, zero_add]
  obtain ⟨f, d, rfl⟩ : ∃ (f : Fin 2816) (d : Fin 1024), j = ix2 f d := ⟨j 0, j 1, eq_ix2 j⟩
  refine (sum_tokens (term (m ((c : Thread nD τ).loc main_arg0)) (m ((c : Thread nD τ).loc main_arg1)) f d) _ fun t => Finset.sum_congr rfl fun r _ => congrArg₂ (fun a b : EReal => a * b) (rd0 m c t r f) (rd1 m c t r d)).trans ?_
  pointwise [val_main_v6, val_main_v5, val_main_v4, val_main_v1, val_main_v0]
  exact Finset.sum_congr rfl fun s _ => mul_comm _ _

end Cert.ProdIdeal.RefValue

end
-- ==== Proof.ProdClaim.lean ====
module

public import proofs.«01_k».proof.Defs
public import proofs.«01_k».proof.Proof.ProdValue
public import proofs.«01_k».proof.Proof.Gen.Prod.Frame
public import proofs.«01_k».proof.Proof.Gen.ProdIdeal.Frame
public import proofs.«01_k».proof.Proof.Gen.ProdRefIdeal.Run
public import proofs.«01_k».proof.Proof.Gen.ProdRefIdeal.Read
public import Idealize.ShloMosaic.Lib.Claim

/-! The claims about the product of a weight's gradient: both programs' runs set beside each other. -/

@[expose] public section

namespace Cert.Proof.Prod

open Idealize.ShloMosaic Idealize.SL.Sem

theorem kernel : Cert.quiescent_Prod := fun m ρ _ => Cert.Prod.Gen.frame m ρ

theorem ideal : Cert.quiescent_ProdIdeal := fun m ρ _ => Cert.ProdIdeal.Gen.frame m ρ

theorem ref : Cert.quiescent_ProdRefIdeal := fun m ρ _ =>
  (θ_run _ _ _).mono (fun r h => ⟨fun c => (h c).2, sem_eq_zero_of_no_sems (by decide) r.2⟩)
    (Cert.ProdRefIdeal.Value.run m ρ)

open Cert.ProdRefIdeal.Read Cert.ProdIdeal.RefValue in
theorem value : Cert.algebraic_ProdIdeal_ProdRefIdeal := fun m g m' g' _ ha =>
  ⟨fun c => val_main_v6 (F := Ideal) (m ((c.tc : Thread _ _).loc Cert.ProdIdeal.main_arg0)) (m ((c.tc : Thread _ _).loc Cert.ProdIdeal.main_arg1)),
   (θ_run _ _ _).mono (fun r h c => ⟨(h c).1.trans (final2 m c),
       (h c).2⟩)
     (Cert.ProdIdeal.Value.run_blocks m g),
   (θ_run _ _ _).mono (fun r h c => by
       obtain ⟨e0, e1⟩ := ha c
       obtain ⟨h0, h⟩ := h c
       rw [val_main_v6_eq, e0, e1] at h0
       exact ⟨h0, h⟩)
     (Cert.ProdRefIdeal.Value.run m' g')⟩

end Cert.Proof.Prod
-- ==== Proof.FfnWValue.lean ====
module

public import proofs.«01_k».proof.Proof.Gen.FfnWIdeal.Value
public import proofs.«01_k».proof.Proof.Gen.FfnWRefIdeal.Read
public import proofs.«01_k».proof.Proof.ProdValue

/-! The product of the input projection's weight gradient: what the carried sum holds within each half, and the output, against the reference. -/

@[expose] public section

set_option maxRecDepth 16384

noncomputable section

namespace Cert.FfnWIdeal.RefValue

open Cert.FfnWIdeal Cert.FfnWIdeal.Gen Idealize.ShloMosaic Idealize.ShloMosaic.TcCoe Idealize.SL.Sem
open Idealize.ShloMosaic.Pipeline (Dat)
open Cert.FfnWRefIdeal.Read
open Cert.ProdIdeal.RefValue (canon_over readCov_fill2)

section Tile

/-- What the last point stores of a sum. -/
theorem pay1_apply (v : Vec Ideal S2816x1024 .f32) (f : Fin 2816) (d : Fin 1024) : k0_pay1 (F := Ideal) v (ix2 f d) = v (ix2 f d) := by
  open_payloads
  pointwise []

/-- A token's term of the product. -/
def term (x0 : S4096x1024.Idx → EReal) (x1 : S4096x5632.Idx → EReal) (f : Fin 5632) (d : Fin 1024) (s : Fin 4096) : EReal := x1 (ix2 s f) * x0 (ix2 s d)

/-- What a point adds at a place. -/
def adds (x0 : Vec Ideal S512x1024 .bf16) (x1 : Vec Ideal S512x2816 .bf16) (f : Fin 2816) (d : Fin 1024) : EReal :=
  ∑ r : Fin 512, x1 (ix2 r f) * x0 (ix2 r d)

variable (c : Dev nD) (i : grid0.Coords) (arg2 : Memref sig .tc .vmem S512x1024 .bf16) (harg2 : arg2.IsWhole) (arg3 : Memref sig .tc .vmem S512x2816 .bf16) (harg3 : arg3.IsWhole)
  (arg4 : Memref sig .tc .vmem S2816x1024 .bf16) (harg4 : arg4.IsWhole) (arg5 : Memref sig .tc .vmem S2816x1024 .f32) (harg5 : arg5.IsWhole)
  (x0 : Vec Ideal S512x1024 .bf16) (x1 : Vec Ideal S512x2816 .bf16) (xs0 : Vec Ideal S2816x1024 .f32) (f : Fin 2816) (d : Fin 1024)

set_option maxHeartbeats 2000000 in
theorem A0 (hc0 : cond0_0 i) (hc1 : ¬cond0_1 i) : sout0_A_0 c i arg2 harg2 arg3 harg3 arg4 harg4 arg5 harg5 hc0 hc1 x0 x1 (ix2 f d) = adds x0 x1 f d := by
  frame_out
  generalize hy : (ix2 f d : S2816x1024.Idx) = y
  refine (canon_over _ _ _ _ y ?_).trans ?_
  · exact View.cover_of_tiledBy _ ![256, 1024] (by sl_kernel_rfl) y
  canon_tiles x hh using (View.cover_of_tiledBy _ ![256, 1024] (by sl_kernel_rfl) y)
  all_goals
    subst hy
    obtain ⟨a, e, rfl⟩ : ∃ (a : Fin _) (e : Fin 1024), x = ix2 a e := ⟨x 0, x 1, eq_ix2 x⟩
    obtain rfl : d = e := Fin.ext (by dsimp at hh1; omega)
    try simp (disch := decide) only [↓View.readCov_cons_toLoadRect, ↓View.readCov_skip, ↓readCov_fill2]
    open_payloads
    pointwise [zero_add]
    refine congrArg (fun f => adds x0 x1 f d) (?_ : _ = f)
    exact Fin.ext (by dsimp at hh0 ⊢; omega)

set_option maxHeartbeats 2000000 in
theorem B0 (hc0 : ¬cond0_0 i) (hc1 : ¬cond0_1 i) : sout0_B_0 c i arg2 harg2 arg3 harg3 arg4 harg4 arg5 harg5 hc0 hc1 x0 x1 xs0 (ix2 f d) = xs0 (ix2 f d) + adds x0 x1 f d := by
  frame_out
  generalize hy : (ix2 f d : S2816x1024.Idx) = y
  canon_tiles x hh using (View.cover_of_tiledBy _ ![256, 1024] (by sl_kernel_rfl) y)
  all_goals
    subst hy
    obtain ⟨a, e, rfl⟩ : ∃ (a : Fin _) (e : Fin 1024), x = ix2 a e := ⟨x 0, x 1, eq_ix2 x⟩
    obtain rfl : d = e := Fin.ext (by dsimp at hh1; omega)
    try simp (disch := decide) only [↓View.readCov_cons_toLoadRect, ↓View.readCov_skip, ↓readCov_fill2]
    open_payloads
    pointwise [zero_add]
    refine congrArg (fun f => xs0 (ix2 f d) + adds x0 x1 f d) (?_ : _ = f)
    exact Fin.ext (by dsimp at hh0 ⊢; omega)

set_option maxHeartbeats 2000000 in
theorem C0 (hc0 : ¬cond0_0 i) (hc1 : cond0_1 i) : sout0_C_0 c i arg2 harg2 arg3 harg3 arg4 harg4 arg5 harg5 hc0 hc1 x0 x1 xs0 (ix2 f d) = xs0 (ix2 f d) + adds x0 x1 f d := by
  frame_out
  generalize hy : (ix2 f d : S2816x1024.Idx) = y
  canon_tiles x hh using (View.cover_of_tiledBy _ ![256, 1024] (by sl_kernel_rfl) y)
  all_goals
    subst hy
    obtain ⟨a, e, rfl⟩ : ∃ (a : Fin _) (e : Fin 1024), x = ix2 a e := ⟨x 0, x 1, eq_ix2 x⟩
    obtain rfl : d = e := Fin.ext (by dsimp at hh1; omega)
    try simp (disch := decide) only [↓View.readCov_cons_toLoadRect, ↓View.readCov_skip, ↓readCov_fill2]
    open_payloads
    pointwise [zero_add]
    refine congrArg (fun f => xs0 (ix2 f d) + adds x0 x1 f d) (?_ : _ = f)
    exact Fin.ext (by dsimp at hh0 ⊢; omega)

set_option maxHeartbeats 2000000 in
theorem C2 (hc0 : ¬cond0_0 i) (hc1 : cond0_1 i) : out0_C_2 c i arg2 harg2 arg3 harg3 arg4 harg4 arg5 harg5 hc0 hc1 x0 x1 xs0 (ix2 f d) = xs0 (ix2 f d) + adds x0 x1 f d := by
  frame_out
  refine (pay1_apply _ f d).trans ?_
  generalize hy : (ix2 f d : S2816x1024.Idx) = y
  rw [View.readCov_eq_canon']
  show View.canon (Val := Elt Ideal) _ ((Rect.unit (s := S2816x1024) ![0, 0] S2816x1024.size inb_S2816x1024_S2816x1024_0_0).idx y) = _
  rw [show (Rect.unit (s := S2816x1024) ![0, 0] S2816x1024.size inb_S2816x1024_S2816x1024_0_0).idx y = y from funext fun a => Fin.ext (by
    match a with
    | ⟨0, _⟩ => exact (Nat.zero_add _).trans (Nat.one_mul _)
    | ⟨1, _⟩ => exact (Nat.zero_add _).trans (Nat.one_mul _))]
  canon_tiles x hh using (View.cover_of_tiledBy _ ![256, 1024] (by sl_kernel_rfl) y)
  all_goals
    subst hy
    obtain ⟨a, e, rfl⟩ : ∃ (a : Fin _) (e : Fin 1024), x = ix2 a e := ⟨x 0, x 1, eq_ix2 x⟩
    obtain rfl : d = e := Fin.ext (by dsimp at hh1; omega)
    try simp (disch := decide) only [↓View.readCov_cons_toLoadRect, ↓View.readCov_skip, ↓readCov_fill2]
    open_payloads
    pointwise [zero_add]
    refine congrArg (fun f => xs0 (ix2 f d) + adds x0 x1 f d) (?_ : _ = f)
    exact Fin.ext (by dsimp at hh0 ⊢; omega)

end Tile

variable (m : (ℓ : Loc nD τ sig) → Buf (Elt Ideal) ℓ) (c : Dev nD) (t : Fin cfg0.N)

theorem idx_val : ∀ t : Fin cfg0.N, win0_0.index t = ![t.val % 8, 0] ∧ win0_1.index t = ![t.val % 8, t.val / 8] ∧ win0_2.index t = ![t.val / 8, 0] :=
  (by decide +kernel : ∀ t : Fin grid0.N, _)

theorem lt16 : t.val < 16 := lt_of_lt_of_eq t.isLt N_0

/-- A token of the point's tile. -/
def tok (k : ℕ) (r : Fin 512) : Fin 4096 := ⟨512 * (k % 8) + r.val, by omega⟩

/-- A column of the point's half. -/
def col (f : Fin 2816) : Fin 5632 := ⟨2816 * (t.val / 8) + f.val, by have := lt16 t; omega⟩

theorem rd0 (r : Fin 512) (d : Fin 1024) : iblk m c 0 t (ix2 r d) = (m ((c : Thread nD τ).loc main_arg0)) (ix2 (tok t.val r) d) := by
  refine (congrFun (V_main_arg0 m c) _).trans ?_
  blk_point [iblk, V, idx_val t, tok]

theorem rd1 (r : Fin 512) (f : Fin 2816) : iblk m c 1 t (ix2 r f) = (m ((c : Thread nD τ).loc main_arg1)) (ix2 (tok t.val r) (col t f)) := by
  refine (congrFun (V_main_arg1 m c) _).trans ?_
  blk_point [iblk, V, idx_val t, tok, col]

/-- What a point adds to the sum. -/
def add2 (j : S2816x1024.Idx) : EReal := adds (iblk m c 0 t) (iblk m c 1 t) (j 0) (j 1)

theorem reset (h : t.val % 8 = 0) (j : S2816x1024.Idx) : (outsAt0 m c t.val t.isLt).2 j = (0 : EReal) + add2 m c t j := by
  obtain ⟨f, d, rfl⟩ : ∃ (f : Fin 2816) (d : Fin 1024), j = ix2 f d := ⟨j 0, j 1, eq_ix2 j⟩
  rw [outsAt0_A m c t h (by omega)]; dsimp only
  exact (A0 ..).trans (zero_add _).symm

theorem step (h : ¬t.val % 8 = 0) (j : S2816x1024.Idx) : (outsAt0 m c t.val t.isLt).2 j
    = ((outsAt0 m c (t.val - 1) (Nat.lt_of_le_of_lt (Nat.sub_le _ _) t.isLt)).2 j + add2 m c t j : EReal) := by
  obtain ⟨f, d, rfl⟩ : ∃ (f : Fin 2816) (d : Fin 1024), j = ix2 f d := ⟨j 0, j 1, eq_ix2 j⟩
  by_cases h1 : t.val % 8 = 7
  · rw [outsAt0_C m c t h h1]; dsimp only
    exact C0 ..
  · rw [outsAt0_B m c t h h1]; dsimp only
    exact B0 ..

/-- The last point stores the sum it leaves. -/
theorem stored (h : t.val % 8 = 7) (j : S2816x1024.Idx) : (outsAt0 m c t.val t.isLt).1 j = (outsAt0 m c t.val t.isLt).2 j := by
  obtain ⟨f, d, rfl⟩ : ∃ (f : Fin 2816) (d : Fin 1024), j = ix2 f d := ⟨j 0, j 1, eq_ix2 j⟩
  rw [outsAt0_C m c t (by omega) h]; dsimp only
  exact (C2 ..).trans (C0 ..).symm

/-- A sum over a half's points of what their rows add is the sum over the tokens. -/
theorem sum_tokens (f : Fin 4096 → EReal) (b : ℕ) (g : Fin 8 → EReal) (h : ∀ k, g k = ∑ r : Fin 512, f (tok (8 * b + k.val) r)) : ∑ k, g k = ∑ s, f s := by
  rw [← Fintype.sum_equiv (finProdFinEquiv (m := 8) (n := 512)) (fun q => f ⟨512 * q.1.val + q.2.val, by omega⟩) f
    fun q => congrArg f (Fin.ext (by simp [finProdFinEquiv]; omega)), Fintype.sum_prod_type]
  refine Finset.sum_congr rfl fun k _ => (h k).trans (Finset.sum_congr rfl fun r _ => congrArg f (Fin.ext ?_))
  show 512 * ((8 * b + k.val) % 8) + r.val = _
  dsimp only
  omega

theorem flush2 : ∀ t : Fin cfg0.N, (cfg0.win 2).flush t = true → t.val % 8 = 7 :=
  (by decide +kernel : ∀ t : Fin grid0.N, _)

/-- What a point adds, of the arguments. -/
theorem add2_eq (f : Fin 2816) (d : Fin 1024) : add2 m c t (ix2 f d)
    = ∑ r : Fin 512, term (m ((c : Thread nD τ).loc main_arg0)) (m ((c : Thread nD τ).loc main_arg1)) (col t f) d (tok t.val r) := by
  unfold add2 adds
  refine Finset.sum_congr rfl fun r _ => ?_
  exact congrArg₂ (fun a b : EReal => a * b) (rd1 m c t r f) (rd0 m c t r d)

/-- What a half's last point leaves at a place is the sum over the tokens. -/
theorem last2 (h : t.val % 8 = 7) (f : Fin 2816) (d : Fin 1024) : (outsAt0 m c t.val t.isLt).1 (ix2 f d)
    = ∑ s, term (m ((c : Thread nD τ).loc main_arg0)) (m ((c : Thread nD τ).loc main_arg1)) (col t f) d s := by
  rw [stored m c t h, Pipeline.eq_sum_fin_of_reset_step_apply_of_flush (fun n h => (outsAt0 m c n h).2) 8 (fun _ => (0 : EReal)) (add2 m c)
    (reset m c) (step m c) t h (ix2 f d), zero_add]
  refine sum_tokens _ (t.val / 8) _ fun k => ?_
  refine (add2_eq m c _ f d).trans (Finset.sum_congr rfl fun r _ => congrArg (fun e => term _ _ e d _) (Fin.ext ?_))
  show 2816 * ((8 * (t.val / 8) + k.val) / 8) + f.val = 2816 * (t.val / 8) + f.val
  omega

set_option maxHeartbeats 2000000 in
theorem final2 : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  obtain ⟨f, d, rfl⟩ : ∃ (f : Fin 2816) (d : Fin 1024), y = ix2 f d := ⟨y 0, y 1, eq_ix2 y⟩
  refine (last2 m c t (flush2 t hf) f d).trans ?_
  pointwise [val_main_v5, val_main_v4, val_main_v1, val_main_v0]
  refine Finset.sum_congr rfl fun s _ => ?_
  blk_point [term, idx_val t, col]

end Cert.FfnWIdeal.RefValue

end
-- ==== Proof.FfnWClaim.lean ====
module

public import proofs.«01_k».proof.Defs
public import proofs.«01_k».proof.Proof.FfnWValue
public import proofs.«01_k».proof.Proof.Gen.FfnW.Frame
public import proofs.«01_k».proof.Proof.Gen.FfnWIdeal.Frame
public import proofs.«01_k».proof.Proof.Gen.FfnWRefIdeal.Run
public import proofs.«01_k».proof.Proof.Gen.FfnWRefIdeal.Read
public import Idealize.ShloMosaic.Lib.Claim

/-! The claims about the input product's weight gradient: both programs' runs set beside each other. -/

@[expose] public section

namespace Cert.Proof.FfnW

open Idealize.ShloMosaic Idealize.SL.Sem

theorem kernel : Cert.quiescent_FfnW := fun m ρ _ => Cert.FfnW.Gen.frame m ρ

theorem ideal : Cert.quiescent_FfnWIdeal := fun m ρ _ => Cert.FfnWIdeal.Gen.frame m ρ

theorem ref : Cert.quiescent_FfnWRefIdeal := fun m ρ _ =>
  (θ_run _ _ _).mono (fun r h => ⟨fun c => (h c).2, sem_eq_zero_of_no_sems (by decide) r.2⟩)
    (Cert.FfnWRefIdeal.Value.run m ρ)

open Cert.FfnWRefIdeal.Read Cert.FfnWIdeal.RefValue in
theorem value : Cert.algebraic_FfnWIdeal_FfnWRefIdeal := fun m g m' g' _ ha =>
  ⟨fun c => val_main_v5 (F := Ideal) (m ((c.tc : Thread _ _).loc Cert.FfnWIdeal.main_arg0)) (m ((c.tc : Thread _ _).loc Cert.FfnWIdeal.main_arg1)),
   (θ_run _ _ _).mono (fun r h c => ⟨(h c).1.trans (final2 m c),
       (h c).2⟩)
     (Cert.FfnWIdeal.Value.run_blocks m g),
   (θ_run _ _ _).mono (fun r h c => by
       obtain ⟨e0, e1⟩ := ha c
       obtain ⟨h0, h⟩ := h c
       rw [val_main_v5_eq, e0, e1] at h0
       exact ⟨h0, h⟩)
     (Cert.FfnWRefIdeal.Value.run m' g')⟩

end Cert.Proof.FfnW
-- ==== Proof.AdamValue.lean ====
module

public import proofs.«01_k».proof.Proof.Gen.AdamIdeal.Value
public import proofs.«01_k».proof.Proof.Gen.AdamRefIdeal.Read
public import Idealize.ShloMosaic.Lib.Pipeline.ValueKit

/-! What the optimiser's kernel leaves in its four outputs, against the reference. -/

@[expose] public section

set_option maxRecDepth 16384

noncomputable section

namespace Cert.AdamIdeal.RefValue

open Cert.AdamIdeal Cert.AdamIdeal.Gen Idealize.ShloMosaic Idealize.ShloMosaic.TcCoe Idealize.SL.Sem
open Idealize.ShloMosaic.Pipeline (Dat)
open Cert.AdamRefIdeal.Read

variable (m : (ℓ : Loc nD τ sig) → Buf (Elt Ideal) ℓ)

theorem idx_val : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

set_option maxHeartbeats 2000000 in
theorem final4 (c : Dev nD) : (dats m 0 c).arrAt 4 (cfgs 0).N = val_main_v1 (F := Ideal) (m ((c : Thread nD τ).loc main_arg0)) := by
  refine (dats m 0 c).arrAt_eq_of_covers 4 _ (by decide +kernel) fun t _ y => ?_
  blk_simp
  rw [after0_4]
  unfold_out out0_4
  frame_out
  open_payloads
  pointwise [val_main_v1, val_main_cst, val_main_v0, Fin.sum_univ_eight, zero_add]
  blk_point [iblk, V, idx_val t]

set_option maxHeartbeats 2000000 in
theorem final5 (c : Dev nD) : (dats m 0 c).arrAt 5 (cfgs 0).N = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold_out out0_5
  frame_out
  open_payloads
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, Fin.sum_univ_eight, zero_add]
  blk_point [iblk, V, idx_val t]

set_option maxHeartbeats 2000000 in
theorem final6 (c : Dev nD) : (dats m 0 c).arrAt 6 (cfgs 0).N = val_main_v6 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  unfold_out out0_6
  frame_out
  open_payloads
  pointwise [val_main_v6, val_main_v5, val_main_v4, val_main_v3, val_main_v2, val_main_v1, val_main_v0, val_main_cst, val_main_cst_0, val_main_cst_1, Fin.sum_univ_eight, zero_add]
  blk_point [iblk, V, idx_val t]

set_option maxHeartbeats 2000000 in
theorem final7 (c : Dev nD) : (dats m 0 c).arrAt 7 (cfgs 0).N = val_main_v12 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  unfold_out out0_7
  frame_out
  open_payloads
  pointwise [val_main_v12, val_main_v11, val_main_v10, val_main_v9, val_main_v8, val_main_v7, val_main_v1, val_main_v0, val_main_cst, val_main_cst_2, val_main_cst_3, Fin.sum_univ_eight, zero_add]
  blk_point [iblk, V, idx_val t]

end Cert.AdamIdeal.RefValue

end
-- ==== Proof.AdamClaim.lean ====
module

public import proofs.«01_k».proof.Defs
public import proofs.«01_k».proof.Proof.AdamValue
public import proofs.«01_k».proof.Proof.Gen.Adam.Frame
public import proofs.«01_k».proof.Proof.Gen.AdamIdeal.Frame
public import proofs.«01_k».proof.Proof.Gen.AdamRefIdeal.Run
public import proofs.«01_k».proof.Proof.Gen.AdamRefIdeal.Read
public import Idealize.ShloMosaic.Lib.Claim

/-! The claims about the optimiser's step: both programs' runs set beside each other. -/

@[expose] public section

namespace Cert.Proof.Adam

open Idealize.ShloMosaic Idealize.SL.Sem

theorem kernel : Cert.quiescent_Adam := fun m ρ _ => Cert.Adam.Gen.frame m ρ

theorem ideal : Cert.quiescent_AdamIdeal := fun m ρ _ => Cert.AdamIdeal.Gen.frame m ρ

theorem ref : Cert.quiescent_AdamRefIdeal := fun m ρ _ =>
  (θ_run _ _ _).mono (fun r h => ⟨fun c => (h c).2.2.2.2, sem_eq_zero_of_no_sems (by decide) r.2⟩)
    (Cert.AdamRefIdeal.Value.run m ρ)

open Cert.AdamRefIdeal.Read Cert.AdamIdeal.RefValue in
theorem value : Cert.algebraic_AdamIdeal_AdamRefIdeal := fun m g m' g' _ ha =>
  ⟨fun c => val_main_v1 (F := Ideal) (m ((c.tc : Thread _ _).loc Cert.AdamIdeal.main_arg0)),
   fun c => val_main_v25 (F := Ideal) (m ((c.tc : Thread _ _).loc Cert.AdamIdeal.main_arg0)) (m ((c.tc : Thread _ _).loc Cert.AdamIdeal.main_arg1)) (m ((c.tc : Thread _ _).loc Cert.AdamIdeal.main_arg2)) (m ((c.tc : Thread _ _).loc Cert.AdamIdeal.main_arg3)),
   fun c => val_main_v6 (F := Ideal) (m ((c.tc : Thread _ _).loc Cert.AdamIdeal.main_arg0)) (m ((c.tc : Thread _ _).loc Cert.AdamIdeal.main_arg2)),
   fun c => val_main_v12 (F := Ideal) (m ((c.tc : Thread _ _).loc Cert.AdamIdeal.main_arg0)) (m ((c.tc : Thread _ _).loc Cert.AdamIdeal.main_arg3)),
   (θ_run _ _ _).mono (fun r h c => ⟨(h c).1.trans (final4 m c),
       (h c).2.1.trans (final5 m c),
       (h c).2.2.1.trans (final6 m c),
       (h c).2.2.2.1.trans (final7 m c),
       (h c).2.2.2.2⟩)
     (Cert.AdamIdeal.Value.run_blocks m g),
   (θ_run _ _ _).mono (fun r h c => by
       obtain ⟨e0, e1, e2, e3⟩ := ha c
       obtain ⟨h0, h1, h2, h3, h⟩ := h c
       rw [val_main_v1_eq, e0] at h0
       rw [val_main_v25_eq, e0, e1, e2, e3] at h1
       rw [val_main_v6_eq, e0, e2] at h2
       rw [val_main_v12_eq, e0, e3] at h3
       exact ⟨h0, h1, h2, h3, h⟩)
     (Cert.AdamRefIdeal.Value.run m' g')⟩

end Cert.Proof.Adam
-- ==== Proof.PairValue.lean ====
module

public import proofs.«01_k».proof.Proof.Gen.PairIdeal.Value
public import proofs.«01_k».proof.Proof.Gen.PairRefIdeal.Read
public import Idealize.ShloMosaic.Lib.Pipeline.ValueKit

/-! What the pair sum's kernel leaves in its output, against the reference. -/

@[expose] public section

set_option maxRecDepth 16384

noncomputable section

namespace Cert.PairIdeal.RefValue

open Cert.PairIdeal Cert.PairIdeal.Gen Idealize.ShloMosaic Idealize.ShloMosaic.TcCoe Idealize.SL.Sem
open Idealize.ShloMosaic.Pipeline (Dat)
open Cert.PairRefIdeal.Read

variable (m : (ℓ : Loc nD τ sig) → Buf (Elt Ideal) ℓ)

theorem idx_val : ∀ t : Fin cfg0.N, win0_0.index t = ![t.val, 0, 0] ∧ win0_1.index t = ![t.val, 0, 0] ∧ win0_2.index t = ![t.val, 0, 0] :=
  (by decide +kernel : ∀ t : Fin grid0.N, _)

theorem final2 (c : Dev nD) : (dats m 0 c).arrAt 2 (cfgs 0).N = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  frame_out
  open_payloads
  pointwise [val_main_v3, val_main_v2, val_main_v1, val_main_v0]
  blk_point [iblk, V, idx_val t]

end Cert.PairIdeal.RefValue

end
-- ==== Proof.PairClaim.lean ====
module

public import proofs.«01_k».proof.Defs
public import proofs.«01_k».proof.Proof.PairValue
public import proofs.«01_k».proof.Proof.Gen.Pair.Frame
public import proofs.«01_k».proof.Proof.Gen.PairIdeal.Frame
public import proofs.«01_k».proof.Proof.Gen.PairRefIdeal.Run
public import proofs.«01_k».proof.Proof.Gen.PairRefIdeal.Read
public import Idealize.ShloMosaic.Lib.Claim

/-! The claims about the pair sum: both programs' runs set beside each other. -/

@[expose] public section

namespace Cert.Proof.Pair

open Idealize.ShloMosaic Idealize.SL.Sem

theorem kernel : Cert.quiescent_Pair := fun m ρ _ => Cert.Pair.Gen.frame m ρ

theorem ideal : Cert.quiescent_PairIdeal := fun m ρ _ => Cert.PairIdeal.Gen.frame m ρ

theorem ref : Cert.quiescent_PairRefIdeal := fun m ρ _ =>
  (θ_run _ _ _).mono (fun r h => ⟨fun c => (h c).2, sem_eq_zero_of_no_sems (by decide) r.2⟩)
    (Cert.PairRefIdeal.Value.run m ρ)

open Cert.PairRefIdeal.Read Cert.PairIdeal.RefValue in
theorem value : Cert.algebraic_PairIdeal_PairRefIdeal := fun m g m' g' _ ha =>
  ⟨fun c => val_main_v3 (F := Ideal) (m ((c.tc : Thread _ _).loc Cert.PairIdeal.main_arg0)) (m ((c.tc : Thread _ _).loc Cert.PairIdeal.main_arg1)),
   (θ_run _ _ _).mono (fun r h c => ⟨(h c).1.trans (final2 m c),
       (h c).2⟩)
     (Cert.PairIdeal.Value.run_blocks m g),
   (θ_run _ _ _).mono (fun r h c => by
       obtain ⟨e0, e1⟩ := ha c
       obtain ⟨h0, h⟩ := h c
       rw [val_main_v3_eq, e0, e1] at h0
       exact ⟨h0, h⟩)
     (Cert.PairRefIdeal.Value.run m' g')⟩

end Cert.Proof.Pair
-- ==== Proof.GlaClaim.lean ====
module

public import proofs.«01_k».proof.Defs
public import proofs.«01_k».proof.Proof.Gen.Gla.Frame
public import proofs.«01_k».proof.Proof.Gen.GlaIdeal.Frame

/-! The frames of the gated linear attention's gradient. -/

@[expose] public section

namespace Cert.Proof.Gla

open Idealize.ShloMosaic Idealize.SL.Sem

theorem kernel : Cert.quiescent_Gla := fun m ρ _ => Cert.Gla.Gen.frame m ρ

theorem ideal : Cert.quiescent_GlaIdeal := fun m ρ _ => Cert.GlaIdeal.Gen.frame m ρ

end Cert.Proof.Gla
-- ==== Proof.lean ====
module

public import proofs.«01_k».proof.Defs
public import proofs.«01_k».proof.Proof.SguClaim
public import proofs.«01_k».proof.Proof.FfnClaim
public import proofs.«01_k».proof.Proof.MixerClaim
public import proofs.«01_k».proof.Proof.FfnInClaim
public import proofs.«01_k».proof.Proof.InPClaim
public import proofs.«01_k».proof.Proof.LossClaim
public import proofs.«01_k».proof.Proof.GlaFwdClaim
public import proofs.«01_k».proof.Proof.SguFwdClaim
public import proofs.«01_k».proof.Proof.MixerFwdClaim
public import proofs.«01_k».proof.Proof.FfnFwdClaim
public import proofs.«01_k».proof.Proof.ProdClaim
public import proofs.«01_k».proof.Proof.FfnWClaim
public import proofs.«01_k».proof.Proof.AdamClaim
public import proofs.«01_k».proof.Proof.PairClaim
public import proofs.«01_k».proof.Proof.GlaClaim
public import proofs.«01_k».proof.Proof.Gen.SguIdeal.Value
public import proofs.«01_k».proof.Proof.Gen.SguRefIdeal.Run
public import proofs.«01_k».proof.Proof.Gen.SguRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.MixerIdeal.Value
public import proofs.«01_k».proof.Proof.Gen.MixerRefIdeal.Run
public import proofs.«01_k».proof.Proof.Gen.MixerRefIdeal.Read
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.InPIdeal.Value
public import proofs.«01_k».proof.Proof.Gen.InPRefIdeal.Run
public import proofs.«01_k».proof.Proof.Gen.InPRefIdeal.Read
public import proofs.«01_k».proof.Proof.Gen.LossIdeal.Value
public import proofs.«01_k».proof.Proof.Gen.LossRefIdeal.Run
public import proofs.«01_k».proof.Proof.Gen.LossRefIdeal.Read
public import proofs.«01_k».proof.Proof.Gen.GlaFwdIdeal.Value
public import proofs.«01_k».proof.Proof.Gen.GlaFwdRefIdeal.Run
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.Gen.MixerFwdIdeal.Value
public import proofs.«01_k».proof.Proof.Gen.MixerFwdRefIdeal.Run
public import proofs.«01_k».proof.Proof.Gen.MixerFwdRefIdeal.Read
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.ProdIdeal.Value
public import proofs.«01_k».proof.Proof.Gen.ProdRefIdeal.Run
public import proofs.«01_k».proof.Proof.Gen.ProdRefIdeal.Read
public import proofs.«01_k».proof.Proof.Gen.FfnWIdeal.Value
public import proofs.«01_k».proof.Proof.Gen.FfnWRefIdeal.Run
public import proofs.«01_k».proof.Proof.Gen.FfnWRefIdeal.Read
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.PairIdeal.Value
public import proofs.«01_k».proof.Proof.Gen.PairRefIdeal.Run
public import proofs.«01_k».proof.Proof.Gen.PairRefIdeal.Read
public import proofs.«01_k».proof.Proof.Gen.GlaIdeal.Frame

/-! The certificate: the claims of `Cert.Claim`, in its order. -/

@[expose] public section

open Cert.Proof in
theorem Cert.Proof.claim : Cert.Claim :=
  ⟨Cert.Sgu.Gen.facts, Cert.SguIdeal.Gen.facts, Cert.SguRefIdeal.Gen.facts,
    Cert.Ffn.Gen.facts, Cert.FfnIdeal.Gen.facts, Cert.FfnRefIdeal.Gen.facts,
    Cert.Mixer.Gen.facts, Cert.MixerIdeal.Gen.facts, Cert.MixerRefIdeal.Gen.facts,
    Cert.FfnIn.Gen.facts, Cert.FfnInIdeal.Gen.facts, Cert.FfnInRefIdeal.Gen.facts,
    Cert.InP.Gen.facts, Cert.InPIdeal.Gen.facts, Cert.InPRefIdeal.Gen.facts,
    Cert.Loss.Gen.facts, Cert.LossIdeal.Gen.facts, Cert.LossRefIdeal.Gen.facts,
    Cert.GlaFwd.Gen.facts, Cert.GlaFwdIdeal.Gen.facts, Cert.GlaFwdRefIdeal.Gen.facts,
    Cert.SguFwd.Gen.facts, Cert.SguFwdIdeal.Gen.facts, Cert.SguFwdRefIdeal.Gen.facts,
    Cert.MixerFwd.Gen.facts, Cert.MixerFwdIdeal.Gen.facts, Cert.MixerFwdRefIdeal.Gen.facts,
    Cert.FfnFwd.Gen.facts, Cert.FfnFwdIdeal.Gen.facts, Cert.FfnFwdRefIdeal.Gen.facts,
    Cert.Prod.Gen.facts, Cert.ProdIdeal.Gen.facts, Cert.ProdRefIdeal.Gen.facts,
    Cert.FfnW.Gen.facts, Cert.FfnWIdeal.Gen.facts, Cert.FfnWRefIdeal.Gen.facts,
    Cert.Adam.Gen.facts, Cert.AdamIdeal.Gen.facts, Cert.AdamRefIdeal.Gen.facts,
    Cert.Pair.Gen.facts, Cert.PairIdeal.Gen.facts, Cert.PairRefIdeal.Gen.facts,
    Cert.Gla.Gen.facts, Cert.GlaIdeal.Gen.facts,
    Sgu.preFacts, Ffn.preFacts, FfnIn.preFacts, InP.preFacts, Loss.preFacts, SguFwd.preFacts,
    Sgu.kernel, Sgu.ideal, fun m ρ _ => Sgu.ideal m ρ trivial, Sgu.ref, fun m ρ _ => Sgu.ref m ρ trivial,
    Ffn.kernel, Ffn.ideal, fun m ρ _ => Ffn.ideal m ρ trivial, Ffn.ref, fun m ρ _ => Ffn.ref m ρ trivial,
    Mixer.kernel, Mixer.ideal, Mixer.ref,
    FfnIn.kernel, FfnIn.ideal, fun m ρ _ => FfnIn.ideal m ρ trivial, FfnIn.ref, fun m ρ _ => FfnIn.ref m ρ trivial,
    InP.kernel, InP.ideal, fun m ρ _ => InP.ideal m ρ trivial, InP.ref, fun m ρ _ => InP.ref m ρ trivial,
    Loss.kernel, Loss.ideal, fun m ρ _ => Loss.ideal m ρ trivial, Loss.ref, fun m ρ _ => Loss.ref m ρ trivial,
    GlaFwd.kernel, GlaFwd.ideal, GlaFwd.ref,
    SguFwd.kernel, SguFwd.ideal, fun m ρ _ => SguFwd.ideal m ρ trivial, SguFwd.ref, fun m ρ _ => SguFwd.ref m ρ trivial,
    MixerFwd.kernel, MixerFwd.ideal, MixerFwd.ref,
    FfnFwd.kernel, FfnFwd.ideal, FfnFwd.ref,
    Prod.kernel, Prod.ideal, Prod.ref,
    FfnW.kernel, FfnW.ideal, FfnW.ref,
    Adam.kernel, Adam.ideal, Adam.ref,
    Pair.kernel, Pair.ideal, Pair.ref,
    Gla.kernel, Gla.ideal,
    Sgu.preserves, haveI := Sgu.preFacts; Sgu.value,
    trivial, haveI := Ffn.preFacts; Ffn.value,
    trivial, Mixer.value,
    trivial, haveI := FfnIn.preFacts; FfnIn.value,
    trivial, haveI := InP.preFacts; InP.value,
    trivial, haveI := Loss.preFacts; Loss.value,
    trivial, GlaFwd.value,
    trivial, haveI := SguFwd.preFacts; SguFwd.value,
    trivial, MixerFwd.value,
    trivial, FfnFwd.value,
    trivial, Prod.value,
    trivial, FfnW.value,
    trivial, Adam.value,
    trivial, Pair.value,
    trivial⟩
